-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_and_ones_row [hPre_finite_scores_and_ones_row : Cert.Pre_finite_scores_and_ones_row.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_and_ones_row.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_scores_and_ones_row.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_scores_and_ones_row.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_and_ones_row [hPre_finite_scores_and_ones_row : Cert.Pre_finite_scores_and_ones_row.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_and_ones_row.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_scores_and_ones_row.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_scores_and_ones_row.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores_and_ones_row [hKernelIdeal : Cert.KernelIdeal.Facts] [hPre_finite_scores_and_ones_row : Cert.Pre_finite_scores_and_ones_row.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_and_ones_row m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores_and_ones_row [hReferenceIdeal : Cert.ReferenceIdeal.Facts] [hPre_finite_scores_and_ones_row : Cert.Pre_finite_scores_and_ones_row.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_and_ones_row m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  True

def algebraic_KernelIdeal_ReferenceIdeal_pre_finite_scores_and_ones_row [hKernelIdeal : Cert.KernelIdeal.Facts] [hReferenceIdeal : Cert.ReferenceIdeal.Facts] [hPre_finite_scores_and_ones_row : Cert.Pre_finite_scores_and_ones_row.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_and_ones_row m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_v26) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v0_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_v86) = v1 c
          ∧ r.2.mem ((c.tc : Thread Cert.Reference5Ideal.nD Cert.Reference5Ideal.τ).loc Cert.Reference5Ideal.main_v88) = v2 c
          ∧ r.2.mem ((c.tc : Thread Cert.Reference5Ideal.nD Cert.Reference5Ideal.τ).loc Cert.Reference5Ideal.main_v90) = v3 c
          ∧ r.2.mem ((c.tc : Thread Cert.Reference5Ideal.nD Cert.Reference5Ideal.τ).loc Cert.Reference5Ideal.main_v91) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_v6) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v8)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v242) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_scores_and_ones_row : Cert.Pre_finite_scores_and_ones_row.Facts),
    quiescent_Kernel (hKernel := hKernel)
    ∧ quiescent_KernelIdeal (hKernelIdeal := hKernelIdeal)
    ∧ quiescent_KernelIdeal_pre_finite_scores_and_ones_row (hKernelIdeal := hKernelIdeal) (hPre_finite_scores_and_ones_row := hPre_finite_scores_and_ones_row)
    ∧ quiescent_ReferenceIdeal (hReferenceIdeal := hReferenceIdeal)
    ∧ quiescent_ReferenceIdeal_pre_finite_scores_and_ones_row (hReferenceIdeal := hReferenceIdeal) (hPre_finite_scores_and_ones_row := hPre_finite_scores_and_ones_row)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_scores_and_ones_row (hKernelIdeal := hKernelIdeal) (hReferenceIdeal := hReferenceIdeal) (hPre_finite_scores_and_ones_row := hPre_finite_scores_and_ones_row)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite_scores_and_ones_row.lean ====
abbrev S8x256x16384 : Shape := ⟨3, ![8, 256, 16384]⟩
abbrev S8x16384x256 : Shape := ⟨3, ![8, 16384, 256]⟩
abbrev S8x32x144x512 : Shape := ⟨4, ![8, 32, 144, 512]⟩
abbrev S16384x1024 : Shape := ⟨2, ![16384, 1024]⟩
abbrev S3x1024 : Shape := ⟨2, ![3, 1024]⟩
abbrev S_ : Shape := ⟨0, ![]⟩
abbrev S8x32x1x512 : Shape := ⟨4, ![8, 32, 1, 512]⟩
abbrev S8x32x512 : Shape := ⟨3, ![8, 32, 512]⟩

class Facts : Prop where
  bitsLt_bf16_f32 : FTy.bits .bf16 < FTy.bits .f32
  bcast_S_S8x256x16384 : S_.BroadcastsInDim S8x256x16384 (![] : Fin 0 → Fin S8x256x16384.rank)
  bcast_S_S8x16384x256 : S_.BroadcastsInDim S8x16384x256 (![] : Fin 0 → Fin S8x16384x256.rank)
  slices_S8x32x144x512_S8x32x1x512_0_0_128_0 : S8x32x144x512.Slices ![0, 0, 128, 0] S8x32x1x512
  shapeCasts_S8x32x1x512_S8x32x512 : S8x32x1x512.ShapeCasts S8x32x512
  bcast_S_S8x32x512 : S_.BroadcastsInDim S8x32x512 (![] : Fin 0 → Fin S8x32x512.rank)

variable [Facts]

def fn {F : FTy → Type} [FloatOps F] (main_arg0 : FVec F S8x256x16384 .bf16) (main_arg1 : FVec F S8x16384x256 .bf16) (main_arg2 : FVec F S8x32x144x512 .bf16) (main_arg3 : FVec F S16384x1024 .f32) (main_arg4 : FVec F S16384x1024 .f32) (main_arg5 : FVec F S3x1024 .f32) : IVec S8x256x16384 1 × IVec S8x16384x256 1 × IVec S8x32x512 1 :=
  let main_v0 : FVec F S8x256x16384 .f32 := (extf .f32 · bitsLt_bf16_f32) main_arg0
  let main_v1 : FVec F S8x256x16384 .f32 := Host.absf main_v0
  let main_cst : FVec F S_ .f32 := constant S_ .f32 0x7F800000#32
  let main_v2 : FVec F S8x256x16384 .f32 := broadcastInDim S8x256x16384 ![] bcast_S_S8x256x16384 main_cst
  let main_v3 : IVec S8x256x16384 1 := cmpf .olt main_v1 main_v2
  let main_v4 : FVec F S8x16384x256 .f32 := (extf .f32 · bitsLt_bf16_f32) main_arg1
  let main_v5 : FVec F S8x16384x256 .f32 := Host.absf main_v4
  let main_cst_0 : FVec F S_ .f32 := constant S_ .f32 0x7F800000#32
  let main_v6 : FVec F S8x16384x256 .f32 := broadcastInDim S8x16384x256 ![] bcast_S_S8x16384x256 main_cst_0
  let main_v7 : IVec S8x16384x256 1 := cmpf .olt main_v5 main_v6
  let main_v8 : FVec F S8x32x1x512 .bf16 := (extractStridedSlice S8x32x1x512 ![0, 0, 128, 0] · slices_S8x32x144x512_S8x32x1x512_0_0_128_0) main_arg2
  let main_v9 : FVec F S8x32x512 .bf16 := shapeCast S8x32x512 main_v8 shapeCasts_S8x32x1x512_S8x32x512
  let main_v10 : FVec F S8x32x512 .f32 := (extf .f32 · bitsLt_bf16_f32) main_v9
  let main_cst_1 : FVec F S_ .f32 := constant S_ .f32 0x3F800000#32
  let main_v11 : FVec F S8x32x512 .f32 := broadcastInDim S8x32x512 ![] bcast_S_S8x32x512 main_cst_1
  let main_v12 : IVec S8x32x512 1 := cmpf .oeq main_v10 main_v11
  (main_v3, main_v7, main_v12)
-- ==== Kernel.lean ====
abbrev S8x256x16384 : Shape := ⟨3, ![8, 256, 16384]⟩
abbrev S8x16384x256 : Shape := ⟨3, ![8, 16384, 256]⟩
abbrev S8x32x144x512 : Shape := ⟨4, ![8, 32, 144, 512]⟩
abbrev S16384x1024 : Shape := ⟨2, ![16384, 1024]⟩
abbrev S3x1024 : Shape := ⟨2, ![3, 1024]⟩
abbrev S1x256x2048 : Shape := ⟨3, ![1, 256, 2048]⟩
abbrev S1x16384x256 : Shape := ⟨3, ![1, 16384, 256]⟩
abbrev S1x32x144x512 : Shape := ⟨4, ![1, 32, 144, 512]⟩
abbrev S8x1024 : Shape := ⟨2, ![8, 1024]⟩
abbrev S256x1024 : Shape := ⟨2, ![256, 1024]⟩
abbrev S2048x128 : Shape := ⟨2, ![2048, 128]⟩
abbrev S512x2048 : Shape := ⟨2, ![512, 2048]⟩
abbrev S1x2048 : Shape := ⟨2, ![1, 2048]⟩
abbrev S144x2048 : Shape := ⟨2, ![144, 2048]⟩
abbrev S272x1024 : Shape := ⟨2, ![272, 1024]⟩
abbrev S1x128 : Shape := ⟨2, ![1, 128]⟩
abbrev S128x128 : Shape := ⟨2, ![128, 128]⟩
abbrev S1x512x256 : Shape := ⟨3, ![1, 512, 256]⟩
abbrev S512x256 : Shape := ⟨2, ![512, 256]⟩
abbrev S1x256x256 : Shape := ⟨3, ![1, 256, 256]⟩
abbrev S256x256 : Shape := ⟨2, ![256, 256]⟩
abbrev S256 : Shape := ⟨1, ![256]⟩
abbrev S1x256 : Shape := ⟨2, ![1, 256]⟩
abbrev S144x256 : Shape := ⟨2, ![144, 256]⟩
abbrev S1x1x144x512 : Shape := ⟨4, ![1, 1, 144, 512]⟩
abbrev S144x512 : Shape := ⟨2, ![144, 512]⟩
abbrev S128x2048 : Shape := ⟨2, ![128, 2048]⟩

abbrev nBuf : Space → Nat
  | .hbm => 8
  | .vmem => 30
  | .smem => 0
  | _ => 0

abbrev bufTy : (tb : Table) → Fin (tcTables nBuf tb) → BufTy
  | .hbm, ⟨0, _⟩ => ⟨S8x256x16384, .bf16⟩
  | .hbm, ⟨1, _⟩ => ⟨S8x16384x256, .bf16⟩
  | .hbm, ⟨2, _⟩ => ⟨S8x32x144x512, .bf16⟩
  | .hbm, ⟨3, _⟩ => ⟨S16384x1024, .f32⟩
  | .hbm, ⟨4, _⟩ => ⟨S16384x1024, .f32⟩
  | .hbm, ⟨5, _⟩ => ⟨S3x1024, .f32⟩
  | .hbm, ⟨6, _⟩ => ⟨S16384x1024, .bf16⟩
  | .hbm, ⟨7, _⟩ => ⟨S16384x1024, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x16384x256, .bf16⟩
  | .local _ .vmem, ⟨3, _⟩ => ⟨S1x16384x256, .bf16⟩
  | .local _ .vmem, ⟨4, _⟩ => ⟨S1x32x144x512, .bf16⟩
  | .local _ .vmem, ⟨5, _⟩ => ⟨S1x32x144x512, .bf16⟩
  | .local _ .vmem, ⟨6, _⟩ => ⟨S8x1024, .f32⟩
  | .local _ .vmem, ⟨7, _⟩ => ⟨S8x1024, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | .local _ .vmem, ⟨11, _⟩ => ⟨S8x1024, .f32⟩
  | .local _ .vmem, ⟨12, _⟩ => ⟨S256x1024, .f32⟩
  | .local _ .vmem, ⟨13, _⟩ => ⟨S256x1024, .f32⟩
  | .local _ .vmem, ⟨14, _⟩ => ⟨S3x1024, .f32⟩
  | .local _ .vmem, ⟨15, _⟩ => ⟨S2048x128, .bf16⟩
  | .local _ .vmem, ⟨16, _⟩ => ⟨S2048x128, .bf16⟩
  | .local _ .vmem, ⟨17, _⟩ => ⟨S256x1024, .bf16⟩
  | .local _ .vmem, ⟨18, _⟩ => ⟨S256x1024, .bf16⟩
  | .local _ .vmem, ⟨19, _⟩ => ⟨S512x2048, .f32⟩
  | .local _ .vmem, ⟨20, _⟩ => ⟨S512x2048, .f32⟩
  | .local _ .vmem, ⟨21, _⟩ => ⟨S512x2048, .bf16⟩
  | .local _ .vmem, ⟨22, _⟩ => ⟨S512x2048, .bf16⟩
  | .local _ .vmem, ⟨23, _⟩ => ⟨S1x2048, .f32⟩
  | .local _ .vmem, ⟨24, _⟩ => ⟨S1x2048, .f32⟩
  | .local _ .vmem, ⟨25, _⟩ => ⟨S1x2048, .f32⟩
  | .local _ .vmem, ⟨26, _⟩ => ⟨S1x2048, .f32⟩
  | .local _ .vmem, ⟨27, _⟩ => ⟨S1x2048, .f32⟩
  | .local _ .vmem, ⟨28, _⟩ => ⟨S144x2048, .f32⟩
  | .local _ .vmem, ⟨29, _⟩ => ⟨S272x1024, .f32⟩
  | _, _ => ⟨S8x256x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_scratch8 : Ref sig .tc := ⟨.vmem, 27, rfl⟩
abbrev cc0_scratch9 : Ref sig .tc := ⟨.vmem, 28, rfl⟩
abbrev cc0_scratch10 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 8], ![false, false]⟩

def k0_mult1 : BitVec 32 :=
  let c0_i32_264 : BitVec 32 := 0#32
  c0_i32_264
def k0_mult2 : BitVec 32 :=
  let c0_i32_276 : BitVec 32 := 0#32
  c0_i32_276
def k0_mult3 : BitVec 32 :=
  let c0_i32_288 : BitVec 32 := 0#32
  c0_i32_288
def k0_mult4 : BitVec 32 :=
  let c0_i32_300 : BitVec 32 := 0#32
  c0_i32_300
def k0_mult5 : BitVec 32 :=
  let c0_i32_312 : BitVec 32 := 0#32
  c0_i32_312
def k0_mult6 : BitVec 32 :=
  let c0_i32_323 : BitVec 32 := 0#32
  c0_i32_323
def k0_mult7 : BitVec 32 :=
  let c0_i32_334 : BitVec 32 := 0#32
  c0_i32_334
def k0_mult8 : BitVec 32 :=
  let c0_i32_345 : BitVec 32 := 0#32
  c0_i32_345
@[reducible] def k0_t1_loop : Scf.Loop 32 :=
  let c0_i32_356 : BitVec 32 := 0#32
  let c4_i32 : BitVec 32 := 4#32
  let v444 : BitVec 32 := Scalar.addi c0_i32_356 c4_i32
  let c1_i32 : BitVec 32 := 1#32
  ⟨c0_i32_356, v444, c1_i32⟩
def k0_mult9 (k0_t1 : Fin k0_t1_loop.trips) : BitVec 32 :=
  let c8_i32_467 : BitVec 32 := 8#32
  let c0_i32_356 : BitVec 32 := 0#32
  let c1_i32 : BitVec 32 := 1#32
  let arg23 : BitVec 32 := Scf.iv c0_i32_356 c1_i32 k0_t1
  let v548 : BitVec 32 := Scalar.muli c8_i32_467 arg23
  let c0_i32_468 : BitVec 32 := 0#32
  let v549 : BitVec 32 := Scalar.addi v548 c0_i32_468
  let c1_i32_469 : BitVec 32 := 1#32
  let v550 : BitVec 32 := Scalar.addi v549 c1_i32_469
  let c512_i32 : BitVec 32 := 512#32
  let v553 : BitVec 32 := Scalar.muli v550 c512_i32
  v553
def k0_off1 (k0_t1 : Fin k0_t1_loop.trips) (c0_i32_468 : BitVec 32) : Fin 3 → Nat :=
  let c0_472 : Index := 0#32
  let c8_i32_467 : BitVec 32 := 8#32
  let c0_i32_356 : BitVec 32 := 0#32
  let c1_i32 : BitVec 32 := 1#32
  let arg23 : BitVec 32 := Scf.iv c0_i32_356 c1_i32 k0_t1
  let v548 : BitVec 32 := Scalar.muli c8_i32_467 arg23
  let v549 : BitVec 32 := Scalar.addi v548 c0_i32_468
  let c1_i32_469 : BitVec 32 := 1#32
  let v550 : BitVec 32 := Scalar.addi v549 c1_i32_469
  let c512_i32 : BitVec 32 := 512#32
  let v553 : BitVec 32 := Scalar.muli v550 c512_i32
  let v554 : BitVec 32 := v553
  let v555 : Index := Scalar.indexCast v554
  let c0_473 : Index := 0#32
  ![0, v555.toNat, 0]
def k0_off2 (k0_t1 : Fin k0_t1_loop.trips) (c0_i32_468 : BitVec 32) : Fin 4 → Nat :=
  let c0_499 : Index := 0#32
  let c8_i32_467 : BitVec 32 := 8#32
  let c0_i32_356 : BitVec 32 := 0#32
  let c1_i32 : BitVec 32 := 1#32
  let arg23 : BitVec 32 := Scf.iv c0_i32_356 c1_i32 k0_t1
  let v548 : BitVec 32 := Scalar.muli c8_i32_467 arg23
  let v549 : BitVec 32 := Scalar.addi v548 c0_i32_468
  let c1_i32_470 : BitVec 32 := 1#32
  let v551 : BitVec 32 := Scalar.subi v549 c1_i32_470
  let c0_i32_471 : BitVec 32 := 0#32
  let v552 : BitVec 32 := Scalar.maxsi v551 c0_i32_471
  let v592 : Index := Scalar.indexCast v552
  let c0_500 : Index := 0#32
  let c0_501 : Index := 0#32
  ![0, v592.toNat, 0, 0]
def k0_mult10 (k0_t1 : Fin k0_t1_loop.trips) : BitVec 32 :=
  let c8_i32_467 : BitVec 32 := 8#32
  let c0_i32_356 : BitVec 32 := 0#32
  let c1_i32 : BitVec 32 := 1#32
  let arg23 : BitVec 32 := Scf.iv c0_i32_356 c1_i32 k0_t1
  let v548 : BitVec 32 := Scalar.muli c8_i32_467 arg23
  let c0_i32_468 : BitVec 32 := 0#32
  let v549 : BitVec 32 := Scalar.addi v548 c0_i32_468
  let c1_i32_469 : BitVec 32 := 1#32
  let v550 : BitVec 32 := Scalar.addi v549 c1_i32_469
  let c512_i32_507 : BitVec 32 := 512#32
  let v601 : BitVec 32 := Scalar.muli v550 c512_i32_507
  v601
def k0_mult11 (k0_t1 : Fin k0_t1_loop.trips) : BitVec 32 :=
  let c8_i32_467 : BitVec 32 := 8#32
  let c0_i32_356 : BitVec 32 := 0#32
  let c1_i32 : BitVec 32 := 1#32
  let arg23 : BitVec 32 := Scf.iv c0_i32_356 c1_i32 k0_t1
  let v548 : BitVec 32 := Scalar.muli c8_i32_467 arg23
  let c0_i32_468 : BitVec 32 := 0#32
  let v549 : BitVec 32 := Scalar.addi v548 c0_i32_468
  let c1_i32_469 : BitVec 32 := 1#32
  let v550 : BitVec 32 := Scalar.addi v549 c1_i32_469
  let c512_i32_543 : BitVec 32 := 512#32
  let v649 : BitVec 32 := Scalar.muli v550 c512_i32_543
  v649
def k0_mult12 (k0_t1 : Fin k0_t1_loop.trips) : BitVec 32 :=
  let c8_i32_467 : BitVec 32 := 8#32
  let c0_i32_356 : BitVec 32 := 0#32
  let c1_i32 : BitVec 32 := 1#32
  let arg23 : BitVec 32 := Scf.iv c0_i32_356 c1_i32 k0_t1
  let v548 : BitVec 32 := Scalar.muli c8_i32_467 arg23
  let c0_i32_468 : BitVec 32 := 0#32
  let v549 : BitVec 32 := Scalar.addi v548 c0_i32_468
  let c1_i32_469 : BitVec 32 := 1#32
  let v550 : BitVec 32 := Scalar.addi v549 c1_i32_469
  let c512_i32_579 : BitVec 32 := 512#32
  let v697 : BitVec 32 := Scalar.muli v550 c512_i32_579
  v697
def k0_mult13 (k0_t1 : Fin k0_t1_loop.trips) : BitVec 32 :=
  let c8_i32_467 : BitVec 32 := 8#32
  let c0_i32_356 : BitVec 32 := 0#32
  let c1_i32 : BitVec 32 := 1#32
  let arg23 : BitVec 32 := Scf.iv c0_i32_356 c1_i32 k0_t1
  let v548 : BitVec 32 := Scalar.muli c8_i32_467 arg23
  let c0_i32_468 : BitVec 32 := 0#32
  let v549 : BitVec 32 := Scalar.addi v548 c0_i32_468
  let c1_i32_469 : BitVec 32 := 1#32
  let v550 : BitVec 32 := Scalar.addi v549 c1_i32_469
  let c512_i32_615 : BitVec 32 := 512#32
  let v745 : BitVec 32 := Scalar.muli v550 c512_i32_615
  v745
def k0_mult14 (k0_t1 : Fin k0_t1_loop.trips) : BitVec 32 :=
  let c8_i32_467 : BitVec 32 := 8#32
  let c0_i32_356 : BitVec 32 := 0#32
  let c1_i32 : BitVec 32 := 1#32
  let arg23 : BitVec 32 := Scf.iv c0_i32_356 c1_i32 k0_t1
  let v548 : BitVec 32 := Scalar.muli c8_i32_467 arg23
  let c0_i32_468 : BitVec 32 := 0#32
  let v549 : BitVec 32 := Scalar.addi v548 c0_i32_468
  let c1_i32_469 : BitVec 32 := 1#32
  let v550 : BitVec 32 := Scalar.addi v549 c1_i32_469
  let c512_i32_651 : BitVec 32 := 512#32
  let v793 : BitVec 32 := Scalar.muli v550 c512_i32_651
  v793
def k0_mult15 (k0_t1 : Fin k0_t1_loop.trips) : BitVec 32 :=
  let c8_i32_467 : BitVec 32 := 8#32
  let c0_i32_356 : BitVec 32 := 0#32
  let c1_i32 : BitVec 32 := 1#32
  let arg23 : BitVec 32 := Scf.iv c0_i32_356 c1_i32 k0_t1
  let v548 : BitVec 32 := Scalar.muli c8_i32_467 arg23
  let c0_i32_468 : BitVec 32 := 0#32
  let v549 : BitVec 32 := Scalar.addi v548 c0_i32_468
  let c1_i32_469 : BitVec 32 := 1#32
  let v550 : BitVec 32 := Scalar.addi v549 c1_i32_469
  let c512_i32_687 : BitVec 32 := 512#32
  let v841 : BitVec 32 := Scalar.muli v550 c512_i32_687
  v841
def k0_mult16 (k0_t1 : Fin k0_t1_loop.trips) : BitVec 32 :=
  let c8_i32_467 : BitVec 32 := 8#32
  let c0_i32_356 : BitVec 32 := 0#32
  let c1_i32 : BitVec 32 := 1#32
  let arg23 : BitVec 32 := Scf.iv c0_i32_356 c1_i32 k0_t1
  let v548 : BitVec 32 := Scalar.muli c8_i32_467 arg23
  let c0_i32_468 : BitVec 32 := 0#32
  let v549 : BitVec 32 := Scalar.addi v548 c0_i32_468
  let c1_i32_469 : BitVec 32 := 1#32
  let v550 : BitVec 32 := Scalar.addi v549 c1_i32_469
  let c512_i32_723 : BitVec 32 := 512#32
  let v889 : BitVec 32 := Scalar.muli v550 c512_i32_723
  v889
def k0_mult17 (k0_t1 : Fin k0_t1_loop.trips) : BitVec 32 :=
  let c8_i32_467 : BitVec 32 := 8#32
  let c0_i32_356 : BitVec 32 := 0#32
  let c1_i32 : BitVec 32 := 1#32
  let arg23 : BitVec 32 := Scf.iv c0_i32_356 c1_i32 k0_t1
  let v548 : BitVec 32 := Scalar.muli c8_i32_467 arg23
  let c0_i32_468 : BitVec 32 := 0#32
  let v549 : BitVec 32 := Scalar.addi v548 c0_i32_468
  let c2_i32 : BitVec 32 := 2#32
  let v937 : BitVec 32 := Scalar.addi v549 c2_i32
  let c31_i32 : BitVec 32 := 31#32
  let v938 : BitVec 32 := Scalar.minsi v937 c31_i32
  let c512_i32_759 : BitVec 32 := 512#32
  let v939 : BitVec 32 := Scalar.muli v938 c512_i32_759
  v939
def k0_off3 (k0_t1 : Fin k0_t1_loop.trips) (c0_i32_468 : BitVec 32) : Fin 3 → Nat :=
  let c0_760 : Index := 0#32
  let c8_i32_467 : BitVec 32 := 8#32
  let c0_i32_356 : BitVec 32 := 0#32
  let c1_i32 : BitVec 32 := 1#32
  let arg23 : BitVec 32 := Scf.iv c0_i32_356 c1_i32 k0_t1
  let v548 : BitVec 32 := Scalar.muli c8_i32_467 arg23
  let v549 : BitVec 32 := Scalar.addi v548 c0_i32_468
  let c2_i32 : BitVec 32 := 2#32
  let v937 : BitVec 32 := Scalar.addi v549 c2_i32
  let c31_i32 : BitVec 32 := 31#32
  let v938 : BitVec 32 := Scalar.minsi v937 c31_i32
  let c512_i32_759 : BitVec 32 := 512#32
  let v939 : BitVec 32 := Scalar.muli v938 c512_i32_759
  let v940 : BitVec 32 := v939
  let v941 : Index := Scalar.indexCast v940
  let c0_761 : Index := 0#32
  ![0, v941.toNat, 0]
def k0_off4 (k0_t1 : Fin k0_t1_loop.trips) (c0_i32_468 : BitVec 32) : Fin 4 → Nat :=
  let c0_787 : Index := 0#32
  let c8_i32_467 : BitVec 32 := 8#32
  let c0_i32_356 : BitVec 32 := 0#32
  let c1_i32 : BitVec 32 := 1#32
  let arg23 : BitVec 32 := Scf.iv c0_i32_356 c1_i32 k0_t1
  let v548 : BitVec 32 := Scalar.muli c8_i32_467 arg23
  let v549 : BitVec 32 := Scalar.addi v548 c0_i32_468
  let v978 : Index := Scalar.indexCast v549
  let c0_788 : Index := 0#32
  let c0_789 : Index := 0#32
  ![0, v978.toNat, 0, 0]
def k0_mult18 (k0_t1 : Fin k0_t1_loop.trips) : BitVec 32 :=
  let c8_i32_467 : BitVec 32 := 8#32
  let c0_i32_356 : BitVec 32 := 0#32
  let c1_i32 : BitVec 32 := 1#32
  let arg23 : BitVec 32 := Scf.iv c0_i32_356 c1_i32 k0_t1
  let v548 : BitVec 32 := Scalar.muli c8_i32_467 arg23
  let c0_i32_468 : BitVec 32 := 0#32
  let v549 : BitVec 32 := Scalar.addi v548 c0_i32_468
  let c2_i32 : BitVec 32 := 2#32
  let v937 : BitVec 32 := Scalar.addi v549 c2_i32
  let c31_i32 : BitVec 32 := 31#32
  let v938 : BitVec 32 := Scalar.minsi v937 c31_i32
  let c512_i32_795 : BitVec 32 := 512#32
  let v987 : BitVec 32 := Scalar.muli v938 c512_i32_795
  v987
def k0_mult19 (k0_t1 : Fin k0_t1_loop.trips) : BitVec 32 :=
  let c8_i32_467 : BitVec 32 := 8#32
  let c0_i32_356 : BitVec 32 := 0#32
  let c1_i32 : BitVec 32 := 1#32
  let arg23 : BitVec 32 := Scf.iv c0_i32_356 c1_i32 k0_t1
  let v548 : BitVec 32 := Scalar.muli c8_i32_467 arg23
  let c0_i32_468 : BitVec 32 := 0#32
  let v549 : BitVec 32 := Scalar.addi v548 c0_i32_468
  let c2_i32 : BitVec 32 := 2#32
  let v937 : BitVec 32 := Scalar.addi v549 c2_i32
  let c31_i32 : BitVec 32 := 31#32
  let v938 : BitVec 32 := Scalar.minsi v937 c31_i32
  let c512_i32_831 : BitVec 32 := 512#32
  let v1035 : BitVec 32 := Scalar.muli v938 c512_i32_831
  v1035
def k0_mult20 (k0_t1 : Fin k0_t1_loop.trips) : BitVec 32 :=
  let c8_i32_467 : BitVec 32 := 8#32
  let c0_i32_356 : BitVec 32 := 0#32
  let c1_i32 : BitVec 32 := 1#32
  let arg23 : BitVec 32 := Scf.iv c0_i32_356 c1_i32 k0_t1
  let v548 : BitVec 32 := Scalar.muli c8_i32_467 arg23
  let c0_i32_468 : BitVec 32 := 0#32
  let v549 : BitVec 32 := Scalar.addi v548 c0_i32_468
  let c2_i32 : BitVec 32 := 2#32
  let v937 : BitVec 32 := Scalar.addi v549 c2_i32
  let c31_i32 : BitVec 32 := 31#32
  let v938 : BitVec 32 := Scalar.minsi v937 c31_i32
  let c512_i32_867 : BitVec 32 := 512#32
  let v1083 : BitVec 32 := Scalar.muli v938 c512_i32_867
  v1083
def k0_mult21 (k0_t1 : Fin k0_t1_loop.trips) : BitVec 32 :=
  let c8_i32_467 : BitVec 32 := 8#32
  let c0_i32_356 : BitVec 32 := 0#32
  let c1_i32 : BitVec 32 := 1#32
  let arg23 : BitVec 32 := Scf.iv c0_i32_356 c1_i32 k0_t1
  let v548 : BitVec 32 := Scalar.muli c8_i32_467 arg23
  let c0_i32_468 : BitVec 32 := 0#32
  let v549 : BitVec 32 := Scalar.addi v548 c0_i32_468
  let c2_i32 : BitVec 32 := 2#32
  let v937 : BitVec 32 := Scalar.addi v549 c2_i32
  let c31_i32 : BitVec 32 := 31#32
  let v938 : BitVec 32 := Scalar.minsi v937 c31_i32
  let c512_i32_903 : BitVec 32 := 512#32
  let v1131 : BitVec 32 := Scalar.muli v938 c512_i32_903
  v1131
def k0_mult22 (k0_t1 : Fin k0_t1_loop.trips) : BitVec 32 :=
  let c8_i32_467 : BitVec 32 := 8#32
  let c0_i32_356 : BitVec 32 := 0#32
  let c1_i32 : BitVec 32 := 1#32
  let arg23 : BitVec 32 := Scf.iv c0_i32_356 c1_i32 k0_t1
  let v548 : BitVec 32 := Scalar.muli c8_i32_467 arg23
  let c0_i32_468 : BitVec 32 := 0#32
  let v549 : BitVec 32 := Scalar.addi v548 c0_i32_468
  let c2_i32 : BitVec 32 := 2#32
  let v937 : BitVec 32 := Scalar.addi v549 c2_i32
  let c31_i32 : BitVec 32 := 31#32
  let v938 : BitVec 32 := Scalar.minsi v937 c31_i32
  let c512_i32_939 : BitVec 32 := 512#32
  let v1179 : BitVec 32 := Scalar.muli v938 c512_i32_939
  v1179
def k0_mult23 (k0_t1 : Fin k0_t1_loop.trips) : BitVec 32 :=
  let c8_i32_467 : BitVec 32 := 8#32
  let c0_i32_356 : BitVec 32 := 0#32
  let c1_i32 : BitVec 32 := 1#32
  let arg23 : BitVec 32 := Scf.iv c0_i32_356 c1_i32 k0_t1
  let v548 : BitVec 32 := Scalar.muli c8_i32_467 arg23
  let c0_i32_468 : BitVec 32 := 0#32
  let v549 : BitVec 32 := Scalar.addi v548 c0_i32_468
  let c2_i32 : BitVec 32 := 2#32
  let v937 : BitVec 32 := Scalar.addi v549 c2_i32
  let c31_i32 : BitVec 32 := 31#32
  let v938 : BitVec 32 := Scalar.minsi v937 c31_i32
  let c512_i32_975 : BitVec 32 := 512#32
  let v1227 : BitVec 32 := Scalar.muli v938 c512_i32_975
  v1227
def k0_mult24 (k0_t1 : Fin k0_t1_loop.trips) : BitVec 32 :=
  let c8_i32_467 : BitVec 32 := 8#32
  let c0_i32_356 : BitVec 32 := 0#32
  let c1_i32 : BitVec 32 := 1#32
  let arg23 : BitVec 32 := Scf.iv c0_i32_356 c1_i32 k0_t1
  let v548 : BitVec 32 := Scalar.muli c8_i32_467 arg23
  let c0_i32_468 : BitVec 32 := 0#32
  let v549 : BitVec 32 := Scalar.addi v548 c0_i32_468
  let c2_i32 : BitVec 32 := 2#32
  let v937 : BitVec 32 := Scalar.addi v549 c2_i32
  let c31_i32 : BitVec 32 := 31#32
  let v938 : BitVec 32 := Scalar.minsi v937 c31_i32
  let c512_i32_1011 : BitVec 32 := 512#32
  let v1275 : BitVec 32 := Scalar.muli v938 c512_i32_1011
  v1275
def k0_mult25 (k0_t1 : Fin k0_t1_loop.trips) : BitVec 32 :=
  let c8_i32_1047 : BitVec 32 := 8#32
  let c0_i32_356 : BitVec 32 := 0#32
  let c1_i32 : BitVec 32 := 1#32
  let arg23 : BitVec 32 := Scf.iv c0_i32_356 c1_i32 k0_t1
  let v1323 : BitVec 32 := Scalar.muli c8_i32_1047 arg23
  let c2_i32_1048 : BitVec 32 := 2#32
  let v1324 : BitVec 32 := Scalar.addi v1323 c2_i32_1048
  let c1_i32_1049 : BitVec 32 := 1#32
  let v1325 : BitVec 32 := Scalar.addi v1324 c1_i32_1049
  let c512_i32_1052 : BitVec 32 := 512#32
  let v1328 : BitVec 32 := Scalar.muli v1325 c512_i32_1052
  v1328
def k0_mult26 (k0_t1 : Fin k0_t1_loop.trips) : BitVec 32 :=
  let c8_i32_1047 : BitVec 32 := 8#32
  let c0_i32_356 : BitVec 32 := 0#32
  let c1_i32 : BitVec 32 := 1#32
  let arg23 : BitVec 32 := Scf.iv c0_i32_356 c1_i32 k0_t1
  let v1323 : BitVec 32 := Scalar.muli c8_i32_1047 arg23
  let c2_i32_1048 : BitVec 32 := 2#32
  let v1324 : BitVec 32 := Scalar.addi v1323 c2_i32_1048
  let c1_i32_1049 : BitVec 32 := 1#32
  let v1325 : BitVec 32 := Scalar.addi v1324 c1_i32_1049
  let c512_i32_1088 : BitVec 32 := 512#32
  let v1376 : BitVec 32 := Scalar.muli v1325 c512_i32_1088
  v1376
def k0_mult27 (k0_t1 : Fin k0_t1_loop.trips) : BitVec 32 :=
  let c8_i32_1047 : BitVec 32 := 8#32
  let c0_i32_356 : BitVec 32 := 0#32
  let c1_i32 : BitVec 32 := 1#32
  let arg23 : BitVec 32 := Scf.iv c0_i32_356 c1_i32 k0_t1
  let v1323 : BitVec 32 := Scalar.muli c8_i32_1047 arg23
  let c2_i32_1048 : BitVec 32 := 2#32
  let v1324 : BitVec 32 := Scalar.addi v1323 c2_i32_1048
  let c1_i32_1049 : BitVec 32 := 1#32
  let v1325 : BitVec 32 := Scalar.addi v1324 c1_i32_1049
  let c512_i32_1124 : BitVec 32 := 512#32
  let v1424 : BitVec 32 := Scalar.muli v1325 c512_i32_1124
  v1424
def k0_mult28 (k0_t1 : Fin k0_t1_loop.trips) : BitVec 32 :=
  let c8_i32_1047 : BitVec 32 := 8#32
  let c0_i32_356 : BitVec 32 := 0#32
  let c1_i32 : BitVec 32 := 1#32
  let arg23 : BitVec 32 := Scf.iv c0_i32_356 c1_i32 k0_t1
  let v1323 : BitVec 32 := Scalar.muli c8_i32_1047 arg23
  let c2_i32_1048 : BitVec 32 := 2#32
  let v1324 : BitVec 32 := Scalar.addi v1323 c2_i32_1048
  let c1_i32_1049 : BitVec 32 := 1#32
  let v1325 : BitVec 32 := Scalar.addi v1324 c1_i32_1049
  let c512_i32_1160 : BitVec 32 := 512#32
  let v1472 : BitVec 32 := Scalar.muli v1325 c512_i32_1160
  v1472
def k0_mult29 (k0_t1 : Fin k0_t1_loop.trips) : BitVec 32 :=
  let c8_i32_1047 : BitVec 32 := 8#32
  let c0_i32_356 : BitVec 32 := 0#32
  let c1_i32 : BitVec 32 := 1#32
  let arg23 : BitVec 32 := Scf.iv c0_i32_356 c1_i32 k0_t1
  let v1323 : BitVec 32 := Scalar.muli c8_i32_1047 arg23
  let c2_i32_1048 : BitVec 32 := 2#32
  let v1324 : BitVec 32 := Scalar.addi v1323 c2_i32_1048
  let c1_i32_1049 : BitVec 32 := 1#32
  let v1325 : BitVec 32 := Scalar.addi v1324 c1_i32_1049
  let c512_i32_1196 : BitVec 32 := 512#32
  let v1520 : BitVec 32 := Scalar.muli v1325 c512_i32_1196
  v1520
def k0_mult30 (k0_t1 : Fin k0_t1_loop.trips) : BitVec 32 :=
  let c8_i32_1047 : BitVec 32 := 8#32
  let c0_i32_356 : BitVec 32 := 0#32
  let c1_i32 : BitVec 32 := 1#32
  let arg23 : BitVec 32 := Scf.iv c0_i32_356 c1_i32 k0_t1
  let v1323 : BitVec 32 := Scalar.muli c8_i32_1047 arg23
  let c2_i32_1048 : BitVec 32 := 2#32
  let v1324 : BitVec 32 := Scalar.addi v1323 c2_i32_1048
  let c1_i32_1049 : BitVec 32 := 1#32
  let v1325 : BitVec 32 := Scalar.addi v1324 c1_i32_1049
  let c512_i32_1232 : BitVec 32 := 512#32
  let v1568 : BitVec 32 := Scalar.muli v1325 c512_i32_1232
  v1568
def k0_mult31 (k0_t1 : Fin k0_t1_loop.trips) : BitVec 32 :=
  let c8_i32_1047 : BitVec 32 := 8#32
  let c0_i32_356 : BitVec 32 := 0#32
  let c1_i32 : BitVec 32 := 1#32
  let arg23 : BitVec 32 := Scf.iv c0_i32_356 c1_i32 k0_t1
  let v1323 : BitVec 32 := Scalar.muli c8_i32_1047 arg23
  let c2_i32_1048 : BitVec 32 := 2#32
  let v1324 : BitVec 32 := Scalar.addi v1323 c2_i32_1048
  let c1_i32_1049 : BitVec 32 := 1#32
  let v1325 : BitVec 32 := Scalar.addi v1324 c1_i32_1049
  let c512_i32_1268 : BitVec 32 := 512#32
  let v1616 : BitVec 32 := Scalar.muli v1325 c512_i32_1268
  v1616
def k0_mult32 (k0_t1 : Fin k0_t1_loop.trips) : BitVec 32 :=
  let c8_i32_1047 : BitVec 32 := 8#32
  let c0_i32_356 : BitVec 32 := 0#32
  let c1_i32 : BitVec 32 := 1#32
  let arg23 : BitVec 32 := Scf.iv c0_i32_356 c1_i32 k0_t1
  let v1323 : BitVec 32 := Scalar.muli c8_i32_1047 arg23
  let c2_i32_1048 : BitVec 32 := 2#32
  let v1324 : BitVec 32 := Scalar.addi v1323 c2_i32_1048
  let c1_i32_1049 : BitVec 32 := 1#32
  let v1325 : BitVec 32 := Scalar.addi v1324 c1_i32_1049
  let c512_i32_1304 : BitVec 32 := 512#32
  let v1664 : BitVec 32 := Scalar.muli v1325 c512_i32_1304
  v1664
def k0_mult33 (k0_t1 : Fin k0_t1_loop.trips) : BitVec 32 :=
  let c8_i32_1047 : BitVec 32 := 8#32
  let c0_i32_356 : BitVec 32 := 0#32
  let c1_i32 : BitVec 32 := 1#32
  let arg23 : BitVec 32 := Scf.iv c0_i32_356 c1_i32 k0_t1
  let v1323 : BitVec 32 := Scalar.muli c8_i32_1047 arg23
  let c2_i32_1048 : BitVec 32 := 2#32
  let v1324 : BitVec 32 := Scalar.addi v1323 c2_i32_1048
  let c2_i32_1340 : BitVec 32 := 2#32
  let v1712 : BitVec 32 := Scalar.addi v1324 c2_i32_1340
  let c31_i32_1341 : BitVec 32 := 31#32
  let v1713 : BitVec 32 := Scalar.minsi v1712 c31_i32_1341
  let c512_i32_1342 : BitVec 32 := 512#32
  let v1714 : BitVec 32 := Scalar.muli v1713 c512_i32_1342
  v1714
def k0_mult34 (k0_t1 : Fin k0_t1_loop.trips) : BitVec 32 :=
  let c8_i32_1047 : BitVec 32 := 8#32
  let c0_i32_356 : BitVec 32 := 0#32
  let c1_i32 : BitVec 32 := 1#32
  let arg23 : BitVec 32 := Scf.iv c0_i32_356 c1_i32 k0_t1
  let v1323 : BitVec 32 := Scalar.muli c8_i32_1047 arg23
  let c2_i32_1048 : BitVec 32 := 2#32
  let v1324 : BitVec 32 := Scalar.addi v1323 c2_i32_1048
  let c2_i32_1340 : BitVec 32 := 2#32
  let v1712 : BitVec 32 := Scalar.addi v1324 c2_i32_1340
  let c31_i32_1341 : BitVec 32 := 31#32
  let v1713 : BitVec 32 := Scalar.minsi v1712 c31_i32_1341
  let c512_i32_1378 : BitVec 32 := 512#32
  let v1762 : BitVec 32 := Scalar.muli v1713 c512_i32_1378
  v1762
def k0_mult35 (k0_t1 : Fin k0_t1_loop.trips) : BitVec 32 :=
  let c8_i32_1047 : BitVec 32 := 8#32
  let c0_i32_356 : BitVec 32 := 0#32
  let c1_i32 : BitVec 32 := 1#32
  let arg23 : BitVec 32 := Scf.iv c0_i32_356 c1_i32 k0_t1
  let v1323 : BitVec 32 := Scalar.muli c8_i32_1047 arg23
  let c2_i32_1048 : BitVec 32 := 2#32
  let v1324 : BitVec 32 := Scalar.addi v1323 c2_i32_1048
  let c2_i32_1340 : BitVec 32 := 2#32
  let v1712 : BitVec 32 := Scalar.addi v1324 c2_i32_1340
  let c31_i32_1341 : BitVec 32 := 31#32
  let v1713 : BitVec 32 := Scalar.minsi v1712 c31_i32_1341
  let c512_i32_1414 : BitVec 32 := 512#32
  let v1810 : BitVec 32 := Scalar.muli v1713 c512_i32_1414
  v1810
def k0_mult36 (k0_t1 : Fin k0_t1_loop.trips) : BitVec 32 :=
  let c8_i32_1047 : BitVec 32 := 8#32
  let c0_i32_356 : BitVec 32 := 0#32
  let c1_i32 : BitVec 32 := 1#32
  let arg23 : BitVec 32 := Scf.iv c0_i32_356 c1_i32 k0_t1
  let v1323 : BitVec 32 := Scalar.muli c8_i32_1047 arg23
  let c2_i32_1048 : BitVec 32 := 2#32
  let v1324 : BitVec 32 := Scalar.addi v1323 c2_i32_1048
  let c2_i32_1340 : BitVec 32 := 2#32
  let v1712 : BitVec 32 := Scalar.addi v1324 c2_i32_1340
  let c31_i32_1341 : BitVec 32 := 31#32
  let v1713 : BitVec 32 := Scalar.minsi v1712 c31_i32_1341
  let c512_i32_1450 : BitVec 32 := 512#32
  let v1858 : BitVec 32 := Scalar.muli v1713 c512_i32_1450
  v1858
def k0_mult37 (k0_t1 : Fin k0_t1_loop.trips) : BitVec 32 :=
  let c8_i32_1047 : BitVec 32 := 8#32
  let c0_i32_356 : BitVec 32 := 0#32
  let c1_i32 : BitVec 32 := 1#32
  let arg23 : BitVec 32 := Scf.iv c0_i32_356 c1_i32 k0_t1
  let v1323 : BitVec 32 := Scalar.muli c8_i32_1047 arg23
  let c2_i32_1048 : BitVec 32 := 2#32
  let v1324 : BitVec 32 := Scalar.addi v1323 c2_i32_1048
  let c2_i32_1340 : BitVec 32 := 2#32
  let v1712 : BitVec 32 := Scalar.addi v1324 c2_i32_1340
  let c31_i32_1341 : BitVec 32 := 31#32
  let v1713 : BitVec 32 := Scalar.minsi v1712 c31_i32_1341
  let c512_i32_1486 : BitVec 32 := 512#32
  let v1906 : BitVec 32 := Scalar.muli v1713 c512_i32_1486
  v1906
def k0_mult38 (k0_t1 : Fin k0_t1_loop.trips) : BitVec 32 :=
  let c8_i32_1047 : BitVec 32 := 8#32
  let c0_i32_356 : BitVec 32 := 0#32
  let c1_i32 : BitVec 32 := 1#32
  let arg23 : BitVec 32 := Scf.iv c0_i32_356 c1_i32 k0_t1
  let v1323 : BitVec 32 := Scalar.muli c8_i32_1047 arg23
  let c2_i32_1048 : BitVec 32 := 2#32
  let v1324 : BitVec 32 := Scalar.addi v1323 c2_i32_1048
  let c2_i32_1340 : BitVec 32 := 2#32
  let v1712 : BitVec 32 := Scalar.addi v1324 c2_i32_1340
  let c31_i32_1341 : BitVec 32 := 31#32
  let v1713 : BitVec 32 := Scalar.minsi v1712 c31_i32_1341
  let c512_i32_1522 : BitVec 32 := 512#32
  let v1954 : BitVec 32 := Scalar.muli v1713 c512_i32_1522
  v1954
def k0_mult39 (k0_t1 : Fin k0_t1_loop.trips) : BitVec 32 :=
  let c8_i32_1047 : BitVec 32 := 8#32
  let c0_i32_356 : BitVec 32 := 0#32
  let c1_i32 : BitVec 32 := 1#32
  let arg23 : BitVec 32 := Scf.iv c0_i32_356 c1_i32 k0_t1
  let v1323 : BitVec 32 := Scalar.muli c8_i32_1047 arg23
  let c2_i32_1048 : BitVec 32 := 2#32
  let v1324 : BitVec 32 := Scalar.addi v1323 c2_i32_1048
  let c2_i32_1340 : BitVec 32 := 2#32
  let v1712 : BitVec 32 := Scalar.addi v1324 c2_i32_1340
  let c31_i32_1341 : BitVec 32 := 31#32
  let v1713 : BitVec 32 := Scalar.minsi v1712 c31_i32_1341
  let c512_i32_1558 : BitVec 32 := 512#32
  let v2002 : BitVec 32 := Scalar.muli v1713 c512_i32_1558
  v2002
def k0_mult40 (k0_t1 : Fin k0_t1_loop.trips) : BitVec 32 :=
  let c8_i32_1047 : BitVec 32 := 8#32
  let c0_i32_356 : BitVec 32 := 0#32
  let c1_i32 : BitVec 32 := 1#32
  let arg23 : BitVec 32 := Scf.iv c0_i32_356 c1_i32 k0_t1
  let v1323 : BitVec 32 := Scalar.muli c8_i32_1047 arg23
  let c2_i32_1048 : BitVec 32 := 2#32
  let v1324 : BitVec 32 := Scalar.addi v1323 c2_i32_1048
  let c2_i32_1340 : BitVec 32 := 2#32
  let v1712 : BitVec 32 := Scalar.addi v1324 c2_i32_1340
  let c31_i32_1341 : BitVec 32 := 31#32
  let v1713 : BitVec 32 := Scalar.minsi v1712 c31_i32_1341
  let c512_i32_1594 : BitVec 32 := 512#32
  let v2050 : BitVec 32 := Scalar.muli v1713 c512_i32_1594
  v2050
def k0_mult41 (k0_t1 : Fin k0_t1_loop.trips) : BitVec 32 :=
  let c8_i32_1630 : BitVec 32 := 8#32
  let c0_i32_356 : BitVec 32 := 0#32
  let c1_i32 : BitVec 32 := 1#32
  let arg23 : BitVec 32 := Scf.iv c0_i32_356 c1_i32 k0_t1
  let v2098 : BitVec 32 := Scalar.muli c8_i32_1630 arg23
  let c4_i32_1631 : BitVec 32 := 4#32
  let v2099 : BitVec 32 := Scalar.addi v2098 c4_i32_1631
  let c1_i32_1632 : BitVec 32 := 1#32
  let v2100 : BitVec 32 := Scalar.addi v2099 c1_i32_1632
  let c512_i32_1635 : BitVec 32 := 512#32
  let v2103 : BitVec 32 := Scalar.muli v2100 c512_i32_1635
  v2103
def k0_mult42 (k0_t1 : Fin k0_t1_loop.trips) : BitVec 32 :=
  let c8_i32_1630 : BitVec 32 := 8#32
  let c0_i32_356 : BitVec 32 := 0#32
  let c1_i32 : BitVec 32 := 1#32
  let arg23 : BitVec 32 := Scf.iv c0_i32_356 c1_i32 k0_t1
  let v2098 : BitVec 32 := Scalar.muli c8_i32_1630 arg23
  let c4_i32_1631 : BitVec 32 := 4#32
  let v2099 : BitVec 32 := Scalar.addi v2098 c4_i32_1631
  let c1_i32_1632 : BitVec 32 := 1#32
  let v2100 : BitVec 32 := Scalar.addi v2099 c1_i32_1632
  let c512_i32_1671 : BitVec 32 := 512#32
  let v2151 : BitVec 32 := Scalar.muli v2100 c512_i32_1671
  v2151
def k0_mult43 (k0_t1 : Fin k0_t1_loop.trips) : BitVec 32 :=
  let c8_i32_1630 : BitVec 32 := 8#32
  let c0_i32_356 : BitVec 32 := 0#32
  let c1_i32 : BitVec 32 := 1#32
  let arg23 : BitVec 32 := Scf.iv c0_i32_356 c1_i32 k0_t1
  let v2098 : BitVec 32 := Scalar.muli c8_i32_1630 arg23
  let c4_i32_1631 : BitVec 32 := 4#32
  let v2099 : BitVec 32 := Scalar.addi v2098 c4_i32_1631
  let c1_i32_1632 : BitVec 32 := 1#32
  let v2100 : BitVec 32 := Scalar.addi v2099 c1_i32_1632
  let c512_i32_1707 : BitVec 32 := 512#32
  let v2199 : BitVec 32 := Scalar.muli v2100 c512_i32_1707
  v2199
def k0_mult44 (k0_t1 : Fin k0_t1_loop.trips) : BitVec 32 :=
  let c8_i32_1630 : BitVec 32 := 8#32
  let c0_i32_356 : BitVec 32 := 0#32
  let c1_i32 : BitVec 32 := 1#32
  let arg23 : BitVec 32 := Scf.iv c0_i32_356 c1_i32 k0_t1
  let v2098 : BitVec 32 := Scalar.muli c8_i32_1630 arg23
  let c4_i32_1631 : BitVec 32 := 4#32
  let v2099 : BitVec 32 := Scalar.addi v2098 c4_i32_1631
  let c1_i32_1632 : BitVec 32 := 1#32
  let v2100 : BitVec 32 := Scalar.addi v2099 c1_i32_1632
  let c512_i32_1743 : BitVec 32 := 512#32
  let v2247 : BitVec 32 := Scalar.muli v2100 c512_i32_1743
  v2247
def k0_mult45 (k0_t1 : Fin k0_t1_loop.trips) : BitVec 32 :=
  let c8_i32_1630 : BitVec 32 := 8#32
  let c0_i32_356 : BitVec 32 := 0#32
  let c1_i32 : BitVec 32 := 1#32
  let arg23 : BitVec 32 := Scf.iv c0_i32_356 c1_i32 k0_t1
  let v2098 : BitVec 32 := Scalar.muli c8_i32_1630 arg23
  let c4_i32_1631 : BitVec 32 := 4#32
  let v2099 : BitVec 32 := Scalar.addi v2098 c4_i32_1631
  let c1_i32_1632 : BitVec 32 := 1#32
  let v2100 : BitVec 32 := Scalar.addi v2099 c1_i32_1632
  let c512_i32_1779 : BitVec 32 := 512#32
  let v2295 : BitVec 32 := Scalar.muli v2100 c512_i32_1779
  v2295
def k0_mult46 (k0_t1 : Fin k0_t1_loop.trips) : BitVec 32 :=
  let c8_i32_1630 : BitVec 32 := 8#32
  let c0_i32_356 : BitVec 32 := 0#32
  let c1_i32 : BitVec 32 := 1#32
  let arg23 : BitVec 32 := Scf.iv c0_i32_356 c1_i32 k0_t1
  let v2098 : BitVec 32 := Scalar.muli c8_i32_1630 arg23
  let c4_i32_1631 : BitVec 32 := 4#32
  let v2099 : BitVec 32 := Scalar.addi v2098 c4_i32_1631
  let c1_i32_1632 : BitVec 32 := 1#32
  let v2100 : BitVec 32 := Scalar.addi v2099 c1_i32_1632
  let c512_i32_1815 : BitVec 32 := 512#32
  let v2343 : BitVec 32 := Scalar.muli v2100 c512_i32_1815
  v2343
def k0_mult47 (k0_t1 : Fin k0_t1_loop.trips) : BitVec 32 :=
  let c8_i32_1630 : BitVec 32 := 8#32
  let c0_i32_356 : BitVec 32 := 0#32
  let c1_i32 : BitVec 32 := 1#32
  let arg23 : BitVec 32 := Scf.iv c0_i32_356 c1_i32 k0_t1
  let v2098 : BitVec 32 := Scalar.muli c8_i32_1630 arg23
  let c4_i32_1631 : BitVec 32 := 4#32
  let v2099 : BitVec 32 := Scalar.addi v2098 c4_i32_1631
  let c1_i32_1632 : BitVec 32 := 1#32
  let v2100 : BitVec 32 := Scalar.addi v2099 c1_i32_1632
  let c512_i32_1851 : BitVec 32 := 512#32
  let v2391 : BitVec 32 := Scalar.muli v2100 c512_i32_1851
  v2391
def k0_mult48 (k0_t1 : Fin k0_t1_loop.trips) : BitVec 32 :=
  let c8_i32_1630 : BitVec 32 := 8#32
  let c0_i32_356 : BitVec 32 := 0#32
  let c1_i32 : BitVec 32 := 1#32
  let arg23 : BitVec 32 := Scf.iv c0_i32_356 c1_i32 k0_t1
  let v2098 : BitVec 32 := Scalar.muli c8_i32_1630 arg23
  let c4_i32_1631 : BitVec 32 := 4#32
  let v2099 : BitVec 32 := Scalar.addi v2098 c4_i32_1631
  let c1_i32_1632 : BitVec 32 := 1#32
  let v2100 : BitVec 32 := Scalar.addi v2099 c1_i32_1632
  let c512_i32_1887 : BitVec 32 := 512#32
  let v2439 : BitVec 32 := Scalar.muli v2100 c512_i32_1887
  v2439
def k0_mult49 (k0_t1 : Fin k0_t1_loop.trips) : BitVec 32 :=
  let c8_i32_1630 : BitVec 32 := 8#32
  let c0_i32_356 : BitVec 32 := 0#32
  let c1_i32 : BitVec 32 := 1#32
  let arg23 : BitVec 32 := Scf.iv c0_i32_356 c1_i32 k0_t1
  let v2098 : BitVec 32 := Scalar.muli c8_i32_1630 arg23
  let c4_i32_1631 : BitVec 32 := 4#32
  let v2099 : BitVec 32 := Scalar.addi v2098 c4_i32_1631
  let c2_i32_1923 : BitVec 32 := 2#32
  let v2487 : BitVec 32 := Scalar.addi v2099 c2_i32_1923
  let c31_i32_1924 : BitVec 32 := 31#32
  let v2488 : BitVec 32 := Scalar.minsi v2487 c31_i32_1924
  let c512_i32_1925 : BitVec 32 := 512#32
  let v2489 : BitVec 32 := Scalar.muli v2488 c512_i32_1925
  v2489
def k0_mult50 (k0_t1 : Fin k0_t1_loop.trips) : BitVec 32 :=
  let c8_i32_1630 : BitVec 32 := 8#32
  let c0_i32_356 : BitVec 32 := 0#32
  let c1_i32 : BitVec 32 := 1#32
  let arg23 : BitVec 32 := Scf.iv c0_i32_356 c1_i32 k0_t1
  let v2098 : BitVec 32 := Scalar.muli c8_i32_1630 arg23
  let c4_i32_1631 : BitVec 32 := 4#32
  let v2099 : BitVec 32 := Scalar.addi v2098 c4_i32_1631
  let c2_i32_1923 : BitVec 32 := 2#32
  let v2487 : BitVec 32 := Scalar.addi v2099 c2_i32_1923
  let c31_i32_1924 : BitVec 32 := 31#32
  let v2488 : BitVec 32 := Scalar.minsi v2487 c31_i32_1924
  let c512_i32_1961 : BitVec 32 := 512#32
  let v2537 : BitVec 32 := Scalar.muli v2488 c512_i32_1961
  v2537
def k0_mult51 (k0_t1 : Fin k0_t1_loop.trips) : BitVec 32 :=
  let c8_i32_1630 : BitVec 32 := 8#32
  let c0_i32_356 : BitVec 32 := 0#32
  let c1_i32 : BitVec 32 := 1#32
  let arg23 : BitVec 32 := Scf.iv c0_i32_356 c1_i32 k0_t1
  let v2098 : BitVec 32 := Scalar.muli c8_i32_1630 arg23
  let c4_i32_1631 : BitVec 32 := 4#32
  let v2099 : BitVec 32 := Scalar.addi v2098 c4_i32_1631
  let c2_i32_1923 : BitVec 32 := 2#32
  let v2487 : BitVec 32 := Scalar.addi v2099 c2_i32_1923
  let c31_i32_1924 : BitVec 32 := 31#32
  let v2488 : BitVec 32 := Scalar.minsi v2487 c31_i32_1924
  let c512_i32_1997 : BitVec 32 := 512#32
  let v2585 : BitVec 32 := Scalar.muli v2488 c512_i32_1997
  v2585
def k0_mult52 (k0_t1 : Fin k0_t1_loop.trips) : BitVec 32 :=
  let c8_i32_1630 : BitVec 32 := 8#32
  let c0_i32_356 : BitVec 32 := 0#32
  let c1_i32 : BitVec 32 := 1#32
  let arg23 : BitVec 32 := Scf.iv c0_i32_356 c1_i32 k0_t1
  let v2098 : BitVec 32 := Scalar.muli c8_i32_1630 arg23
  let c4_i32_1631 : BitVec 32 := 4#32
  let v2099 : BitVec 32 := Scalar.addi v2098 c4_i32_1631
  let c2_i32_1923 : BitVec 32 := 2#32
  let v2487 : BitVec 32 := Scalar.addi v2099 c2_i32_1923
  let c31_i32_1924 : BitVec 32 := 31#32
  let v2488 : BitVec 32 := Scalar.minsi v2487 c31_i32_1924
  let c512_i32_2033 : BitVec 32 := 512#32
  let v2633 : BitVec 32 := Scalar.muli v2488 c512_i32_2033
  v2633
def k0_mult53 (k0_t1 : Fin k0_t1_loop.trips) : BitVec 32 :=
  let c8_i32_1630 : BitVec 32 := 8#32
  let c0_i32_356 : BitVec 32 := 0#32
  let c1_i32 : BitVec 32 := 1#32
  let arg23 : BitVec 32 := Scf.iv c0_i32_356 c1_i32 k0_t1
  let v2098 : BitVec 32 := Scalar.muli c8_i32_1630 arg23
  let c4_i32_1631 : BitVec 32 := 4#32
  let v2099 : BitVec 32 := Scalar.addi v2098 c4_i32_1631
  let c2_i32_1923 : BitVec 32 := 2#32
  let v2487 : BitVec 32 := Scalar.addi v2099 c2_i32_1923
  let c31_i32_1924 : BitVec 32 := 31#32
  let v2488 : BitVec 32 := Scalar.minsi v2487 c31_i32_1924
  let c512_i32_2069 : BitVec 32 := 512#32
  let v2681 : BitVec 32 := Scalar.muli v2488 c512_i32_2069
  v2681
def k0_mult54 (k0_t1 : Fin k0_t1_loop.trips) : BitVec 32 :=
  let c8_i32_1630 : BitVec 32 := 8#32
  let c0_i32_356 : BitVec 32 := 0#32
  let c1_i32 : BitVec 32 := 1#32
  let arg23 : BitVec 32 := Scf.iv c0_i32_356 c1_i32 k0_t1
  let v2098 : BitVec 32 := Scalar.muli c8_i32_1630 arg23
  let c4_i32_1631 : BitVec 32 := 4#32
  let v2099 : BitVec 32 := Scalar.addi v2098 c4_i32_1631
  let c2_i32_1923 : BitVec 32 := 2#32
  let v2487 : BitVec 32 := Scalar.addi v2099 c2_i32_1923
  let c31_i32_1924 : BitVec 32 := 31#32
  let v2488 : BitVec 32 := Scalar.minsi v2487 c31_i32_1924
  let c512_i32_2105 : BitVec 32 := 512#32
  let v2729 : BitVec 32 := Scalar.muli v2488 c512_i32_2105
  v2729
def k0_mult55 (k0_t1 : Fin k0_t1_loop.trips) : BitVec 32 :=
  let c8_i32_1630 : BitVec 32 := 8#32
  let c0_i32_356 : BitVec 32 := 0#32
  let c1_i32 : BitVec 32 := 1#32
  let arg23 : BitVec 32 := Scf.iv c0_i32_356 c1_i32 k0_t1
  let v2098 : BitVec 32 := Scalar.muli c8_i32_1630 arg23
  let c4_i32_1631 : BitVec 32 := 4#32
  let v2099 : BitVec 32 := Scalar.addi v2098 c4_i32_1631
  let c2_i32_1923 : BitVec 32 := 2#32
  let v2487 : BitVec 32 := Scalar.addi v2099 c2_i32_1923
  let c31_i32_1924 : BitVec 32 := 31#32
  let v2488 : BitVec 32 := Scalar.minsi v2487 c31_i32_1924
  let c512_i32_2141 : BitVec 32 := 512#32
  let v2777 : BitVec 32 := Scalar.muli v2488 c512_i32_2141
  v2777
def k0_mult56 (k0_t1 : Fin k0_t1_loop.trips) : BitVec 32 :=
  let c8_i32_1630 : BitVec 32 := 8#32
  let c0_i32_356 : BitVec 32 := 0#32
  let c1_i32 : BitVec 32 := 1#32
  let arg23 : BitVec 32 := Scf.iv c0_i32_356 c1_i32 k0_t1
  let v2098 : BitVec 32 := Scalar.muli c8_i32_1630 arg23
  let c4_i32_1631 : BitVec 32 := 4#32
  let v2099 : BitVec 32 := Scalar.addi v2098 c4_i32_1631
  let c2_i32_1923 : BitVec 32 := 2#32
  let v2487 : BitVec 32 := Scalar.addi v2099 c2_i32_1923
  let c31_i32_1924 : BitVec 32 := 31#32
  let v2488 : BitVec 32 := Scalar.minsi v2487 c31_i32_1924
  let c512_i32_2177 : BitVec 32 := 512#32
  let v2825 : BitVec 32 := Scalar.muli v2488 c512_i32_2177
  v2825
def k0_mult57 (k0_t1 : Fin k0_t1_loop.trips) : BitVec 32 :=
  let c8_i32_2213 : BitVec 32 := 8#32
  let c0_i32_356 : BitVec 32 := 0#32
  let c1_i32 : BitVec 32 := 1#32
  let arg23 : BitVec 32 := Scf.iv c0_i32_356 c1_i32 k0_t1
  let v2873 : BitVec 32 := Scalar.muli c8_i32_2213 arg23
  let c6_i32 : BitVec 32 := 6#32
  let v2874 : BitVec 32 := Scalar.addi v2873 c6_i32
  let c1_i32_2214 : BitVec 32 := 1#32
  let v2875 : BitVec 32 := Scalar.addi v2874 c1_i32_2214
  let c512_i32_2217 : BitVec 32 := 512#32
  let v2878 : BitVec 32 := Scalar.muli v2875 c512_i32_2217
  v2878
def k0_mult58 (k0_t1 : Fin k0_t1_loop.trips) : BitVec 32 :=
  let c8_i32_2213 : BitVec 32 := 8#32
  let c0_i32_356 : BitVec 32 := 0#32
  let c1_i32 : BitVec 32 := 1#32
  let arg23 : BitVec 32 := Scf.iv c0_i32_356 c1_i32 k0_t1
  let v2873 : BitVec 32 := Scalar.muli c8_i32_2213 arg23
  let c6_i32 : BitVec 32 := 6#32
  let v2874 : BitVec 32 := Scalar.addi v2873 c6_i32
  let c1_i32_2214 : BitVec 32 := 1#32
  let v2875 : BitVec 32 := Scalar.addi v2874 c1_i32_2214
  let c512_i32_2253 : BitVec 32 := 512#32
  let v2926 : BitVec 32 := Scalar.muli v2875 c512_i32_2253
  v2926
def k0_mult59 (k0_t1 : Fin k0_t1_loop.trips) : BitVec 32 :=
  let c8_i32_2213 : BitVec 32 := 8#32
  let c0_i32_356 : BitVec 32 := 0#32
  let c1_i32 : BitVec 32 := 1#32
  let arg23 : BitVec 32 := Scf.iv c0_i32_356 c1_i32 k0_t1
  let v2873 : BitVec 32 := Scalar.muli c8_i32_2213 arg23
  let c6_i32 : BitVec 32 := 6#32
  let v2874 : BitVec 32 := Scalar.addi v2873 c6_i32
  let c1_i32_2214 : BitVec 32 := 1#32
  let v2875 : BitVec 32 := Scalar.addi v2874 c1_i32_2214
  let c512_i32_2289 : BitVec 32 := 512#32
  let v2974 : BitVec 32 := Scalar.muli v2875 c512_i32_2289
  v2974
def k0_mult60 (k0_t1 : Fin k0_t1_loop.trips) : BitVec 32 :=
  let c8_i32_2213 : BitVec 32 := 8#32
  let c0_i32_356 : BitVec 32 := 0#32
  let c1_i32 : BitVec 32 := 1#32
  let arg23 : BitVec 32 := Scf.iv c0_i32_356 c1_i32 k0_t1
  let v2873 : BitVec 32 := Scalar.muli c8_i32_2213 arg23
  let c6_i32 : BitVec 32 := 6#32
  let v2874 : BitVec 32 := Scalar.addi v2873 c6_i32
  let c1_i32_2214 : BitVec 32 := 1#32
  let v2875 : BitVec 32 := Scalar.addi v2874 c1_i32_2214
  let c512_i32_2325 : BitVec 32 := 512#32
  let v3022 : BitVec 32 := Scalar.muli v2875 c512_i32_2325
  v3022
def k0_mult61 (k0_t1 : Fin k0_t1_loop.trips) : BitVec 32 :=
  let c8_i32_2213 : BitVec 32 := 8#32
  let c0_i32_356 : BitVec 32 := 0#32
  let c1_i32 : BitVec 32 := 1#32
  let arg23 : BitVec 32 := Scf.iv c0_i32_356 c1_i32 k0_t1
  let v2873 : BitVec 32 := Scalar.muli c8_i32_2213 arg23
  let c6_i32 : BitVec 32 := 6#32
  let v2874 : BitVec 32 := Scalar.addi v2873 c6_i32
  let c1_i32_2214 : BitVec 32 := 1#32
  let v2875 : BitVec 32 := Scalar.addi v2874 c1_i32_2214
  let c512_i32_2361 : BitVec 32 := 512#32
  let v3070 : BitVec 32 := Scalar.muli v2875 c512_i32_2361
  v3070
def k0_mult62 (k0_t1 : Fin k0_t1_loop.trips) : BitVec 32 :=
  let c8_i32_2213 : BitVec 32 := 8#32
  let c0_i32_356 : BitVec 32 := 0#32
  let c1_i32 : BitVec 32 := 1#32
  let arg23 : BitVec 32 := Scf.iv c0_i32_356 c1_i32 k0_t1
  let v2873 : BitVec 32 := Scalar.muli c8_i32_2213 arg23
  let c6_i32 : BitVec 32 := 6#32
  let v2874 : BitVec 32 := Scalar.addi v2873 c6_i32
  let c1_i32_2214 : BitVec 32 := 1#32
  let v2875 : BitVec 32 := Scalar.addi v2874 c1_i32_2214
  let c512_i32_2397 : BitVec 32 := 512#32
  let v3118 : BitVec 32 := Scalar.muli v2875 c512_i32_2397
  v3118
def k0_mult63 (k0_t1 : Fin k0_t1_loop.trips) : BitVec 32 :=
  let c8_i32_2213 : BitVec 32 := 8#32
  let c0_i32_356 : BitVec 32 := 0#32
  let c1_i32 : BitVec 32 := 1#32
  let arg23 : BitVec 32 := Scf.iv c0_i32_356 c1_i32 k0_t1
  let v2873 : BitVec 32 := Scalar.muli c8_i32_2213 arg23
  let c6_i32 : BitVec 32 := 6#32
  let v2874 : BitVec 32 := Scalar.addi v2873 c6_i32
  let c1_i32_2214 : BitVec 32 := 1#32
  let v2875 : BitVec 32 := Scalar.addi v2874 c1_i32_2214
  let c512_i32_2433 : BitVec 32 := 512#32
  let v3166 : BitVec 32 := Scalar.muli v2875 c512_i32_2433
  v3166
def k0_mult64 (k0_t1 : Fin k0_t1_loop.trips) : BitVec 32 :=
  let c8_i32_2213 : BitVec 32 := 8#32
  let c0_i32_356 : BitVec 32 := 0#32
  let c1_i32 : BitVec 32 := 1#32
  let arg23 : BitVec 32 := Scf.iv c0_i32_356 c1_i32 k0_t1
  let v2873 : BitVec 32 := Scalar.muli c8_i32_2213 arg23
  let c6_i32 : BitVec 32 := 6#32
  let v2874 : BitVec 32 := Scalar.addi v2873 c6_i32
  let c1_i32_2214 : BitVec 32 := 1#32
  let v2875 : BitVec 32 := Scalar.addi v2874 c1_i32_2214
  let c512_i32_2469 : BitVec 32 := 512#32
  let v3214 : BitVec 32 := Scalar.muli v2875 c512_i32_2469
  v3214
def k0_mult65 (k0_t1 : Fin k0_t1_loop.trips) : BitVec 32 :=
  let c8_i32_2213 : BitVec 32 := 8#32
  let c0_i32_356 : BitVec 32 := 0#32
  let c1_i32 : BitVec 32 := 1#32
  let arg23 : BitVec 32 := Scf.iv c0_i32_356 c1_i32 k0_t1
  let v2873 : BitVec 32 := Scalar.muli c8_i32_2213 arg23
  let c6_i32 : BitVec 32 := 6#32
  let v2874 : BitVec 32 := Scalar.addi v2873 c6_i32
  let c2_i32_2505 : BitVec 32 := 2#32
  let v3262 : BitVec 32 := Scalar.addi v2874 c2_i32_2505
  let c31_i32_2506 : BitVec 32 := 31#32
  let v3263 : BitVec 32 := Scalar.minsi v3262 c31_i32_2506
  let c512_i32_2507 : BitVec 32 := 512#32
  let v3264 : BitVec 32 := Scalar.muli v3263 c512_i32_2507
  v3264
def k0_mult66 (k0_t1 : Fin k0_t1_loop.trips) : BitVec 32 :=
  let c8_i32_2213 : BitVec 32 := 8#32
  let c0_i32_356 : BitVec 32 := 0#32
  let c1_i32 : BitVec 32 := 1#32
  let arg23 : BitVec 32 := Scf.iv c0_i32_356 c1_i32 k0_t1
  let v2873 : BitVec 32 := Scalar.muli c8_i32_2213 arg23
  let c6_i32 : BitVec 32 := 6#32
  let v2874 : BitVec 32 := Scalar.addi v2873 c6_i32
  let c2_i32_2505 : BitVec 32 := 2#32
  let v3262 : BitVec 32 := Scalar.addi v2874 c2_i32_2505
  let c31_i32_2506 : BitVec 32 := 31#32
  let v3263 : BitVec 32 := Scalar.minsi v3262 c31_i32_2506
  let c512_i32_2543 : BitVec 32 := 512#32
  let v3312 : BitVec 32 := Scalar.muli v3263 c512_i32_2543
  v3312
def k0_mult67 (k0_t1 : Fin k0_t1_loop.trips) : BitVec 32 :=
  let c8_i32_2213 : BitVec 32 := 8#32
  let c0_i32_356 : BitVec 32 := 0#32
  let c1_i32 : BitVec 32 := 1#32
  let arg23 : BitVec 32 := Scf.iv c0_i32_356 c1_i32 k0_t1
  let v2873 : BitVec 32 := Scalar.muli c8_i32_2213 arg23
  let c6_i32 : BitVec 32 := 6#32
  let v2874 : BitVec 32 := Scalar.addi v2873 c6_i32
  let c2_i32_2505 : BitVec 32 := 2#32
  let v3262 : BitVec 32 := Scalar.addi v2874 c2_i32_2505
  let c31_i32_2506 : BitVec 32 := 31#32
  let v3263 : BitVec 32 := Scalar.minsi v3262 c31_i32_2506
  let c512_i32_2579 : BitVec 32 := 512#32
  let v3360 : BitVec 32 := Scalar.muli v3263 c512_i32_2579
  v3360
def k0_mult68 (k0_t1 : Fin k0_t1_loop.trips) : BitVec 32 :=
  let c8_i32_2213 : BitVec 32 := 8#32
  let c0_i32_356 : BitVec 32 := 0#32
  let c1_i32 : BitVec 32 := 1#32
  let arg23 : BitVec 32 := Scf.iv c0_i32_356 c1_i32 k0_t1
  let v2873 : BitVec 32 := Scalar.muli c8_i32_2213 arg23
  let c6_i32 : BitVec 32 := 6#32
  let v2874 : BitVec 32 := Scalar.addi v2873 c6_i32
  let c2_i32_2505 : BitVec 32 := 2#32
  let v3262 : BitVec 32 := Scalar.addi v2874 c2_i32_2505
  let c31_i32_2506 : BitVec 32 := 31#32
  let v3263 : BitVec 32 := Scalar.minsi v3262 c31_i32_2506
  let c512_i32_2615 : BitVec 32 := 512#32
  let v3408 : BitVec 32 := Scalar.muli v3263 c512_i32_2615
  v3408
def k0_mult69 (k0_t1 : Fin k0_t1_loop.trips) : BitVec 32 :=
  let c8_i32_2213 : BitVec 32 := 8#32
  let c0_i32_356 : BitVec 32 := 0#32
  let c1_i32 : BitVec 32 := 1#32
  let arg23 : BitVec 32 := Scf.iv c0_i32_356 c1_i32 k0_t1
  let v2873 : BitVec 32 := Scalar.muli c8_i32_2213 arg23
  let c6_i32 : BitVec 32 := 6#32
  let v2874 : BitVec 32 := Scalar.addi v2873 c6_i32
  let c2_i32_2505 : BitVec 32 := 2#32
  let v3262 : BitVec 32 := Scalar.addi v2874 c2_i32_2505
  let c31_i32_2506 : BitVec 32 := 31#32
  let v3263 : BitVec 32 := Scalar.minsi v3262 c31_i32_2506
  let c512_i32_2651 : BitVec 32 := 512#32
  let v3456 : BitVec 32 := Scalar.muli v3263 c512_i32_2651
  v3456
def k0_mult70 (k0_t1 : Fin k0_t1_loop.trips) : BitVec 32 :=
  let c8_i32_2213 : BitVec 32 := 8#32
  let c0_i32_356 : BitVec 32 := 0#32
  let c1_i32 : BitVec 32 := 1#32
  let arg23 : BitVec 32 := Scf.iv c0_i32_356 c1_i32 k0_t1
  let v2873 : BitVec 32 := Scalar.muli c8_i32_2213 arg23
  let c6_i32 : BitVec 32 := 6#32
  let v2874 : BitVec 32 := Scalar.addi v2873 c6_i32
  let c2_i32_2505 : BitVec 32 := 2#32
  let v3262 : BitVec 32 := Scalar.addi v2874 c2_i32_2505
  let c31_i32_2506 : BitVec 32 := 31#32
  let v3263 : BitVec 32 := Scalar.minsi v3262 c31_i32_2506
  let c512_i32_2687 : BitVec 32 := 512#32
  let v3504 : BitVec 32 := Scalar.muli v3263 c512_i32_2687
  v3504
def k0_mult71 (k0_t1 : Fin k0_t1_loop.trips) : BitVec 32 :=
  let c8_i32_2213 : BitVec 32 := 8#32
  let c0_i32_356 : BitVec 32 := 0#32
  let c1_i32 : BitVec 32 := 1#32
  let arg23 : BitVec 32 := Scf.iv c0_i32_356 c1_i32 k0_t1
  let v2873 : BitVec 32 := Scalar.muli c8_i32_2213 arg23
  let c6_i32 : BitVec 32 := 6#32
  let v2874 : BitVec 32 := Scalar.addi v2873 c6_i32
  let c2_i32_2505 : BitVec 32 := 2#32
  let v3262 : BitVec 32 := Scalar.addi v2874 c2_i32_2505
  let c31_i32_2506 : BitVec 32 := 31#32
  let v3263 : BitVec 32 := Scalar.minsi v3262 c31_i32_2506
  let c512_i32_2723 : BitVec 32 := 512#32
  let v3552 : BitVec 32 := Scalar.muli v3263 c512_i32_2723
  v3552
def k0_mult72 (k0_t1 : Fin k0_t1_loop.trips) : BitVec 32 :=
  let c8_i32_2213 : BitVec 32 := 8#32
  let c0_i32_356 : BitVec 32 := 0#32
  let c1_i32 : BitVec 32 := 1#32
  let arg23 : BitVec 32 := Scf.iv c0_i32_356 c1_i32 k0_t1
  let v2873 : BitVec 32 := Scalar.muli c8_i32_2213 arg23
  let c6_i32 : BitVec 32 := 6#32
  let v2874 : BitVec 32 := Scalar.addi v2873 c6_i32
  let c2_i32_2505 : BitVec 32 := 2#32
  let v3262 : BitVec 32 := Scalar.addi v2874 c2_i32_2505
  let c31_i32_2506 : BitVec 32 := 31#32
  let v3263 : BitVec 32 := Scalar.minsi v3262 c31_i32_2506
  let c512_i32_2759 : BitVec 32 := 512#32
  let v3600 : BitVec 32 := Scalar.muli v3263 c512_i32_2759
  v3600
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.addi v1 c1_i32
  let c32_i32 : BitVec 32 := 32#32
  let v3 : BitVec 32 := Scalar.muli v2 c32_i32
  let c2047_i32 : BitVec 32 := 2047#32
  let v4 : BitVec 32 := Scalar.minsi v3 c2047_i32
  let c0_i32 : BitVec 32 := 0#32
  let c0_i32_0 : BitVec 32 := 0#32
  ![v4.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x144x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S8x256x16384 : Shape := ⟨3, ![8, 256, 16384]⟩
abbrev S8x16384x256 : Shape := ⟨3, ![8, 16384, 256]⟩
abbrev S8x32x144x512 : Shape := ⟨4, ![8, 32, 144, 512]⟩
abbrev S16384x1024 : Shape := ⟨2, ![16384, 1024]⟩
abbrev S3x1024 : Shape := ⟨2, ![3, 1024]⟩
abbrev S8x16384x16384 : Shape := ⟨3, ![8, 16384, 16384]⟩
abbrev S_ : Shape := ⟨0, ![]⟩
abbrev S8x16384 : Shape := ⟨2, ![8, 16384]⟩
abbrev S8x16384x1 : Shape := ⟨3, ![8, 16384, 1]⟩
abbrev S8x32x128x512 : Shape := ⟨4, ![8, 32, 128, 512]⟩
abbrev S8x32x512x128 : Shape := ⟨4, ![8, 32, 512, 128]⟩
abbrev S8x16384x128 : Shape := ⟨3, ![8, 16384, 128]⟩
abbrev S8x128x16384 : Shape := ⟨3, ![8, 128, 16384]⟩
abbrev S16384x8x128 : Shape := ⟨3, ![16384, 8, 128]⟩
abbrev S16386x1024 : Shape := ⟨2, ![16386, 1024]⟩
abbrev S1x1024 : Shape := ⟨2, ![1, 1024]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S8x256x16384, .bf16⟩
  | .hbm, ⟨1, _⟩ => ⟨S8x16384x256, .bf16⟩
  | .hbm, ⟨2, _⟩ => ⟨S8x32x144x512, .bf16⟩
  | .hbm, ⟨3, _⟩ => ⟨S16384x1024, .f32⟩
  | .hbm, ⟨4, _⟩ => ⟨S16384x1024, .f32⟩
  | .hbm, ⟨5, _⟩ => ⟨S3x1024, .f32⟩
  | .hbm, ⟨6, _⟩ => ⟨S8x16384x16384, .f32⟩
  | .hbm, ⟨7, _⟩ => ⟨S_, .f32⟩
  | .hbm, ⟨8, _⟩ => ⟨S_, .f32⟩
  | .hbm, ⟨9, _⟩ => ⟨S8x16384x16384, .f32⟩
  | .hbm, ⟨10, _⟩ => ⟨S8x16384x16384, .f32⟩
  | .hbm, ⟨11, _⟩ => ⟨S_, .f32⟩
  | .hbm, ⟨12, _⟩ => ⟨S8x16384, .f32⟩
  | .hbm, ⟨13, _⟩ => ⟨S_, .f32⟩
  | .hbm, ⟨14, _⟩ => ⟨S8x16384, .f32⟩
  | .hbm, ⟨15, _⟩ => ⟨S8x16384, .f32⟩
  | .hbm, ⟨16, _⟩ => ⟨S8x16384x1, .f32⟩
  | .hbm, ⟨17, _⟩ => ⟨S8x16384x16384, .f32⟩
  | .hbm, ⟨18, _⟩ => ⟨S8x16384x16384, .f32⟩
  | .hbm, ⟨19, _⟩ => ⟨S8x16384x16384, .f32⟩
  | .hbm, ⟨20, _⟩ => ⟨S_, .f32⟩
  | .hbm, ⟨21, _⟩ => ⟨S8x16384, .f32⟩
  | .hbm, ⟨22, _⟩ => ⟨S8x16384x1, .f32⟩
  | .hbm, ⟨23, _⟩ => ⟨S8x16384x16384, .f32⟩
  | .hbm, ⟨24, _⟩ => ⟨S8x16384x16384, .f32⟩
  | .hbm, ⟨25, _⟩ => ⟨S8x16384x16384, .bf16⟩
  | .hbm, ⟨26, _⟩ => ⟨S8x32x128x512, .bf16⟩
  | .hbm, ⟨27, _⟩ => ⟨S8x32x512x128, .bf16⟩
  | .hbm, ⟨28, _⟩ => ⟨S8x16384x128, .bf16⟩
  | .hbm, ⟨29, _⟩ => ⟨S8x128x16384, .f32⟩
  | .hbm, ⟨30, _⟩ => ⟨S16384x8x128, .f32⟩
  | .hbm, ⟨31, _⟩ => ⟨S16384x1024, .f32⟩
  | .hbm, ⟨32, _⟩ => ⟨S16384x1024, .bf16⟩
  | .hbm, ⟨33, _⟩ => ⟨S_, .i32⟩
  | .hbm, ⟨34, _⟩ => ⟨S_, .f32⟩
  | .hbm, ⟨35, _⟩ => ⟨S16386x1024, .f32⟩
  | .hbm, ⟨36, _⟩ => ⟨S1x1024, .f32⟩
  | .hbm, ⟨37, _⟩ => ⟨S1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S1024, .f32⟩
  | .hbm, ⟨44, _⟩ => ⟨S16384x1024, .f32⟩
  | .hbm, ⟨45, _⟩ => ⟨S1x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S1024, .f32⟩
  | .hbm, ⟨51, _⟩ => ⟨S16384x1024, .f32⟩
  | .hbm, ⟨52, _⟩ => ⟨S1x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .bf16⟩
  | _, _ => ⟨S8x256x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩

abbrev nD : Nat := 1
abbrev τ : Topo := Topo.v7x

variable {F : FTy → Type} [FloatOps F]
-- ==== Kernel2.lean ====
abbrev S16384x2048 : Shape := ⟨2, ![16384, 2048]⟩
abbrev S16384x1024 : Shape := ⟨2, ![16384, 1024]⟩
abbrev S2048x2048 : Shape := ⟨2, ![2048, 2048]⟩
abbrev S1x2048 : Shape := ⟨2, ![1, 2048]⟩
abbrev S2x2048x8192 : Shape := ⟨3, ![2, 2048, 8192]⟩
abbrev S2x8192x2048 : Shape := ⟨3, ![2, 8192, 2048]⟩
abbrev S512x2048 : Shape := ⟨2, ![512, 2048]⟩
abbrev S512x1024 : Shape := ⟨2, ![512, 1024]⟩
abbrev S1x2048x1024 : Shape := ⟨3, ![1, 2048, 1024]⟩
abbrev S1x1024x2048 : Shape := ⟨3, ![1, 1024, 2048]⟩
abbrev S512x512 : Shape := ⟨2, ![512, 512]⟩
abbrev S1024x512 : Shape := ⟨2, ![1024, 512]⟩
abbrev S512 : Shape := ⟨1, ![512]⟩
abbrev S512x1 : Shape := ⟨2, ![512, 1]⟩
abbrev S2048x1024 : Shape := ⟨2, ![2048, 1024]⟩
abbrev S1x1024x512 : Shape := ⟨3, ![1, 1024, 512]⟩

abbrev nBuf : Space → Nat
  | .hbm => 9
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .bf16⟩
  | .hbm, ⟨4, _⟩ => ⟨S1x2048, .f32⟩
  | .hbm, ⟨5, _⟩ => ⟨S2x2048x8192, .bf16⟩
  | .hbm, ⟨6, _⟩ => ⟨S2x8192x2048, .bf16⟩
  | .hbm, ⟨7, _⟩ => ⟨S1x2048, .f32⟩
  | .hbm, ⟨8, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x2048, .bf16⟩
  | .local _ .vmem, ⟨7, _⟩ => ⟨S1x2048, .f32⟩
  | .local _ .vmem, ⟨8, _⟩ => ⟨S1x2048x1024, .bf16⟩
  | .local _ .vmem, ⟨9, _⟩ => ⟨S1x2048x1024, .bf16⟩
  | .local _ .vmem, ⟨10, _⟩ => ⟨S1x1024x2048, .bf16⟩
  | .local _ .vmem, ⟨11, _⟩ => ⟨S1x1024x2048, .bf16⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S16384x2048 : Shape := ⟨2, ![16384, 2048]⟩
abbrev S16384x1024 : Shape := ⟨2, ![16384, 1024]⟩
abbrev S2048x2048 : Shape := ⟨2, ![2048, 2048]⟩
abbrev S1x2048 : Shape := ⟨2, ![1, 2048]⟩
abbrev S2x2048x8192 : Shape := ⟨3, ![2, 2048, 8192]⟩
abbrev S2x8192x2048 : Shape := ⟨3, ![2, 8192, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S16384x8192 : Shape := ⟨2, ![16384, 8192]⟩

abbrev nBuf : Space → Nat
  | .hbm => 60
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .bf16⟩
  | .hbm, ⟨4, _⟩ => ⟨S1x2048, .f32⟩
  | .hbm, ⟨5, _⟩ => ⟨S2x2048x8192, .bf16⟩
  | .hbm, ⟨6, _⟩ => ⟨S2x8192x2048, .bf16⟩
  | .hbm, ⟨7, _⟩ => ⟨S1x2048, .f32⟩
  | .hbm, ⟨8, _⟩ => ⟨S16384x2048, .bf16⟩
  | .hbm, ⟨9, _⟩ => ⟨S1x2048x8192, .bf16⟩
  | .hbm, ⟨10, _⟩ => ⟨S2048x8192, .bf16⟩
  | .hbm, ⟨11, _⟩ => ⟨S1x8192x2048, .bf16⟩
  | .hbm, ⟨12, _⟩ => ⟨S8192x2048, .bf16⟩
  | .hbm, ⟨13, _⟩ => ⟨S16384x2048, .f32⟩
  | .hbm, ⟨14, _⟩ => ⟨S2048x2048, .f32⟩
  | .hbm, ⟨15, _⟩ => ⟨S16384x2048, .f32⟩
  | .hbm, ⟨16, _⟩ => ⟨S16384x2048, .f32⟩
  | .hbm, ⟨17, _⟩ => ⟨S2048, .f32⟩
  | .hbm, ⟨18, _⟩ => ⟨S16384x2048, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x2048, .f32⟩
  | .hbm, ⟨30, _⟩ => ⟨S16384x2048, .f32⟩
  | .hbm, ⟨31, _⟩ => ⟨S1x2048, .f32⟩
  | .hbm, ⟨32, _⟩ => ⟨S16384x2048, .f32⟩
  | .hbm, ⟨33, _⟩ => ⟨S16384x2048, .f32⟩
  | .hbm, ⟨34, _⟩ => ⟨S2048x8192, .f32⟩
  | .hbm, ⟨35, _⟩ => ⟨S8192x2048, .f32⟩
  | .hbm, ⟨36, _⟩ => ⟨S16384x8192, .f32⟩
  | .hbm, ⟨37, _⟩ => ⟨S_, .f32⟩
  | .hbm, ⟨38, _⟩ => ⟨S16384x8192, .f32⟩
  | .hbm, ⟨39, _⟩ => ⟨S16384x8192, .f32⟩
  | .hbm, ⟨40, _⟩ => ⟨S16384x8192, .f32⟩
  | .hbm, ⟨41, _⟩ => ⟨S16384x2048, .f32⟩
  | .hbm, ⟨42, _⟩ => ⟨S16384x2048, .f32⟩
  | .hbm, ⟨43, _⟩ => ⟨S2048, .f32⟩
  | .hbm, ⟨44, _⟩ => ⟨S16384x2048, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x2048, .f32⟩
  | .hbm, ⟨56, _⟩ => ⟨S16384x2048, .f32⟩
  | .hbm, ⟨57, _⟩ => ⟨S1x2048, .f32⟩
  | .hbm, ⟨58, _⟩ => ⟨S16384x2048, .f32⟩
  | .hbm, ⟨59, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_cst : Ref sig .tc := ⟨.hbm, 37, rfl⟩
abbrev main_call0_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Kernel3.lean ====
abbrev S16384x2048 : Shape := ⟨2, ![16384, 2048]⟩
abbrev S16384x1024 : Shape := ⟨2, ![16384, 1024]⟩
abbrev S2048x2048 : Shape := ⟨2, ![2048, 2048]⟩
abbrev S1x2048 : Shape := ⟨2, ![1, 2048]⟩
abbrev S2x2048x8192 : Shape := ⟨3, ![2, 2048, 8192]⟩
abbrev S2x8192x2048 : Shape := ⟨3, ![2, 8192, 2048]⟩
abbrev S512x2048 : Shape := ⟨2, ![512, 2048]⟩
abbrev S512x1024 : Shape := ⟨2, ![512, 1024]⟩
abbrev S1x2048x1024 : Shape := ⟨3, ![1, 2048, 1024]⟩
abbrev S1x1024x2048 : Shape := ⟨3, ![1, 1024, 2048]⟩
abbrev S512x512 : Shape := ⟨2, ![512, 512]⟩
abbrev S1024x512 : Shape := ⟨2, ![1024, 512]⟩
abbrev S512 : Shape := ⟨1, ![512]⟩
abbrev S512x1 : Shape := ⟨2, ![512, 1]⟩
abbrev S2048x1024 : Shape := ⟨2, ![2048, 1024]⟩
abbrev S1x1024x512 : Shape := ⟨3, ![1, 1024, 512]⟩

abbrev nBuf : Space → Nat
  | .hbm => 9
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .bf16⟩
  | .hbm, ⟨4, _⟩ => ⟨S1x2048, .f32⟩
  | .hbm, ⟨5, _⟩ => ⟨S2x2048x8192, .bf16⟩
  | .hbm, ⟨6, _⟩ => ⟨S2x8192x2048, .bf16⟩
  | .hbm, ⟨7, _⟩ => ⟨S1x2048, .f32⟩
  | .hbm, ⟨8, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x2048, .bf16⟩
  | .local _ .vmem, ⟨7, _⟩ => ⟨S1x2048, .f32⟩
  | .local _ .vmem, ⟨8, _⟩ => ⟨S1x2048x1024, .bf16⟩
  | .local _ .vmem, ⟨9, _⟩ => ⟨S1x2048x1024, .bf16⟩
  | .local _ .vmem, ⟨10, _⟩ => ⟨S1x1024x2048, .bf16⟩
  | .local _ .vmem, ⟨11, _⟩ => ⟨S1x1024x2048, .bf16⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference3Ideal.lean ====
abbrev S16384x2048 : Shape := ⟨2, ![16384, 2048]⟩
abbrev S16384x1024 : Shape := ⟨2, ![16384, 1024]⟩
abbrev S2048x2048 : Shape := ⟨2, ![2048, 2048]⟩
abbrev S1x2048 : Shape := ⟨2, ![1, 2048]⟩
abbrev S2x2048x8192 : Shape := ⟨3, ![2, 2048, 8192]⟩
abbrev S2x8192x2048 : Shape := ⟨3, ![2, 8192, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S16384x8192 : Shape := ⟨2, ![16384, 8192]⟩

abbrev nBuf : Space → Nat
  | .hbm => 43
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .bf16⟩
  | .hbm, ⟨4, _⟩ => ⟨S1x2048, .f32⟩
  | .hbm, ⟨5, _⟩ => ⟨S2x2048x8192, .bf16⟩
  | .hbm, ⟨6, _⟩ => ⟨S2x8192x2048, .bf16⟩
  | .hbm, ⟨7, _⟩ => ⟨S1x2048, .f32⟩
  | .hbm, ⟨8, _⟩ => ⟨S16384x2048, .bf16⟩
  | .hbm, ⟨9, _⟩ => ⟨S1x2048x8192, .bf16⟩
  | .hbm, ⟨10, _⟩ => ⟨S2048x8192, .bf16⟩
  | .hbm, ⟨11, _⟩ => ⟨S1x8192x2048, .bf16⟩
  | .hbm, ⟨12, _⟩ => ⟨S8192x2048, .bf16⟩
  | .hbm, ⟨13, _⟩ => ⟨S16384x2048, .f32⟩
  | .hbm, ⟨14, _⟩ => ⟨S2048x2048, .f32⟩
  | .hbm, ⟨15, _⟩ => ⟨S16384x2048, .f32⟩
  | .hbm, ⟨16, _⟩ => ⟨S16384x2048, .f32⟩
  | .hbm, ⟨17, _⟩ => ⟨S2048, .f32⟩
  | .hbm, ⟨18, _⟩ => ⟨S16384x2048, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x2048, .f32⟩
  | .hbm, ⟨30, _⟩ => ⟨S16384x2048, .f32⟩
  | .hbm, ⟨31, _⟩ => ⟨S1x2048, .f32⟩
  | .hbm, ⟨32, _⟩ => ⟨S16384x2048, .f32⟩
  | .hbm, ⟨33, _⟩ => ⟨S16384x2048, .f32⟩
  | .hbm, ⟨34, _⟩ => ⟨S2048x8192, .f32⟩
  | .hbm, ⟨35, _⟩ => ⟨S8192x2048, .f32⟩
  | .hbm, ⟨36, _⟩ => ⟨S16384x8192, .f32⟩
  | .hbm, ⟨37, _⟩ => ⟨S_, .f32⟩
  | .hbm, ⟨38, _⟩ => ⟨S16384x8192, .f32⟩
  | .hbm, ⟨39, _⟩ => ⟨S16384x8192, .f32⟩
  | .hbm, ⟨40, _⟩ => ⟨S16384x8192, .f32⟩
  | .hbm, ⟨41, _⟩ => ⟨S16384x2048, .f32⟩
  | .hbm, ⟨42, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_cst : Ref sig .tc := ⟨.hbm, 37, rfl⟩
abbrev main_call0_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel4.lean ====
abbrev S16384x2048 : Shape := ⟨2, ![16384, 2048]⟩
abbrev S1x2048 : Shape := ⟨2, ![1, 2048]⟩
abbrev S2048x3072 : Shape := ⟨2, ![2048, 3072]⟩
abbrev S16384x1024 : Shape := ⟨2, ![16384, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x3072, .bf16⟩
  | .hbm, ⟨3, _⟩ => ⟨S16384x1024, .f32⟩
  | .hbm, ⟨4, _⟩ => ⟨S16384x1024, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x3072, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S16384x2048 : Shape := ⟨2, ![16384, 2048]⟩
abbrev S1x2048 : Shape := ⟨2, ![1, 2048]⟩
abbrev S2048x3072 : Shape := ⟨2, ![2048, 3072]⟩
abbrev S2048 : Shape := ⟨1, ![2048]⟩
abbrev S_ : Shape := ⟨0, ![]⟩
abbrev S16384 : Shape := ⟨1, ![16384]⟩
abbrev S16384x1 : Shape := ⟨2, ![16384, 1]⟩
abbrev S16384x3072 : Shape := ⟨2, ![16384, 3072]⟩
abbrev S16384x1024 : Shape := ⟨2, ![16384, 1024]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x3072, .bf16⟩
  | .hbm, ⟨3, _⟩ => ⟨S2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S2048x3072, .f32⟩
  | .hbm, ⟨21, _⟩ => ⟨S16384x3072, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel5.lean ====
abbrev S16384x2048 : Shape := ⟨2, ![16384, 2048]⟩
abbrev S1x2048 : Shape := ⟨2, ![1, 2048]⟩
abbrev S2048x4096 : Shape := ⟨2, ![2048, 4096]⟩
abbrev S1x512 : Shape := ⟨2, ![1, 512]⟩
abbrev S512x3072 : Shape := ⟨2, ![512, 3072]⟩
abbrev S1x256 : Shape := ⟨2, ![1, 256]⟩
abbrev S256x2048 : Shape := ⟨2, ![256, 2048]⟩
abbrev S16384x128 : Shape := ⟨2, ![16384, 128]⟩
abbrev S16384x1024 : Shape := ⟨2, ![16384, 1024]⟩
abbrev S8x256x16384 : Shape := ⟨3, ![8, 256, 16384]⟩
abbrev S8x16384x256 : Shape := ⟨3, ![8, 16384, 256]⟩
abbrev S8x32x144x512 : Shape := ⟨4, ![8, 32, 144, 512]⟩
abbrev S256x128 : Shape := ⟨2, ![256, 128]⟩
abbrev S256x1024 : Shape := ⟨2, ![256, 1024]⟩
abbrev S8x256x256 : Shape := ⟨3, ![8, 256, 256]⟩
abbrev S8x1x144x256 : Shape := ⟨4, ![8, 1, 144, 256]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S16x256 : Shape := ⟨2, ![16, 256]⟩
abbrev S2048x1024 : Shape := ⟨2, ![2048, 1024]⟩
abbrev S256x256 : Shape := ⟨2, ![256, 256]⟩
abbrev S512x384 : Shape := ⟨2, ![512, 384]⟩
abbrev S256x384 : Shape := ⟨2, ![256, 384]⟩
abbrev S128x256 : Shape := ⟨2, ![128, 256]⟩
abbrev S1x128x256 : Shape := ⟨3, ![1, 128, 256]⟩
abbrev S1x256x128 : Shape := ⟨3, ![1, 256, 128]⟩
abbrev S1x1x128x256 : Shape := ⟨4, ![1, 1, 128, 256]⟩
abbrev S1x1x16x256 : Shape := ⟨4, ![1, 1, 16, 256]⟩

abbrev nBuf : Space → Nat
  | .hbm => 14
  | .vmem => 22
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x4096, .bf16⟩
  | .hbm, ⟨3, _⟩ => ⟨S1x512, .f32⟩
  | .hbm, ⟨4, _⟩ => ⟨S512x3072, .bf16⟩
  | .hbm, ⟨5, _⟩ => ⟨S1x256, .f32⟩
  | .hbm, ⟨6, _⟩ => ⟨S256x2048, .bf16⟩
  | .hbm, ⟨7, _⟩ => ⟨S16384x128, .f32⟩
  | .hbm, ⟨8, _⟩ => ⟨S16384x128, .f32⟩
  | .hbm, ⟨9, _⟩ => ⟨S16384x1024, .f32⟩
  | .hbm, ⟨10, _⟩ => ⟨S16384x1024, .f32⟩
  | .hbm, ⟨11, _⟩ => ⟨S8x256x16384, .bf16⟩
  | .hbm, ⟨12, _⟩ => ⟨S8x16384x256, .bf16⟩
  | .hbm, ⟨13, _⟩ => ⟨S8x32x144x512, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x4096, .bf16⟩
  | .local _ .vmem, ⟨4, _⟩ => ⟨S1x512, .f32⟩
  | .local _ .vmem, ⟨5, _⟩ => ⟨S512x3072, .bf16⟩
  | .local _ .vmem, ⟨6, _⟩ => ⟨S1x256, .f32⟩
  | .local _ .vmem, ⟨7, _⟩ => ⟨S256x2048, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S8x256x256, .bf16⟩
  | .local _ .vmem, ⟨17, _⟩ => ⟨S8x256x256, .bf16⟩
  | .local _ .vmem, ⟨18, _⟩ => ⟨S8x256x256, .bf16⟩
  | .local _ .vmem, ⟨19, _⟩ => ⟨S8x256x256, .bf16⟩
  | .local _ .vmem, ⟨20, _⟩ => ⟨S8x1x144x256, .bf16⟩
  | .local _ .vmem, ⟨21, _⟩ => ⟨S8x1x144x256, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x1x144x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S16384x2048 : Shape := ⟨2, ![16384, 2048]⟩
abbrev S1x2048 : Shape := ⟨2, ![1, 2048]⟩
abbrev S2048x4096 : Shape := ⟨2, ![2048, 4096]⟩
abbrev S1x512 : Shape := ⟨2, ![1, 512]⟩
abbrev S512x3072 : Shape := ⟨2, ![512, 3072]⟩
abbrev S1x256 : Shape := ⟨2, ![1, 256]⟩
abbrev S256x2048 : Shape := ⟨2, ![256, 2048]⟩
abbrev S16384x128 : Shape := ⟨2, ![16384, 128]⟩
abbrev S2048 : Shape := ⟨1, ![2048]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩
abbrev S16384x1024 : Shape := ⟨2, ![16384, 1024]⟩
abbrev S16384x512 : Shape := ⟨2, ![16384, 512]⟩
abbrev S16384x256 : Shape := ⟨2, ![16384, 256]⟩
abbrev S512 : Shape := ⟨1, ![512]⟩
abbrev S16384x3072 : Shape := ⟨2, ![16384, 3072]⟩
abbrev S16384x8x384 : Shape := ⟨3, ![16384, 8, 384]⟩
abbrev S16384x8x128 : Shape := ⟨3, ![16384, 8, 128]⟩
abbrev S16384x1x128 : Shape := ⟨3, ![16384, 1, 128]⟩
abbrev S16384x8x256 : Shape := ⟨3, ![16384, 8, 256]⟩
abbrev S256 : Shape := ⟨1, ![256]⟩
abbrev S8x128x16384 : Shape := ⟨3, ![8, 128, 16384]⟩
abbrev S8x1x16384 : Shape := ⟨3, ![8, 1, 16384]⟩
abbrev S8x15x16384 : Shape := ⟨3, ![8, 15, 16384]⟩
abbrev S8x144x16384 : Shape := ⟨3, ![8, 144, 16384]⟩
abbrev S8x144x32x512 : Shape := ⟨4, ![8, 144, 32, 512]⟩
abbrev S8x32x144x512 : Shape := ⟨4, ![8, 32, 144, 512]⟩
abbrev S8x256x16384 : Shape := ⟨3, ![8, 256, 16384]⟩
abbrev S8x16384x256 : Shape := ⟨3, ![8, 16384, 256]⟩

abbrev nBuf : Space → Nat
  | .hbm => 113
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x4096, .bf16⟩
  | .hbm, ⟨3, _⟩ => ⟨S1x512, .f32⟩
  | .hbm, ⟨4, _⟩ => ⟨S512x3072, .bf16⟩
  | .hbm, ⟨5, _⟩ => ⟨S1x256, .f32⟩
  | .hbm, ⟨6, _⟩ => ⟨S256x2048, .bf16⟩
  | .hbm, ⟨7, _⟩ => ⟨S16384x128, .f32⟩
  | .hbm, ⟨8, _⟩ => ⟨S16384x128, .f32⟩
  | .hbm, ⟨9, _⟩ => ⟨S2048, .f32⟩
  | .hbm, ⟨10, _⟩ => ⟨S16384x2048, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x2048, .f32⟩
  | .hbm, ⟨22, _⟩ => ⟨S16384x2048, .f32⟩
  | .hbm, ⟨23, _⟩ => ⟨S1x2048, .f32⟩
  | .hbm, ⟨24, _⟩ => ⟨S16384x2048, .f32⟩
  | .hbm, ⟨25, _⟩ => ⟨S16384x2048, .f32⟩
  | .hbm, ⟨26, _⟩ => ⟨S2048x4096, .f32⟩
  | .hbm, ⟨27, _⟩ => ⟨S16384x4096, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x512, .f32⟩
  | .hbm, ⟨33, _⟩ => ⟨S16384x256, .f32⟩
  | .hbm, ⟨34, _⟩ => ⟨S16384x256, .f32⟩
  | .hbm, ⟨35, _⟩ => ⟨S16384x128, .f32⟩
  | .hbm, ⟨36, _⟩ => ⟨S16384x128, .f32⟩
  | .hbm, ⟨37, _⟩ => ⟨S16384x128, .f32⟩
  | .hbm, ⟨38, _⟩ => ⟨S16384x128, .f32⟩
  | .hbm, ⟨39, _⟩ => ⟨S16384x128, .f32⟩
  | .hbm, ⟨40, _⟩ => ⟨S512, .f32⟩
  | .hbm, ⟨41, _⟩ => ⟨S16384x512, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x512, .f32⟩
  | .hbm, ⟨53, _⟩ => ⟨S16384x512, .f32⟩
  | .hbm, ⟨54, _⟩ => ⟨S1x512, .f32⟩
  | .hbm, ⟨55, _⟩ => ⟨S16384x512, .f32⟩
  | .hbm, ⟨56, _⟩ => ⟨S16384x512, .f32⟩
  | .hbm, ⟨57, _⟩ => ⟨S512x3072, .f32⟩
  | .hbm, ⟨58, _⟩ => ⟨S16384x3072, .f32⟩
  | .hbm, ⟨59, _⟩ => ⟨S16384x8x384, .f32⟩
  | .hbm, ⟨60, _⟩ => ⟨S16384x8x128, .f32⟩
  | .hbm, ⟨61, _⟩ => ⟨S16384x8x128, .f32⟩
  | .hbm, ⟨62, _⟩ => ⟨S16384x1x128, .f32⟩
  | .hbm, ⟨63, _⟩ => ⟨S16384x8x128, .f32⟩
  | .hbm, ⟨64, _⟩ => ⟨S16384x8x128, .f32⟩
  | .hbm, ⟨65, _⟩ => ⟨S16384x8x128, .f32⟩
  | .hbm, ⟨66, _⟩ => ⟨S16384x1x128, .f32⟩
  | .hbm, ⟨67, _⟩ => ⟨S16384x8x128, .f32⟩
  | .hbm, ⟨68, _⟩ => ⟨S16384x8x128, .f32⟩
  | .hbm, ⟨69, _⟩ => ⟨S16384x8x128, .f32⟩
  | .hbm, ⟨70, _⟩ => ⟨S16384x8x256, .f32⟩
  | .hbm, ⟨71, _⟩ => ⟨S_, .f32⟩
  | .hbm, ⟨72, _⟩ => ⟨S16384x8x256, .f32⟩
  | .hbm, ⟨73, _⟩ => ⟨S16384x8x256, .f32⟩
  | .hbm, ⟨74, _⟩ => ⟨S256, .f32⟩
  | .hbm, ⟨75, _⟩ => ⟨S16384x256, .f32⟩
  | .hbm, ⟨76, _⟩ => ⟨S_, .f32⟩
  | .hbm, ⟨77, _⟩ => ⟨S16384, .f32⟩
  | .hbm, ⟨78, _⟩ => ⟨S16384x1, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S_, .f32⟩
  | .hbm, ⟨83, _⟩ => ⟨S16384x1, .f32⟩
  | .hbm, ⟨84, _⟩ => ⟨S16384x1, .f32⟩
  | .hbm, ⟨85, _⟩ => ⟨S16384x1, .f32⟩
  | .hbm, ⟨86, _⟩ => ⟨S16384x256, .f32⟩
  | .hbm, ⟨87, _⟩ => ⟨S16384x256, .f32⟩
  | .hbm, ⟨88, _⟩ => ⟨S1x256, .f32⟩
  | .hbm, ⟨89, _⟩ => ⟨S16384x256, .f32⟩
  | .hbm, ⟨90, _⟩ => ⟨S16384x256, .f32⟩
  | .hbm, ⟨91, _⟩ => ⟨S256x2048, .f32⟩
  | .hbm, ⟨92, _⟩ => ⟨S16384x2048, .f32⟩
  | .hbm, ⟨93, _⟩ => ⟨S16384x8x256, .f32⟩
  | .hbm, ⟨94, _⟩ => ⟨S16384x8x128, .f32⟩
  | .hbm, ⟨95, _⟩ => ⟨S16384x1x128, .f32⟩
  | .hbm, ⟨96, _⟩ => ⟨S16384x8x128, .f32⟩
  | .hbm, ⟨97, _⟩ => ⟨S16384x8x256, .f32⟩
  | .hbm, ⟨98, _⟩ => ⟨S16384x8x128, .f32⟩
  | .hbm, ⟨99, _⟩ => ⟨S8x128x16384, .f32⟩
  | .hbm, ⟨100, _⟩ => ⟨S_, .f32⟩
  | .hbm, ⟨101, _⟩ => ⟨S8x1x16384, .f32⟩
  | .hbm, ⟨102, _⟩ => ⟨S_, .f32⟩
  | .hbm, ⟨103, _⟩ => ⟨S8x15x16384, .f32⟩
  | .hbm, ⟨104, _⟩ => ⟨S8x144x16384, .f32⟩
  | .hbm, ⟨105, _⟩ => ⟨S8x144x32x512, .f32⟩
  | .hbm, ⟨106, _⟩ => ⟨S8x32x144x512, .f32⟩
  | .hbm, ⟨107, _⟩ => ⟨S16384x1024, .f32⟩
  | .hbm, ⟨108, _⟩ => ⟨S8x256x16384, .f32⟩
  | .hbm, ⟨109, _⟩ => ⟨S8x256x16384, .bf16⟩
  | .hbm, ⟨110, _⟩ => ⟨S8x16384x256, .f32⟩
  | .hbm, ⟨111, _⟩ => ⟨S8x16384x256, .bf16⟩
  | .hbm, ⟨112, _⟩ => ⟨S8x32x144x512, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_5 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_6 : Ref sig .tc := ⟨.hbm, 76, rfl⟩
abbrev main_v60 : Ref sig .tc := ⟨.hbm, 77, rfl⟩
abbrev main_v61 : Ref sig .tc := ⟨.hbm, 78, rfl⟩
abbrev main_cst_7 : Ref sig .tc := ⟨.hbm, 79, rfl⟩
abbrev main_v62 : Ref sig .tc := ⟨.hbm, 80, rfl⟩
abbrev main_v63 : Ref sig .tc := ⟨.hbm, 81, rfl⟩
abbrev main_cst_8 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_9 : Ref sig .tc := ⟨.hbm, 100, rfl⟩
abbrev main_v81 : Ref sig .tc := ⟨.hbm, 101, rfl⟩
abbrev main_cst_10 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩

abbrev nD : Nat := 1
abbrev τ : Topo := Topo.v7x

variable {F : FTy → Type} [FloatOps F]
-- ==== Kernel6.lean ====
abbrev S128x131072 : Shape := ⟨2, ![128, 131072]⟩
abbrev S256x128 : Shape := ⟨2, ![256, 128]⟩
abbrev S128x8192 : Shape := ⟨2, ![128, 8192]⟩
abbrev S128x1024 : Shape := ⟨2, ![128, 1024]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S128x131072, .bf16⟩
  | .hbm, ⟨1, _⟩ => ⟨S256x128, .bf16⟩
  | .hbm, ⟨2, _⟩ => ⟨S128x131072, .bf16⟩
  | .hbm, ⟨3, _⟩ => ⟨S128x131072, .bf16⟩
  | .local _ .vmem, ⟨0, _⟩ => ⟨S128x8192, .bf16⟩
  | .local _ .vmem, ⟨1, _⟩ => ⟨S128x8192, .bf16⟩
  | .local _ .vmem, ⟨2, _⟩ => ⟨S256x128, .bf16⟩
  | .local _ .vmem, ⟨3, _⟩ => ⟨S128x8192, .bf16⟩
  | .local _ .vmem, ⟨4, _⟩ => ⟨S128x8192, .bf16⟩
  | .local _ .vmem, ⟨5, _⟩ => ⟨S128x8192, .bf16⟩
  | .local _ .vmem, ⟨6, _⟩ => ⟨S128x8192, .bf16⟩
  | _, _ => ⟨S128x131072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S128x131072 : Shape := ⟨2, ![128, 131072]⟩
abbrev S256x128 : Shape := ⟨2, ![256, 128]⟩
abbrev S256x131072 : Shape := ⟨2, ![256, 131072]⟩

abbrev nBuf : Space → Nat
  | .hbm => 9
  | .vmem => 0
  | .smem => 0
  | _ => 0

abbrev bufTy : (tb : Table) → Fin (tcTables nBuf tb) → BufTy
  | .hbm, ⟨0, _⟩ => ⟨S128x131072, .bf16⟩
  | .hbm, ⟨1, _⟩ => ⟨S256x128, .bf16⟩
  | .hbm, ⟨2, _⟩ => ⟨S256x128, .f32⟩
  | .hbm, ⟨3, _⟩ => ⟨S128x131072, .f32⟩
  | .hbm, ⟨4, _⟩ => ⟨S256x131072, .f32⟩
  | .hbm, ⟨5, _⟩ => ⟨S128x131072, .f32⟩
  | .hbm, ⟨6, _⟩ => ⟨S128x131072, .bf16⟩
  | .hbm, ⟨7, _⟩ => ⟨S128x131072, .f32⟩
  | .hbm, ⟨8, _⟩ => ⟨S128x131072, .bf16⟩
  | _, _ => ⟨S128x131072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel7.lean ====
abbrev S128x128x1024 : Shape := ⟨3, ![128, 128, 1024]⟩
abbrev S128x256x256 : Shape := ⟨3, ![128, 256, 256]⟩
abbrev S256x128 : Shape := ⟨2, ![256, 128]⟩
abbrev S128x131072 : Shape := ⟨2, ![128, 131072]⟩
abbrev S8x128x1024 : Shape := ⟨3, ![8, 128, 1024]⟩
abbrev S8x256x256 : Shape := ⟨3, ![8, 256, 256]⟩
abbrev S128x8192 : Shape := ⟨2, ![128, 8192]⟩
abbrev S1x128x1024 : Shape := ⟨3, ![1, 128, 1024]⟩
abbrev S128x1024 : Shape := ⟨2, ![128, 1024]⟩
abbrev S256x1024 : Shape := ⟨2, ![256, 1024]⟩
abbrev S1x256x256 : Shape := ⟨3, ![1, 256, 256]⟩
abbrev S256x256 : Shape := ⟨2, ![256, 256]⟩
abbrev S128x128 : Shape := ⟨2, ![128, 128]⟩
abbrev S128x256 : Shape := ⟨2, ![128, 256]⟩

abbrev nBuf : Space → Nat
  | .hbm => 5
  | .vmem => 9
  | .smem => 0
  | _ => 0

abbrev bufTy : (tb : Table) → Fin (tcTables nBuf tb) → BufTy
  | .hbm, ⟨0, _⟩ => ⟨S128x128x1024, .bf16⟩
  | .hbm, ⟨1, _⟩ => ⟨S128x128x1024, .bf16⟩
  | .hbm, ⟨2, _⟩ => ⟨S128x256x256, .bf16⟩
  | .hbm, ⟨3, _⟩ => ⟨S256x128, .bf16⟩
  | .hbm, ⟨4, _⟩ => ⟨S128x131072, .bf16⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S8x256x256, .bf16⟩
  | .local _ .vmem, ⟨5, _⟩ => ⟨S8x256x256, .bf16⟩
  | .local _ .vmem, ⟨6, _⟩ => ⟨S256x128, .bf16⟩
  | .local _ .vmem, ⟨7, _⟩ => ⟨S128x8192, .bf16⟩
  | .local _ .vmem, ⟨8, _⟩ => ⟨S128x8192, .bf16⟩
  | _, _ => ⟨S128x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S128x128x1024 : Shape := ⟨3, ![128, 128, 1024]⟩
abbrev S128x256x256 : Shape := ⟨3, ![128, 256, 256]⟩
abbrev S256x128 : Shape := ⟨2, ![256, 128]⟩
abbrev S128x256x1024 : Shape := ⟨3, ![128, 256, 1024]⟩
abbrev S128x128x8x128 : Shape := ⟨4, ![128, 128, 8, 128]⟩
abbrev S128x128x8x256 : Shape := ⟨4, ![128, 128, 8, 256]⟩
abbrev S128x131072 : Shape := ⟨2, ![128, 131072]⟩

abbrev nBuf : Space → Nat
  | .hbm => 18
  | .vmem => 0
  | .smem => 0
  | _ => 0

abbrev bufTy : (tb : Table) → Fin (tcTables nBuf tb) → BufTy
  | .hbm, ⟨0, _⟩ => ⟨S128x128x1024, .bf16⟩
  | .hbm, ⟨1, _⟩ => ⟨S128x128x1024, .bf16⟩
  | .hbm, ⟨2, _⟩ => ⟨S128x256x256, .bf16⟩
  | .hbm, ⟨3, _⟩ => ⟨S256x128, .bf16⟩
  | .hbm, ⟨4, _⟩ => ⟨S128x256x1024, .bf16⟩
  | .hbm, ⟨5, _⟩ => ⟨S128x256x1024, .f32⟩
  | .hbm, ⟨6, _⟩ => ⟨S128x256x256, .f32⟩
  | .hbm, ⟨7, _⟩ => ⟨S128x256x1024, .f32⟩
  | .hbm, ⟨8, _⟩ => ⟨S128x128x1024, .f32⟩
  | .hbm, ⟨9, _⟩ => ⟨S128x128x8x128, .f32⟩
  | .hbm, ⟨10, _⟩ => ⟨S128x128x1024, .f32⟩
  | .hbm, ⟨11, _⟩ => ⟨S128x128x8x128, .f32⟩
  | .hbm, ⟨12, _⟩ => ⟨S128x128x8x256, .f32⟩
  | .hbm, ⟨13, _⟩ => ⟨S256x128, .f32⟩
  | .hbm, ⟨14, _⟩ => ⟨S128x128x8x128, .f32⟩
  | .hbm, ⟨15, _⟩ => ⟨S128x128x8x128, .f32⟩
  | .hbm, ⟨16, _⟩ => ⟨S128x131072, .f32⟩
  | .hbm, ⟨17, _⟩ => ⟨S128x131072, .bf16⟩
  | _, _ => ⟨S128x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel8.lean ====
abbrev S16384x1024 : Shape := ⟨2, ![16384, 1024]⟩
abbrev S31x1024 : Shape := ⟨2, ![31, 1024]⟩
abbrev S1x1024 : Shape := ⟨2, ![1, 1024]⟩
abbrev S5x8x8 : Shape := ⟨3, ![5, 8, 8]⟩
abbrev S5x8x8x1 : Shape := ⟨4, ![5, 8, 8, 1]⟩
abbrev S_ : Shape := ⟨0, ![]⟩
abbrev S5x8x8x1024 : Shape := ⟨4, ![5, 8, 8, 1024]⟩
abbrev S320x1024 : Shape := ⟨2, ![320, 1024]⟩
abbrev S16x1024 : Shape := ⟨2, ![16, 1024]⟩
abbrev S128x1024 : Shape := ⟨2, ![128, 1024]⟩
abbrev S160x1024 : Shape := ⟨2, ![160, 1024]⟩
abbrev S160x128 : Shape := ⟨2, ![160, 128]⟩
abbrev S20x8x128 : Shape := ⟨3, ![20, 8, 128]⟩
abbrev S16x8x128 : Shape := ⟨3, ![16, 8, 128]⟩
abbrev S1x128 : Shape := ⟨2, ![1, 128]⟩
abbrev S1x1x128 : Shape := ⟨3, ![1, 1, 128]⟩
abbrev S8x128 : Shape := ⟨2, ![8, 128]⟩
abbrev S1x8x128 : Shape := ⟨3, ![1, 8, 128]⟩
abbrev S128x128 : Shape := ⟨2, ![128, 128]⟩
abbrev S128 : Shape := ⟨1, ![128]⟩
abbrev S128x1 : Shape := ⟨2, ![128, 1]⟩

abbrev nBuf : Space → Nat
  | .hbm => 22
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S31x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S5x8x8, .i32⟩
  | .hbm, ⟨6, _⟩ => ⟨S5x8x8, .i1⟩
  | .hbm, ⟨7, _⟩ => ⟨S5x8x8, .i1⟩
  | .hbm, ⟨8, _⟩ => ⟨S5x8x8x1, .i1⟩
  | .hbm, ⟨9, _⟩ => ⟨S_, .i32⟩
  | .hbm, ⟨10, _⟩ => ⟨S5x8x8, .i32⟩
  | .hbm, ⟨11, _⟩ => ⟨S5x8x8, .i32⟩
  | .hbm, ⟨12, _⟩ => ⟨S5x8x8, .i32⟩
  | .hbm, ⟨13, _⟩ => ⟨S5x8x8x1, .i32⟩
  | .hbm, ⟨14, _⟩ => ⟨S5x8x8x1024, .f32⟩
  | .hbm, ⟨15, _⟩ => ⟨S_, .f32⟩
  | .hbm, ⟨16, _⟩ => ⟨S_, .f32⟩
  | .hbm, ⟨17, _⟩ => ⟨S5x8x8x1024, .i1⟩
  | .hbm, ⟨18, _⟩ => ⟨S5x8x8x1024, .f32⟩
  | .hbm, ⟨19, _⟩ => ⟨S5x8x8x1024, .f32⟩
  | .hbm, ⟨20, _⟩ => ⟨S320x1024, .f32⟩
  | .hbm, ⟨21, _⟩ => ⟨S16384x1024, .bf16⟩
  | .local _ .vmem, ⟨0, _⟩ => ⟨S16x1024, .f32⟩
  | .local _ .vmem, ⟨1, _⟩ => ⟨S16x1024, .f32⟩
  | .local _ .vmem, ⟨2, _⟩ => ⟨S128x1024, .f32⟩
  | .local _ .vmem, ⟨3, _⟩ => ⟨S128x1024, .f32⟩
  | .local _ .vmem, ⟨4, _⟩ => ⟨S16x1024, .f32⟩
  | .local _ .vmem, ⟨5, _⟩ => ⟨S16x1024, .f32⟩
  | .local _ .vmem, ⟨6, _⟩ => ⟨S320x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S128x1024, .bf16⟩
  | .local _ .vmem, ⟨11, _⟩ => ⟨S128x1024, .bf16⟩
  | .local _ .vmem, ⟨12, _⟩ => ⟨S160x1024, .f32⟩
  | .local _ .vmem, ⟨13, _⟩ => ⟨S128x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_c_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S320x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S16384x1024 : Shape := ⟨2, ![16384, 1024]⟩
abbrev S31x1024 : Shape := ⟨2, ![31, 1024]⟩
abbrev S1x1024 : Shape := ⟨2, ![1, 1024]⟩
abbrev S_ : Shape := ⟨0, ![]⟩
abbrev S16414x1024 : Shape := ⟨2, ![16414, 1024]⟩
abbrev S1024 : Shape := ⟨1, ![1024]⟩
abbrev S16384 : Shape := ⟨1, ![16384]⟩
abbrev S16384x1 : Shape := ⟨2, ![16384, 1]⟩

abbrev nBuf : Space → Nat
  | .hbm => 263
  | .vmem => 0
  | .smem => 0
  | _ => 0

abbrev hbmTy0_0 (i : Nat) : BufTy := match i % 128 with
  | 0 => ⟨S16384x1024, .f32⟩
  | 1 => ⟨S31x1024, .f32⟩
  | 2 => ⟨S1x1024, .f32⟩
  | 3 => ⟨S1x1024, .f32⟩
  | 4 => ⟨S1x1024, .f32⟩
  | 5 => ⟨S_, .i32⟩
  | 6 => ⟨S_, .f32⟩
  | 7 => ⟨S16414x1024, .f32⟩
  | 8 => ⟨S1x1024, .f32⟩
  | 9 => ⟨S1024, .f32⟩
  | 10 => ⟨S16384x1024, .f32⟩
  | 11 => ⟨S1x1024, .f32⟩
  | 12 => ⟨S16384x1024, .f32⟩
  | 13 => ⟨S16384x1024, .f32⟩
  | 14 => ⟨S1x1024, .f32⟩
  | 15 => ⟨S1024, .f32⟩
  | 16 => ⟨S16384x1024, .f32⟩
  | 17 => ⟨S1x1024, .f32⟩
  | 18 => ⟨S16384x1024, .f32⟩
  | 19 => ⟨S16384x1024, .f32⟩
  | 20 => ⟨S16384x1024, .f32⟩
  | 21 => ⟨S1x1024, .f32⟩
  | 22 => ⟨S1024, .f32⟩
  | 23 => ⟨S16384x1024, .f32⟩
  | 24 => ⟨S1x1024, .f32⟩
  | 25 => ⟨S16384x1024, .f32⟩
  | 26 => ⟨S16384x1024, .f32⟩
  | 27 => ⟨S16384x1024, .f32⟩
  | 28 => ⟨S1x1024, .f32⟩
  | 29 => ⟨S1024, .f32⟩
  | 30 => ⟨S16384x1024, .f32⟩
  | 31 => ⟨S1x1024, .f32⟩
  | 32 => ⟨S16384x1024, .f32⟩
  | 33 => ⟨S16384x1024, .f32⟩
  | 34 => ⟨S16384x1024, .f32⟩
  | 35 => ⟨S1x1024, .f32⟩
  | 36 => ⟨S1024, .f32⟩
  | 37 => ⟨S16384x1024, .f32⟩
  | 38 => ⟨S1x1024, .f32⟩
  | 39 => ⟨S16384x1024, .f32⟩
  | 40 => ⟨S16384x1024, .f32⟩
  | 41 => ⟨S16384x1024, .f32⟩
  | 42 => ⟨S1x1024, .f32⟩
  | 43 => ⟨S1024, .f32⟩
  | 44 => ⟨S16384x1024, .f32⟩
  | 45 => ⟨S1x1024, .f32⟩
  | 46 => ⟨S16384x1024, .f32⟩
  | 47 => ⟨S16384x1024, .f32⟩
  | 48 => ⟨S16384x1024, .f32⟩
  | 49 => ⟨S1x1024, .f32⟩
  | 50 => ⟨S1024, .f32⟩
  | 51 => ⟨S16384x1024, .f32⟩
  | 52 => ⟨S1x1024, .f32⟩
  | 53 => ⟨S16384x1024, .f32⟩
  | 54 => ⟨S16384x1024, .f32⟩
  | 55 => ⟨S16384x1024, .f32⟩
  | 56 => ⟨S1x1024, .f32⟩
  | 57 => ⟨S1024, .f32⟩
  | 58 => ⟨S16384x1024, .f32⟩
  | 59 => ⟨S1x1024, .f32⟩
  | 60 => ⟨S16384x1024, .f32⟩
  | 61 => ⟨S16384x1024, .f32⟩
  | 62 => ⟨S16384x1024, .f32⟩
  | 63 => ⟨S1x1024, .f32⟩
  | 64 => ⟨S1024, .f32⟩
  | 65 => ⟨S16384x1024, .f32⟩
  | 66 => ⟨S1x1024, .f32⟩
  | 67 => ⟨S16384x1024, .f32⟩
  | 68 => ⟨S16384x1024, .f32⟩
  | 69 => ⟨S16384x1024, .f32⟩
  | 70 => ⟨S1x1024, .f32⟩
  | 71 => ⟨S1024, .f32⟩
  | 72 => ⟨S16384x1024, .f32⟩
  | 73 => ⟨S1x1024, .f32⟩
  | 74 => ⟨S16384x1024, .f32⟩
  | 75 => ⟨S16384x1024, .f32⟩
  | 76 => ⟨S16384x1024, .f32⟩
  | 77 => ⟨S1x1024, .f32⟩
  | 78 => ⟨S1024, .f32⟩
  | 79 => ⟨S16384x1024, .f32⟩
  | 80 => ⟨S1x1024, .f32⟩
  | 81 => ⟨S16384x1024, .f32⟩
  | 82 => ⟨S16384x1024, .f32⟩
  | 83 => ⟨S16384x1024, .f32⟩
  | 84 => ⟨S1x1024, .f32⟩
  | 85 => ⟨S1024, .f32⟩
  | 86 => ⟨S16384x1024, .f32⟩
  | 87 => ⟨S1x1024, .f32⟩
  | 88 => ⟨S16384x1024, .f32⟩
  | 89 => ⟨S16384x1024, .f32⟩
  | 90 => ⟨S16384x1024, .f32⟩
  | 91 => ⟨S1x1024, .f32⟩
  | 92 => ⟨S1024, .f32⟩
  | 93 => ⟨S16384x1024, .f32⟩
  | 94 => ⟨S1x1024, .f32⟩
  | 95 => ⟨S16384x1024, .f32⟩
  | 96 => ⟨S16384x1024, .f32⟩
  | 97 => ⟨S16384x1024, .f32⟩
  | 98 => ⟨S1x1024, .f32⟩
  | 99 => ⟨S1024, .f32⟩
  | 100 => ⟨S16384x1024, .f32⟩
  | 101 => ⟨S1x1024, .f32⟩
  | 102 => ⟨S16384x1024, .f32⟩
  | 103 => ⟨S16384x1024, .f32⟩
  | 104 => ⟨S16384x1024, .f32⟩
  | 105 => ⟨S1x1024, .f32⟩
  | 106 => ⟨S1024, .f32⟩
  | 107 => ⟨S16384x1024, .f32⟩
  | 108 => ⟨S1x1024, .f32⟩
  | 109 => ⟨S16384x1024, .f32⟩
  | 110 => ⟨S16384x1024, .f32⟩
  | 111 => ⟨S16384x1024, .f32⟩
  | 112 => ⟨S1x1024, .f32⟩
  | 113 => ⟨S1024, .f32⟩
  | 114 => ⟨S16384x1024, .f32⟩
  | 115 => ⟨S1x1024, .f32⟩
  | 116 => ⟨S16384x1024, .f32⟩
  | 117 => ⟨S16384x1024, .f32⟩
  | 118 => ⟨S16384x1024, .f32⟩
  | 119 => ⟨S1x1024, .f32⟩
  | 120 => ⟨S1024, .f32⟩
  | 121 => ⟨S16384x1024, .f32⟩
  | 122 => ⟨S1x1024, .f32⟩
  | 123 => ⟨S16384x1024, .f32⟩
  | 124 => ⟨S16384x1024, .f32⟩
  | 125 => ⟨S16384x1024, .f32⟩
  | 126 => ⟨S1x1024, .f32⟩
  | 127 => ⟨S1024, .f32⟩
  | _ => ⟨S16384x1024, .f32⟩

abbrev hbmTy0_1 (i : Nat) : BufTy := match i % 128 with
  | 0 => ⟨S16384x1024, .f32⟩
  | 1 => ⟨S1x1024, .f32⟩
  | 2 => ⟨S16384x1024, .f32⟩
  | 3 => ⟨S16384x1024, .f32⟩
  | 4 => ⟨S16384x1024, .f32⟩
  | 5 => ⟨S1x1024, .f32⟩
  | 6 => ⟨S1024, .f32⟩
  | 7 => ⟨S16384x1024, .f32⟩
  | 8 => ⟨S1x1024, .f32⟩
  | 9 => ⟨S16384x1024, .f32⟩
  | 10 => ⟨S16384x1024, .f32⟩
  | 11 => ⟨S16384x1024, .f32⟩
  | 12 => ⟨S1x1024, .f32⟩
  | 13 => ⟨S1024, .f32⟩
  | 14 => ⟨S16384x1024, .f32⟩
  | 15 => ⟨S1x1024, .f32⟩
  | 16 => ⟨S16384x1024, .f32⟩
  | 17 => ⟨S16384x1024, .f32⟩
  | 18 => ⟨S16384x1024, .f32⟩
  | 19 => ⟨S1x1024, .f32⟩
  | 20 => ⟨S1024, .f32⟩
  | 21 => ⟨S16384x1024, .f32⟩
  | 22 => ⟨S1x1024, .f32⟩
  | 23 => ⟨S16384x1024, .f32⟩
  | 24 => ⟨S16384x1024, .f32⟩
  | 25 => ⟨S16384x1024, .f32⟩
  | 26 => ⟨S1x1024, .f32⟩
  | 27 => ⟨S1024, .f32⟩
  | 28 => ⟨S16384x1024, .f32⟩
  | 29 => ⟨S1x1024, .f32⟩
  | 30 => ⟨S16384x1024, .f32⟩
  | 31 => ⟨S16384x1024, .f32⟩
  | 32 => ⟨S16384x1024, .f32⟩
  | 33 => ⟨S1x1024, .f32⟩
  | 34 => ⟨S1024, .f32⟩
  | 35 => ⟨S16384x1024, .f32⟩
  | 36 => ⟨S1x1024, .f32⟩
  | 37 => ⟨S16384x1024, .f32⟩
  | 38 => ⟨S16384x1024, .f32⟩
  | 39 => ⟨S16384x1024, .f32⟩
  | 40 => ⟨S1x1024, .f32⟩
  | 41 => ⟨S1024, .f32⟩
  | 42 => ⟨S16384x1024, .f32⟩
  | 43 => ⟨S1x1024, .f32⟩
  | 44 => ⟨S16384x1024, .f32⟩
  | 45 => ⟨S16384x1024, .f32⟩
  | 46 => ⟨S16384x1024, .f32⟩
  | 47 => ⟨S1x1024, .f32⟩
  | 48 => ⟨S1024, .f32⟩
  | 49 => ⟨S16384x1024, .f32⟩
  | 50 => ⟨S1x1024, .f32⟩
  | 51 => ⟨S16384x1024, .f32⟩
  | 52 => ⟨S16384x1024, .f32⟩
  | 53 => ⟨S16384x1024, .f32⟩
  | 54 => ⟨S1x1024, .f32⟩
  | 55 => ⟨S1024, .f32⟩
  | 56 => ⟨S16384x1024, .f32⟩
  | 57 => ⟨S1x1024, .f32⟩
  | 58 => ⟨S16384x1024, .f32⟩
  | 59 => ⟨S16384x1024, .f32⟩
  | 60 => ⟨S16384x1024, .f32⟩
  | 61 => ⟨S1x1024, .f32⟩
  | 62 => ⟨S1024, .f32⟩
  | 63 => ⟨S16384x1024, .f32⟩
  | 64 => ⟨S1x1024, .f32⟩
  | 65 => ⟨S16384x1024, .f32⟩
  | 66 => ⟨S16384x1024, .f32⟩
  | 67 => ⟨S16384x1024, .f32⟩
  | 68 => ⟨S1x1024, .f32⟩
  | 69 => ⟨S1024, .f32⟩
  | 70 => ⟨S16384x1024, .f32⟩
  | 71 => ⟨S1x1024, .f32⟩
  | 72 => ⟨S16384x1024, .f32⟩
  | 73 => ⟨S16384x1024, .f32⟩
  | 74 => ⟨S16384x1024, .f32⟩
  | 75 => ⟨S1x1024, .f32⟩
  | 76 => ⟨S1024, .f32⟩
  | 77 => ⟨S16384x1024, .f32⟩
  | 78 => ⟨S1x1024, .f32⟩
  | 79 => ⟨S16384x1024, .f32⟩
  | 80 => ⟨S16384x1024, .f32⟩
  | 81 => ⟨S16384x1024, .f32⟩
  | 82 => ⟨S1x1024, .f32⟩
  | 83 => ⟨S1024, .f32⟩
  | 84 => ⟨S16384x1024, .f32⟩
  | 85 => ⟨S1x1024, .f32⟩
  | 86 => ⟨S16384x1024, .f32⟩
  | 87 => ⟨S16384x1024, .f32⟩
  | 88 => ⟨S16384x1024, .f32⟩
  | 89 => ⟨S1x1024, .f32⟩
  | 90 => ⟨S1024, .f32⟩
  | 91 => ⟨S16384x1024, .f32⟩
  | 92 => ⟨S1x1024, .f32⟩
  | 93 => ⟨S16384x1024, .f32⟩
  | 94 => ⟨S16384x1024, .f32⟩
  | 95 => ⟨S16384x1024, .f32⟩
  | 96 => ⟨S16384x1024, .f32⟩
  | 97 => ⟨S16384x1024, .f32⟩
  | 98 => ⟨S_, .f32⟩
  | 99 => ⟨S16384, .f32⟩
  | 100 => ⟨S16384x1, .f32⟩
  | 101 => ⟨S_, .f32⟩
  | 102 => ⟨S16384x1, .f32⟩
  | 103 => ⟨S16384x1, .f32⟩
  | 104 => ⟨S16384x1024, .f32⟩
  | 105 => ⟨S16384x1024, .f32⟩
  | 106 => ⟨S16384x1024, .f32⟩
  | 107 => ⟨S_, .f32⟩
  | 108 => ⟨S16384, .f32⟩
  | 109 => ⟨S16384x1, .f32⟩
  | 110 => ⟨S_, .f32⟩
  | 111 => ⟨S16384x1, .f32⟩
  | 112 => ⟨S16384x1, .f32⟩
  | 113 => ⟨S16384x1024, .f32⟩
  | 114 => ⟨S16384x1024, .f32⟩
  | 115 => ⟨S_, .f32⟩
  | 116 => ⟨S16384x1, .f32⟩
  | 117 => ⟨S16384x1, .f32⟩
  | 118 => ⟨S16384x1, .f32⟩
  | 119 => ⟨S16384x1024, .f32⟩
  | 120 => ⟨S16384x1024, .f32⟩
  | 121 => ⟨S16384x1024, .f32⟩
  | 122 => ⟨S16384x1024, .f32⟩
  | 123 => ⟨S16384x1024, .f32⟩
  | 124 => ⟨S16384x1024, .f32⟩
  | 125 => ⟨S16384x1024, .f32⟩
  | 126 => ⟨S16384x1024, .f32⟩
  | 127 => ⟨S_, .f32⟩
  | _ => ⟨S16384x1024, .f32⟩

abbrev hbmTy0_2 (i : Nat) : BufTy := match i % 128 with
  | 0 => ⟨S16384x1024, .f32⟩
  | 1 => ⟨S16384x1024, .f32⟩
  | 2 => ⟨S_, .f32⟩
  | 3 => ⟨S16384x1024, .f32⟩
  | 4 => ⟨S16384x1024, .f32⟩
  | 5 => ⟨S16384x1024, .f32⟩
  | 6 => ⟨S16384x1024, .bf16⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_cst : Ref sig .tc := ⟨.hbm, 226, rfl⟩
abbrev main_v219 : Ref sig .tc := ⟨.hbm, 227, rfl⟩
abbrev main_v220 : Ref sig .tc := ⟨.hbm, 228, rfl⟩
abbrev main_cst_0 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_cst_1 : Ref sig .tc := ⟨.hbm, 235, rfl⟩
abbrev main_v226 : Ref sig .tc := ⟨.hbm, 236, rfl⟩
abbrev main_v227 : Ref sig .tc := ⟨.hbm, 237, rfl⟩
abbrev main_cst_2 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_cst_3 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_call1_v0 : Ref sig .tc := ⟨.hbm, 253, rfl⟩
abbrev main_call1_v1 : Ref sig .tc := ⟨.hbm, 254, rfl⟩
abbrev main_call1_cst : Ref sig .tc := ⟨.hbm, 255, rfl⟩
abbrev main_call1_v2 : Ref sig .tc := ⟨.hbm, 256, rfl⟩
abbrev main_call1_v3 : Ref sig .tc := ⟨.hbm, 257, rfl⟩
abbrev main_call1_cst_0 : Ref sig .tc := ⟨.hbm, 258, rfl⟩
abbrev main_call1_v4 : Ref sig .tc := ⟨.hbm, 259, rfl⟩
abbrev main_call1_v5 : Ref sig .tc := ⟨.hbm, 260, rfl⟩
abbrev main_v241 : Ref sig .tc := ⟨.hbm, 261, rfl⟩
abbrev main_v242 : Ref sig .tc := ⟨.hbm, 262, rfl⟩

abbrev nD : Nat := 1
abbrev τ : Topo := Topo.v7x

variable {F : FTy → Type} [FloatOps F]
-- ==== Proof.Prims.lean ====
/-
  Loads and stores of windows, one at a time. A memory reference is held with what it reads (`owns`); a load of a
  unit-stride window hands the window to the rest of the program, a store leaves the array with that window replaced.
-/
module

public import Idealize.ShloMosaic.Lib.VecWindow
public import Idealize.ShloMosaic.Lib.Exec
public import Idealize.ShloMosaic.Lib.Memref
public import Idealize.ShloMosaic.Lib.Tactic

@[expose] public section

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

section
variable {nD : Nat} {τ : Topo} {sig : RefSig} {Val : EltTy → Type} {Λ : Labels}

/-- Load the window of sizes `size` at `off` and go on with it. -/
abbrev ld {s : Shape} {e : EltTy} {α : Type} (m : Memref sig .tc .vmem s e) (off size : Fin s.rank → Nat)
    (inb : ∀ a, off a + size a ≤ s.size a) (h : 0 < (⟨s.rank, size⟩ : Shape).numel)
    (k : ((⟨s.rank, size⟩ : Shape).Idx → Val e) → Prog (TpuEff nD τ sig Val Λ .tc) α) : Prog (TpuEff nD τ sig Val Λ .tc) α :=
  .op (.load m (Rect.unit (s := s) off size inb).toLoadRect (View.loadsAt_vmem h)) k

/-- Store `w` into the window of sizes `size` at `off` and go on. -/
abbrev st {s : Shape} {e : EltTy} {α : Type} (m : Memref sig .tc .vmem s e) (off size : Fin s.rank → Nat)
    (inb : ∀ a, off a + size a ≤ s.size a) (w : (⟨s.rank, size⟩ : Shape).Idx → Val e)
    (hx : (m.access (Rect.unit (s := s) off size inb)).Stores Finset.univ)
    (k : Prog (TpuEff nD τ sig Val Λ .tc) α) : Prog (TpuEff nD τ sig Val Λ .tc) α :=
  .op (.store m (Rect.unit (s := s) off size inb) w Finset.univ hx (.inl rfl)) (fun _ => k)

/-- A store of 32-bit elements is always exact. -/
theorem stores32 {s : Shape} {e : EltTy} (m : Memref sig .tc .vmem s e) (he : e.bits = 32) (off size : Fin s.rank → Nat)
    (inb : ∀ a, off a + size a ≤ s.size a) (h : 0 < (⟨s.rank, size⟩ : Shape).numel) :
    (m.access (Rect.unit (s := s) off size inb)).Stores Finset.univ := View.stores_vmem_bits_univ h he

/-- A store of narrower elements is exact on whole packed rows of a whole buffer. -/
theorem storesPacked {s : Shape} {e : EltTy} (m : Memref sig .tc .vmem s e) (hm : m.IsWhole) (off size : Fin s.rank → Nat)
    (inb : ∀ a, off a + size a ≤ s.size a) (h : 0 < (⟨s.rank, size⟩ : Shape).numel)
    (hp : (Rect.unit (s := s) off size inb).PackedRows e.packing) :
    (m.access (Rect.unit (s := s) off size inb)).Stores Finset.univ :=
  View.stores_vmem h (hm.storeExact_slice rfl _ hp) (fun _ => rfl)
end

section Rules
variable {nD : Nat} {τ : Topo} {sig : RefSig} {Ix : Type} [DecidableEq Ix] {Val : EltTy → Type} {Name : Type} [DecidableEq Name]
variable {U : Type} [URA U] {Lvl : Type} [Preorder Lvl] {Λ : Labels} {defs : Defs nD τ sig Val Λ}
variable {𝒱 : Variants} {c : Dev nD} {bd : Option 𝒱.V} {E : Set Name}
variable {α : Type} {Q : α → sProp (MT nD τ sig Ix Val Name U Lvl)}
variable {s : Shape} {e : EltTy}

/-- A load hands over the window of what is held, and the memory stays as it was. -/
theorem wp_ld {m : Memref sig .tc .vmem s e} {q : PosShare TreeShare} {X : s.Idx → Val e} {off size : Fin s.rank → Nat}
    {inb : ∀ a, off a + size a ≤ s.size a} {h : 0 < (⟨s.rank, size⟩ : Shape).numel}
    {k : ((⟨s.rank, size⟩ : Shape).Idx → Val e) → Prog (TpuEff nD τ sig Val Λ .tc) α} :
    owns (c : Thread nD τ) m q X
      ⊢ iprop((owns (c : Thread nD τ) m q X -∗ wp frame (wpE defs 𝒱 (c : Thread nD τ) bd) E (k (VecWindow.window X off size inb)) Q)
        -∗ wp frame (wpE defs 𝒱 (c : Thread nD τ) bd) E (ld m off size inb h k) Q) := by
  unfold owns
  iintro ⟨%f, %hf, H⟩ Hk
  iapply (wp_load_rect 𝒱 (c : Thread nD τ) bd E (m := m) (r := Rect.unit (s := s) off size inb) (hl := View.loadsAt_vmem h) (k := k) (Q := Q)
    (S := m.view.set) (q := q) (f := f) (View.set_slice_subset _ _)) $$ H
  iintro H
  subst hf
  iapply Hk
  iexists f
  isplitr
  · ipureintro; rfl
  · iexact H

/-- A store leaves what is held with the window replaced. -/
theorem wp_st {m : Memref sig .tc .vmem s e} {X : s.Idx → Val e} {off size : Fin s.rank → Nat}
    {inb : ∀ a, off a + size a ≤ s.size a} {w : (⟨s.rank, size⟩ : Shape).Idx → Val e}
    {hx : (m.access (Rect.unit (s := s) off size inb)).Stores Finset.univ}
    {k : Prog (TpuEff nD τ sig Val Λ .tc) α} :
    owns (c : Thread nD τ) m fullShare X
      ⊢ iprop((owns (c : Thread nD τ) m fullShare (VecWindow.put X off size w) -∗ wp frame (wpE defs 𝒱 (c : Thread nD τ) bd) E k Q)
        -∗ wp frame (wpE defs 𝒱 (c : Thread nD τ) bd) E (st m off size inb w hx k) Q) := by
  unfold owns
  iintro ⟨%f, %hf, H⟩ Hk
  iapply (wp_store_writes₀ 𝒱 (c : Thread nD τ) bd E (m := m) (r := Rect.unit (s := s) off size inb) (w := w) (hx := hx) (hm := .inl rfl) (k := fun _ => k)
    (Q := Q) (S := m.view.set) (f := f) (View.set_slice_subset _ _)) $$ H
  iintro H
  subst hf
  iapply Hk
  iexists (m.view.writes Val f [⟨Rect.unit (s := s) off size inb, w⟩])
  isplitr
  · ipureintro; exact View.read_writes_cons_put m.view f inb w [] rfl
  · iexact H

end Rules

end Cert.Attn

end
-- ==== Proof.Columns.lean ====
/-
  Arrays of 2048 columns, written 256 columns at a time. `mix c x y` is `y` in the first `c` column blocks and `x` in the
  rest; storing block `c` of `y` takes it to `mix (c+1) x y`. `gather w` is the array whose column blocks are `w 0 … w 7`.
-/
module

public import Idealize.ShloMosaic.Lib.VecWindow

@[expose] public section

noncomputable section

namespace Cert.Attn

open Idealize.ShloMosaic

variable {α : Type}

/-- `R` rows of 2048 columns. -/
abbrev Full (R : Nat) : Shape := ⟨2, ![R, 2048]⟩
/-- `R` rows of 256 columns. -/
abbrev Blk (R : Nat) : Shape := ⟨2, ![R, 256]⟩

theorem inbC {R c : Nat} (hc : c < 8) : ∀ a, (![0, 256 * c] : Fin 2 → Nat) a + (Blk R).size a ≤ (Full R).size a := by
  intro a; fin_cases a
  · show 0 + R ≤ R; omega
  · show 256 * c + 256 ≤ 2048; omega

/-- Column block `c` of an array. -/
def win {R : Nat} (c : Nat) (hc : c < 8) (x : (Full R).Idx → α) : (Blk R).Idx → α :=
  VecWindow.window (s := Full R) x ![0, 256 * c] (Blk R).size (inbC hc)

/-- `y` in the first `c` column blocks, `x` in the others. -/
def mix {R : Nat} (c : Nat) (x y : (Full R).Idx → α) : (Full R).Idx → α := fun i => if (i 1).val < 256 * c then y i else x i

/-- Where a column lies in its block. -/
def inBlk {R : Nat} (i : (Full R).Idx) : (Blk R).Idx := Fin.cons (α := fun a => Fin ((Blk R).size a)) (i 0) (Fin.cons ⟨(i 1).val % 256, Nat.mod_lt _ (by decide)⟩ (fun a => a.elim0))

/-- Which block a column lies in. -/
def blkOf {R : Nat} (i : (Full R).Idx) : Fin 8 := ⟨(i 1).val / 256, by have : (i 1).val < 2048 := (i 1).isLt; omega⟩

/-- The array of the eight column blocks `w`. -/
def gather {R : Nat} (w : Fin 8 → (Blk R).Idx → α) : (Full R).Idx → α := fun i => w (blkOf i) (inBlk i)

theorem mix_zero {R : Nat} (x y : (Full R).Idx → α) : mix 0 x y = x := by
  funext i; unfold mix; rw [if_neg (by omega)]

theorem mix_all {R : Nat} (x y : (Full R).Idx → α) : mix 8 x y = y := by
  funext i; unfold mix; rw [if_pos (by have : (i 1).val < 2048 := (i 1).isLt; omega)]

theorem window_mix {R c : Nat} (hc : c < 8) (x y : (Full R).Idx → α) (inb) :
    VecWindow.window (s := Full R) (mix c x y) ![0, 256 * c] (Blk R).size inb = win c hc x := by
  funext i
  show mix c x y _ = x _
  unfold mix
  rw [if_neg]
  show ¬ 256 * c + 1 * (i 1).val < 256 * c
  omega

theorem win_gather {R c : Nat} (hc : c < 8) (w : Fin 8 → (Blk R).Idx → α) : win c hc (gather w) = w ⟨c, hc⟩ := by
  funext i
  have h1 : (i 1).val < 256 := (i 1).isLt
  show w (blkOf ((Rect.unit (s := Full R) ![0, 256 * c] (Blk R).size (inbC hc)).emb i)) (inBlk ((Rect.unit (s := Full R) ![0, 256 * c] (Blk R).size (inbC hc)).emb i)) = _
  have e1 : ((Rect.unit (s := Full R) ![0, 256 * c] (Blk R).size (inbC hc)).emb i 1).val = 256 * c + 1 * (i 1).val := rfl
  have e0 : ((Rect.unit (s := Full R) ![0, 256 * c] (Blk R).size (inbC hc)).emb i 0).val = 0 + 1 * (i 0).val := rfl
  have hb : blkOf ((Rect.unit (s := Full R) ![0, 256 * c] (Blk R).size (inbC hc)).emb i) = ⟨c, hc⟩ := Fin.ext (by
    show ((Rect.unit (s := Full R) ![0, 256 * c] (Blk R).size (inbC hc)).emb i 1).val / 256 = c
    rw [e1]; omega)
  have hi : inBlk ((Rect.unit (s := Full R) ![0, 256 * c] (Blk R).size (inbC hc)).emb i) = i := by
    funext a
    fin_cases a
    · exact Fin.ext (by
        show ((Rect.unit (s := Full R) ![0, 256 * c] (Blk R).size (inbC hc)).emb i 0).val = (i 0).val
        rw [e0]; omega)
    · exact Fin.ext (by
        show ((Rect.unit (s := Full R) ![0, 256 * c] (Blk R).size (inbC hc)).emb i 1).val % 256 = (i 1).val
        rw [e1]; omega)
  rw [hb, hi]

theorem put_mix {R c : Nat} (hc : c < 8) (x y : (Full R).Idx → α) (w : (Blk R).Idx → α) (hw : win c hc y = w) :
    VecWindow.put (s := Full R) (mix c x y) ![0, 256 * c] (Blk R).size w = mix (c + 1) x y := by
  subst hw
  funext i
  unfold VecWindow.put
  by_cases h : ∀ a, (![0, 256 * c] : Fin 2 → Nat) a ≤ (i a).val ∧ (i a).val < (![0, 256 * c] : Fin 2 → Nat) a + (Blk R).size a
  · rw [dif_pos h]
    have h1 := h 1
    have h1a : 256 * c ≤ (i 1).val := h1.1
    have h1b : (i 1).val < 256 * c + 256 := h1.2
    unfold mix
    rw [if_pos (by omega)]
    show y _ = y i
    congr 1
    funext a
    fin_cases a
    · exact Fin.ext (by show 0 + 1 * ((i 0).val - 0) = (i 0).val; omega)
    · exact Fin.ext (by show 256 * c + 1 * ((i 1).val - 256 * c) = (i 1).val; omega)
  · rw [dif_neg h]
    have hn : ¬ (256 * c ≤ (i 1).val ∧ (i 1).val < 256 * c + 256) := fun hh => h (fun a => by
      fin_cases a
      · exact ⟨Nat.zero_le _, by show (i 0).val < 0 + R; have : (i 0).val < R := (i 0).isLt; omega⟩
      · exact hh)
    unfold mix
    by_cases hl : (i 1).val < 256 * c
    · rw [if_pos hl, if_pos (by omega)]
    · rw [if_neg hl, if_neg (by omega)]

end Cert.Attn

end
-- ==== Proof.Chunk.lean ====
/-
  One column block of one step of the attention loop: the scores of a block of keys against 256 queries and their maximum,
  the softmax of the block of keys before (against the running maximum), and the values of the block before that,
  accumulated. `chunkP` is the program of one column block, `stepP` the eight of them; `Live.next` is what a step computes.
-/
module

public import proofs.«01_k».proof.Proof.Prims
public import proofs.«01_k».proof.Proof.Columns

@[expose] public section

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- The shapes of the queries of a grid point, of the keys and of the values of a head, and of the blocks a step loads. -/
abbrev QS : Shape := ⟨3, ![1, 256, 2048]⟩
abbrev KS : Shape := ⟨3, ![1, 16384, 256]⟩
abbrev VS : Shape := ⟨4, ![1, 32, 144, 512]⟩
abbrev QB : Shape := ⟨3, ![1, 256, 256]⟩
abbrev KB : Shape := ⟨3, ![1, 512, 256]⟩
abbrev VB : Shape := ⟨4, ![1, 1, 144, 512]⟩

theorem inbQ {c : Nat} (hc : c < 8) : ∀ a, (![0, 0, 256 * c] : Fin 3 → Nat) a + QB.size a ≤ QS.size a := by
  intro a; fin_cases a
  · show 0 + 1 ≤ 1; omega
  · show 0 + 256 ≤ 256; omega
  · show 256 * c + 256 ≤ 2048; omega

section Values
variable {F : FTy → Type} [FloatOps F]

/-- Keys times queries, contracted over the head dimension. -/
def dotKQ : DotDims (Blk 512) ⟨2, ![256, 256]⟩ (Blk 512) where
  lhsContracting := [1]
  rhsContracting := [0]
  lhsNonContracting := [0]
  rhsNonContracting := [1]
  lhsBatch := []
  rhsBatch := []
  wf := by decide

/-- Values times probabilities, contracted over the keys of a block. -/
def dotVP : DotDims ⟨2, ![144, 512]⟩ (Blk 512) (Blk 144) where
  lhsContracting := [1]
  rhsContracting := [0]
  lhsNonContracting := [0]
  rhsNonContracting := [1]
  lhsBatch := []
  rhsBatch := []
  wf := by decide

/-- The scores of a block. -/
def scores (kb : Vec F KB .bf16) (qb : Vec F QB .bf16) : FVec F (Blk 512) .f32 :=
  matmul dotKQ none (shapeCast (Blk 512) kb (by decide) : FVec F (Blk 512) .bf16) (shapeCast ⟨2, ![256, 256]⟩ qb (by decide) : FVec F ⟨2, ![256, 256]⟩ .bf16)
    (constant (Blk 512) .f32 0x00000000#32 : FVec F (Blk 512) .f32)

def sPay (kb : Vec F KB .bf16) (qb : Vec F QB .bf16) : FVec F (Blk 512) .f32 := shapeCast (Blk 512) (scores kb qb) (by decide)

/-- Their maximum over the keys. -/
def mbPay (kb : Vec F KB .bf16) (qb : Vec F QB .bf16) : FVec F (Blk 1) .f32 :=
  shapeCast (Blk 1) (shapeCast (Blk 1) (multiReduction .maximumf [0] (⟨1, ![256]⟩ : Shape) (scores kb qb) 0xFF800000#32 (by decide) (.inl rfl) rfl : FVec F ⟨1, ![256]⟩ .f32) (by decide)) (by decide)

/-- The running maximum, the factor by which it rescales what is accumulated, the weights of a block. -/
def mNew (mp mb : Vec F (Blk 1) .f32) : FVec F (Blk 1) .f32 := maximumf mp mb
def mPay (mp mb : Vec F (Blk 1) .f32) : FVec F (Blk 1) .f32 := shapeCast (Blk 1) (mNew mp mb) (by decide)
def aPay (mp mb : Vec F (Blk 1) .f32) : FVec F (Blk 1) .f32 := shapeCast (Blk 1) (exp2 (subf mp (mNew mp mb))) (by decide)
def pPay (mp mb : Vec F (Blk 1) .f32) (s : Vec F (Blk 512) .f32) : FVec F (Blk 512) .bf16 :=
  shapeCast (Blk 512) (truncf .bf16 (exp2 (subf s (broadcastTo (Blk 512) (mNew mp mb) (by decide)))) (by decide)) (by decide)

/-- What is accumulated, rescaled, plus the values of the block under its weights. -/
def accPay (a : Vec F (Blk 1) .f32) (acc : Vec F (Blk 144) .f32) (vb : Vec F VB .bf16) (p : Vec F (Blk 512) .bf16) : FVec F (Blk 144) .f32 :=
  shapeCast (Blk 144) (addf (mulf (broadcastTo (Blk 144) a (by decide)) acc)
    (matmul dotVP none (shapeCast ⟨2, ![144, 512]⟩ vb (by decide) : FVec F ⟨2, ![144, 512]⟩ .bf16) p (constant (Blk 144) .f32 0x00000000#32 : FVec F (Blk 144) .f32))) (by decide)

/-- What one step leaves for the next: running maximum, accumulator, the scores and maxima of the last block of keys, the
    weights and rescaling factors of the block before it. -/
structure Live (F : FTy → Type) where
  m : Vec F (Full 1) .f32
  acc : Vec F (Full 144) .f32
  s : Vec F (Full 512) .f32
  mb : Vec F (Full 1) .f32
  p : Vec F (Full 512) .bf16
  a : Vec F (Full 1) .f32

/-- Column block `c` of the queries. -/
def qwin (Q : Vec F QS .bf16) (c : Fin 8) : Vec F QB .bf16 := VecWindow.window (s := QS) Q ![0, 0, 256 * c.val] QB.size (inbQ c.isLt)

def newS (kb : Vec F KB .bf16) (Q : Vec F QS .bf16) : Vec F (Full 512) .f32 := gather fun c => sPay kb (qwin Q c)
def newMb (kb : Vec F KB .bf16) (Q : Vec F QS .bf16) : Vec F (Full 1) .f32 := gather fun c => mbPay kb (qwin Q c)
def newM (L : Live F) : Vec F (Full 1) .f32 := gather fun c => mPay (win c.val c.isLt L.m) (win c.val c.isLt L.mb)
def newA (L : Live F) : Vec F (Full 1) .f32 := gather fun c => aPay (win c.val c.isLt L.m) (win c.val c.isLt L.mb)
def newP (L : Live F) : Vec F (Full 512) .bf16 := gather fun c => pPay (win c.val c.isLt L.m) (win c.val c.isLt L.mb) (win c.val c.isLt L.s)
def newAcc (vb : Vec F VB .bf16) (L : Live F) : Vec F (Full 144) .f32 :=
  gather fun c => accPay (win c.val c.isLt L.a) (win c.val c.isLt L.acc) vb (win c.val c.isLt L.p)

/-- What a step computes. -/
def Live.next (Q : Vec F QS .bf16) (kb : Vec F KB .bf16) (vb : Vec F VB .bf16) (L : Live F) : Live F where
  m := newM L
  acc := newAcc vb L
  s := newS kb Q
  mb := newMb kb Q
  p := newP L
  a := newA L

end Values

/-- The buffers of a step: queries, keys, values; what the step writes for the next (`sw mbw aw pw`), what the step before wrote
    (`sr mbr ar pr`), the running maximum and the accumulator. -/
structure Bufs (sig : RefSig) where
  q : Memref sig .tc .vmem QS .bf16
  k : Memref sig .tc .vmem KS .bf16
  v : Memref sig .tc .vmem VS .bf16
  sw : Memref sig .tc .vmem (Full 512) .f32
  sr : Memref sig .tc .vmem (Full 512) .f32
  pw : Memref sig .tc .vmem (Full 512) .bf16
  pr : Memref sig .tc .vmem (Full 512) .bf16
  aw : Memref sig .tc .vmem (Full 1) .f32
  ar : Memref sig .tc .vmem (Full 1) .f32
  mbw : Memref sig .tc .vmem (Full 1) .f32
  mbr : Memref sig .tc .vmem (Full 1) .f32
  m : Memref sig .tc .vmem (Full 1) .f32
  acc : Memref sig .tc .vmem (Full 144) .f32

/-- The next step reads what this one wrote and writes what this one read. -/
def Bufs.swap {sig : RefSig} (B : Bufs sig) : Bufs sig := ⟨B.q, B.k, B.v, B.sr, B.sw, B.pr, B.pw, B.ar, B.aw, B.mbr, B.mbw, B.m, B.acc⟩

section Programs
variable {nD : Nat} {τ : Topo} {sig : RefSig} {Λ : Labels} {F : FTy → Type} [FloatOps F] {α : Type}

theorem packedC {c : Nat} (hc : c < 8) :
    (Rect.unit (s := Full 512) ![0, 256 * c] (Blk 512).size (inbC hc)).PackedRows (EltTy.packing .bf16) :=
  .inr ⟨by decide, rfl, .inl ⟨⟨0, rfl⟩, ⟨256, rfl⟩⟩⟩

/-- The scores of column block `c`. -/
def scoresP (B : Bufs sig) (c : Nat) (hc : c < 8) (koff : Fin 3 → Nat) (hk : ∀ a, koff a + KB.size a ≤ KS.size a)
    (k : Prog (TpuEff nD τ sig (Elt F) Λ .tc) α) : Prog (TpuEff nD τ sig (Elt F) Λ .tc) α :=
  ld B.k koff KB.size hk (by decide) fun kb =>
  ld B.q ![0, 0, 256 * c] QB.size (inbQ hc) (by decide) fun qb =>
  ld B.sw ![0, 256 * c] (Blk 512).size (inbC hc) (by decide) fun _ =>
  st B.sw ![0, 256 * c] (Blk 512).size (inbC hc) (sPay kb qb) (stores32 _ rfl _ _ _ (by decide)) <|
  ld B.mbw ![0, 256 * c] (Blk 1).size (inbC hc) (by decide) fun _ =>
  st B.mbw ![0, 256 * c] (Blk 1).size (inbC hc) (mbPay kb qb) (stores32 _ rfl _ _ _ (by decide)) <|
  k

/-- The softmax of column block `c`. -/
def softmaxP (B : Bufs sig) (hpw : B.pw.IsWhole) (c : Nat) (hc : c < 8)
    (k : Prog (TpuEff nD τ sig (Elt F) Λ .tc) α) : Prog (TpuEff nD τ sig (Elt F) Λ .tc) α :=
  ld B.m ![0, 256 * c] (Blk 1).size (inbC hc) (by decide) fun mp =>
  ld B.mbr ![0, 256 * c] (Blk 1).size (inbC hc) (by decide) fun mb =>
  ld B.aw ![0, 256 * c] (Blk 1).size (inbC hc) (by decide) fun _ =>
  st B.aw ![0, 256 * c] (Blk 1).size (inbC hc) (aPay mp mb) (stores32 _ rfl _ _ _ (by decide)) <|
  ld B.m ![0, 256 * c] (Blk 1).size (inbC hc) (by decide) fun _ =>
  st B.m ![0, 256 * c] (Blk 1).size (inbC hc) (mPay mp mb) (stores32 _ rfl _ _ _ (by decide)) <|
  ld B.sr ![0, 256 * c] (Blk 512).size (inbC hc) (by decide) fun s =>
  ld B.pw ![0, 256 * c] (Blk 512).size (inbC hc) (by decide) fun _ =>
  st B.pw ![0, 256 * c] (Blk 512).size (inbC hc) (pPay mp mb s) (storesPacked _ hpw _ _ _ (by decide) (packedC hc)) <|
  k

/-- The values of column block `c`. -/
def valuesP (B : Bufs sig) (c : Nat) (hc : c < 8) (voff : Fin 4 → Nat) (hv : ∀ a, voff a + VB.size a ≤ VS.size a)
    (k : Prog (TpuEff nD τ sig (Elt F) Λ .tc) α) : Prog (TpuEff nD τ sig (Elt F) Λ .tc) α :=
  ld B.ar ![0, 256 * c] (Blk 1).size (inbC hc) (by decide) fun a =>
  ld B.acc ![0, 256 * c] (Blk 144).size (inbC hc) (by decide) fun x =>
  ld B.v voff VB.size hv (by decide) fun vb =>
  ld B.pr ![0, 256 * c] (Blk 512).size (inbC hc) (by decide) fun p =>
  ld B.acc ![0, 256 * c] (Blk 144).size (inbC hc) (by decide) fun _ =>
  st B.acc ![0, 256 * c] (Blk 144).size (inbC hc) (accPay a x vb p) (stores32 _ rfl _ _ _ (by decide)) <|
  k

/-- Column block `c` of a step. -/
def chunkP (B : Bufs sig) (hpw : B.pw.IsWhole) (koff : Fin 3 → Nat) (hk : ∀ a, koff a + KB.size a ≤ KS.size a)
    (voff : Fin 4 → Nat) (hv : ∀ a, voff a + VB.size a ≤ VS.size a) (c : Nat) (hc : c < 8)
    (k : Prog (TpuEff nD τ sig (Elt F) Λ .tc) α) : Prog (TpuEff nD τ sig (Elt F) Λ .tc) α :=
  scoresP B c hc koff hk <| softmaxP B hpw c hc <| valuesP B c hc voff hv k

/-- The eight column blocks, one after another. -/
def eight (f : (c : Nat) → c < 8 → Prog (TpuEff nD τ sig (Elt F) Λ .tc) α → Prog (TpuEff nD τ sig (Elt F) Λ .tc) α)
    (k : Prog (TpuEff nD τ sig (Elt F) Λ .tc) α) : Prog (TpuEff nD τ sig (Elt F) Λ .tc) α :=
  f 0 (by decide) <| f 1 (by decide) <| f 2 (by decide) <| f 3 (by decide) <| f 4 (by decide) <| f 5 (by decide) <|
    f 6 (by decide) <| f 7 (by decide) k

/-- A step. -/
def stepP (B : Bufs sig) (hpw : B.pw.IsWhole) (koff : Fin 3 → Nat) (hk : ∀ a, koff a + KB.size a ≤ KS.size a)
    (voff : Fin 4 → Nat) (hv : ∀ a, voff a + VB.size a ≤ VS.size a)
    (k : Prog (TpuEff nD τ sig (Elt F) Λ .tc) α) : Prog (TpuEff nD τ sig (Elt F) Λ .tc) α :=
  eight (chunkP B hpw koff hk voff hv) k

end Programs

section Triples
variable {nD : Nat} {τ : Topo} {sig : RefSig} {Ix : Type} [DecidableEq Ix] {F : FTy → Type} [FloatOps F] {Name : Type} [DecidableEq Name]
variable {U : Type} [URA U] {Lvl : Type} [Preorder Lvl] {Λ : Labels} {defs : Defs nD τ sig (Elt F) Λ}
variable {𝒱 : Variants} {c₀ : Dev nD} {bd : Option 𝒱.V} {E : Set Name}
variable {α : Type} {Q : α → sProp (MT nD τ sig Ix (Elt F) Name U Lvl)}

local notation "𝕄" => MT nD τ sig Ix (Elt F) Name U Lvl

variable (c₀) in
/-- A buffer of the core held whole at `X`. -/
abbrev own {s : Shape} {e : EltTy} (m : Memref sig .tc .vmem s e) (X : s.Idx → Elt F e) : sProp 𝕄 :=
  owns (c₀ : Thread nD τ) m fullShare X

variable {Qv : Vec F QS .bf16} {Kv : Vec F KS .bf16} {Vv : Vec F VS .bf16}

/-- The scores of column block `c`, from blocks `0 … c-1` written to blocks `0 … c` written. -/
theorem wp_scoresP {B : Bufs sig} {c : Nat} {hc : c < 8} {koff : Fin 3 → Nat} {hk : ∀ a, koff a + KB.size a ≤ KS.size a}
    {s₀ : Vec F (Full 512) .f32} {mb₀ : Vec F (Full 1) .f32} {k : Prog (TpuEff nD τ sig (Elt F) Λ .tc) α} :
    iprop(own c₀ B.q Qv ∗ own c₀ B.k Kv ∗ own c₀ B.sw (mix c s₀ (newS (VecWindow.window Kv koff KB.size hk) Qv))
        ∗ own c₀ B.mbw (mix c mb₀ (newMb (VecWindow.window Kv koff KB.size hk) Qv)))
      ⊢ iprop((iprop(own c₀ B.q Qv ∗ own c₀ B.k Kv ∗ own c₀ B.sw (mix (c + 1) s₀ (newS (VecWindow.window Kv koff KB.size hk) Qv))
            ∗ own c₀ B.mbw (mix (c + 1) mb₀ (newMb (VecWindow.window Kv koff KB.size hk) Qv)))
          -∗ wp frame (wpE defs 𝒱 (c₀ : Thread nD τ) bd) E k Q)
        -∗ wp frame (wpE defs 𝒱 (c₀ : Thread nD τ) bd) E (scoresP B c hc koff hk k) Q) := by
  unfold scoresP
  iintro ⟨Hq, Hk, Hs, Hm⟩ Hc
  iapply wp_ld $$ Hk; iintro Hk
  iapply wp_ld $$ Hq; iintro Hq
  iapply wp_ld $$ Hs; iintro Hs
  iapply wp_st $$ Hs; iintro Hs
  iapply wp_ld $$ Hm; iintro Hm
  iapply wp_st $$ Hm; iintro Hm
  rw [put_mix hc s₀ (newS _ Qv), put_mix hc mb₀ (newMb _ Qv)]
  rotate_left
  · exact win_gather hc _
  · exact win_gather hc _
  iapply Hc
  isplitl [Hq]; · iexact Hq
  isplitl [Hk]; · iexact Hk
  isplitl [Hs]; · iexact Hs
  iexact Hm

/-- The softmax of column block `c`. -/
theorem wp_softmaxP {B : Bufs sig} {hpw : B.pw.IsWhole} {c : Nat} {hc : c < 8} {L : Live F}
    {p₀ : Vec F (Full 512) .bf16} {a₀ : Vec F (Full 1) .f32} {k : Prog (TpuEff nD τ sig (Elt F) Λ .tc) α} :
    iprop(own c₀ B.m (mix c L.m (newM L)) ∗ own c₀ B.mbr L.mb ∗ own c₀ B.aw (mix c a₀ (newA L)) ∗ own c₀ B.sr L.s ∗ own c₀ B.pw (mix c p₀ (newP L)))
      ⊢ iprop((iprop(own c₀ B.m (mix (c + 1) L.m (newM L)) ∗ own c₀ B.mbr L.mb ∗ own c₀ B.aw (mix (c + 1) a₀ (newA L)) ∗ own c₀ B.sr L.s
            ∗ own c₀ B.pw (mix (c + 1) p₀ (newP L)))
          -∗ wp frame (wpE defs 𝒱 (c₀ : Thread nD τ) bd) E k Q)
        -∗ wp frame (wpE defs 𝒱 (c₀ : Thread nD τ) bd) E (softmaxP B hpw c hc k) Q) := by
  unfold softmaxP
  iintro ⟨Hm, Hmb, Ha, Hs, Hp⟩ Hc
  iapply wp_ld $$ Hm; iintro Hm
  iapply wp_ld $$ Hmb; iintro Hmb
  iapply wp_ld $$ Ha; iintro Ha
  iapply wp_st $$ Ha; iintro Ha
  iapply wp_ld $$ Hm; iintro Hm
  iapply wp_st $$ Hm; iintro Hm
  iapply wp_ld $$ Hs; iintro Hs
  iapply wp_ld $$ Hp; iintro Hp
  iapply wp_st $$ Hp; iintro Hp
  rw [window_mix hc]
  rw [put_mix hc L.m (newM L), put_mix hc a₀ (newA L), put_mix hc p₀ (newP L)]
  rotate_left
  · exact win_gather hc _
  · exact win_gather hc _
  · exact win_gather hc _
  iapply Hc
  isplitl [Hm]; · iexact Hm
  isplitl [Hmb]; · iexact Hmb
  isplitl [Ha]; · iexact Ha
  isplitl [Hs]; · iexact Hs
  iexact Hp

/-- The values of column block `c`. -/
theorem wp_valuesP {B : Bufs sig} {c : Nat} {hc : c < 8} {voff : Fin 4 → Nat} {hv : ∀ a, voff a + VB.size a ≤ VS.size a} {L : Live F}
    {k : Prog (TpuEff nD τ sig (Elt F) Λ .tc) α} :
    iprop(own c₀ B.ar L.a ∗ own c₀ B.acc (mix c L.acc (newAcc (VecWindow.window Vv voff VB.size hv) L)) ∗ own c₀ B.v Vv ∗ own c₀ B.pr L.p)
      ⊢ iprop((iprop(own c₀ B.ar L.a ∗ own c₀ B.acc (mix (c + 1) L.acc (newAcc (VecWindow.window Vv voff VB.size hv) L)) ∗ own c₀ B.v Vv ∗ own c₀ B.pr L.p)
          -∗ wp frame (wpE defs 𝒱 (c₀ : Thread nD τ) bd) E k Q)
        -∗ wp frame (wpE defs 𝒱 (c₀ : Thread nD τ) bd) E (valuesP B c hc voff hv k) Q) := by
  unfold valuesP
  iintro ⟨Ha, Hx, Hv, Hp⟩ Hc
  iapply wp_ld $$ Ha; iintro Ha
  iapply wp_ld $$ Hx; iintro Hx
  iapply wp_ld $$ Hv; iintro Hv
  iapply wp_ld $$ Hp; iintro Hp
  iapply wp_ld $$ Hx; iintro Hx
  iapply wp_st $$ Hx; iintro Hx
  rw [window_mix hc]
  rw [put_mix hc L.acc (newAcc (VecWindow.window Vv voff VB.size hv) L)]
  rotate_left
  · exact win_gather hc _
  iapply Hc
  isplitl [Ha]; · iexact Ha
  isplitl [Hx]; · iexact Hx
  isplitl [Hv]; · iexact Hv
  iexact Hp

end Triples

end Cert.Attn

end
-- ==== Proof.Conv.lean ====
/-
  The short gated convolution of a grid point: the block of 256 rows with the last row of the block before and the first of the
  block after it (zero at the ends of the sequence) laid out in one buffer, then sixteen tiles of 128 by 128 outputs, each the
  gate times the weighted sum of the three rows around.
-/
module

public import proofs.«01_k».proof.Proof.Chunk

@[expose] public section

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- Eight rows, the 256 rows of a block, the three rows of weights, the 272 rows of the block with what surrounds it. -/
abbrev HS : Shape := ⟨2, ![8, 1024]⟩
abbrev CS : Shape := ⟨2, ![256, 1024]⟩
abbrev WS : Shape := ⟨2, ![3, 1024]⟩
abbrev ES : Shape := ⟨2, ![272, 1024]⟩
/-- A tile of outputs and a row of weights for it. -/
abbrev TB : Shape := ⟨2, ![128, 128]⟩
abbrev WB : Shape := ⟨2, ![1, 128]⟩

/-- Row and column of tile `j`. -/
abbrev tr (j : Nat) : Nat := 128 * (j / 8)
abbrev tc (j : Nat) : Nat := 128 * (j % 8)

theorem inbW {j r : Nat} (hj : j < 16) (hr : r < 3) : ∀ a, (![r, tc j] : Fin 2 → Nat) a + WB.size a ≤ WS.size a := by
  intro a; fin_cases a
  · show r + 1 ≤ 3; omega
  · show 128 * (j % 8) + 128 ≤ 1024; omega
theorem inbE {j r : Nat} (hj : j < 16) (hr : r < 17) : ∀ a, (![r + tr j, tc j] : Fin 2 → Nat) a + TB.size a ≤ ES.size a := by
  intro a; fin_cases a
  · show r + 128 * (j / 8) + 128 ≤ 272; omega
  · show 128 * (j % 8) + 128 ≤ 1024; omega
theorem inbT {j : Nat} (hj : j < 16) : ∀ a, (![tr j, tc j] : Fin 2 → Nat) a + TB.size a ≤ CS.size a := by
  intro a; fin_cases a
  · show 128 * (j / 8) + 128 ≤ 256; omega
  · show 128 * (j % 8) + 128 ≤ 1024; omega

theorem packedT {j : Nat} (hj : j < 16) :
    (Rect.unit (s := CS) ![tr j, tc j] TB.size (inbT hj)).PackedRows (EltTy.packing .bf16) :=
  .inr ⟨by decide, rfl, .inl ⟨⟨64 * (j / 8), by show 128 * (j / 8) = 2 * (64 * (j / 8)); omega⟩, ⟨64, rfl⟩⟩⟩

section Values
variable {F : FTy → Type} [FloatOps F]

/-- Eight rows, or zero. -/
def haloPay (b : BitVec 1) (x : Vec F HS .f32) : FVec F HS .f32 :=
  shapeCast HS (Scalar.select b x (broadcast HS (Scalar.ofBits .f32 0x00000000#32 : F .f32) : FVec F HS .f32)) (by decide)
def mainPay (x : Vec F CS .f32) : FVec F CS .f32 := shapeCast CS x (by decide)

/-- A tile: the gate times the weighted sum of the three rows. -/
def convPay (w0 : Vec F WB .f32) (x0 : Vec F TB .f32) (w1 : Vec F WB .f32) (x1 : Vec F TB .f32) (w2 : Vec F WB .f32) (x2 : Vec F TB .f32)
    (g : Vec F TB .f32) : FVec F TB .bf16 :=
  truncf .bf16 (mulf g (addf (addf (mulf (broadcastTo TB w0 (by decide)) x0) (mulf (broadcastTo TB w1 (by decide)) x1))
    (mulf (broadcastTo TB w2 (by decide)) x2)) : FVec F TB .f32) (by decide)

/-- Rows 0–7, 8–263 and 264–271 put together. -/
def ext (p : Vec F HS .f32) (x : Vec F CS .f32) (n : Vec F HS .f32) (X : Vec F ES .f32) : Vec F ES .f32 :=
  VecWindow.put (s := ES) (VecWindow.put (s := ES) (VecWindow.put (s := ES) X ![0, 0] HS.size p) ![8, 0] CS.size x) ![264, 0] HS.size n

/-- Tile `j` of the output. -/
def tile (X : Vec F ES .f32) (W : Vec F WS .f32) (g : Vec F CS .f32) (j : Fin 16) : FVec F TB .bf16 :=
  convPay (VecWindow.window (s := WS) W ![0, tc j] WB.size (inbW j.isLt (by decide))) (VecWindow.window (s := ES) X ![7 + tr j, tc j] TB.size (inbE j.isLt (by decide)))
    (VecWindow.window (s := WS) W ![1, tc j] WB.size (inbW j.isLt (by decide))) (VecWindow.window (s := ES) X ![8 + tr j, tc j] TB.size (inbE j.isLt (by decide)))
    (VecWindow.window (s := WS) W ![2, tc j] WB.size (inbW j.isLt (by decide))) (VecWindow.window (s := ES) X ![9 + tr j, tc j] TB.size (inbE j.isLt (by decide)))
    (VecWindow.window (s := CS) g ![tr j, tc j] TB.size (inbT j.isLt))
end Values

/-- Which tile an output lies in, and where. -/
def tileOf (i : CS.Idx) : Fin 16 := ⟨8 * ((i 0).val / 128) + (i 1).val / 128, by
  have h0 : (i 0).val < 256 := (i 0).isLt
  have h1 : (i 1).val < 1024 := (i 1).isLt
  omega⟩
def inTile (i : CS.Idx) : TB.Idx := Fin.cons (α := fun a => Fin (TB.size a)) ⟨(i 0).val % 128, Nat.mod_lt _ (by decide)⟩
  (Fin.cons ⟨(i 1).val % 128, Nat.mod_lt _ (by decide)⟩ (fun a => a.elim0))

/-- The tiles `w` put together. -/
def tiles {α : Type} (w : Fin 16 → TB.Idx → α) : CS.Idx → α := fun i => w (tileOf i) (inTile i)
/-- `y` in the first `j` tiles, `x` in the others. -/
def mixT {α : Type} (j : Nat) (x y : CS.Idx → α) : CS.Idx → α := fun i => if (tileOf i).val < j then y i else x i

theorem mixT_zero {α : Type} (x y : CS.Idx → α) : mixT 0 x y = x := by
  funext i; unfold mixT; rw [if_neg (by omega)]
theorem mixT_all {α : Type} (x y : CS.Idx → α) : mixT 16 x y = y := by
  funext i; unfold mixT; rw [if_pos (tileOf i).isLt]

theorem put_mixT {α : Type} {j : Nat} (hj : j < 16) (x : CS.Idx → α) (w : Fin 16 → TB.Idx → α) :
    VecWindow.put (s := CS) (mixT j x (tiles w)) ![tr j, tc j] TB.size (w ⟨j, hj⟩) = mixT (j + 1) x (tiles w) := by
  funext i
  have hi0 : (i 0).val < 256 := (i 0).isLt
  have hi1 : (i 1).val < 1024 := (i 1).isLt
  unfold VecWindow.put
  by_cases h : ∀ a, (![tr j, tc j] : Fin 2 → Nat) a ≤ (i a).val ∧ (i a).val < (![tr j, tc j] : Fin 2 → Nat) a + TB.size a
  · rw [dif_pos h]
    have h0 : 128 * (j / 8) ≤ (i 0).val ∧ (i 0).val < 128 * (j / 8) + 128 := h 0
    have h1 : 128 * (j % 8) ≤ (i 1).val ∧ (i 1).val < 128 * (j % 8) + 128 := h 1
    have ht : tileOf i = ⟨j, hj⟩ := Fin.ext (by show 8 * ((i 0).val / 128) + (i 1).val / 128 = j; omega)
    unfold mixT
    rw [if_pos (by rw [ht]; exact Nat.lt_succ_self j)]
    unfold tiles
    rw [ht]
    congr 1
    funext a
    fin_cases a
    · exact Fin.ext (by show (i 0).val - 128 * (j / 8) = (i 0).val % 128; omega)
    · exact Fin.ext (by show (i 1).val - 128 * (j % 8) = (i 1).val % 128; omega)
  · rw [dif_neg h]
    have hn : (tileOf i).val ≠ j := fun he => h (fun a => by
      have he' : 8 * ((i 0).val / 128) + (i 1).val / 128 = j := he
      fin_cases a
      · show 128 * (j / 8) ≤ (i 0).val ∧ (i 0).val < 128 * (j / 8) + 128
        omega
      · show 128 * (j % 8) ≤ (i 1).val ∧ (i 1).val < 128 * (j % 8) + 128
        omega)
    unfold mixT
    by_cases hl : (tileOf i).val < j
    · rw [if_pos hl, if_pos (by omega)]
    · rw [if_neg hl, if_neg (by omega)]

/-- The rows laid out cover the buffer: what was there before does not matter. -/
theorem ext_any {F : FTy → Type} [FloatOps F] (p : Vec F HS .f32) (x : Vec F CS .f32) (n : Vec F HS .f32) (X Y : Vec F ES .f32) :
    ext p x n X = ext p x n Y := by
  funext i
  have hi0 : (i 0).val < 272 := (i 0).isLt
  have hi1 : (i 1).val < 1024 := (i 1).isLt
  unfold ext VecWindow.put
  by_cases h3 : ∀ a, (![264, 0] : Fin 2 → Nat) a ≤ (i a).val ∧ (i a).val < (![264, 0] : Fin 2 → Nat) a + HS.size a
  · rw [dif_pos h3, dif_pos h3]
  rw [dif_neg h3, dif_neg h3]
  by_cases h2 : ∀ a, (![8, 0] : Fin 2 → Nat) a ≤ (i a).val ∧ (i a).val < (![8, 0] : Fin 2 → Nat) a + CS.size a
  · rw [dif_pos h2, dif_pos h2]
  rw [dif_neg h2, dif_neg h2]
  by_cases h1 : ∀ a, (![0, 0] : Fin 2 → Nat) a ≤ (i a).val ∧ (i a).val < (![0, 0] : Fin 2 → Nat) a + HS.size a
  · rw [dif_pos h1, dif_pos h1]
  exfalso
  have e3 : ¬ (264 ≤ (i 0).val) := fun hh => h3 (fun a => by
    fin_cases a
    · exact ⟨hh, by show (i 0).val < 264 + 8; omega⟩
    · exact ⟨Nat.zero_le _, by show (i 1).val < 0 + 1024; omega⟩)
  have e2 : ¬ (8 ≤ (i 0).val) := fun hh => h2 (fun a => by
    fin_cases a
    · exact ⟨hh, by show (i 0).val < 8 + 256; omega⟩
    · exact ⟨Nat.zero_le _, by show (i 1).val < 0 + 1024; omega⟩)
  exact h1 (fun a => by
    fin_cases a
    · exact ⟨Nat.zero_le _, by show (i 0).val < 0 + 8; omega⟩
    · exact ⟨Nat.zero_le _, by show (i 1).val < 0 + 1024; omega⟩)

/-- The buffers of the convolution. -/
structure CBufs (sig : RefSig) where
  prev : Memref sig .tc .vmem HS .f32
  main : Memref sig .tc .vmem CS .f32
  next : Memref sig .tc .vmem HS .f32
  g : Memref sig .tc .vmem CS .f32
  w : Memref sig .tc .vmem WS .f32
  ext : Memref sig .tc .vmem ES .f32
  y : Memref sig .tc .vmem CS .bf16

section Programs
variable {nD : Nat} {τ : Topo} {sig : RefSig} {Λ : Labels} {F : FTy → Type} [FloatOps F] {α : Type}

/-- The rows laid out. -/
def extP (C : CBufs sig) (b b' : BitVec 1) (k : Prog (TpuEff nD τ sig (Elt F) Λ .tc) α) : Prog (TpuEff nD τ sig (Elt F) Λ .tc) α :=
  ld C.prev ![0, 0] HS.size (by decide) (by decide) fun x =>
  ld C.ext ![0, 0] HS.size (by decide) (by decide) fun _ =>
  st C.ext ![0, 0] HS.size (by decide) (haloPay b x) (stores32 _ rfl _ _ _ (by decide)) <|
  ld C.main ![0, 0] CS.size (by decide) (by decide) fun x =>
  ld C.ext ![8, 0] CS.size (by decide) (by decide) fun _ =>
  st C.ext ![8, 0] CS.size (by decide) (mainPay x) (stores32 _ rfl _ _ _ (by decide)) <|
  ld C.next ![0, 0] HS.size (by decide) (by decide) fun x =>
  ld C.ext ![264, 0] HS.size (by decide) (by decide) fun _ =>
  st C.ext ![264, 0] HS.size (by decide) (haloPay b' x) (stores32 _ rfl _ _ _ (by decide)) <|
  k

/-- Tile `j`. -/
def tileP (C : CBufs sig) (hy : C.y.IsWhole) (j : Nat) (hj : j < 16) (k : Prog (TpuEff nD τ sig (Elt F) Λ .tc) α) : Prog (TpuEff nD τ sig (Elt F) Λ .tc) α :=
  ld C.w ![0, tc j] WB.size (inbW hj (by decide)) (by decide) fun w0 =>
  ld C.ext ![7 + tr j, tc j] TB.size (inbE hj (by decide)) (by decide) fun x0 =>
  ld C.w ![1, tc j] WB.size (inbW hj (by decide)) (by decide) fun w1 =>
  ld C.ext ![8 + tr j, tc j] TB.size (inbE hj (by decide)) (by decide) fun x1 =>
  ld C.w ![2, tc j] WB.size (inbW hj (by decide)) (by decide) fun w2 =>
  ld C.ext ![9 + tr j, tc j] TB.size (inbE hj (by decide)) (by decide) fun x2 =>
  ld C.g ![tr j, tc j] TB.size (inbT hj) (by decide) fun g =>
  ld C.y ![tr j, tc j] TB.size (inbT hj) (by decide) fun _ =>
  st C.y ![tr j, tc j] TB.size (inbT hj) (convPay w0 x0 w1 x1 w2 x2 g) (storesPacked _ hy _ _ _ (by decide) (packedT hj)) <|
  k

/-- The sixteen tiles. -/
def tilesP (C : CBufs sig) (hy : C.y.IsWhole) (k : Prog (TpuEff nD τ sig (Elt F) Λ .tc) α) : Prog (TpuEff nD τ sig (Elt F) Λ .tc) α :=
  tileP C hy 0 (by decide) <| tileP C hy 1 (by decide) <| tileP C hy 2 (by decide) <| tileP C hy 3 (by decide) <|
  tileP C hy 4 (by decide) <| tileP C hy 5 (by decide) <| tileP C hy 6 (by decide) <| tileP C hy 7 (by decide) <|
  tileP C hy 8 (by decide) <| tileP C hy 9 (by decide) <| tileP C hy 10 (by decide) <| tileP C hy 11 (by decide) <|
  tileP C hy 12 (by decide) <| tileP C hy 13 (by decide) <| tileP C hy 14 (by decide) <| tileP C hy 15 (by decide) k

end Programs

section Triples
variable {nD : Nat} {τ : Topo} {sig : RefSig} {Ix : Type} [DecidableEq Ix] {F : FTy → Type} [FloatOps F] {Name : Type} [DecidableEq Name]
variable {U : Type} [URA U] {Lvl : Type} [Preorder Lvl] {Λ : Labels} {defs : Defs nD τ sig (Elt F) Λ}
variable {𝒱 : Variants} {c₀ : Dev nD} {bd : Option 𝒱.V} {E : Set Name}
variable {α : Type} {Q : α → sProp (MT nD τ sig Ix (Elt F) Name U Lvl)}

local notation "𝕄" => MT nD τ sig Ix (Elt F) Name U Lvl

variable {Pv : Vec F HS .f32} {Xv : Vec F CS .f32} {Nv : Vec F HS .f32} {Gv : Vec F CS .f32} {Wv : Vec F WS .f32}

theorem window_all {s : Shape} {β : Type} (x : s.Idx → β) (off : Fin s.rank → Nat) (inb : ∀ a, off a + s.size a ≤ s.size a) :
    VecWindow.window x off s.size inb = x := by
  funext i
  exact congrArg x (Rect.emb_unit_full inb i)

theorem put_all {s : Shape} {β : Type} (x : s.Idx → β) (off : Fin s.rank → Nat) (inb : ∀ a, off a + s.size a ≤ s.size a) (w : s.Idx → β) :
    VecWindow.put x off s.size w = w :=
  (window_all _ off inb).symm.trans (VecWindow.window_put_same x off s.size inb w)

variable (c₀) in
/-- What the convolution reads. -/
def ownC (C : CBufs sig) (P : Vec F HS .f32) (X : Vec F CS .f32) (N : Vec F HS .f32) (G : Vec F CS .f32) (W : Vec F WS .f32) : sProp 𝕄 :=
  iprop(own c₀ C.prev P ∗ own c₀ C.main X ∗ own c₀ C.next N ∗ own c₀ C.g G ∗ own c₀ C.w W)

theorem wp_extP {C : CBufs sig} {b b' : BitVec 1} {X₀ : Vec F ES .f32} {k : Prog (TpuEff nD τ sig (Elt F) Λ .tc) α} :
    iprop(ownC c₀ C Pv Xv Nv Gv Wv ∗ own c₀ C.ext X₀)
      ⊢ iprop((iprop(ownC c₀ C Pv Xv Nv Gv Wv ∗ own c₀ C.ext (ext (haloPay b Pv) (mainPay Xv) (haloPay b' Nv) X₀))
          -∗ wp frame (wpE defs 𝒱 (c₀ : Thread nD τ) bd) E k Q)
        -∗ wp frame (wpE defs 𝒱 (c₀ : Thread nD τ) bd) E (extP C b b' k) Q) := by
  unfold extP ownC
  iintro ⟨⟨Hp, Hx, Hn, Hg, Hw⟩, He⟩ Hc
  iapply wp_ld $$ Hp; iintro Hp
  iapply wp_ld $$ He; iintro He
  iapply wp_st $$ He; iintro He
  iapply wp_ld $$ Hx; iintro Hx
  iapply wp_ld $$ He; iintro He
  iapply wp_st $$ He; iintro He
  iapply wp_ld $$ Hn; iintro Hn
  iapply wp_ld $$ He; iintro He
  iapply wp_st $$ He; iintro He
  rw [window_all Pv, window_all Xv, window_all Nv]
  iapply Hc
  isplitl [Hp Hx Hn Hg Hw]
  · isplitl [Hp]; · iexact Hp
    isplitl [Hx]; · iexact Hx
    isplitl [Hn]; · iexact Hn
    isplitl [Hg]; · iexact Hg
    iexact Hw
  · iexact He

theorem wp_tileP {C : CBufs sig} {hy : C.y.IsWhole} {j : Nat} {hj : j < 16} {X : Vec F ES .f32} {Y₀ : Vec F CS .bf16}
    {k : Prog (TpuEff nD τ sig (Elt F) Λ .tc) α} :
    iprop(ownC c₀ C Pv Xv Nv Gv Wv ∗ own c₀ C.ext X ∗ own c₀ C.y (mixT j Y₀ (tiles (tile X Wv Gv))))
      ⊢ iprop((iprop(ownC c₀ C Pv Xv Nv Gv Wv ∗ own c₀ C.ext X ∗ own c₀ C.y (mixT (j + 1) Y₀ (tiles (tile X Wv Gv))))
          -∗ wp frame (wpE defs 𝒱 (c₀ : Thread nD τ) bd) E k Q)
        -∗ wp frame (wpE defs 𝒱 (c₀ : Thread nD τ) bd) E (tileP C hy j hj k) Q) := by
  unfold tileP ownC
  iintro ⟨⟨Hp, Hx, Hn, Hg, Hw⟩, He, Hy⟩ Hc
  iapply wp_ld $$ Hw; iintro Hw
  iapply wp_ld $$ He; iintro He
  iapply wp_ld $$ Hw; iintro Hw
  iapply wp_ld $$ He; iintro He
  iapply wp_ld $$ Hw; iintro Hw
  iapply wp_ld $$ He; iintro He
  iapply wp_ld $$ Hg; iintro Hg
  iapply wp_ld $$ Hy; iintro Hy
  iapply wp_st $$ Hy; iintro Hy
  have e := put_mixT hj Y₀ (tile X Wv Gv)
  unfold tile at e
  unfold tile
  rw [e]
  iapply Hc
  isplitl [Hp Hx Hn Hg Hw]
  · isplitl [Hp]; · iexact Hp
    isplitl [Hx]; · iexact Hx
    isplitl [Hn]; · iexact Hn
    isplitl [Hg]; · iexact Hg
    iexact Hw
  isplitl [He]; · iexact He
  iexact Hy

theorem wp_tilesP {C : CBufs sig} {hy : C.y.IsWhole} {X : Vec F ES .f32} {Y₀ : Vec F CS .bf16} {k : Prog (TpuEff nD τ sig (Elt F) Λ .tc) α} :
    iprop(ownC c₀ C Pv Xv Nv Gv Wv ∗ own c₀ C.ext X ∗ own c₀ C.y Y₀)
      ⊢ iprop((iprop(ownC c₀ C Pv Xv Nv Gv Wv ∗ own c₀ C.ext X ∗ own c₀ C.y (tiles (tile X Wv Gv)))
          -∗ wp frame (wpE defs 𝒱 (c₀ : Thread nD τ) bd) E k Q)
        -∗ wp frame (wpE defs 𝒱 (c₀ : Thread nD τ) bd) E (tilesP C hy k) Q) := by
  unfold tilesP
  conv_lhs => rw [← mixT_zero Y₀ (tiles (tile X Wv Gv))]
  iintro H Hc
  iapply wp_tileP $$ H; iintro H
  iapply wp_tileP $$ H; iintro H
  iapply wp_tileP $$ H; iintro H
  iapply wp_tileP $$ H; iintro H
  iapply wp_tileP $$ H; iintro H
  iapply wp_tileP $$ H; iintro H
  iapply wp_tileP $$ H; iintro H
  iapply wp_tileP $$ H; iintro H
  iapply wp_tileP $$ H; iintro H
  iapply wp_tileP $$ H; iintro H
  iapply wp_tileP $$ H; iintro H
  iapply wp_tileP $$ H; iintro H
  iapply wp_tileP $$ H; iintro H
  iapply wp_tileP $$ H; iintro H
  iapply wp_tileP $$ H; iintro H
  iapply wp_tileP $$ H; iintro H
  rw [mixT_all]
  iapply Hc
  iexact H

end Triples

end Cert.Attn

end
-- ==== Proof.Step.lean ====
/-
  What a grid point computes: the state after `n` steps over the blocks of keys, a program for the whole grid point, and the
  triples that say the program computes it.
-/
module

public import proofs.«01_k».proof.Proof.Conv

@[expose] public section

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- Block `n` of the keys and of the values. -/
abbrev koff (n : Nat) : Fin 3 → Nat := ![0, 512 * min n 31, 0]
abbrev voff (n : Nat) : Fin 4 → Nat := ![0, min n 31, 0, 0]
theorem inbK (n : Nat) : ∀ a, koff n a + KB.size a ≤ KS.size a := by
  intro a; fin_cases a
  · show 0 + 1 ≤ 1; omega
  · show 512 * min n 31 + 512 ≤ 16384; omega
  · show 0 + 256 ≤ 256; omega
theorem inbV (n : Nat) : ∀ a, voff n a + VB.size a ≤ VS.size a := by
  intro a; fin_cases a
  · show 0 + 1 ≤ 1; omega
  · show min n 31 + 1 ≤ 32; omega
  · show 0 + 144 ≤ 144; omega
  · show 0 + 512 ≤ 512; omega

/-- The output block of the attention and the rows of the accumulator it is made of. -/
abbrev OS : Shape := ⟨2, ![2048, 128]⟩
theorem inbA0 : ∀ a, (![0, 0] : Fin 2 → Nat) a + (Full 128).size a ≤ (Full 144).size a := by decide
theorem inbA1 : ∀ a, (![128, 0] : Fin 2 → Nat) a + (Full 1).size a ≤ (Full 144).size a := by decide

section Values
variable {F : FTy → Type} [FloatOps F]

def kAt (K : Vec F KS .bf16) (n : Nat) : Vec F KB .bf16 := VecWindow.window (s := KS) K (koff n) KB.size (inbK n)
def vAt (V : Vec F VS .bf16) (n : Nat) : Vec F VB .bf16 := VecWindow.window (s := VS) V (voff n) VB.size (inbV n)

def m0 : FVec F (Full 1) .f32 := shapeCast (Full 1) (broadcast (Full 1) (Scalar.ofBits .f32 0xFF800000#32 : F .f32) : FVec F (Full 1) .f32) (by decide)
def acc0 : FVec F (Full 144) .f32 := shapeCast (Full 144) (broadcast (Full 144) (Scalar.ofBits .f32 0x00000000#32 : F .f32) : FVec F (Full 144) .f32) (by decide)
def p0 : FVec F (Full 512) .bf16 := shapeCast (Full 512) (broadcast (Full 512) (Scalar.ofBits .bf16 0x0000#16 : F .bf16) : FVec F (Full 512) .bf16) (by decide)
def a0 : FVec F (Full 1) .f32 := shapeCast (Full 1) (broadcast (Full 1) (Scalar.ofBits .f32 0x3F800000#32 : F .f32) : FVec F (Full 1) .f32) (by decide)

/-- The state after `n` steps. -/
def state (Q : Vec F QS .bf16) (K : Vec F KS .bf16) (V : Vec F VS .bf16) : Nat → Live F
  | 0 => ⟨m0, acc0, newS (kAt K 0) Q, newMb (kAt K 0) Q, p0, a0⟩
  | n + 1 => (state Q K V n).next Q (kAt K (n + 1)) (vAt V (n - 1))

/-- The accumulator once the values of the last block are in. -/
def accEnd (Q : Vec F QS .bf16) (K : Vec F KS .bf16) (V : Vec F VS .bf16) : Vec F (Full 144) .f32 := newAcc (vAt V 31) (state Q K V 32)

/-- What is written: the first 128 rows divided by row 128, transposed. -/
def outPay (x : Vec F (Full 128) .f32) (l : Vec F (Full 1) .f32) : FVec F OS .bf16 :=
  truncf .bf16 (transpose OS [1, 0] (divf x (broadcastTo (Full 128) l (by decide)) : FVec F (Full 128) .f32) (by decide) : FVec F OS .f32) (by decide)
def outAt (Q : Vec F QS .bf16) (K : Vec F KS .bf16) (V : Vec F VS .bf16) : Vec F OS .bf16 :=
  outPay (VecWindow.window (s := Full 144) (accEnd Q K V) ![0, 0] (Full 128).size inbA0) (VecWindow.window (s := Full 144) (accEnd Q K V) ![128, 0] (Full 1).size inbA1)

end Values

section Programs
variable {nD : Nat} {τ : Topo} {sig : RefSig} {Λ : Labels} {F : FTy → Type} [FloatOps F] {α : Type}

/-- The running maximum, the accumulator, the weights and the rescaling factors before the first step. -/
def initP (B : Bufs sig) (hpr : B.pr.IsWhole) (k : Prog (TpuEff nD τ sig (Elt F) Λ .tc) α) : Prog (TpuEff nD τ sig (Elt F) Λ .tc) α :=
  ld B.m ![0, 0] (Full 1).size (by decide) (by decide) fun _ =>
  st B.m ![0, 0] (Full 1).size (by decide) m0 (stores32 _ rfl _ _ _ (by decide)) <|
  ld B.acc ![0, 0] (Full 144).size (by decide) (by decide) fun _ =>
  st B.acc ![0, 0] (Full 144).size (by decide) acc0 (stores32 _ rfl _ _ _ (by decide)) <|
  ld B.pr ![0, 0] (Full 512).size (by decide) (by decide) fun _ =>
  st B.pr ![0, 0] (Full 512).size (by decide) p0 (storesPacked _ hpr _ _ _ (by decide) (.inr ⟨by decide, rfl, .inl ⟨⟨0, rfl⟩, ⟨256, rfl⟩⟩⟩)) <|
  ld B.ar ![0, 0] (Full 1).size (by decide) (by decide) fun _ =>
  st B.ar ![0, 0] (Full 1).size (by decide) a0 (stores32 _ rfl _ _ _ (by decide)) <|
  k

/-- The output block. -/
def outP (B : Bufs sig) (o : Memref sig .tc .vmem OS .bf16) (ho : o.IsWhole) (k : Prog (TpuEff nD τ sig (Elt F) Λ .tc) α) :
    Prog (TpuEff nD τ sig (Elt F) Λ .tc) α :=
  ld B.acc ![0, 0] (Full 128).size inbA0 (by decide) fun x =>
  ld B.acc ![128, 0] (Full 1).size inbA1 (by decide) fun l =>
  ld o ![0, 0] OS.size (by decide) (by decide) fun _ =>
  st o ![0, 0] OS.size (by decide) (outPay x l) (storesPacked _ ho _ _ _ (by decide) (.inr ⟨by decide, rfl, .inl ⟨⟨0, rfl⟩, ⟨1024, rfl⟩⟩⟩)) <|
  k

/-- Step `n`: scores of block `n + 1`, softmax of block `n`, values of block `n - 1`. -/
def stepN (B : Bufs sig) (hpw : B.pw.IsWhole) (n : Nat) (k : Prog (TpuEff nD τ sig (Elt F) Λ .tc) α) : Prog (TpuEff nD τ sig (Elt F) Λ .tc) α :=
  stepP B hpw (koff (n + 1)) (inbK _) (voff (n - 1)) (inbV _) k

theorem stepP_eq {B : Bufs sig} {hpw : B.pw.IsWhole} {n : Nat} {ko : Fin 3 → Nat} {hk : ∀ a, ko a + KB.size a ≤ KS.size a}
    {vo : Fin 4 → Nat} {hv : ∀ a, vo a + VB.size a ≤ VS.size a} (ek : ko = koff (n + 1)) (ev : vo = voff (n - 1))
    {k k' : Prog (TpuEff nD τ sig (Elt F) Λ .tc) α} (ek' : k = k') : stepP B hpw ko hk vo hv k = stepN B hpw n k' := by
  subst ek ev ek'; rfl

/-- Eight steps from step `n` on. -/
def eightSteps (B : Bufs sig) (hpw : B.pw.IsWhole) (hpr : B.pr.IsWhole) (n : Nat) : Prog (TpuEff nD τ sig (Elt F) Λ .tc) Unit :=
  stepN B hpw n <| stepN B.swap hpr (n + 1) <| stepN B hpw (n + 2) <| stepN B.swap hpr (n + 3) <| stepN B hpw (n + 4) <| stepN B.swap hpr (n + 5) <|
    stepN B hpw (n + 6) <| stepN B.swap hpr (n + 7) <| pure ()

/-- What a grid point runs, around its loop. -/
def wholeP (C : CBufs sig) (hy : C.y.IsWhole) (b b' : BitVec 1) (B : Bufs sig) (hpr : B.pr.IsWhole) (o : Memref sig .tc .vmem OS .bf16) (ho : o.IsWhole)
    (loop : Prog (TpuEff nD τ sig (Elt F) Λ .tc) Unit) : Prog (TpuEff nD τ sig (Elt F) Λ .tc) Unit :=
  extP C b b' <| tilesP C hy <| initP B hpr <| eight (fun c hc => scoresP B.swap c hc (koff 0) (inbK 0)) <|
    loop >>= fun _ => eight (fun c hc => valuesP B c hc (voff 31) (inbV 31)) <| outP B o ho <| pure ⟨⟩

end Programs

section Triples
variable {nD : Nat} {τ : Topo} {sig : RefSig} {Ix : Type} [DecidableEq Ix] {F : FTy → Type} [FloatOps F] {Name : Type} [DecidableEq Name]
variable {U : Type} [URA U] {Lvl : Type} [Preorder Lvl] {Λ : Labels} {defs : Defs nD τ sig (Elt F) Λ}
variable {𝒱 : Variants} {c₀ : Dev nD} {bd : Option 𝒱.V} {E : Set Name}
variable {α : Type} {Q : α → sProp (MT nD τ sig Ix (Elt F) Name U Lvl)}

local notation "𝕄" => MT nD τ sig Ix (Elt F) Name U Lvl

variable {Qv : Vec F QS .bf16} {Kv : Vec F KS .bf16} {Vv : Vec F VS .bf16}

variable (c₀) in
/-- Part way through a step's column blocks: what the blocks below `c` have written, over what was there. -/
def part (B : Bufs sig) (Qv : Vec F QS .bf16) (Kv : Vec F KS .bf16) (Vv : Vec F VS .bf16) (kb : Vec F KB .bf16) (vb : Vec F VB .bf16) (L : Live F)
    (s₀ : Vec F (Full 512) .f32) (mb₀ : Vec F (Full 1) .f32) (p₀ : Vec F (Full 512) .bf16) (a₀ : Vec F (Full 1) .f32) (c : Nat) : sProp 𝕄 :=
  iprop((own c₀ B.q Qv ∗ own c₀ B.k Kv ∗ own c₀ B.sw (mix c s₀ (newS kb Qv)) ∗ own c₀ B.mbw (mix c mb₀ (newMb kb Qv)))
    ∗ (own c₀ B.m (mix c L.m (newM L)) ∗ own c₀ B.mbr L.mb ∗ own c₀ B.aw (mix c a₀ (newA L)) ∗ own c₀ B.sr L.s ∗ own c₀ B.pw (mix c p₀ (newP L)))
    ∗ (own c₀ B.ar L.a ∗ own c₀ B.acc (mix c L.acc (newAcc vb L)) ∗ own c₀ B.v Vv ∗ own c₀ B.pr L.p))

/-- A column block of a step. -/
theorem wp_chunkP {B : Bufs sig} {hpw : B.pw.IsWhole} {ko : Fin 3 → Nat} {hk : ∀ a, ko a + KB.size a ≤ KS.size a}
    {vo : Fin 4 → Nat} {hv : ∀ a, vo a + VB.size a ≤ VS.size a} {c : Nat} {hc : c < 8} {L : Live F}
    {s₀ : Vec F (Full 512) .f32} {mb₀ : Vec F (Full 1) .f32} {p₀ : Vec F (Full 512) .bf16} {a₀ : Vec F (Full 1) .f32}
    {k : Prog (TpuEff nD τ sig (Elt F) Λ .tc) α} :
    part c₀ B Qv Kv Vv (VecWindow.window Kv ko KB.size hk) (VecWindow.window Vv vo VB.size hv) L s₀ mb₀ p₀ a₀ c
      ⊢ iprop((part c₀ B Qv Kv Vv (VecWindow.window Kv ko KB.size hk) (VecWindow.window Vv vo VB.size hv) L s₀ mb₀ p₀ a₀ (c + 1)
          -∗ wp frame (wpE defs 𝒱 (c₀ : Thread nD τ) bd) E k Q)
        -∗ wp frame (wpE defs 𝒱 (c₀ : Thread nD τ) bd) E (chunkP B hpw ko hk vo hv c hc k) Q) := by
  unfold chunkP part
  iintro ⟨H1, H2, H3⟩ Hc
  iapply wp_scoresP $$ H1; iintro H1
  iapply wp_softmaxP $$ H2; iintro H2
  iapply wp_valuesP $$ H3; iintro H3
  iapply Hc
  isplitl [H1]; · iexact H1
  isplitl [H2]; · iexact H2
  iexact H3

variable (c₀) in
/-- The buffers between steps: inputs, the state, and what the next step overwrites at `s₀ mb₀ p₀ a₀`. -/
def between (B : Bufs sig) (Qv : Vec F QS .bf16) (Kv : Vec F KS .bf16) (Vv : Vec F VS .bf16) (L : Live F)
    (s₀ : Vec F (Full 512) .f32) (mb₀ : Vec F (Full 1) .f32) (p₀ : Vec F (Full 512) .bf16) (a₀ : Vec F (Full 1) .f32) : sProp 𝕄 :=
  iprop((own c₀ B.q Qv ∗ own c₀ B.k Kv ∗ own c₀ B.sw s₀ ∗ own c₀ B.mbw mb₀)
    ∗ (own c₀ B.m L.m ∗ own c₀ B.mbr L.mb ∗ own c₀ B.aw a₀ ∗ own c₀ B.sr L.s ∗ own c₀ B.pw p₀)
    ∗ (own c₀ B.ar L.a ∗ own c₀ B.acc L.acc ∗ own c₀ B.v Vv ∗ own c₀ B.pr L.p))

/-- A step: the state becomes the next one, the roles of the buffers change. -/
theorem wp_stepP {B : Bufs sig} {hpw : B.pw.IsWhole} {ko : Fin 3 → Nat} {hk : ∀ a, ko a + KB.size a ≤ KS.size a}
    {vo : Fin 4 → Nat} {hv : ∀ a, vo a + VB.size a ≤ VS.size a} {L : Live F}
    {s₀ : Vec F (Full 512) .f32} {mb₀ : Vec F (Full 1) .f32} {p₀ : Vec F (Full 512) .bf16} {a₀ : Vec F (Full 1) .f32}
    {k : Prog (TpuEff nD τ sig (Elt F) Λ .tc) α} :
    between c₀ B Qv Kv Vv L s₀ mb₀ p₀ a₀
      ⊢ iprop((between c₀ B.swap Qv Kv Vv (L.next Qv (VecWindow.window Kv ko KB.size hk) (VecWindow.window Vv vo VB.size hv)) L.s L.mb L.p L.a
          -∗ wp frame (wpE defs 𝒱 (c₀ : Thread nD τ) bd) E k Q)
        -∗ wp frame (wpE defs 𝒱 (c₀ : Thread nD τ) bd) E (stepP B hpw ko hk vo hv k) Q) := by
  have e0 : (between c₀ B Qv Kv Vv L s₀ mb₀ p₀ a₀ : sProp 𝕄)
      = part c₀ B Qv Kv Vv (VecWindow.window Kv ko KB.size hk) (VecWindow.window Vv vo VB.size hv) L s₀ mb₀ p₀ a₀ 0 := by
    unfold between part
    simp only [mix_zero]
  rw [e0]
  unfold stepP eight
  iintro H Hc
  iapply wp_chunkP $$ H; iintro H
  iapply wp_chunkP $$ H; iintro H
  iapply wp_chunkP $$ H; iintro H
  iapply wp_chunkP $$ H; iintro H
  iapply wp_chunkP $$ H; iintro H
  iapply wp_chunkP $$ H; iintro H
  iapply wp_chunkP $$ H; iintro H
  iapply wp_chunkP $$ H; iintro H
  iapply Hc
  unfold part between Bufs.swap Live.next
  simp only [Nat.reduceAdd, mix_all]
  icases H with ⟨⟨Hq, Hk, Hsw, Hmbw⟩, ⟨Hm, Hmbr, Haw, Hsr, Hpw⟩, Har, Hacc, Hv, Hpr⟩
  isplitl [Hq Hk Hsr Hmbr]
  · isplitl [Hq]; · iexact Hq
    isplitl [Hk]; · iexact Hk
    isplitl [Hsr]; · iexact Hsr
    iexact Hmbr
  isplitl [Hm Hmbw Har Hsw Hpr]
  · isplitl [Hm]; · iexact Hm
    isplitl [Hmbw]; · iexact Hmbw
    isplitl [Har]; · iexact Har
    isplitl [Hsw]; · iexact Hsw
    iexact Hpr
  isplitl [Haw]; · iexact Haw
  isplitl [Hacc]; · iexact Hacc
  isplitl [Hv]; · iexact Hv
  iexact Hpw

variable (c₀) in
/-- The buffers after `n` steps: what the next step overwrites is anything. -/
def at' (B : Bufs sig) (Qv : Vec F QS .bf16) (Kv : Vec F KS .bf16) (Vv : Vec F VS .bf16) (n : Nat) : sProp 𝕄 :=
  iprop(∃ (s₀ : Vec F (Full 512) .f32) (mb₀ : Vec F (Full 1) .f32) (p₀ : Vec F (Full 512) .bf16) (a₀ : Vec F (Full 1) .f32),
    between c₀ B Qv Kv Vv (state Qv Kv Vv n) s₀ mb₀ p₀ a₀)

theorem wp_stepN {B : Bufs sig} {hpw : B.pw.IsWhole} {n : Nat} {k : Prog (TpuEff nD τ sig (Elt F) Λ .tc) α} :
    at' c₀ B Qv Kv Vv n
      ⊢ iprop((at' c₀ B.swap Qv Kv Vv (n + 1) -∗ wp frame (wpE defs 𝒱 (c₀ : Thread nD τ) bd) E k Q)
        -∗ wp frame (wpE defs 𝒱 (c₀ : Thread nD τ) bd) E (stepN B hpw n k) Q) := by
  unfold stepN at'
  iintro ⟨%s₀, %mb₀, %p₀, %a₀, H⟩ Hc
  iapply wp_stepP $$ H; iintro H
  iapply Hc
  iexists _; iexists _; iexists _; iexists _
  iexact H

/-- Two steps bring the buffers back to their roles. -/
theorem wp_twoSteps {B : Bufs sig} {hpw : B.pw.IsWhole} {hpr : B.pr.IsWhole} {n : Nat} {k : Prog (TpuEff nD τ sig (Elt F) Λ .tc) α} :
    (at' c₀ B Qv Kv Vv n : sProp 𝕄)
      ⊢ iprop((at' c₀ B Qv Kv Vv (n + 2) -∗ wp frame (wpE defs 𝒱 (c₀ : Thread nD τ) bd) E k Q)
        -∗ wp frame (wpE defs 𝒱 (c₀ : Thread nD τ) bd) E (stepN B hpw n <| stepN B.swap hpr (n + 1) k) Q) := by
  iintro H Hc
  iapply wp_stepN $$ H; iintro H
  iapply wp_stepN $$ H
  iexact Hc

attribute [local irreducible] state stepN at' in
theorem wp_eightSteps {B : Bufs sig} {hpw : B.pw.IsWhole} {hpr : B.pr.IsWhole} {n : Nat} :
    (at' c₀ B Qv Kv Vv n : sProp 𝕄)
      ⊢ wp frame (wpE defs 𝒱 (c₀ : Thread nD τ) bd) E (eightSteps B hpw hpr n) (fun _ => at' c₀ B Qv Kv Vv (n + 8)) := by
  unfold eightSteps
  iintro H
  iapply (wp_twoSteps (n := n)) $$ H; iintro H
  iapply (wp_twoSteps (n := n + 2)) $$ H; iintro H
  iapply (wp_twoSteps (n := n + 4)) $$ H; iintro H
  iapply (wp_twoSteps (n := n + 6)) $$ H; iintro H
  rw [show (pure () : Prog (TpuEff nD τ sig (Elt F) Λ .tc) Unit) = .ret () from rfl, wp_ret]
  imodintro
  iexact H

/-- The loop: 32 steps in four trips. -/
theorem wp_loop {B : Bufs sig} {hpw : B.pw.IsWhole} {hpr : B.pr.IsWhole} (l : Scf.Loop 32) (hl : l.OK) (h4 : l.trips = 4)
    {kk : Unit → Prog (TpuEff nD τ sig (Elt F) Λ .tc) α} :
    at' c₀ B Qv Kv Vv 0
      ⊢ iprop((at' c₀ B Qv Kv Vv 32 -∗ wp frame (wpE defs 𝒱 (c₀ : Thread nD τ) bd) E (kk ()) Q)
        -∗ wp frame (wpE defs 𝒱 (c₀ : Thread nD τ) bd) E ((Scf.Loop.for l hl () (fun t _ => eightSteps B hpw hpr (8 * t.val))) >>= kk) Q) := by
  have hw := Scf.wp_for_bind (wpE := fun E => wpE defs 𝒱 (c₀ : Thread nD τ) bd E) frame E l.lb l.ub l.st hl ()
    (fun t _ => eightSteps B hpw hpr (8 * t.val)) (fun k _ => at' c₀ B Qv Kv Vv (8 * k)) (fun k acc => wp_eightSteps) (kk := kk) (Q := Q)
  have e : 8 * Scf.trips l.lb l.ub l.st = 32 := by rw [show Scf.trips l.lb l.ub l.st = 4 from h4]
  rw [show (at' c₀ B Qv Kv Vv 32 : sProp 𝕄) = at' c₀ B Qv Kv Vv (8 * Scf.trips l.lb l.ub l.st) from congrArg _ e.symm]
  iintro H Hc
  iapply hw $$ H
  iintro %acc H
  iapply Hc
  iexact H

/-- The state before the first step. -/
theorem wp_initP {B : Bufs sig} {hpr : B.pr.IsWhole} {x₁ : Vec F (Full 1) .f32} {x₂ : Vec F (Full 144) .f32} {x₃ : Vec F (Full 512) .bf16} {x₄ : Vec F (Full 1) .f32}
    {k : Prog (TpuEff nD τ sig (Elt F) Λ .tc) α} :
    iprop(own c₀ B.m x₁ ∗ own c₀ B.acc x₂ ∗ own c₀ B.pr x₃ ∗ own c₀ B.ar x₄)
      ⊢ iprop((iprop(own c₀ B.m m0 ∗ own c₀ B.acc acc0 ∗ own c₀ B.pr p0 ∗ own c₀ B.ar a0)
          -∗ wp frame (wpE defs 𝒱 (c₀ : Thread nD τ) bd) E k Q)
        -∗ wp frame (wpE defs 𝒱 (c₀ : Thread nD τ) bd) E (initP B hpr k) Q) := by
  unfold initP
  iintro ⟨H1, H2, H3, H4⟩ Hc
  iapply wp_ld $$ H1; iintro H1
  iapply wp_st $$ H1; iintro H1
  iapply wp_ld $$ H2; iintro H2
  iapply wp_st $$ H2; iintro H2
  iapply wp_ld $$ H3; iintro H3
  iapply wp_st $$ H3; iintro H3
  iapply wp_ld $$ H4; iintro H4
  iapply wp_st $$ H4; iintro H4
  rw [put_all x₁ _ (by decide), put_all x₂ _ (by decide), put_all x₃ _ (by decide), put_all x₄ _ (by decide)]
  iapply Hc
  isplitl [H1]; · iexact H1
  isplitl [H2]; · iexact H2
  isplitl [H3]; · iexact H3
  iexact H4

/-- The output block. -/
theorem wp_outP {B : Bufs sig} {o : Memref sig .tc .vmem OS .bf16} {ho : o.IsWhole} {X : Vec F (Full 144) .f32} {y : Vec F OS .bf16}
    {k : Prog (TpuEff nD τ sig (Elt F) Λ .tc) α} :
    iprop(own c₀ B.acc X ∗ own c₀ o y)
      ⊢ iprop((iprop(own c₀ B.acc X ∗ own c₀ o (outPay (VecWindow.window (s := Full 144) X ![0, 0] (Full 128).size inbA0) (VecWindow.window (s := Full 144) X ![128, 0] (Full 1).size inbA1)))
          -∗ wp frame (wpE defs 𝒱 (c₀ : Thread nD τ) bd) E k Q)
        -∗ wp frame (wpE defs 𝒱 (c₀ : Thread nD τ) bd) E (outP B o ho k) Q) := by
  unfold outP
  iintro ⟨H1, H2⟩ Hc
  iapply wp_ld $$ H1; iintro H1
  iapply wp_ld $$ H1; iintro H1
  iapply wp_ld $$ H2; iintro H2
  iapply wp_st $$ H2; iintro H2
  rw [put_all y _ (by decide)]
  iapply Hc
  isplitl [H1]; · iexact H1
  iexact H2

/-- The scores of the first block, all column blocks. -/
theorem wp_scores8 {B : Bufs sig} {ko : Fin 3 → Nat} {hk : ∀ a, ko a + KB.size a ≤ KS.size a}
    {s₀ : Vec F (Full 512) .f32} {mb₀ : Vec F (Full 1) .f32} {k : Prog (TpuEff nD τ sig (Elt F) Λ .tc) α} :
    iprop(own c₀ B.q Qv ∗ own c₀ B.k Kv ∗ own c₀ B.sw s₀ ∗ own c₀ B.mbw mb₀)
      ⊢ iprop((iprop(own c₀ B.q Qv ∗ own c₀ B.k Kv ∗ own c₀ B.sw (newS (VecWindow.window Kv ko KB.size hk) Qv)
            ∗ own c₀ B.mbw (newMb (VecWindow.window Kv ko KB.size hk) Qv))
          -∗ wp frame (wpE defs 𝒱 (c₀ : Thread nD τ) bd) E k Q)
        -∗ wp frame (wpE defs 𝒱 (c₀ : Thread nD τ) bd) E (eight (fun c hc => scoresP B c hc ko hk) k) Q) := by
  unfold eight
  conv_lhs => rw [← mix_zero s₀ (newS (VecWindow.window Kv ko KB.size hk) Qv), ← mix_zero mb₀ (newMb (VecWindow.window Kv ko KB.size hk) Qv)]
  iintro H Hc
  iapply wp_scoresP $$ H; iintro H
  iapply wp_scoresP $$ H; iintro H
  iapply wp_scoresP $$ H; iintro H
  iapply wp_scoresP $$ H; iintro H
  iapply wp_scoresP $$ H; iintro H
  iapply wp_scoresP $$ H; iintro H
  iapply wp_scoresP $$ H; iintro H
  iapply wp_scoresP $$ H; iintro H
  simp only [Nat.reduceAdd, mix_all]
  iapply Hc
  iexact H

/-- The values of the last block, all column blocks. -/
theorem wp_values8 {B : Bufs sig} {vo : Fin 4 → Nat} {hv : ∀ a, vo a + VB.size a ≤ VS.size a} {L : Live F}
    {k : Prog (TpuEff nD τ sig (Elt F) Λ .tc) α} :
    iprop(own c₀ B.ar L.a ∗ own c₀ B.acc L.acc ∗ own c₀ B.v Vv ∗ own c₀ B.pr L.p)
      ⊢ iprop((iprop(own c₀ B.ar L.a ∗ own c₀ B.acc (newAcc (VecWindow.window Vv vo VB.size hv) L) ∗ own c₀ B.v Vv ∗ own c₀ B.pr L.p)
          -∗ wp frame (wpE defs 𝒱 (c₀ : Thread nD τ) bd) E k Q)
        -∗ wp frame (wpE defs 𝒱 (c₀ : Thread nD τ) bd) E (eight (fun c hc => valuesP B c hc vo hv) k) Q) := by
  unfold eight
  conv_lhs => rw [← mix_zero L.acc (newAcc (VecWindow.window Vv vo VB.size hv) L)]
  iintro H Hc
  iapply wp_valuesP $$ H; iintro H
  iapply wp_valuesP $$ H; iintro H
  iapply wp_valuesP $$ H; iintro H
  iapply wp_valuesP $$ H; iintro H
  iapply wp_valuesP $$ H; iintro H
  iapply wp_valuesP $$ H; iintro H
  iapply wp_valuesP $$ H; iintro H
  iapply wp_valuesP $$ H; iintro H
  simp only [Nat.reduceAdd, mix_all]
  iapply Hc
  iexact H

variable {Pv : Vec F HS .f32} {Xv : Vec F CS .f32} {Nv : Vec F HS .f32} {Gv : Vec F CS .f32} {Wv : Vec F WS .f32}

variable (c₀) in
/-- The scratch of a grid point, holding anything. -/
def scr (C : CBufs sig) (B : Bufs sig) : sProp 𝕄 :=
  iprop((∃ x : Vec F (Full 512) .f32, own c₀ B.sw x) ∗ (∃ x : Vec F (Full 512) .f32, own c₀ B.sr x)
    ∗ (∃ x : Vec F (Full 512) .bf16, own c₀ B.pw x) ∗ (∃ x : Vec F (Full 512) .bf16, own c₀ B.pr x)
    ∗ (∃ x : Vec F (Full 1) .f32, own c₀ B.aw x) ∗ (∃ x : Vec F (Full 1) .f32, own c₀ B.ar x)
    ∗ (∃ x : Vec F (Full 1) .f32, own c₀ B.mbw x) ∗ (∃ x : Vec F (Full 1) .f32, own c₀ B.mbr x)
    ∗ (∃ x : Vec F (Full 1) .f32, own c₀ B.m x) ∗ (∃ x : Vec F (Full 144) .f32, own c₀ B.acc x)
    ∗ (∃ x : Vec F ES .f32, own c₀ C.ext x))

/-- What the convolution writes. -/
def convAt (b b' : BitVec 1) (P : Vec F HS .f32) (X : Vec F CS .f32) (N : Vec F HS .f32) (G : Vec F CS .f32) (W : Vec F WS .f32) : Vec F CS .bf16 :=
  tiles (tile (ext (haloPay b P) (mainPay X) (haloPay b' N) (fun _ => (Scalar.ofBits .f32 0x00000000#32 : F .f32))) W G)

/-- A grid point: from its inputs, with outputs and scratch holding anything, the two output blocks are written. -/
theorem wp_wholeP {C : CBufs sig} {hy : C.y.IsWhole} {b b' : BitVec 1} {B : Bufs sig} {hpw : B.pw.IsWhole} {hpr : B.pr.IsWhole}
    {o : Memref sig .tc .vmem OS .bf16} {ho : o.IsWhole} (l : Scf.Loop 32) (hl : l.OK) (h4 : l.trips = 4) {y₀ : Vec F OS .bf16} {y₁ : Vec F CS .bf16}
    {K : Unit → sProp 𝕄} :
    iprop((own c₀ B.q Qv ∗ own c₀ B.k Kv ∗ own c₀ B.v Vv) ∗ ownC c₀ C Pv Xv Nv Gv Wv ∗ own c₀ o y₀ ∗ own c₀ C.y y₁ ∗ scr c₀ C B)
      ⊢ iprop((iprop((own c₀ B.q Qv ∗ own c₀ B.k Kv ∗ own c₀ B.v Vv) ∗ ownC c₀ C Pv Xv Nv Gv Wv ∗ own c₀ o (outAt Qv Kv Vv)
            ∗ own c₀ C.y (convAt b b' Pv Xv Nv Gv Wv) ∗ scr c₀ C B) -∗ K ⟨⟩)
        -∗ wp frame (wpE defs 𝒱 (c₀ : Thread nD τ) bd) E
          (wholeP C hy b b' B hpr o ho (Scf.Loop.for l hl () (fun t _ => eightSteps B hpw hpr (8 * t.val)))) K) := by
  unfold wholeP scr
  iintro ⟨⟨Hq, Hk, Hv⟩, HC, Ho, Hy, ⟨%x1, Hsw⟩, ⟨%x2, Hsr⟩, ⟨%x3, Hpw⟩, ⟨%x4, Hpr⟩, ⟨%x5, Haw⟩, ⟨%x6, Har⟩, ⟨%x7, Hmbw⟩, ⟨%x8, Hmbr⟩, ⟨%x9, Hm⟩, ⟨%x10, Hacc⟩, ⟨%x11, He⟩⟩ Hc
  iapply wp_extP $$ [HC He]
  · isplitl [HC]; · iexact HC
    iexact He
  iintro ⟨HC, He⟩
  iapply wp_tilesP $$ [HC He Hy]
  · isplitl [HC]; · iexact HC
    isplitl [He]; · iexact He
    iexact Hy
  iintro ⟨HC, He, Hy⟩
  iapply wp_initP $$ [Hm Hacc Hpr Har]
  · isplitl [Hm]; · iexact Hm
    isplitl [Hacc]; · iexact Hacc
    isplitl [Hpr]; · iexact Hpr
    iexact Har
  iintro ⟨Hm, Hacc, Hpr, Har⟩
  iapply wp_scores8 $$ [Hq Hk Hsr Hmbr]
  · isplitl [Hq]; · iexact Hq
    isplitl [Hk]; · iexact Hk
    isplitl [Hsr]; · iexact Hsr
    iexact Hmbr
  iintro ⟨Hq, Hk, Hsr, Hmbr⟩
  iapply (wp_loop (Qv := Qv) (Kv := Kv) (Vv := Vv) l hl h4) $$ [Hq Hk Hv Hsw Hsr Hpw Hpr Haw Har Hmbw Hmbr Hm Hacc]
  · unfold at' between
    simp only [state, kAt]
    iexists x1; iexists x7; iexists x3; iexists x5
    isplitl [Hq Hk Hsw Hmbw]
    · isplitl [Hq]; · iexact Hq
      isplitl [Hk]; · iexact Hk
      isplitl [Hsw]; · iexact Hsw
      iexact Hmbw
    isplitl [Hm Hmbr Haw Hsr Hpw]
    · isplitl [Hm]; · iexact Hm
      isplitl [Hmbr]; · iexact Hmbr
      isplitl [Haw]; · iexact Haw
      isplitl [Hsr]; · iexact Hsr
      iexact Hpw
    isplitl [Har]; · iexact Har
    isplitl [Hacc]; · iexact Hacc
    isplitl [Hv]; · iexact Hv
    iexact Hpr
  unfold at' between
  iintro ⟨%y1, %y7, %y3, %y5, ⟨Hq, Hk, Hsw, Hmbw⟩, ⟨Hm, Hmbr, Haw, Hsr, Hpw⟩, Hv4⟩
  iapply wp_values8 $$ Hv4
  iintro ⟨Har, Hacc, Hv, Hpr⟩
  iapply wp_outP $$ [Hacc Ho]
  · isplitl [Hacc]; · iexact Hacc
    iexact Ho
  iintro ⟨Hacc, Ho⟩
  rw [show (pure ⟨⟩ : Prog (TpuEff nD τ sig (Elt F) Λ .tc) Unit) = .ret () from rfl, wp_ret]
  imodintro
  iapply Hc
  isplitl [Hq Hk Hv]
  · isplitl [Hq]; · iexact Hq
    isplitl [Hk]; · iexact Hk
    iexact Hv
  isplitl [HC]; · iexact HC
  isplitl [Ho]; · iexact Ho
  isplitl [Hy]
  · rw [ext_any _ _ _ x11 (fun _ => (Scalar.ofBits .f32 0x00000000#32 : F .f32))]
    iexact Hy
  isplitl [Hsw]; · iexists _; iexact Hsw
  isplitl [Hsr]; · iexists _; iexact Hsr
  isplitl [Hpw]; · iexists _; iexact Hpw
  isplitl [Hpr]; · iexists _; iexact Hpr
  isplitl [Haw]; · iexists _; iexact Haw
  isplitl [Har]; · iexists _; iexact Har
  isplitl [Hmbw]; · iexists _; iexact Hmbw
  isplitl [Hmbr]; · iexists _; iexact Hmbr
  isplitl [Hm]; · iexists _; iexact Hm
  isplitl [Hacc]; · iexists _; iexact Hacc
  iexists _; iexact He

end Triples

end Cert.Attn

end
-- ==== Proof.KernelIdealBody.lean ====
/-
  The printed kernel of `KernelIdeal` is the program `wholeP`, its loop's body eight steps.
-/
module

public import proofs.«01_k».proof.Proof.Gen.KernelIdeal.Skeleton
public import proofs.«01_k».proof.Proof.Step
public import Idealize.ShloMosaic.Lib.Pipeline.Regions

@[expose] public section

noncomputable section

namespace Cert.KernelIdeal.Attn

open Cert.KernelIdeal Cert.KernelIdeal.Gen Cert.Attn
open Idealize.ShloMosaic Idealize.SL.Sem

variable {F : FTy → Type} [FloatOps F]

/-- The buffers an even step of the loop works on, and those of the convolution. -/
abbrev bufs (arg2 : Memref sig .tc .vmem S1x256x2048 .bf16) (arg3 : Memref sig .tc .vmem S1x16384x256 .bf16) (arg4 : Memref sig .tc .vmem S1x32x144x512 .bf16)
    (arg12 arg13 : Memref sig .tc .vmem S512x2048 .f32) (arg14 arg15 : Memref sig .tc .vmem S512x2048 .bf16)
    (arg16 arg17 arg18 arg19 arg20 : Memref sig .tc .vmem S1x2048 .f32) (arg21 : Memref sig .tc .vmem S144x2048 .f32) : Bufs sig :=
  ⟨arg2, arg3, arg4, arg13, arg12, arg14, arg15, arg16, arg17, arg19, arg18, arg20, arg21⟩
abbrev cbufs (arg5 : Memref sig .tc .vmem S8x1024 .f32) (arg6 : Memref sig .tc .vmem S256x1024 .f32) (arg7 : Memref sig .tc .vmem S8x1024 .f32)
    (arg8 : Memref sig .tc .vmem S256x1024 .f32) (arg9 : Memref sig .tc .vmem S3x1024 .f32) (arg11 : Memref sig .tc .vmem S256x1024 .bf16)
    (arg22 : Memref sig .tc .vmem S272x1024 .f32) : CBufs sig :=
  ⟨arg5, arg6, arg7, arg8, arg9, arg22, arg11⟩

/-- Whether there is a block of rows before, and one after, that of a grid point. -/
def hasPrev (i : grid0.Coords) : BitVec 1 := Scalar.cmpi .sgt (Scalar.addi (Scalar.muli (BitVec.ofNat 32 (i 0).val) 8#32) (BitVec.ofNat 32 (i 1).val)) 0#32
def hasNext (i : grid0.Coords) : BitVec 1 := Scalar.cmpi .slt (Scalar.addi (Scalar.muli (BitVec.ofNat 32 (i 0).val) 8#32) (BitVec.ofNat 32 (i 1).val)) 63#32

theorem trips_eq : k0_t1_loop.trips = 4 := by decide +kernel

theorem off1_eq : ∀ (t : Fin k0_t1_loop.trips) (r : Fin 4), k0_off1 t (BitVec.ofNat 32 (2 * r.val)) = koff (8 * t.val + 2 * r.val + 1) := by decide +kernel
theorem off2_eq : ∀ (t : Fin k0_t1_loop.trips) (r : Fin 4), k0_off2 t (BitVec.ofNat 32 (2 * r.val)) = voff (8 * t.val + 2 * r.val - 1) := by decide +kernel
theorem off3_eq : ∀ (t : Fin k0_t1_loop.trips) (r : Fin 4), k0_off3 t (BitVec.ofNat 32 (2 * r.val)) = koff (8 * t.val + (2 * r.val + 1) + 1) := by decide +kernel
theorem off4_eq : ∀ (t : Fin k0_t1_loop.trips) (r : Fin 4), k0_off4 t (BitVec.ofNat 32 (2 * r.val)) = voff (8 * t.val + (2 * r.val + 1) - 1) := by decide +kernel

theorem body_eq (i : grid0.Coords) (arg2 : Memref sig .tc .vmem S1x256x2048 .bf16) (harg2 : arg2.IsWhole) (arg3 : Memref sig .tc .vmem S1x16384x256 .bf16) (harg3 : arg3.IsWhole) (arg4 : Memref sig .tc .vmem S1x32x144x512 .bf16) (harg4 : arg4.IsWhole) (arg5 : Memref sig .tc .vmem S8x1024 .f32) (harg5 : arg5.IsWhole) (arg6 : Memref sig .tc .vmem S256x1024 .f32) (harg6 : arg6.IsWhole) (arg7 : Memref sig .tc .vmem S8x1024 .f32) (harg7 : arg7.IsWhole) (arg8 : Memref sig .tc .vmem S256x1024 .f32) (harg8 : arg8.IsWhole) (arg9 : Memref sig .tc .vmem S3x1024 .f32) (harg9 : arg9.IsWhole) (arg10 : Memref sig .tc .vmem S2048x128 .bf16) (harg10 : arg10.IsWhole) (arg11 : Memref sig .tc .vmem S256x1024 .bf16) (harg11 : arg11.IsWhole) (arg12 : Memref sig .tc .vmem S512x2048 .f32) (harg12 : arg12.IsWhole) (arg13 : Memref sig .tc .vmem S512x2048 .f32) (harg13 : arg13.IsWhole) (arg14 : Memref sig .tc .vmem S512x2048 .bf16) (harg14 : arg14.IsWhole) (arg15 : Memref sig .tc .vmem S512x2048 .bf16) (harg15 : arg15.IsWhole) (arg16 : Memref sig .tc .vmem S1x2048 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S144x2048 .f32) (harg21 : arg21.IsWhole) (arg22 : Memref sig .tc .vmem S272x1024 .f32) (harg22 : arg22.IsWhole) (v429 : BitVec 32) (t : Fin k0_t1_loop.trips) :
    (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v429 t () : Prog (TpuEff nD τ sig (Elt F) Λ₀ .tc) Unit) =
    (stepP (bufs arg2 arg3 arg4 arg12 arg13 arg14 arg15 arg16 arg17 arg18 arg19 arg20 arg21) harg14 (k0_off1 t 0#32) (k0_off1_inb t 0) (k0_off2 t 0#32) (k0_off2_inb t 0) <|
    stepP (bufs arg2 arg3 arg4 arg12 arg13 arg14 arg15 arg16 arg17 arg18 arg19 arg20 arg21).swap harg15 (k0_off3 t 0#32) (k0_off3_inb t 0) (k0_off4 t 0#32) (k0_off4_inb t 0) <|
    stepP (bufs arg2 arg3 arg4 arg12 arg13 arg14 arg15 arg16 arg17 arg18 arg19 arg20 arg21) harg14 (k0_off1 t 2#32) (k0_off1_inb t 1) (k0_off2 t 2#32) (k0_off2_inb t 1) <|
    stepP (bufs arg2 arg3 arg4 arg12 arg13 arg14 arg15 arg16 arg17 arg18 arg19 arg20 arg21).swap harg15 (k0_off3 t 2#32) (k0_off3_inb t 1) (k0_off4 t 2#32) (k0_off4_inb t 1) <|
    stepP (bufs arg2 arg3 arg4 arg12 arg13 arg14 arg15 arg16 arg17 arg18 arg19 arg20 arg21) harg14 (k0_off1 t 4#32) (k0_off1_inb t 2) (k0_off2 t 4#32) (k0_off2_inb t 2) <|
    stepP (bufs arg2 arg3 arg4 arg12 arg13 arg14 arg15 arg16 arg17 arg18 arg19 arg20 arg21).swap harg15 (k0_off3 t 4#32) (k0_off3_inb t 2) (k0_off4 t 4#32) (k0_off4_inb t 2) <|
    stepP (bufs arg2 arg3 arg4 arg12 arg13 arg14 arg15 arg16 arg17 arg18 arg19 arg20 arg21) harg14 (k0_off1 t 6#32) (k0_off1_inb t 3) (k0_off2 t 6#32) (k0_off2_inb t 3) <|
    stepP (bufs arg2 arg3 arg4 arg12 arg13 arg14 arg15 arg16 arg17 arg18 arg19 arg20 arg21).swap harg15 (k0_off3 t 6#32) (k0_off3_inb t 3) (k0_off4 t 6#32) (k0_off4_inb t 3) <|
    pure ⟨⟩ : Prog (TpuEff nD τ sig (Elt F) Λ₀ .tc) Unit) := by chain_rfl

/-- A trip of the loop is eight steps. -/
theorem body_steps (i : grid0.Coords) (arg2 : Memref sig .tc .vmem S1x256x2048 .bf16) (harg2 : arg2.IsWhole) (arg3 : Memref sig .tc .vmem S1x16384x256 .bf16) (harg3 : arg3.IsWhole) (arg4 : Memref sig .tc .vmem S1x32x144x512 .bf16) (harg4 : arg4.IsWhole) (arg5 : Memref sig .tc .vmem S8x1024 .f32) (harg5 : arg5.IsWhole) (arg6 : Memref sig .tc .vmem S256x1024 .f32) (harg6 : arg6.IsWhole) (arg7 : Memref sig .tc .vmem S8x1024 .f32) (harg7 : arg7.IsWhole) (arg8 : Memref sig .tc .vmem S256x1024 .f32) (harg8 : arg8.IsWhole) (arg9 : Memref sig .tc .vmem S3x1024 .f32) (harg9 : arg9.IsWhole) (arg10 : Memref sig .tc .vmem S2048x128 .bf16) (harg10 : arg10.IsWhole) (arg11 : Memref sig .tc .vmem S256x1024 .bf16) (harg11 : arg11.IsWhole) (arg12 : Memref sig .tc .vmem S512x2048 .f32) (harg12 : arg12.IsWhole) (arg13 : Memref sig .tc .vmem S512x2048 .f32) (harg13 : arg13.IsWhole) (arg14 : Memref sig .tc .vmem S512x2048 .bf16) (harg14 : arg14.IsWhole) (arg15 : Memref sig .tc .vmem S512x2048 .bf16) (harg15 : arg15.IsWhole) (arg16 : Memref sig .tc .vmem S1x2048 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S144x2048 .f32) (harg21 : arg21.IsWhole) (arg22 : Memref sig .tc .vmem S272x1024 .f32) (harg22 : arg22.IsWhole) (v429 : BitVec 32) (t : Fin k0_t1_loop.trips) :
    (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v429 t () : Prog (TpuEff nD τ sig (Elt F) Λ₀ .tc) Unit) =
      eightSteps (bufs arg2 arg3 arg4 arg12 arg13 arg14 arg15 arg16 arg17 arg18 arg19 arg20 arg21) harg14 harg15 (8 * t.val) :=
  (body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v429 t).trans <|
    stepP_eq (off1_eq t 0) (off2_eq t 0) <| stepP_eq (off3_eq t 0) (off4_eq t 0) <| stepP_eq (off1_eq t 1) (off2_eq t 1) <| stepP_eq (off3_eq t 1) (off4_eq t 1) <|
    stepP_eq (off1_eq t 2) (off2_eq t 2) <| stepP_eq (off3_eq t 2) (off4_eq t 2) <| stepP_eq (off1_eq t 3) (off2_eq t 3) <| stepP_eq (off3_eq t 3) (off4_eq t 3) rfl

/-- What follows the loop and the first column block after it. -/
def tailP (i : grid0.Coords) (arg2 : Memref sig .tc .vmem S1x256x2048 .bf16) (harg2 : arg2.IsWhole) (arg3 : Memref sig .tc .vmem S1x16384x256 .bf16) (harg3 : arg3.IsWhole) (arg4 : Memref sig .tc .vmem S1x32x144x512 .bf16) (harg4 : arg4.IsWhole) (arg5 : Memref sig .tc .vmem S8x1024 .f32) (harg5 : arg5.IsWhole) (arg6 : Memref sig .tc .vmem S256x1024 .f32) (harg6 : arg6.IsWhole) (arg7 : Memref sig .tc .vmem S8x1024 .f32) (harg7 : arg7.IsWhole) (arg8 : Memref sig .tc .vmem S256x1024 .f32) (harg8 : arg8.IsWhole) (arg9 : Memref sig .tc .vmem S3x1024 .f32) (harg9 : arg9.IsWhole) (arg10 : Memref sig .tc .vmem S2048x128 .bf16) (harg10 : arg10.IsWhole) (arg11 : Memref sig .tc .vmem S256x1024 .bf16) (harg11 : arg11.IsWhole) (arg12 : Memref sig .tc .vmem S512x2048 .f32) (harg12 : arg12.IsWhole) (arg13 : Memref sig .tc .vmem S512x2048 .f32) (harg13 : arg13.IsWhole) (arg14 : Memref sig .tc .vmem S512x2048 .bf16) (harg14 : arg14.IsWhole) (arg15 : Memref sig .tc .vmem S512x2048 .bf16) (harg15 : arg15.IsWhole) (arg16 : Memref sig .tc .vmem S1x2048 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S144x2048 .f32) (harg21 : arg21.IsWhole) (arg22 : Memref sig .tc .vmem S272x1024 .f32) (harg22 : arg22.IsWhole) : Prog (TpuEff nD τ sig (Elt F) Λ₀ .tc) Unit := do
  let v484 : FVec F S144x256 .f32 ← k0_part114 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22
  let ⟨v508, v510, v511, cst_432⟩ : Σ' (v508 : FVec F S144x256 .f32) (v510 : FVec F S144x512 .bf16) (v511 : Vec F S512x256 .bf16), FVec F S144x256 .f32 ← k0_part115 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v484
  k0_part116 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v508 v510 v511 cst_432
  let v541 : Vec F S128x2048 .f32 ← Prog.lift (.load arg21 (Rect.unit (s := S144x2048) ![0, 0] S128x2048.size inb_S144x2048_S128x2048_0_0).toLoadRect (View.loadsAt_vmem h_S128x2048))
  let v542 : Vec F S1x2048 .f32 ← Prog.lift (.load arg21 (Rect.unit (s := S144x2048) ![128, 0] S1x2048.size inb_S144x2048_S1x2048_128_0).toLoadRect (View.loadsAt_vmem h_S1x2048))
  let v547 : Vec F S2048x128 .bf16 ← Prog.lift (.load arg10 (Rect.unit (s := S2048x128) ![0, 0] S2048x128.size inb_S2048x128_S2048x128_0_0).toLoadRect (View.loadsAt_vmem h_S2048x128))
  Prog.lift (.store arg10 (Rect.unit (s := S2048x128) ![0, 0] S2048x128.size inb_S2048x128_S2048x128_0_0) (k0_pay1 v541 v542) Finset.univ (View.stores_vmem h_S2048x128 (harg10.storeExact_slice rfl _ packedbf16_S2048x128_S2048x128_0_0) (fun _ => rfl)) (.inl rfl))
  pure ⟨⟩

theorem split_eq (i : grid0.Coords) (arg2 : Memref sig .tc .vmem S1x256x2048 .bf16) (harg2 : arg2.IsWhole) (arg3 : Memref sig .tc .vmem S1x16384x256 .bf16) (harg3 : arg3.IsWhole) (arg4 : Memref sig .tc .vmem S1x32x144x512 .bf16) (harg4 : arg4.IsWhole) (arg5 : Memref sig .tc .vmem S8x1024 .f32) (harg5 : arg5.IsWhole) (arg6 : Memref sig .tc .vmem S256x1024 .f32) (harg6 : arg6.IsWhole) (arg7 : Memref sig .tc .vmem S8x1024 .f32) (harg7 : arg7.IsWhole) (arg8 : Memref sig .tc .vmem S256x1024 .f32) (harg8 : arg8.IsWhole) (arg9 : Memref sig .tc .vmem S3x1024 .f32) (harg9 : arg9.IsWhole) (arg10 : Memref sig .tc .vmem S2048x128 .bf16) (harg10 : arg10.IsWhole) (arg11 : Memref sig .tc .vmem S256x1024 .bf16) (harg11 : arg11.IsWhole) (arg12 : Memref sig .tc .vmem S512x2048 .f32) (harg12 : arg12.IsWhole) (arg13 : Memref sig .tc .vmem S512x2048 .f32) (harg13 : arg13.IsWhole) (arg14 : Memref sig .tc .vmem S512x2048 .bf16) (harg14 : arg14.IsWhole) (arg15 : Memref sig .tc .vmem S512x2048 .bf16) (harg15 : arg15.IsWhole) (arg16 : Memref sig .tc .vmem S1x2048 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S144x2048 .f32) (harg21 : arg21.IsWhole) (arg22 : Memref sig .tc .vmem S272x1024 .f32) (harg22 : arg22.IsWhole) :
    (cc0_mla_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 : Prog (TpuEff nD τ sig (Elt F) Λ₀ .tc) Unit) =
      (extP (cbufs arg5 arg6 arg7 arg8 arg9 arg11 arg22) (hasPrev i) (hasNext i) <| tilesP (cbufs arg5 arg6 arg7 arg8 arg9 arg11 arg22) harg11 <|
        initP (bufs arg2 arg3 arg4 arg12 arg13 arg14 arg15 arg16 arg17 arg18 arg19 arg20 arg21) harg15 <|
        eight (fun c hc => scoresP (bufs arg2 arg3 arg4 arg12 arg13 arg14 arg15 arg16 arg17 arg18 arg19 arg20 arg21).swap c hc (koff 0) (inbK 0)) <|
        ((Scf.Loop.for k0_t1_loop k0_t1_ok () (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 0#32)) >>= fun _ =>
          valuesP (bufs arg2 arg3 arg4 arg12 arg13 arg14 arg15 arg16 arg17 arg18 arg19 arg20 arg21) 0 (by decide) (voff 31) (inbV 31) (pure PUnit.unit)) >>= fun _ =>
          tailP i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 : Prog (TpuEff nD τ sig (Elt F) Λ₀ .tc) Unit) := by chain_rfl

theorem tail_eq (i : grid0.Coords) (arg2 : Memref sig .tc .vmem S1x256x2048 .bf16) (harg2 : arg2.IsWhole) (arg3 : Memref sig .tc .vmem S1x16384x256 .bf16) (harg3 : arg3.IsWhole) (arg4 : Memref sig .tc .vmem S1x32x144x512 .bf16) (harg4 : arg4.IsWhole) (arg5 : Memref sig .tc .vmem S8x1024 .f32) (harg5 : arg5.IsWhole) (arg6 : Memref sig .tc .vmem S256x1024 .f32) (harg6 : arg6.IsWhole) (arg7 : Memref sig .tc .vmem S8x1024 .f32) (harg7 : arg7.IsWhole) (arg8 : Memref sig .tc .vmem S256x1024 .f32) (harg8 : arg8.IsWhole) (arg9 : Memref sig .tc .vmem S3x1024 .f32) (harg9 : arg9.IsWhole) (arg10 : Memref sig .tc .vmem S2048x128 .bf16) (harg10 : arg10.IsWhole) (arg11 : Memref sig .tc .vmem S256x1024 .bf16) (harg11 : arg11.IsWhole) (arg12 : Memref sig .tc .vmem S512x2048 .f32) (harg12 : arg12.IsWhole) (arg13 : Memref sig .tc .vmem S512x2048 .f32) (harg13 : arg13.IsWhole) (arg14 : Memref sig .tc .vmem S512x2048 .bf16) (harg14 : arg14.IsWhole) (arg15 : Memref sig .tc .vmem S512x2048 .bf16) (harg15 : arg15.IsWhole) (arg16 : Memref sig .tc .vmem S1x2048 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S144x2048 .f32) (harg21 : arg21.IsWhole) (arg22 : Memref sig .tc .vmem S272x1024 .f32) (harg22 : arg22.IsWhole) :
    ((valuesP (bufs arg2 arg3 arg4 arg12 arg13 arg14 arg15 arg16 arg17 arg18 arg19 arg20 arg21) 0 (by decide) (voff 31) (inbV 31) (pure PUnit.unit) >>= fun _ =>
        tailP i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) : Prog (TpuEff nD τ sig (Elt F) Λ₀ .tc) Unit) =
      ((eight (fun c hc => valuesP (bufs arg2 arg3 arg4 arg12 arg13 arg14 arg15 arg16 arg17 arg18 arg19 arg20 arg21) c hc (voff 31) (inbV 31)) <|
        outP (bufs arg2 arg3 arg4 arg12 arg13 arg14 arg15 arg16 arg17 arg18 arg19 arg20 arg21) arg10 harg10 <| pure ⟨⟩) : Prog (TpuEff nD τ sig (Elt F) Λ₀ .tc) Unit) := by chain_rfl

/-- The printed kernel around its loop. -/
theorem whole_eq (i : grid0.Coords) (arg2 : Memref sig .tc .vmem S1x256x2048 .bf16) (harg2 : arg2.IsWhole) (arg3 : Memref sig .tc .vmem S1x16384x256 .bf16) (harg3 : arg3.IsWhole) (arg4 : Memref sig .tc .vmem S1x32x144x512 .bf16) (harg4 : arg4.IsWhole) (arg5 : Memref sig .tc .vmem S8x1024 .f32) (harg5 : arg5.IsWhole) (arg6 : Memref sig .tc .vmem S256x1024 .f32) (harg6 : arg6.IsWhole) (arg7 : Memref sig .tc .vmem S8x1024 .f32) (harg7 : arg7.IsWhole) (arg8 : Memref sig .tc .vmem S256x1024 .f32) (harg8 : arg8.IsWhole) (arg9 : Memref sig .tc .vmem S3x1024 .f32) (harg9 : arg9.IsWhole) (arg10 : Memref sig .tc .vmem S2048x128 .bf16) (harg10 : arg10.IsWhole) (arg11 : Memref sig .tc .vmem S256x1024 .bf16) (harg11 : arg11.IsWhole) (arg12 : Memref sig .tc .vmem S512x2048 .f32) (harg12 : arg12.IsWhole) (arg13 : Memref sig .tc .vmem S512x2048 .f32) (harg13 : arg13.IsWhole) (arg14 : Memref sig .tc .vmem S512x2048 .bf16) (harg14 : arg14.IsWhole) (arg15 : Memref sig .tc .vmem S512x2048 .bf16) (harg15 : arg15.IsWhole) (arg16 : Memref sig .tc .vmem S1x2048 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S144x2048 .f32) (harg21 : arg21.IsWhole) (arg22 : Memref sig .tc .vmem S272x1024 .f32) (harg22 : arg22.IsWhole) :
    (cc0_mla_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 : Prog (TpuEff nD τ sig (Elt F) Λ₀ .tc) Unit) =
      wholeP (cbufs arg5 arg6 arg7 arg8 arg9 arg11 arg22) harg11 (hasPrev i) (hasNext i)
        (bufs arg2 arg3 arg4 arg12 arg13 arg14 arg15 arg16 arg17 arg18 arg19 arg20 arg21) harg15 arg10 harg10
        (Scf.Loop.for k0_t1_loop k0_t1_ok () (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 0#32)) := by
  rw [split_eq, bind_assoc]
  simp only [tail_eq]
  rfl

/-- The printed kernel, its loop's body eight steps. -/
theorem kernel_eq (i : grid0.Coords) (arg2 : Memref sig .tc .vmem S1x256x2048 .bf16) (harg2 : arg2.IsWhole) (arg3 : Memref sig .tc .vmem S1x16384x256 .bf16) (harg3 : arg3.IsWhole) (arg4 : Memref sig .tc .vmem S1x32x144x512 .bf16) (harg4 : arg4.IsWhole) (arg5 : Memref sig .tc .vmem S8x1024 .f32) (harg5 : arg5.IsWhole) (arg6 : Memref sig .tc .vmem S256x1024 .f32) (harg6 : arg6.IsWhole) (arg7 : Memref sig .tc .vmem S8x1024 .f32) (harg7 : arg7.IsWhole) (arg8 : Memref sig .tc .vmem S256x1024 .f32) (harg8 : arg8.IsWhole) (arg9 : Memref sig .tc .vmem S3x1024 .f32) (harg9 : arg9.IsWhole) (arg10 : Memref sig .tc .vmem S2048x128 .bf16) (harg10 : arg10.IsWhole) (arg11 : Memref sig .tc .vmem S256x1024 .bf16) (harg11 : arg11.IsWhole) (arg12 : Memref sig .tc .vmem S512x2048 .f32) (harg12 : arg12.IsWhole) (arg13 : Memref sig .tc .vmem S512x2048 .f32) (harg13 : arg13.IsWhole) (arg14 : Memref sig .tc .vmem S512x2048 .bf16) (harg14 : arg14.IsWhole) (arg15 : Memref sig .tc .vmem S512x2048 .bf16) (harg15 : arg15.IsWhole) (arg16 : Memref sig .tc .vmem S1x2048 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S144x2048 .f32) (harg21 : arg21.IsWhole) (arg22 : Memref sig .tc .vmem S272x1024 .f32) (harg22 : arg22.IsWhole) :
    (cc0_mla_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 : Prog (TpuEff nD τ sig (Elt F) Λ₀ .tc) Unit) =
      wholeP (cbufs arg5 arg6 arg7 arg8 arg9 arg11 arg22) harg11 (hasPrev i) (hasNext i)
        (bufs arg2 arg3 arg4 arg12 arg13 arg14 arg15 arg16 arg17 arg18 arg19 arg20 arg21) harg15 arg10 harg10
        (Scf.Loop.for k0_t1_loop k0_t1_ok () (fun t _ => eightSteps (bufs arg2 arg3 arg4 arg12 arg13 arg14 arg15 arg16 arg17 arg18 arg19 arg20 arg21) harg14 harg15 (8 * t.val))) := by
  rw [whole_eq]
  congr 2
  funext t _
  exact body_steps i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 0#32 t

end Cert.KernelIdeal.Attn

end
-- ==== Proof.KernelIdealRun.lean ====
/-
  The run of `KernelIdeal`: what each window's buffer holds after a grid point, the body's obligation from the triple of `wholeP`, and the
  launch. Three windows stage one array, so the arrays' shares are the launch's own.
-/
module

public import proofs.«01_k».proof.Proof.Gen.KernelIdeal.Frame
public import proofs.«01_k».proof.Proof.KernelIdealBody

@[expose] public section

noncomputable section

namespace Cert.KernelIdeal.Attn

open Cert.KernelIdeal Cert.KernelIdeal.Gen Cert.Attn
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)

variable {F : FTy → Type} [FloatOps F]

local notation "𝕄" => MT nD τ sig Unit (Elt F) ℕ (UR sig nD τ) ℕ

/-- A grid point of the printed kernel: its inputs kept, its outputs written, its scratch anything. -/
theorem kernelRun (c : Dev nD) (i : grid0.Coords) (arg2 : Memref sig .tc .vmem S1x256x2048 .bf16) (harg2 : arg2.IsWhole) (arg3 : Memref sig .tc .vmem S1x16384x256 .bf16) (harg3 : arg3.IsWhole) (arg4 : Memref sig .tc .vmem S1x32x144x512 .bf16) (harg4 : arg4.IsWhole) (arg5 : Memref sig .tc .vmem S8x1024 .f32) (harg5 : arg5.IsWhole) (arg6 : Memref sig .tc .vmem S256x1024 .f32) (harg6 : arg6.IsWhole) (arg7 : Memref sig .tc .vmem S8x1024 .f32) (harg7 : arg7.IsWhole) (arg8 : Memref sig .tc .vmem S256x1024 .f32) (harg8 : arg8.IsWhole) (arg9 : Memref sig .tc .vmem S3x1024 .f32) (harg9 : arg9.IsWhole) (arg10 : Memref sig .tc .vmem S2048x128 .bf16) (harg10 : arg10.IsWhole) (arg11 : Memref sig .tc .vmem S256x1024 .bf16) (harg11 : arg11.IsWhole) (arg12 : Memref sig .tc .vmem S512x2048 .f32) (harg12 : arg12.IsWhole) (arg13 : Memref sig .tc .vmem S512x2048 .f32) (harg13 : arg13.IsWhole) (arg14 : Memref sig .tc .vmem S512x2048 .bf16) (harg14 : arg14.IsWhole) (arg15 : Memref sig .tc .vmem S512x2048 .bf16) (harg15 : arg15.IsWhole) (arg16 : Memref sig .tc .vmem S1x2048 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S144x2048 .f32) (harg21 : arg21.IsWhole) (arg22 : Memref sig .tc .vmem S272x1024 .f32) (harg22 : arg22.IsWhole)
    (Qv : Vec F QS .bf16) (Kv : Vec F KS .bf16) (Vv : Vec F VS .bf16) (Pv : Vec F HS .f32) (Xv : Vec F CS .f32) (Nv : Vec F HS .f32) (Gv : Vec F CS .f32)
    (Wv : Vec F WS .f32) (y₀ : Vec F OS .bf16) (y₁ : Vec F CS .bf16) (K : PUnit → sProp 𝕄) :
    iprop((own c arg2 Qv ∗ own c arg3 Kv ∗ own c arg4 Vv)
        ∗ ownC c (cbufs arg5 arg6 arg7 arg8 arg9 arg11 arg22) Pv Xv Nv Gv Wv ∗ own c arg10 y₀ ∗ own c arg11 y₁
        ∗ scr c (cbufs arg5 arg6 arg7 arg8 arg9 arg11 arg22) (bufs arg2 arg3 arg4 arg12 arg13 arg14 arg15 arg16 arg17 arg18 arg19 arg20 arg21))
      ⊢ iprop((iprop((own c arg2 Qv ∗ own c arg3 Kv ∗ own c arg4 Vv)
            ∗ ownC c (cbufs arg5 arg6 arg7 arg8 arg9 arg11 arg22) Pv Xv Nv Gv Wv ∗ own c arg10 (outAt Qv Kv Vv)
            ∗ own c arg11 (convAt (hasPrev i) (hasNext i) Pv Xv Nv Gv Wv)
            ∗ scr c (cbufs arg5 arg6 arg7 arg8 arg9 arg11 arg22) (bufs arg2 arg3 arg4 arg12 arg13 arg14 arg15 arg16 arg17 arg18 arg19 arg20 arg21)) -∗ K ⟨⟩)
        -∗ wp frame (wpE (defs₀ (F := F)) Variants.none c none) Set.univ (cc0_mla_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K) := by
  rw [kernel_eq]
  exact wp_wholeP (C := cbufs arg5 arg6 arg7 arg8 arg9 arg11 arg22) (B := bufs arg2 arg3 arg4 arg12 arg13 arg14 arg15 arg16 arg17 arg18 arg19 arg20 arg21)
    k0_t1_loop k0_t1_ok trips_eq

variable (m : (ℓ : Loc nD τ sig) → Buf (Elt F) ℓ) (ρ : Dev nD → PrngReg)

/-- What the body leaves in the output buffers at point `t`: functions of the blocks it reads there. -/
def yd (c : Dev nD) (t : Fin cfg0.N) : Vec F OS .bf16 := outAt (iblk m c 0 t) (iblk m c 1 t) (iblk m c 2 t)
def yc (c : Dev nD) (t : Fin cfg0.N) : Vec F CS .bf16 :=
  convAt (hasPrev (grid0.coords t)) (hasNext (grid0.coords t)) (iblk m c 3 t) (iblk m c 4 t) (iblk m c 5 t) (iblk m c 6 t) (iblk m c 7 t)

/-- The proof data: arrays as launched, inputs left in place, outputs as computed, scratch and generator anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => yd m c t
    | ⟨9, _⟩ => yc m c t
  Φ _ := Pipeline.ΦA spec0 c
  q := Pipeline.shareOf spec0
  owed _ := 0

theorem A_eq (c : Dev nD) (w : Fin cfg0.W) : (dats m 0 c).A w = V m c (Pipeline.arrRef spec0 w) := by dsimp only [dats]

theorem before0 (c : Dev nD) (t : Fin cfg0.N) (d) : (dats m 0 c).before 0 t d = iblk m c 0 t := before0_0_of m (dats m 0 c) (A_eq m c 0) (fun t => by dsimp only [dats]) t d
theorem before1 (c : Dev nD) (t : Fin cfg0.N) (d) : (dats m 0 c).before 1 t d = iblk m c 1 t := before0_1_of m (dats m 0 c) (A_eq m c 1) (fun t => by dsimp only [dats]) t d
theorem before2 (c : Dev nD) (t : Fin cfg0.N) (d) : (dats m 0 c).before 2 t d = iblk m c 2 t := before0_2_of m (dats m 0 c) (A_eq m c 2) (fun t => by dsimp only [dats]) t d
theorem before3 (c : Dev nD) (t : Fin cfg0.N) (d) : (dats m 0 c).before 3 t d = iblk m c 3 t := before0_3_of m (dats m 0 c) (A_eq m c 3) (fun t => by dsimp only [dats]) t d
theorem before4 (c : Dev nD) (t : Fin cfg0.N) (d) : (dats m 0 c).before 4 t d = iblk m c 4 t := before0_4_of m (dats m 0 c) (A_eq m c 4) (fun t => by dsimp only [dats]) t d
theorem before5 (c : Dev nD) (t : Fin cfg0.N) (d) : (dats m 0 c).before 5 t d = iblk m c 5 t := before0_5_of m (dats m 0 c) (A_eq m c 5) (fun t => by dsimp only [dats]) t d
theorem before6 (c : Dev nD) (t : Fin cfg0.N) (d) : (dats m 0 c).before 6 t d = iblk m c 6 t := before0_6_of m (dats m 0 c) (A_eq m c 6) (fun t => by dsimp only [dats]) t d
theorem before7 (c : Dev nD) (t : Fin cfg0.N) (d) : (dats m 0 c).before 7 t d = iblk m c 7 t := before0_7_of m (dats m 0 c) (A_eq m c 7) (fun t => by dsimp only [dats]) t d

/-- The class invariant, buffer by buffer. -/
theorem PhiA_eq (c : Dev nD) :
    (Pipeline.ΦA spec0 c : sProp 𝕄) = iprop(((∃ d, own c (Memref.whole cc0_scratch0) d) ∗ (∃ d, own c (Memref.whole cc0_scratch1) d)
      ∗ (∃ d, own c (Memref.whole cc0_scratch2) d) ∗ (∃ d, own c (Memref.whole cc0_scratch3) d) ∗ (∃ d, own c (Memref.whole cc0_scratch4) d)
      ∗ (∃ d, own c (Memref.whole cc0_scratch5) d) ∗ (∃ d, own c (Memref.whole cc0_scratch6) d) ∗ (∃ d, own c (Memref.whole cc0_scratch7) d)
      ∗ (∃ d, own c (Memref.whole cc0_scratch8) d) ∗ (∃ d, own c (Memref.whole cc0_scratch9) d) ∗ (∃ d, own c (Memref.whole cc0_scratch10) d))
      ∗ ∃ r, prngReg c r) := by
  unfold Pipeline.ΦA
  rw [scopedRest0_eq]; simp only [Attn.own, owns_whole]; try rfl

/-- What the body is called with at point `t` and what it returns. -/
def bodyPre (c : Dev nD) (t : Fin cfg0.N) : sProp 𝕄 :=
  iprop((dats m 0 c).Φ t.castSucc ∗ (dats m 0 c).owesAt () t.castSucc
    ∗ (∃ d, own c (st0_0 t) ((dats m 0 c).before 0 t d)) ∗ (∃ d, own c (st0_1 t) ((dats m 0 c).before 1 t d))
    ∗ (∃ d, own c (st0_2 t) ((dats m 0 c).before 2 t d)) ∗ (∃ d, own c (st0_3 t) ((dats m 0 c).before 3 t d))
    ∗ (∃ d, own c (st0_4 t) ((dats m 0 c).before 4 t d)) ∗ (∃ d, own c (st0_5 t) ((dats m 0 c).before 5 t d))
    ∗ (∃ d, own c (st0_6 t) ((dats m 0 c).before 6 t d)) ∗ (∃ d, own c (st0_7 t) ((dats m 0 c).before 7 t d))
    ∗ (∃ d, own c (st0_8 t) ((dats m 0 c).before 8 t d)) ∗ (∃ d, own c (st0_9 t) ((dats m 0 c).before 9 t d)))
def bodyPost (c : Dev nD) (t : Fin cfg0.N) : sProp 𝕄 :=
  iprop((dats m 0 c).Φ t.succ ∗ (dats m 0 c).owesAt () t.succ
    ∗ own c (st0_0 t) (iblk m c 0 t) ∗ own c (st0_1 t) (iblk m c 1 t) ∗ own c (st0_2 t) (iblk m c 2 t) ∗ own c (st0_3 t) (iblk m c 3 t)
    ∗ own c (st0_4 t) (iblk m c 4 t) ∗ own c (st0_5 t) (iblk m c 5 t) ∗ own c (st0_6 t) (iblk m c 6 t) ∗ own c (st0_7 t) (iblk m c 7 t)
    ∗ own c (st0_8 t) (yd m c t) ∗ own c (st0_9 t) (yc m c t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  simp only [before0, before1, before2, before3, before4, before5, before6, before7]
  iintro ⟨⟨⟨S0, S1, S2, S3, S4, S5, S6, S7, S8, S9, S10⟩, Hg⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (kernelRun (Qv := iblk m c 0 t) (Kv := iblk m c 1 t) (Vv := iblk m c 2 t) (Pv := iblk m c 3 t) (Xv := iblk m c 4 t) (Nv := iblk m c 5 t)
    (Gv := iblk m c 6 t) (Wv := iblk m c 7 t)) $$ [H0 H1 H2 H3 H4 H5 H6 H7 H8 H9 S0 S1 S2 S3 S4 S5 S6 S7 S8 S9 S10]
  · unfold ownC scr
    isplitl [H0 H1 H2]
    · isplitl [H0]; · iexact H0
      isplitl [H1]; · iexact H1
      iexact H2
    isplitl [H3 H4 H5 H6 H7]
    · isplitl [H3]; · iexact H3
      isplitl [H4]; · iexact H4
      isplitl [H5]; · iexact H5
      isplitl [H6]; · iexact H6
      iexact H7
    isplitl [H8]; · iexact H8
    isplitl [H9]; · iexact H9
    isplitl [S1]; · iexact S1
    isplitl [S0]; · iexact S0
    isplitl [S2]; · iexact S2
    isplitl [S3]; · iexact S3
    isplitl [S4]; · iexact S4
    isplitl [S5]; · iexact S5
    isplitl [S7]; · iexact S7
    isplitl [S6]; · iexact S6
    isplitl [S8]; · iexact S8
    isplitl [S9]; · iexact S9
    iexact S10
  unfold ownC scr
  iintro ⟨⟨H0, H1, H2⟩, ⟨H3, H4, H5, H6, H7⟩, H8, H9, S1, S0, S2, S3, S4, S5, S7, S6, S8, S9, S10⟩
  isplitl [S0 S1 S2 S3 S4 S5 S6 S7 S8 S9 S10 Hg]
  · isplitr [Hg]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      iexact S10
    · iexact Hg
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) : defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every fair execution ends, nothing faulting, with the arrays at the computed contents and the counters at zero. -/
theorem run_main :
    θ_run defs (onTc (τ := τ) (main (F := F))) (s₀ m ρ) (fun r => Pipeline.FramePost cfgs (dats m) 0 (V m) r ∧ r.2.sem = fun _ => 0) :=
  Pipeline.θ_run_frame_shared cfgs (dats m) (0 : Fin 1) launch₀0 defs₀ Variants.none m ρ main
    (hbody := fun c => (body_obligation m c).loose) (hq := fun _ _ _ => rfl) (howed := fun _ _ => rfl) (V := V m) (hmain := hmain m Variants.none)
    (hA := A_eq m) (hΦ := fun _ _ => rfl) (Q' := _) (hQ' := fun _ h => h)

end Cert.KernelIdeal.Attn

end
-- ==== Proof.Softmax.lean ====
/-
  The mathematics of the running softmax, over the extended reals: scores real, values anything. A sum weighted by powers of two
  against a running maximum, rescaled whenever the maximum moves, is the sum against the last maximum; divided by the sum of the
  weights it is the softmax, whatever real number is subtracted from the scores.
-/
module

public import Idealize.ShloMosaic.PureOps.Ideal
public import Mathlib.Analysis.SpecialFunctions.Pow.Real

@[expose] public section

noncomputable section

namespace Cert.Attn

open Idealize.ShloMosaic

/-- `x` is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases le_total x y with h | h
  · rw [max_eq_right h]; exact hy
  · rw [max_eq_left h]; exact hx
theorem IsReal.sum {ι : Type*} (s : Finset ι) {f : ι → EReal} (hf : ∀ i, IsReal (f i)) : IsReal (∑ i ∈ s, f i) := by
  classical
  induction s using Finset.induction_on with
  | empty => exact ⟨0, by simp⟩
  | insert a s ha ih => rw [Finset.sum_insert ha]; exact (hf a).add ih

/-- The maximum of finitely many real numbers, one at least, is one. -/
theorem IsReal.fold_max {ι : Type*} {s : Finset ι} {f : ι → EReal} (hs : s.Nonempty) (hf : ∀ i, IsReal (f i)) : IsReal (s.fold Max.max ⊥ f) := by
  classical
  induction hs using Finset.Nonempty.cons_induction with
  | singleton a => rw [Finset.fold_singleton, max_eq_left bot_le]; exact hf a
  | cons a s ha hs ih => rw [Finset.fold_cons]; exact (hf a).max ih

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor that is not negative goes into a sum. -/
theorem mul_sum_coe {ι : Type*} (s : Finset ι) {c : ℝ} (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

/-! ## The running sum -/

/-- The running maximum over the blocks before block `n`. -/
def runMax (mb : ℕ → EReal) : ℕ → EReal
  | 0 => ⊥
  | n + 1 => max (runMax mb n) (mb n)

/-- The weights of the block before block `n`, and the factor that takes what is accumulated to the maximum they are taken against. -/
def runW {K : Type} (s : ℕ → K → EReal) (mb : ℕ → EReal) : ℕ → K → EReal
  | 0, _ => 0
  | n + 1, k => Ideal.exp2 (s n k - runMax mb (n + 1))
def runA (mb : ℕ → EReal) : ℕ → EReal
  | 0 => 1
  | n + 1 => Ideal.exp2 (runMax mb n - runMax mb (n + 1))

/-- What is accumulated: one block late. -/
def runAcc {K : Type} [Fintype K] (s : ℕ → K → EReal) (mb : ℕ → EReal) (v : ℕ → K → EReal) : ℕ → EReal
  | 0 => 0
  | n + 1 => runA mb n * runAcc s mb v n + ∑ k, v (n - 1) k * runW s mb n k

theorem runAcc_succ {K : Type} [Fintype K] (s : ℕ → K → EReal) (mb : ℕ → EReal) (v : ℕ → K → EReal) (n : ℕ) :
    runAcc s mb v (n + 1) = runA mb n * runAcc s mb v n + ∑ k, v (n - 1) k * runW s mb n k := rfl

theorem runMax_real {mb : ℕ → EReal} (hmb : ∀ n, IsReal (mb n)) : ∀ n, IsReal (runMax mb (n + 1))
  | 0 => by show IsReal (max ⊥ (mb 0)); rw [max_eq_right bot_le]; exact hmb 0
  | n + 1 => (runMax_real hmb n).max (hmb (n + 1))

theorem exp2_nonneg (r : ℝ) : 0 ≤ Real.rpow 2 r := (Real.rpow_pos_of_pos two_pos r).le

/-- What is accumulated is the weighted sum against the last maximum. -/
theorem runAcc_eq {K : Type} [Fintype K] {s : ℕ → K → EReal} {mb : ℕ → EReal} (v : ℕ → K → EReal) (hs : ∀ n k, IsReal (s n k)) (hmb : ∀ n, IsReal (mb n)) :
    ∀ n, runAcc s mb v (n + 1) = ∑ b ∈ Finset.range n, ∑ k, v b k * Ideal.exp2 (s b k - runMax mb n)
  | 0 => by
    show (1 : EReal) * 0 + ∑ k, v (0 - 1) k * (0 : EReal) = _
    simp
  | n + 1 => by
    show runA mb (n + 1) * runAcc s mb v (n + 1) + ∑ k, v n k * Ideal.exp2 (s n k - runMax mb (n + 1)) = _
    rw [Finset.sum_range_succ, runAcc_eq v hs hmb n]
    congr 1
    cases n with
    | zero => simp
    | succ j =>
      obtain ⟨μ, hμ⟩ := runMax_real hmb j
      obtain ⟨μ', hμ'⟩ := runMax_real hmb (j + 1)
      show Ideal.exp2 (runMax mb (j + 1) - runMax mb (j + 1 + 1)) * _ = _
      rw [hμ, hμ', ← EReal.coe_sub, Ideal.exp2_coe, mul_sum_coe _ (exp2_nonneg _)]
      refine Finset.sum_congr rfl fun b _ => ?_
      rw [mul_sum_coe _ (exp2_nonneg _)]
      refine Finset.sum_congr rfl fun k _ => ?_
      obtain ⟨σ, hσ⟩ := hs b k
      rw [hσ, ← EReal.coe_sub, ← EReal.coe_sub, Ideal.exp2_coe, Ideal.exp2_coe, mul_left_comm, ← EReal.coe_mul]
      congr 2
      show (2 : ℝ) ^ (μ - μ') * (2 : ℝ) ^ (σ - μ) = (2 : ℝ) ^ (σ - μ')
      rw [← Real.rpow_add two_pos]; congr 1; ring

/-! ## The quotient -/

/-- The weighted sum divided by the sum of the weights, to base two and against `μ`, is the softmax of the scores times `log 2`, against `m`. -/
theorem softmax_eq {ι : Type*} [Fintype ι] [Nonempty ι] (v : ι → EReal) (σ : ι → ℝ) (μ m : ℝ) :
    Ideal.div (∑ x, v x * Ideal.exp2 ((σ x : EReal) - μ)) (∑ x, Ideal.exp2 ((σ x : EReal) - μ))
      = ∑ x, v x * Ideal.div (Ideal.exp ((σ x : EReal) * (Real.log 2 : ℝ) - m)) (∑ y, Ideal.exp ((σ y : EReal) * (Real.log 2 : ℝ) - m)) := by
  have e1 : ∀ x, Ideal.exp2 ((σ x : EReal) - μ) = (Real.rpow 2 (σ x - μ) : EReal) := fun x => by rw [← EReal.coe_sub, Ideal.exp2_coe]
  have e2 : ∀ x, Ideal.exp ((σ x : EReal) * (Real.log 2 : ℝ) - m) = (Real.exp (σ x * Real.log 2 - m) : EReal) := fun x => by
    rw [← EReal.coe_mul, ← EReal.coe_sub, Ideal.exp_coe]
  have e3 : ∀ x, Real.rpow 2 (σ x - μ) = Real.exp (σ x * Real.log 2 - m) * Real.exp (m - μ * Real.log 2) := fun x => by
    show (2 : ℝ) ^ (σ x - μ) = _
    rw [Real.rpow_def_of_pos two_pos, ← Real.exp_add]; congr 1; ring
  have hp : 0 < ∑ x, Real.exp (σ x * Real.log 2 - m) := Finset.sum_pos (fun x _ => Real.exp_pos _) Finset.univ_nonempty
  have hq : 0 < ∑ x, Real.rpow 2 (σ x - μ) := Finset.sum_pos (fun x _ => Real.rpow_pos_of_pos two_pos _) Finset.univ_nonempty
  simp only [e1, e2, ← coe_sum]
  rw [Ideal.div_coe hq.ne', mul_comm, mul_sum_coe _ (one_div_nonneg.mpr hq.le)]
  refine Finset.sum_congr rfl fun x _ => ?_
  rw [Ideal.div_coe hp.ne', mul_left_comm, ← EReal.coe_mul, ← EReal.coe_mul]
  congr 2
  simp only [e3, ← Finset.sum_mul]
  have hc := (Real.exp_pos (m - μ * Real.log 2)).ne'
  have hS := hp.ne'
  generalize Real.exp (m - μ * Real.log 2) = c at hc ⊢
  generalize ∑ x, Real.exp (σ x * Real.log 2 - m) = S at hS ⊢
  field_simp

/-- A sum over `a * b` indices is one over `a` blocks of `b`. -/
theorem sum_blocks {a b : ℕ} (f : ℕ → Fin b → EReal) :
    ∑ n ∈ Finset.range a, ∑ k, f n k = ∑ x : Fin (a * b), f x.divNat x.modNat := by
  rw [Finset.sum_range, ← Fintype.sum_prod_type' (f := fun (n : Fin a) k => f n k)]
  exact (Fintype.sum_equiv finProdFinEquiv.symm _ _ fun x => rfl).symm

end Cert.Attn

end
-- ==== Proof.StateValue.lean ====
/-
  The state of the attention loop over the extended reals, a column of queries at a time: it is the running softmax of that
  column's scores, and the output is the accumulator's rows divided by the row the ones of `vt` accumulate.
-/
module

public import Idealize.ShloMosaic.Lib.Pointwise
public import proofs.«01_k».proof.Proof.Step
public import proofs.«01_k».proof.Proof.Softmax

@[expose] public section

set_option maxRecDepth 16384

noncomputable section

namespace Cert.Attn

open Idealize.ShloMosaic Idealize.ShloMosaic.TcCoe

/-! ## Columns -/

/-- The block of a column and its place there. -/
def bk (i : Fin 2048) : Fin 8 := ⟨i.val / 256, by omega⟩
def ib (i : Fin 2048) : Fin 256 := ⟨i.val % 256, by omega⟩

theorem gather_ix2 {α : Type} {R : Nat} (w : Fin 8 → (Blk R).Idx → α) (r : Fin R) (i : Fin 2048) : gather w (ix2 r i) = w (bk i) (ix2 r (ib i)) := by
  unfold gather
  congr 1
  funext a; fin_cases a <;> rfl

theorem win_ix2 {α : Type} {R : Nat} (x : (Full R).Idx → α) (r : Fin R) (i : Fin 2048) : win (bk i).val (bk i).isLt x (ix2 r (ib i)) = x (ix2 r i) := by
  unfold win VecWindow.window
  congr 1
  funext a; fin_cases a
  · exact Fin.ext (by show 0 + 1 * r.val = r.val; omega)
  · exact Fin.ext (by show 256 * (i.val / 256) + 1 * (i.val % 256) = i.val; omega)

theorem qwin_ix3 {F : FTy → Type} [FloatOps F] (Q : Vec F QS .bf16) (d : Fin 256) (i : Fin 2048) : qwin Q (bk i) (ix3 0 d (ib i)) = Q (ix3 0 d i) := by
  unfold qwin VecWindow.window
  congr 1
  funext a; fin_cases a
  · rfl
  · exact Fin.ext (by show 0 + 1 * d.val = d.val; omega)
  · exact Fin.ext (by show 256 * (i.val / 256) + 1 * (i.val % 256) = i.val; omega)

/-! ## The payloads at an index -/

theorem ofBits_neginf : Ideal.ofBits .f32 0xFF800000#32 = ⊥ := by simp [Ideal.ofBits, Ideal.ieee]
theorem ofBits_one_f32 : Ideal.ofBits .f32 0x3F800000#32 = 1 := by simp [Ideal.ofBits, Ideal.ieee, -EReal.coe_mul]; norm_num
theorem ofBits_zero_bf16 : Ideal.ofBits .bf16 0x0000#16 = 0 := by simp [Ideal.ofBits, Ideal.ieee]

theorem sPay_ix (kb : Vec Ideal KB .bf16) (qb : Vec Ideal QB .bf16) (j : Fin 512) (i : Fin 256) :
    sPay kb qb (ix2 j i) = ∑ x : Fin 256, kb (ix3 0 j x) * qb (ix3 0 x i) := by
  pointwise [sPay, scores, dotKQ]
theorem mbPay_ix (kb : Vec Ideal KB .bf16) (qb : Vec Ideal QB .bf16) (i : Fin 256) :
    mbPay kb qb (ix2 0 i) = Finset.univ.fold max ⊥ fun j : Fin 512 => ∑ x : Fin 256, kb (ix3 0 j x) * qb (ix3 0 x i) := by
  rw [← ofBits_neginf]
  pointwise [mbPay, scores, dotKQ]
theorem mPay_ix (mp mb : Vec Ideal (Blk 1) .f32) (i : Fin 256) : mPay mp mb (ix2 0 i) = max (mp (ix2 0 i)) (mb (ix2 0 i)) := by
  pointwise [mPay, mNew]
theorem aPay_ix (mp mb : Vec Ideal (Blk 1) .f32) (i : Fin 256) : aPay mp mb (ix2 0 i) = Ideal.exp2 (mp (ix2 0 i) - max (mp (ix2 0 i)) (mb (ix2 0 i))) := by
  pointwise [aPay, mNew]
  rfl
theorem pPay_ix (mp mb : Vec Ideal (Blk 1) .f32) (s : Vec Ideal (Blk 512) .f32) (j : Fin 512) (i : Fin 256) :
    pPay mp mb s (ix2 j i) = Ideal.exp2 (s (ix2 j i) - max (mp (ix2 0 i)) (mb (ix2 0 i))) := by
  pointwise [pPay, mNew]
  rfl
theorem accPay_ix (a : Vec Ideal (Blk 1) .f32) (acc : Vec Ideal (Blk 144) .f32) (vb : Vec Ideal VB .bf16) (p : Vec Ideal (Blk 512) .bf16) (j : Fin 144) (i : Fin 256) :
    accPay a acc vb p (ix2 j i) = a (ix2 0 i) * acc (ix2 j i) + ∑ x : Fin 512, vb (ix4 0 0 j x) * p (ix2 x i) := by
  pointwise [accPay, dotVP]
theorem outPay_ix (x : Vec Ideal (Full 128) .f32) (l : Vec Ideal (Full 1) .f32) (i : Fin 2048) (j : Fin 128) :
    outPay x l (ix2 i j) = Ideal.div (x (ix2 j i)) (l (ix2 0 i)) := by
  pointwise [outPay]

/-! ## The state, a column at a time -/

section Column
variable (Q : Vec Ideal QS .bf16) (K : Vec Ideal KS .bf16) (V : Vec Ideal VS .bf16) (i : Fin 2048)

/-- The scores of block `n` against query `i`, and their maximum. -/
def colS (n : ℕ) (k : Fin 512) : EReal := ∑ x : Fin 256, kAt K n (ix3 0 k x) * Q (ix3 0 x i)
def colMb (n : ℕ) : EReal := Finset.univ.fold max ⊥ (colS Q K i n)
/-- Row `d` of the values of block `n`. -/
def rowV (d : Fin 144) (n : ℕ) (k : Fin 512) : EReal := vAt V n (ix4 0 0 d k)

theorem newS_ix (n : ℕ) (k : Fin 512) : newS (kAt K n) Q (ix2 k i) = colS Q K i n k := by
  unfold newS colS
  rw [gather_ix2, sPay_ix]
  simp only [qwin_ix3]
theorem newMb_ix (n : ℕ) : newMb (kAt K n) Q (ix2 0 i) = colMb Q K i n := by
  unfold newMb colMb colS
  rw [gather_ix2, mbPay_ix]
  simp only [qwin_ix3]

theorem state_zero {F : FTy → Type} [FloatOps F] (Q : Vec F QS .bf16) (K : Vec F KS .bf16) (V : Vec F VS .bf16) :
    state Q K V 0 = ⟨m0, acc0, newS (kAt K 0) Q, newMb (kAt K 0) Q, p0, a0⟩ := rfl
theorem state_succ {F : FTy → Type} [FloatOps F] (Q : Vec F QS .bf16) (K : Vec F KS .bf16) (V : Vec F VS .bf16) (n : ℕ) :
    state Q K V (n + 1) = ⟨newM (state Q K V n), newAcc (vAt V (n - 1)) (state Q K V n), newS (kAt K (n + 1)) Q, newMb (kAt K (n + 1)) Q,
      newP (state Q K V n), newA (state Q K V n)⟩ := rfl

/-- The state after `n` steps is the running softmax of the column's scores. -/
theorem state_ix : ∀ n,
    (state Q K V n).m (ix2 0 i) = runMax (colMb Q K i) n
    ∧ (∀ d, (state Q K V n).acc (ix2 d i) = runAcc (colS Q K i) (colMb Q K i) (rowV V d) n)
    ∧ (∀ k, (state Q K V n).s (ix2 k i) = colS Q K i n k)
    ∧ (state Q K V n).mb (ix2 0 i) = colMb Q K i n
    ∧ (∀ k, (state Q K V n).p (ix2 k i) = runW (colS Q K i) (colMb Q K i) n k)
    ∧ (state Q K V n).a (ix2 0 i) = runA (colMb Q K i) n
  | 0 => by
    rw [state_zero]
    dsimp only
    refine ⟨?_, fun d => ?_, fun k => newS_ix Q K i 0 k, newMb_ix Q K i 0, fun k => ?_, ?_⟩
    · exact ofBits_neginf
    · exact Ideal.ofBits_zero_f32
    · exact ofBits_zero_bf16
    · exact ofBits_one_f32
  | n + 1 => by
    obtain ⟨hm, hacc, hs, hmb, hp, ha⟩ := state_ix n
    rw [state_succ]
    dsimp only
    refine ⟨?_, fun d => ?_, fun k => newS_ix Q K i (n + 1) k, newMb_ix Q K i (n + 1), fun k => ?_, ?_⟩
    · unfold newM
      rw [gather_ix2, mPay_ix, win_ix2, win_ix2, hm, hmb, runMax]
    · unfold newAcc
      rw [gather_ix2, accPay_ix, win_ix2, win_ix2, ha, hacc, runAcc_succ]
      simp only [win_ix2, hp, rowV]
    · unfold newP
      rw [gather_ix2, pPay_ix, win_ix2, win_ix2, win_ix2, hm, hmb, hs, runW, runMax]
    · unfold newA
      rw [gather_ix2, aPay_ix, win_ix2, win_ix2, hm, hmb, runA, runMax]

theorem accEnd_ix (d : Fin 144) : accEnd Q K V (ix2 d i) = runAcc (colS Q K i) (colMb Q K i) (rowV V d) (32 + 1) := by
  obtain ⟨hm, hacc, hs, hmb, hp, ha⟩ := state_ix Q K V i 32
  unfold accEnd newAcc
  rw [runAcc_succ _ _ _ 32, gather_ix2, accPay_ix, win_ix2, win_ix2, ha, hacc]
  simp only [win_ix2, hp, rowV, Nat.reduceSub]

theorem rows_ix {α : Type} (x : (Full 144).Idx → α) (d : Fin 128) (i : Fin 2048) :
    VecWindow.window (s := Full 144) x ![0, 0] (Full 128).size inbA0 (ix2 d i) = x (ix2 ⟨d.val, by omega⟩ i) :=
  congrArg x (funext fun a => by
    fin_cases a
    · exact Fin.ext (by show 0 + 1 * d.val = d.val; omega)
    · exact Fin.ext (by show 0 + 1 * i.val = i.val; omega))
theorem row_ix {α : Type} (x : (Full 144).Idx → α) (i : Fin 2048) :
    VecWindow.window (s := Full 144) x ![128, 0] (Full 1).size inbA1 (ix2 0 i) = x (ix2 128 i) :=
  congrArg x (funext fun a => by
    fin_cases a
    · rfl
    · exact Fin.ext (by show 0 + 1 * i.val = i.val; omega))

theorem outAt_ix (d : Fin 128) : outAt Q K V (ix2 i d)
    = Ideal.div (runAcc (colS Q K i) (colMb Q K i) (rowV V ⟨d.val, by omega⟩) (32 + 1)) (runAcc (colS Q K i) (colMb Q K i) (rowV V 128) (32 + 1)) := by
  unfold outAt
  rw [outPay_ix, ← accEnd_ix, ← accEnd_ix]
  exact congrArg₂ Ideal.div (rows_ix _ d i) (row_ix _ i)

end Column

/-! ## The softmax -/

/-- Key `x` of a head, row `d` of its values, at their places in the head's arrays. -/
theorem kAt_ix (K : Vec Ideal KS .bf16) (x : Fin 16384) (e : Fin 256) : kAt K (x.val / 512) (ix3 0 ⟨x.val % 512, by omega⟩ e) = K (ix3 0 x e) := by
  unfold kAt VecWindow.window
  congr 1
  funext a; fin_cases a
  · rfl
  · exact Fin.ext (by show 512 * min (x.val / 512) 31 + 1 * (x.val % 512) = x.val; omega)
  · exact Fin.ext (by show 0 + 1 * e.val = e.val; omega)
theorem vAt_ix (V : Vec Ideal VS .bf16) (n : Fin 32) (d : Fin 144) (k : Fin 512) : vAt V n.val (ix4 0 0 d k) = V (ix4 0 n d k) := by
  unfold vAt VecWindow.window
  congr 1
  funext a; fin_cases a
  · rfl
  · exact Fin.ext (by show min n.val 31 + 1 * 0 = n.val; omega)
  · exact Fin.ext (by show 0 + 1 * d.val = d.val; omega)
  · exact Fin.ext (by show 0 + 1 * k.val = k.val; omega)

/-- The output of a head's query `i`: the softmax, to any real shift `m`, of its scores times `log 2`, times the values. -/
theorem outAt_softmax (Q : Vec Ideal QS .bf16) (K : Vec Ideal KS .bf16) (V : Vec Ideal VS .bf16) (i : Fin 2048) (d : Fin 128) (m : ℝ)
    (hQ : ∀ j, IsReal (Q j)) (hK : ∀ j, IsReal (K j)) (hV : ∀ n k, V (ix4 0 n 128 k) = 1) :
    outAt Q K V (ix2 i d) = ∑ x : Fin 16384, V (ix4 0 ⟨x.val / 512, by omega⟩ ⟨d.val, by omega⟩ ⟨x.val % 512, by omega⟩)
      * Ideal.div (Ideal.exp ((∑ e : Fin 256, Q (ix3 0 e i) * K (ix3 0 x e)) * (Real.log 2 : ℝ) - m))
          (∑ y : Fin 16384, Ideal.exp ((∑ e : Fin 256, Q (ix3 0 e i) * K (ix3 0 y e)) * (Real.log 2 : ℝ) - m)) := by
  have hs : ∀ n k, IsReal (colS Q K i n k) := fun n k => IsReal.sum _ fun x => (hK _).mul (hQ _)
  have hmb : ∀ n, IsReal (colMb Q K i n) := fun n => IsReal.fold_max ⟨0, Finset.mem_univ _⟩ (hs n)
  obtain ⟨μ, hμ⟩ := runMax_real hmb 31
  have hx : ∀ x : Fin 16384, IsReal (∑ e : Fin 256, Q (ix3 0 e i) * K (ix3 0 x e)) := fun x => IsReal.sum _ fun e => (hQ _).mul (hK _)
  choose σ hσ using hx
  have hcol : ∀ x : Fin 16384, colS Q K i (x.val / 512) ⟨x.val % 512, by omega⟩ = (σ x : EReal) := fun x => by
    rw [← hσ x]; unfold colS
    refine Finset.sum_congr rfl fun e _ => ?_
    rw [kAt_ix, mul_comm]
  have hnum : runAcc (colS Q K i) (colMb Q K i) (rowV V ⟨d.val, by omega⟩) (32 + 1)
      = ∑ x : Fin 16384, V (ix4 0 ⟨x.val / 512, by omega⟩ ⟨d.val, by omega⟩ ⟨x.val % 512, by omega⟩) * Ideal.exp2 ((σ x : EReal) - μ) := by
    rw [runAcc_eq _ hs hmb 32, hμ]
    refine (sum_blocks (a := 32) _).trans (Finset.sum_congr rfl fun x _ => ?_)
    exact congrArg₂ (fun a b : EReal => a * Ideal.exp2 (b - (μ : EReal))) (vAt_ix V ⟨x.val / 512, by have := x.isLt; omega⟩ ⟨d.val, by omega⟩ ⟨x.val % 512, by omega⟩) (hcol x)
  have hden : runAcc (colS Q K i) (colMb Q K i) (rowV V 128) (32 + 1) = ∑ x : Fin 16384, Ideal.exp2 ((σ x : EReal) - μ) := by
    rw [runAcc_eq _ hs hmb 32, hμ]
    refine (sum_blocks (a := 32) _).trans (Finset.sum_congr rfl fun x _ => ?_)
    refine (congrArg₂ (fun a b : EReal => a * Ideal.exp2 (b - (μ : EReal))) ((vAt_ix V ⟨x.val / 512, by have := x.isLt; omega⟩ 128 ⟨x.val % 512, by omega⟩).trans (hV _ _)) (hcol x)).trans ?_
    exact one_mul _
  rw [outAt_ix, hnum, hden, softmax_eq _ σ μ m]
  simp only [hσ]

end Cert.Attn

end
-- ==== Proof.ConvValue.lean ====
/-
  The convolution of a grid point at an index: the gate times the weighted sum of three rows of the block with its surroundings.
-/
module

public import Idealize.ShloMosaic.Lib.Pointwise
public import proofs.«01_k».proof.Proof.Step

@[expose] public section

set_option maxRecDepth 16384

noncomputable section

namespace Cert.Attn

open Idealize.ShloMosaic Idealize.ShloMosaic.TcCoe

/-- Row `s` of the block with its surroundings. -/
def extRow (b b' : BitVec 1) (P : Vec Ideal HS .f32) (X : Vec Ideal CS .f32) (N : Vec Ideal HS .f32) (s : ℕ) (c : Fin 1024) : EReal :=
  if h : s < 8 then (if b = 1#1 then P (ix2 ⟨s, h⟩ c) else 0)
  else if h : s - 8 < 256 then X (ix2 ⟨s - 8, h⟩ c)
  else if h : s - 264 < 8 then (if b' = 1#1 then N (ix2 ⟨s - 264, h⟩ c) else 0) else 0

theorem ofBits_zero_f32 : Ideal.ofBits .f32 0x00000000#32 = 0 := by simp [Ideal.ofBits, Ideal.ieee]

theorem mainPay_eq (X : Vec Ideal CS .f32) : mainPay X = X := shapeCast_self _ _
theorem haloPay_ix (b : BitVec 1) (P : Vec Ideal HS .f32) (r : Fin 8) (c : Fin 1024) :
    haloPay b P (ix2 r c) = if b = 1#1 then P (ix2 r c) else 0 := by
  unfold haloPay
  rw [shapeCast_self]
  rcases (show b = 1#1 ∨ b = 0#1 by revert b; decide) with rfl | rfl
  · rfl
  · exact ofBits_zero_f32

theorem ext_ix (b b' : BitVec 1) (P : Vec Ideal HS .f32) (X : Vec Ideal CS .f32) (N : Vec Ideal HS .f32) (Z : Vec Ideal ES .f32) (s : Fin 272) (c : Fin 1024) :
    ext (haloPay b P) (mainPay X) (haloPay b' N) Z (ix2 s c) = extRow b b' P X N s.val c := by
  rw [mainPay_eq]
  unfold ext extRow VecWindow.put
  have hc : c.val < 1024 := c.isLt
  have hs : s.val < 272 := s.isLt
  by_cases h3 : 264 ≤ s.val
  · rw [dif_pos (fun a => by
      fin_cases a
      · exact ⟨h3, by show s.val < 264 + 8; omega⟩
      · exact ⟨Nat.zero_le _, by show c.val < 0 + 1024; omega⟩), dif_neg (by omega), dif_neg (by omega), dif_pos (by omega)]
    rw [← haloPay_ix b' N]
    congr 1
    funext a; fin_cases a
    · rfl
    · rfl
  rw [dif_neg (fun hh => h3 (hh 0).1)]
  by_cases h2 : 8 ≤ s.val
  · rw [dif_pos (fun a => by
      fin_cases a
      · exact ⟨h2, by show s.val < 8 + 256; omega⟩
      · exact ⟨Nat.zero_le _, by show c.val < 0 + 1024; omega⟩), dif_neg (by omega), dif_pos (by omega)]
    congr 1
    funext a; fin_cases a
    · rfl
    · rfl
  rw [dif_neg (fun hh => h2 (hh 0).1)]
  rw [dif_pos (fun a => by
      fin_cases a
      · exact ⟨Nat.zero_le _, by show s.val < 0 + 8; omega⟩
      · exact ⟨Nat.zero_le _, by show c.val < 0 + 1024; omega⟩), dif_pos (by omega)]
  rw [← haloPay_ix b P]
  congr 1
  funext a; fin_cases a
  · rfl
  · rfl

theorem convPay_ix (w0 : Vec Ideal WB .f32) (x0 : Vec Ideal TB .f32) (w1 : Vec Ideal WB .f32) (x1 : Vec Ideal TB .f32) (w2 : Vec Ideal WB .f32) (x2 : Vec Ideal TB .f32)
    (g : Vec Ideal TB .f32) (i j : Fin 128) :
    convPay w0 x0 w1 x1 w2 x2 g (ix2 i j) = g (ix2 i j) * (w0 (ix2 0 j) * x0 (ix2 i j) + w1 (ix2 0 j) * x1 (ix2 i j) + w2 (ix2 0 j) * x2 (ix2 i j)) := by
  pointwise [convPay]

/-- A window of an array with two axes, at an index. -/
theorem window_ix2 {α : Type} {A B a b : ℕ} (x : (⟨2, ![A, B]⟩ : Shape).Idx → α) (o p : ℕ) (h) (i : Fin a) (j : Fin b) (i' : Fin A) (j' : Fin B)
    (hi : i'.val = o + i.val) (hj : j'.val = p + j.val) :
    VecWindow.window (s := ⟨2, ![A, B]⟩) x ![o, p] (⟨2, ![a, b]⟩ : Shape).size h (ix2 i j) = x (ix2 i' j') := by
  unfold VecWindow.window
  congr 1
  funext c; fin_cases c
  · exact Fin.ext (by show o + 1 * i.val = i'.val; omega)
  · exact Fin.ext (by show p + 1 * j.val = j'.val; omega)

/-- What the convolution writes, at an index. -/
theorem convAt_ix (b b' : BitVec 1) (P : Vec Ideal HS .f32) (X : Vec Ideal CS .f32) (N : Vec Ideal HS .f32) (G : Vec Ideal CS .f32) (W : Vec Ideal WS .f32)
    (r : Fin 256) (c : Fin 1024) :
    convAt b b' P X N G W (ix2 r c) = G (ix2 r c) * (W (ix2 0 c) * extRow b b' P X N (7 + r.val) c + W (ix2 1 c) * extRow b b' P X N (8 + r.val) c
      + W (ix2 2 c) * extRow b b' P X N (9 + r.val) c) := by
  have hr : r.val < 256 := r.isLt
  have hc : c.val < 1024 := c.isLt
  unfold convAt tiles
  have e : inTile (ix2 r c) = ix2 ⟨r.val % 128, by omega⟩ ⟨c.val % 128, by omega⟩ := by funext a; fin_cases a <;> rfl
  have ht : (tileOf (ix2 r c)).val = 8 * (r.val / 128) + c.val / 128 := rfl
  generalize tileOf (ix2 r c) = t at ht ⊢
  rw [e]
  unfold tile
  rw [convPay_ix, window_ix2 G _ _ _ _ _ r c (by simp only [tr]; omega) (by simp only [tc]; omega),
    window_ix2 W _ _ _ _ _ 0 c (by simp) (by simp only [tc]; omega), window_ix2 W _ _ _ _ _ 1 c (by simp) (by simp only [tc]; omega),
    window_ix2 W _ _ _ _ _ 2 c (by simp) (by simp only [tc]; omega),
    window_ix2 _ (7 + tr t) _ _ _ _ ⟨7 + r.val, by omega⟩ c (by simp only [tr]; omega) (by simp only [tc]; omega),
    window_ix2 _ (8 + tr t) _ _ _ _ ⟨8 + r.val, by omega⟩ c (by simp only [tr]; omega) (by simp only [tc]; omega),
    window_ix2 _ (9 + tr t) _ _ _ _ ⟨9 + r.val, by omega⟩ c (by simp only [tr]; omega) (by simp only [tc]; omega),
    ext_ix, ext_ix, ext_ix]

end Cert.Attn

end
-- ==== Proof.Reference.lean ====
/-
  The reference's two results at an index: the softmax of the scores times `log 2`, times the values; and the gate times the
  weighted sum of three rows, zero before the first row and after the last.
-/
module

public import proofs.«01_k».proof.Proof.Gen.ReferenceIdeal
public import Idealize.ShloMosaic.Lib.Pointwise
public import proofs.«01_k».proof.Proof.StateValue

@[expose] public section

set_option maxRecDepth 16384

noncomputable section

namespace Cert.Attn

open Cert.ReferenceIdeal Cert.ReferenceIdeal.Gen Idealize.ShloMosaic Idealize.ShloMosaic.TcCoe

section
variable {F : FTy → Type} [FloatOps F]

/-- The scores, their maximum over the keys, the exponentials, the weights, the weighted values. -/
def rScores (q : FVec F S8x256x16384 .bf16) (k : FVec F S8x16384x256 .bf16) : FVec F S8x16384x16384 .f32 :=
  mulf (Host.dotGeneral dot_S8x256x16384_S8x16384x256_S8x16384x16384_1_2_2_1_0_0 none q k) (broadcastInDim S8x16384x16384 ![] bcast_S_S8x16384x16384 (Host.log (constant S_ .f32 0x40000000#32)))
def rFold (s : FVec F S8x16384x16384 .f32) : FVec F S8x16384 .f32 :=
  Host.reduce FloatOps.maximumf s (constant S_ .f32 0xFF800000#32) reducesTo_S8x16384x16384_S8x16384_d2 h_S_
def rMax (f : FVec F S8x16384 .f32) : FVec F S8x16384 .f32 :=
  maximumf (broadcastInDim S8x16384 ![] bcast_S_S8x16384 (constant S_ .f32 0xFF800000#32)) f
def rExp (s : FVec F S8x16384x16384 .f32) (m : FVec F S8x16384 .f32) : FVec F S8x16384x16384 .f32 :=
  Host.exp (subf s (broadcastInDim S8x16384x16384 ![0, 1, 2] bcast_S8x16384x1_S8x16384x16384_0_1_2 (broadcastInDim S8x16384x1 ![0, 1] bcast_S8x16384_S8x16384x1_0_1 m)))
def rWeights (e : FVec F S8x16384x16384 .f32) : FVec F S8x16384x16384 .bf16 :=
  truncf .bf16 (Host.divf e (broadcastInDim S8x16384x16384 ![0, 1, 2] bcast_S8x16384x1_S8x16384x16384_0_1_2 (broadcastInDim S8x16384x1 ![0, 1] bcast_S8x16384_S8x16384x1_0_1 (Host.reduceAdd e (constant S_ .f32 0x00000000#32) reducesTo_S8x16384x16384_S8x16384_d2 h_S_)))) bitsLt_bf16_f32
def rOut (v : FVec F S8x32x144x512 .bf16) (p : FVec F S8x16384x16384 .bf16) : FVec F S16384x1024 .bf16 :=
  truncf .bf16 (shapeCast S16384x1024 (transpose S16384x8x128 [2, 0, 1] (Host.dotGeneral dot_S8x16384x128_S8x16384x16384_S8x128x16384_1_2_2_1_0_0 none (shapeCast S8x16384x128 (transpose S8x32x512x128 [0, 1, 3, 2] (extractStridedSlice S8x32x128x512 ![0, 0, 0, 0] v slices_S8x32x144x512_S8x32x128x512_0_0_0_0) transposes_S8x32x128x512_S8x32x512x128_0_1_3_2) shapeCasts_S8x32x512x128_S8x16384x128) p) transposes_S8x128x16384_S16384x8x128_2_0_1) shapeCasts_S16384x8x128_S16384x1024) bitsLt_bf16_f32
/-- The attention of the reference. -/
def rYd (q : FVec F S8x256x16384 .bf16) (k : FVec F S8x16384x256 .bf16) (v : FVec F S8x32x144x512 .bf16) : FVec F S16384x1024 .bf16 :=
  rOut v (rWeights (rExp (rScores q k) (rMax (rFold (rScores q k)))))

/-- The rows with one more before and one after. -/
def rPad (x : FVec F S16384x1024 .f32) : FVec F S16386x1024 .f32 :=
  pad S16386x1024 ![1, 0] ![1, 0] ![0, 0] x (sitofp .f32 (constantI S_ 32 0#32)) pads_S16384x1024_S16386x1024_110_000 h_S_
/-- The short gated convolution of the reference, from the padded rows. -/
def rConv (g : FVec F S16384x1024 .f32) (xp : FVec F S16386x1024 .f32) (w : FVec F S3x1024 .f32) : FVec F S16384x1024 .bf16 :=
  truncf .bf16 (mulf g (addf (addf
    (mulf (broadcastInDim S16384x1024 ![0, 1] bcast_S1x1024_S16384x1024_0_1 (broadcastInDim S1x1024 ![1] bcast_S1024_S1x1024_1 (shapeCast S1024 (extractStridedSlice S1x1024 ![0, 0] w slices_S3x1024_S1x1024_0_0) shapeCasts_S1x1024_S1024))) (extractStridedSlice S16384x1024 ![0, 0] xp slices_S16386x1024_S16384x1024_0_0))
    (mulf (broadcastInDim S16384x1024 ![0, 1] bcast_S1x1024_S16384x1024_0_1 (broadcastInDim S1x1024 ![1] bcast_S1024_S1x1024_1 (shapeCast S1024 (extractStridedSlice S1x1024 ![1, 0] w slices_S3x1024_S1x1024_1_0) shapeCasts_S1x1024_S1024))) (extractStridedSlice S16384x1024 ![1, 0] xp slices_S16386x1024_S16384x1024_1_0)))
    (mulf (broadcastInDim S16384x1024 ![0, 1] bcast_S1x1024_S16384x1024_0_1 (broadcastInDim S1x1024 ![1] bcast_S1024_S1x1024_1 (shapeCast S1024 (extractStridedSlice S1x1024 ![2, 0] w slices_S3x1024_S1x1024_2_0) shapeCasts_S1x1024_S1024))) (extractStridedSlice S16384x1024 ![2, 0] xp slices_S16386x1024_S16384x1024_2_0)))) bitsLt_bf16_f32
end

theorem ofBits_two : Ideal.ofBits .f32 0x40000000#32 = ((2 : ℝ) : EReal) := by simp [Ideal.ofBits, Ideal.ieee, -EReal.coe_mul]; norm_num
theorem log_two : Ideal.log (Ideal.ofBits .f32 0x40000000#32) = ((Real.log 2 : ℝ) : EReal) := by
  rw [ofBits_two, Ideal.log_coe, if_neg (by norm_num)]

theorem rScores_ix (q : FVec Ideal S8x256x16384 .bf16) (k : FVec Ideal S8x16384x256 .bf16) (h : Fin 8) (a b : Fin 16384) :
    rScores q k (ix3 h a b) = (∑ x : Fin 256, q (ix3 h x a) * k (ix3 h b x)) * (Real.log 2 : ℝ) := by
  rw [← log_two]
  pointwise [rScores]

/-- A maximum over an axis of real numbers, from minus infinity. -/
theorem reduce_max_real {s t u : Shape} {axes : List (Fin s.rank)} (h : s.ReducesTo axes t) (x : FVec Ideal s .f32) (init : FVec Ideal u .f32)
    (hu : 0 < u.numel) (hi : init (Shape.Idx.first hu) = ⊥) (hx : ∀ i, IsReal (x i)) (j : t.Idx) (hj : ∃ i, h.drop i = j) :
    IsReal (Host.reduce (α := Ideal .f32) (FloatOps.maximumf) x init h hu j) := by
  obtain ⟨i, hij⟩ := hj
  have e : Host.reduce (α := Ideal .f32) (FloatOps.maximumf) x init h hu j = (Finset.univ.filter fun i => h.drop i = j).fold Max.max ⊥ x :=
    (Host.reduce_eq_fold (f := (Max.max : EReal → EReal → EReal)) x init h hu j).trans (by rw [hi])
  rw [e]
  exact IsReal.fold_max ⟨i, Finset.mem_filter.mpr ⟨Finset.mem_univ i, hij⟩⟩ hx

theorem rFold_real (s : FVec Ideal S8x16384x16384 .f32) (hs : ∀ i, IsReal (s i)) (h : Fin 8) (a : Fin 16384) : IsReal (rFold s (ix2 h a)) := by
  unfold rFold
  refine reduce_max_real _ s _ _ ?_ hs _ ⟨ix3 h a 0, ?_⟩
  · exact ofBits_neginf
  · funext b
    fin_cases b
    · exact Fin.ext (Shape.ReducesTo.drop_apply_val_of_eq reducesTo_S8x16384x16384_S8x16384_d2 (ix3 h a 0) 0 0)
    · exact Fin.ext (Shape.ReducesTo.drop_apply_val_of_eq reducesTo_S8x16384x16384_S8x16384_d2 (ix3 h a 0) 1 1)

theorem rMax_ix (f : FVec Ideal S8x16384 .f32) (h : Fin 8) (a : Fin 16384) : rMax f (ix2 h a) = max ⊥ (f (ix2 h a)) := by
  rw [← ofBits_neginf]
  pointwise [rMax]
theorem rExp_ix (s : FVec Ideal S8x16384x16384 .f32) (m : FVec Ideal S8x16384 .f32) (h : Fin 8) (a b : Fin 16384) :
    rExp s m (ix3 h a b) = Ideal.exp (s (ix3 h a b) - m (ix2 h a)) := by
  pointwise [rExp]
theorem rWeights_ix (s : FVec Ideal S8x16384x16384 .f32) (h : Fin 8) (a b : Fin 16384) :
    rWeights s (ix3 h a b) = Ideal.div (s (ix3 h a b)) (∑ x : Fin 16384, s (ix3 h a x)) := by
  pointwise [rWeights]
theorem rOut_ix (v : FVec Ideal S8x32x144x512 .bf16) (p : FVec Ideal S8x16384x16384 .bf16) (a : Fin 16384) (b : Fin 1024) :
    rOut v p (ix2 a b) = ∑ x : Fin 16384, v (ix4 ⟨b.val / 128, by omega⟩ ⟨x.val / 512, by omega⟩ ⟨b.val % 128, by omega⟩ ⟨x.val % 512, by omega⟩)
      * p (ix3 ⟨b.val / 128, by omega⟩ a x) := by
  pointwise [rOut]

/-- Row `a` of the padded rows. -/
def padRow (x : FVec Ideal S16384x1024 .f32) (a : ℕ) (b : Fin 1024) : EReal :=
  if h : 1 ≤ a ∧ a - 1 < 16384 then x (ix2 ⟨a - 1, h.2⟩ b) else 0

theorem rPad_ix (x : FVec Ideal S16384x1024 .f32) (a : Fin 16386) (b : Fin 1024) : rPad x (ix2 a b) = padRow x a.val b := by
  have h0 : (FloatOps.sitofp FTy.f32 0#32 : Ideal .f32) = 0 := by
    show (((0#32 : BitVec 32).toInt : ℝ) : EReal) = 0
    simp
  unfold padRow
  rw [← h0]
  pointwise [rPad]
theorem rConv_ix (g : FVec Ideal S16384x1024 .f32) (xp : FVec Ideal S16386x1024 .f32) (w : FVec Ideal S3x1024 .f32) (a : Fin 16384) (b : Fin 1024) :
    rConv g xp w (ix2 a b) = g (ix2 a b) * (w (ix2 0 b) * xp (ix2 ⟨a.val, by omega⟩ b) + w (ix2 1 b) * xp (ix2 ⟨1 + a.val, by omega⟩ b)
      + w (ix2 2 b) * xp (ix2 ⟨2 + a.val, by omega⟩ b)) := by
  pointwise [rConv]

/-- The reference's convolution at an index. -/
theorem rConvPad_ix (g x : FVec Ideal S16384x1024 .f32) (w : FVec Ideal S3x1024 .f32) (a : Fin 16384) (b : Fin 1024) :
    rConv g (rPad x) w (ix2 a b) = g (ix2 a b) * (w (ix2 0 b) * padRow x a.val b + w (ix2 1 b) * padRow x (1 + a.val) b
      + w (ix2 2 b) * padRow x (2 + a.val) b) := by
  rw [rConv_ix, rPad_ix, rPad_ix, rPad_ix]

/-- The reference's attention at an index: with finite queries and keys, the softmax against some real number. -/
theorem rYd_ix (q : FVec Ideal S8x256x16384 .bf16) (k : FVec Ideal S8x16384x256 .bf16) (v : FVec Ideal S8x32x144x512 .bf16)
    (hq : ∀ i, IsReal (q i)) (hk : ∀ i, IsReal (k i)) (a : Fin 16384) (b : Fin 1024) : ∃ m : ℝ,
    rYd q k v (ix2 a b) = ∑ x : Fin 16384, v (ix4 ⟨b.val / 128, by omega⟩ ⟨x.val / 512, by omega⟩ ⟨b.val % 128, by omega⟩ ⟨x.val % 512, by omega⟩)
      * Ideal.div (Ideal.exp ((∑ e : Fin 256, q (ix3 ⟨b.val / 128, by omega⟩ e a) * k (ix3 ⟨b.val / 128, by omega⟩ x e)) * (Real.log 2 : ℝ) - (m : EReal)))
          (∑ y : Fin 16384, Ideal.exp ((∑ e : Fin 256, q (ix3 ⟨b.val / 128, by omega⟩ e a) * k (ix3 ⟨b.val / 128, by omega⟩ y e)) * (Real.log 2 : ℝ) - (m : EReal))) := by
  have hs : ∀ i, IsReal (rScores q k i) := by
    intro i
    have e : i = ix3 (i 0) (i 1) (i 2) := by funext c; fin_cases c <;> rfl
    rw [e]
    refine (congrArg IsReal (rScores_ix q k (i 0) (i 1) (i 2))).mpr ?_
    exact (IsReal.sum _ fun x => (hq _).mul (hk _)).mul ⟨_, rfl⟩
  obtain ⟨m, hm⟩ := rFold_real (rScores q k) hs ⟨b.val / 128, by omega⟩ a
  refine ⟨m, ?_⟩
  unfold rYd
  rw [rOut_ix]
  refine Finset.sum_congr rfl fun x _ => ?_
  simp only [rWeights_ix, rExp_ix, rMax_ix, hm, rScores_ix, max_eq_right bot_le]
end Cert.Attn

end
-- ==== Proof.Value.lean ====
/-
  The two result arrays of the kernel after its run are the reference's two results: block by block, the attention by the softmax
  against any real number, the convolution by its rows.
-/
module

public import Idealize.ShloMosaic.Lib.Pipeline.ValueKit
public import proofs.«01_k».proof.Proof.KernelIdealRun
public import proofs.«01_k».proof.Proof.StateValue
public import proofs.«01_k».proof.Proof.ConvValue
public import proofs.«01_k».proof.Proof.Reference

@[expose] public section

set_option maxRecDepth 16384

noncomputable section

namespace Cert.KernelIdeal.Attn

open Cert.KernelIdeal Cert.KernelIdeal.Gen Cert.Attn
open Idealize.ShloMosaic Idealize.ShloMosaic.TcCoe
open Idealize.ShloMosaic.Pipeline (Dat Cfg Window)

variable (m : (ℓ : Loc nD τ sig) → Buf (Elt Ideal) ℓ)

/-! ## The blocks of a grid point -/

theorem idx0 : ∀ t : Fin grid0.N, win0_0.index t 0 = t.val / 8 ∧ win0_0.index t 1 = 0 ∧ win0_0.index t 2 = t.val % 8 := by decide +kernel
theorem idx1 : ∀ t : Fin grid0.N, win0_1.index t 0 = t.val / 8 ∧ win0_1.index t 1 = 0 ∧ win0_1.index t 2 = 0 := by decide +kernel
theorem idx2 : ∀ t : Fin grid0.N, win0_2.index t 0 = t.val / 8 ∧ win0_2.index t 1 = 0 ∧ win0_2.index t 2 = 0 ∧ win0_2.index t 3 = 0 := by decide +kernel
theorem idx3 : ∀ t : Fin grid0.N, win0_3.index t 0 = 32 * t.val - 1 ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = min (32 * (t.val + 1)) 2047 ∧ win0_5.index t 1 = 0 := by decide +kernel
theorem idx6 : ∀ t : Fin grid0.N, win0_6.index t 0 = t.val ∧ win0_6.index t 1 = 0 := by decide +kernel
theorem idx7 : ∀ t : Fin grid0.N, win0_7.index t 0 = 0 ∧ win0_7.index t 1 = 0 := by decide +kernel
theorem idx8 : ∀ t : Fin grid0.N, win0_8.index t 0 = t.val % 8 ∧ win0_8.index t 1 = t.val / 8 := by decide +kernel
theorem idx9 : ∀ t : Fin grid0.N, win0_9.index t 0 = t.val ∧ win0_9.index t 1 = 0 := by decide +kernel
theorem prev_iff : ∀ t : Fin grid0.N, hasPrev (grid0.coords t) = 1#1 ↔ 1 ≤ t.val := by decide +kernel
theorem next_iff : ∀ t : Fin grid0.N, hasNext (grid0.coords t) = 1#1 ↔ t.val < 63 := by decide +kernel
theorem t_lt (t : Fin cfg0.N) : t.val < 64 := lt_of_lt_of_eq t.isLt N_0

section Blocks
variable (c : Dev nD) (t : Fin cfg0.N)

theorem iblk0_ix (e : Fin 256) (i : Fin 2048) : iblk m c 0 t (ix3 (0 : Fin 1) e i)
    = m ((c : Thread nD τ).loc main_arg0) (ix3 ⟨t.val / 8, by have := t_lt t; omega⟩ e ⟨2048 * (t.val % 8) + i.val, by omega⟩) := by
  blk_ext [iblk, V, idx0 t]
theorem iblk1_ix (x : Fin 16384) (e : Fin 256) : iblk m c 1 t (ix3 (0 : Fin 1) x e)
    = m ((c : Thread nD τ).loc main_arg1) (ix3 ⟨t.val / 8, by have := t_lt t; omega⟩ x e) := by
  blk_ext [iblk, V, idx1 t]
theorem iblk2_ix (n : Fin 32) (k : Fin 144) (l : Fin 512) : iblk m c 2 t (ix4 (0 : Fin 1) n k l)
    = m ((c : Thread nD τ).loc main_arg2) (ix4 ⟨t.val / 8, by have := t_lt t; omega⟩ n k l) := by
  blk_ext [iblk, V, idx2 t]
theorem iblk4_ix (r : Fin 256) (j : Fin 1024) : iblk m c 4 t (ix2 r j)
    = m ((c : Thread nD τ).loc main_arg4) (ix2 ⟨256 * t.val + r.val, by have := t_lt t; omega⟩ j) := by
  blk_ext [iblk, V, idx4 t]
theorem iblk3_ix (r : Fin 8) (j : Fin 1024) : iblk m c 3 t (ix2 r j)
    = m ((c : Thread nD τ).loc main_arg4) (ix2 ⟨8 * (32 * t.val - 1) + r.val, by have := t_lt t; omega⟩ j) := by
  blk_ext [iblk, V, idx3 t]
theorem iblk5_ix (r : Fin 8) (j : Fin 1024) : iblk m c 5 t (ix2 r j)
    = m ((c : Thread nD τ).loc main_arg4) (ix2 ⟨8 * min (32 * (t.val + 1)) 2047 + r.val, by have := t_lt t; omega⟩ j) := by
  blk_ext [iblk, V, idx5 t]
theorem iblk6_ix (r : Fin 256) (j : Fin 1024) : iblk m c 6 t (ix2 r j)
    = m ((c : Thread nD τ).loc main_arg3) (ix2 ⟨256 * t.val + r.val, by have := t_lt t; omega⟩ j) := by
  blk_ext [iblk, V, idx6 t]
theorem iblk7_ix (r : Fin 3) (j : Fin 1024) : iblk m c 7 t (ix2 r j) = m ((c : Thread nD τ).loc main_arg5) (ix2 r j) := by
  blk_ext [iblk, V, idx7 t]

/-- The rows around a block are the padded rows of the array. -/
theorem extRow_eq (s : ℕ) (j : Fin 1024) (h7 : 7 ≤ s) (h264 : s ≤ 264) :
    extRow (hasPrev (grid0.coords t)) (hasNext (grid0.coords t)) (iblk m c 3 t) (iblk m c 4 t) (iblk m c 5 t) s j
      = padRow (m ((c : Thread nD τ).loc main_arg4)) (256 * t.val + s - 7) j := by
  have ht := t_lt t
  unfold extRow padRow
  by_cases h1 : s < 8
  · rw [dif_pos h1]
    by_cases hp : 1 ≤ t.val
    · rw [if_pos ((prev_iff t).mpr hp), dif_pos (by omega), iblk3_ix]
      congr 2
      exact Fin.ext (by show 8 * (32 * t.val - 1) + s = 256 * t.val + s - 7 - 1; omega)
    · rw [if_neg (fun h => hp ((prev_iff t).mp h)), dif_neg (by omega)]
  rw [dif_neg h1]
  by_cases h2 : s - 8 < 256
  · rw [dif_pos h2, dif_pos (by omega), iblk4_ix]
    congr 2
    exact Fin.ext (by show 256 * t.val + (s - 8) = 256 * t.val + s - 7 - 1; omega)
  rw [dif_neg h2, dif_pos (by omega)]
  by_cases hn : t.val < 63
  · rw [if_pos ((next_iff t).mpr hn), dif_pos (by omega), iblk5_ix]
    congr 2
    exact Fin.ext (by show 8 * min (32 * (t.val + 1)) 2047 + (s - 264) = 256 * t.val + s - 7 - 1; omega)
  · rw [if_neg (fun h => hn ((next_iff t).mp h)), dif_neg (by omega)]

/-- The convolution's block. -/
theorem yc_ix (r : Fin 256) (j : Fin 1024) : yc m c t (ix2 r j)
    = rConv (F := Ideal) (m ((c : Thread nD τ).loc main_arg3)) (rPad (F := Ideal) (m ((c : Thread nD τ).loc main_arg4))) (m ((c : Thread nD τ).loc main_arg5))
        (ix2 ⟨256 * t.val + r.val, by have := t_lt t; omega⟩ j) := by
  have hr : r.val < 256 := r.isLt
  unfold yc
  rw [convAt_ix, rConvPad_ix, extRow_eq m c t _ j (by omega) (by omega), extRow_eq m c t _ j (by omega) (by omega),
    extRow_eq m c t _ j (by omega) (by omega), iblk6_ix, iblk7_ix, iblk7_ix, iblk7_ix]
  rw [show 256 * t.val + (7 + r.val) - 7 = 256 * t.val + r.val by omega, show 256 * t.val + (8 + r.val) - 7 = 1 + (256 * t.val + r.val) by omega,
    show 256 * t.val + (9 + r.val) - 7 = 2 + (256 * t.val + r.val) by omega]

/-- The attention's block. -/
theorem yd_ix (hq : ∀ i, IsReal (m ((c : Thread nD τ).loc main_arg0) i)) (hk : ∀ i, IsReal (m ((c : Thread nD τ).loc main_arg1) i))
    (hv : ∀ h n l, m ((c : Thread nD τ).loc main_arg2) (ix4 h n (128 : Fin 144) l) = (1 : EReal)) (i : Fin 2048) (d : Fin 128) : yd m c t (ix2 i d)
    = rYd (F := Ideal) (m ((c : Thread nD τ).loc main_arg0)) (m ((c : Thread nD τ).loc main_arg1)) (m ((c : Thread nD τ).loc main_arg2))
        (ix2 ⟨2048 * (t.val % 8) + i.val, by omega⟩ ⟨128 * (t.val / 8) + d.val, by have := t_lt t; omega⟩) := by
  have ht := t_lt t
  have hd : d.val < 128 := d.isLt
  obtain ⟨μ, hμ⟩ := rYd_ix (m ((c : Thread nD τ).loc main_arg0)) (m ((c : Thread nD τ).loc main_arg1)) (m ((c : Thread nD τ).loc main_arg2)) hq hk
    ⟨2048 * (t.val % 8) + i.val, by omega⟩ ⟨128 * (t.val / 8) + d.val, by omega⟩
  rw [hμ]
  unfold yd
  rw [outAt_softmax (iblk m c 0 t) (iblk m c 1 t) (iblk m c 2 t) i d μ (fun j => ?_) (fun j => ?_) (fun n k => (iblk2_ix m c t n 128 k).trans (hv _ n k))]
  · have e1 : (⟨(128 * (t.val / 8) + d.val) / 128, by omega⟩ : Fin 8) = ⟨t.val / 8, by omega⟩ := Fin.ext (by show (128 * (t.val / 8) + d.val) / 128 = t.val / 8; omega)
    have e2 : (⟨(128 * (t.val / 8) + d.val) % 128, by omega⟩ : Fin 144) = ⟨d.val, by omega⟩ := Fin.ext (by show (128 * (t.val / 8) + d.val) % 128 = d.val; omega)
    simp only [iblk0_ix, iblk1_ix, iblk2_ix, e1, e2]
  · have e : j = ix3 (0 : Fin 1) (j 1) (j 2) := by funext a; fin_cases a; exacts [Subsingleton.elim (α := Fin 1) _ _, rfl, rfl]
    rw [e]
    exact (congrArg IsReal (iblk0_ix m c t (j 1) (j 2))).mpr (hq _)
  · have e : j = ix3 (0 : Fin 1) (j 1) (j 2) := by funext a; fin_cases a; exacts [Subsingleton.elim (α := Fin 1) _ _, rfl, rfl]
    rw [e]
    exact (congrArg IsReal (iblk1_ix m c t (j 1) (j 2))).mpr (hk _)
end Blocks

/-! ## The arrays -/

theorem final_c (c : Dev nD) : (dats m 0 c).arrAt 9 cfg0.N
    = rConv (F := Ideal) (m ((c : Thread nD τ).loc main_arg3)) (rPad (F := Ideal) (m ((c : Thread nD τ).loc main_arg4))) (m ((c : Thread nD τ).loc main_arg5)) := by
  refine (dats m 0 c).arrAt_eq_of_covers 9 _ (by decide +kernel) fun t _ y => ?_
  blk_simp
  have ey : y = ix2 (y 0 : Fin 256) (y 1 : Fin 1024) := by funext a; fin_cases a <;> rfl
  have ht := t_lt t
  have h0 : (y 0).val < 256 := (y 0).isLt
  have h1 : (y 1).val < 1024 := (y 1).isLt
  have e : (win0_9.blk t).view.emb y = ix2 (⟨256 * t.val + (y 0).val, by omega⟩ : Fin 16384) (⟨(y 1).val, h1⟩ : Fin 1024) := by blk_ext [idx9 t]
  rw [e]
  refine Eq.trans ?_ (yc_ix m c t ⟨(y 0).val, h0⟩ ⟨(y 1).val, h1⟩)
  exact congrArg (yc m c t) ey
theorem final_d (c : Dev nD) (hq : ∀ i, IsReal (m ((c : Thread nD τ).loc main_arg0) i)) (hk : ∀ i, IsReal (m ((c : Thread nD τ).loc main_arg1) i))
    (hv : ∀ h n l, m ((c : Thread nD τ).loc main_arg2) (ix4 h n (128 : Fin 144) l) = (1 : EReal)) : (dats m 0 c).arrAt 8 cfg0.N
    = rYd (F := Ideal) (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  have ey : y = ix2 (y 0 : Fin 2048) (y 1 : Fin 128) := by funext a; fin_cases a <;> rfl
  have ht := t_lt t
  have h0 : (y 0).val < 2048 := (y 0).isLt
  have h1 : (y 1).val < 128 := (y 1).isLt
  have e : (win0_8.blk t).view.emb y = ix2 (⟨2048 * (t.val % 8) + (y 0).val, by omega⟩ : Fin 16384) (⟨128 * (t.val / 8) + (y 1).val, by omega⟩ : Fin 1024) := by blk_ext [idx8 t]
  rw [e]
  refine Eq.trans ?_ (yd_ix m c t hq hk hv ⟨(y 0).val, h0⟩ ⟨(y 1).val, h1⟩)
  exact congrArg (yd m c t) ey
end Cert.KernelIdeal.Attn

end
-- ==== Proof.Pre.lean ====
/-
  What the precondition says of the arguments: queries and keys are real numbers, and the row after the values is all ones.
-/
module

public import proofs.«01_k».proof.Proof.Gen.Pre_finite_scores_and_ones_row
public import Idealize.ShloMosaic.Lib.Pointwise
public import proofs.«01_k».proof.Proof.StateValue

@[expose] public section

set_option maxRecDepth 16384

noncomputable section

namespace Cert.Attn

open Cert.Pre_finite_scores_and_ones_row Cert.Pre_finite_scores_and_ones_row.Gen Idealize.ShloMosaic Idealize.ShloMosaic.TcCoe

theorem ofBits_inf : Ideal.ofBits .f32 0x7F800000#32 = ⊤ := by simp [Ideal.ofBits, Ideal.ieee]

/-- Below infinity in absolute value is real. -/
theorem real_of_lt (x : EReal) (h : Ideal.cmp .olt (max x (-x)) (Ideal.ofBits .f32 0x7F800000#32) = 1#1) : IsReal x := by
  rw [ofBits_inf] at h
  induction x with
  | bot => simp [Ideal.cmp] at h
  | top => simp [Ideal.cmp] at h
  | coe r => exact ⟨r, rfl⟩

variable (q : FVec Ideal S8x256x16384 .bf16) (k : FVec Ideal S8x16384x256 .bf16) (v : FVec Ideal S8x32x144x512 .bf16)
  (g x : FVec Ideal S16384x1024 .f32) (w : FVec Ideal S3x1024 .f32)

theorem pre_q (h : (fn (F := Ideal) q k v g x w).1 = fun _ => 1#1) (i : S8x256x16384.Idx) : IsReal (q i) :=
  real_of_lt _ (congrFun h i)
theorem pre_k (h : (fn (F := Ideal) q k v g x w).2.1 = fun _ => 1#1) (i : S8x16384x256.Idx) : IsReal (k i) :=
  real_of_lt _ (congrFun h i)

theorem ones_ix (a : Fin 8) (b : Fin 32) (d : Fin 512) :
    (fn (F := Ideal) q k v g x w).2.2 (ix3 a b d) = Ideal.cmp .oeq (v (ix4 a b 128 d)) (Ideal.ofBits .f32 0x3F800000#32) := by
  pointwise [fn]
theorem pre_v (h : (fn (F := Ideal) q k v g x w).2.2 = fun _ => 1#1) (a : Fin 8) (b : Fin 32) (d : Fin 512) : v (ix4 a b 128 d) = (1 : EReal) := by
  have e := (ones_ix q k v g x w a b d).symm.trans (congrFun h (ix3 a b d))
  rw [ofBits_one_f32] at e
  by_contra hne
  simp [Ideal.cmp, hne] at e

end Cert.Attn

end
-- ==== Proof.InProj.lean ====
/-
  What the input projections compute, a row at a time: a row divided by its root mean square, and the columns of a matrix its
  products take; and how blocks of columns are loaded and stored.
-/
module

public import Idealize.ShloMosaic.Lib.Pipeline.ValueKit
public import Idealize.ShloMosaic.Lib.Pipeline.ReadBack
public import Idealize.ShloMosaic.Lib.Pointwise

@[expose] public section

set_option maxRecDepth 16384

noncomputable section

namespace Cert.InProj

open Idealize.ShloMosaic Idealize.ShloMosaic.TcCoe

/-- A row divided by its root mean square, times the weights `g`; `c` is the number of its entries, written as a 32-bit float. -/
def rms {n : ℕ} (c : BitVec 32) (v g : Fin n → EReal) (q : Fin n) : EReal :=
  v q * Ideal.rsqrt (Ideal.div (∑ k : Fin n, v k * v k) (Ideal.ofBits .f32 c) + Ideal.ofBits .f32 0x358637BD#32) * g q

/-- The number of columns of the residual stream. -/
abbrev c2048 : BitVec 32 := 0x45000000#32

/-- The normalized row `s` of `x` times column `e` of `w`. -/
def row {R N : ℕ} (x : Vec Ideal ⟨2, ![R, 2048]⟩ .f32) (g : Vec Ideal ⟨2, ![1, 2048]⟩ .f32) (w : Vec Ideal ⟨2, ![2048, N]⟩ .bf16) (s : Fin R) (e : Fin N) : EReal :=
  ∑ k : Fin 2048, rms c2048 (fun k => x (ix2 s k)) (fun k => g (ix2 0 k)) k * w (ix2 k e)

/-- `1 / (1 + e⁻ᵗ)`. -/
def sgm (t : EReal) : EReal := Ideal.logistic t

/-! ## Blocks of columns -/

theorem rect_cols {A B n : ℕ} (p : ℕ) (hb) (r : Fin A) (j : Fin n) (hj : p + j.val < B) :
    (Rect.unit (s := ⟨2, ![A, B]⟩) ![0, p] ![A, n] hb).idx (ix2 r j) = ix2 r ⟨p + j.val, hj⟩ := by
  funext a
  apply Fin.ext
  fin_cases a
  · show 0 + 1 * r.val = r.val; omega
  · show p + 1 * j.val = p + j.val; omega

theorem ld_cols {e : EltTy} {A B n : ℕ} (X : Vec Ideal ⟨2, ![A, B]⟩ e) (p : ℕ) (hb) (r : Fin A) (j : Fin n) (hj : p + j.val < B) :
    View.ld X (Rect.unit (s := ⟨2, ![A, B]⟩) ![0, p] ![A, n] hb) (ix2 r j) = X (ix2 r ⟨p + j.val, hj⟩) :=
  congrArg X (rect_cols p hb r j hj)

theorem ld_all {e : EltTy} {A B : ℕ} (X : Vec Ideal ⟨2, ![A, B]⟩ e) (hb) :
    View.ld X (Rect.unit (s := ⟨2, ![A, B]⟩) ![0, 0] ![A, B] hb) = X :=
  View.ld_unit_zero (S := ⟨2, ![A, B]⟩) (by funext a; fin_cases a <;> rfl) hb X

/-- Two blocks of 512 columns are the whole of 1024. -/
theorem canon_two {e : EltTy} {R : ℕ} (W : Vec Ideal ⟨2, ![R, 1024]⟩ e) (p0 p1 : Vec Ideal ⟨2, ![R, 512]⟩ e) (hb0 hb1)
    (h0 : ∀ (r : Fin R) (j : Fin 512), p0 (ix2 r j) = W (ix2 r ⟨0 + j.val, by omega⟩)) (h1 : ∀ (r : Fin R) (j : Fin 512), p1 (ix2 r j) = W (ix2 r ⟨512 + j.val, by omega⟩)) :
    View.canon ([⟨Rect.unit (s := ⟨2, ![R, 1024]⟩) ![0, 512] ![R, 512] hb1, p1⟩, ⟨Rect.unit (s := ⟨2, ![R, 1024]⟩) ![0, 0] ![R, 512] hb0, p0⟩]
      : List (View.Piece (Elt Ideal) ⟨2, ![R, 1024]⟩ e)) = W := by
  have hG : ∀ (p : ℕ) (hp : p + 512 ≤ 1024) (hb) (w : Vec Ideal ⟨2, ![R, 512]⟩ e), (∀ (r : Fin R) (j : Fin 512), w (ix2 r j) = W (ix2 r ⟨p + j.val, by omega⟩)) →
      ∀ x : Shape.Idx ⟨2, ![R, 512]⟩, w x = W ((Rect.unit (s := ⟨2, ![R, 1024]⟩) ![0, p] ![R, 512] hb).idx x) := by
    intro p hp hb w hw x
    obtain ⟨r, j, rfl⟩ : ∃ (r : Fin R) (j : Fin 512), x = ix2 r j := ⟨x 0, x 1, by funext a; fin_cases a <;> rfl⟩
    exact (hw r j).trans (congrArg W (rect_cols p hb r j (by omega)).symm)
  have hm : ∀ (p : ℕ) (hp : p + 512 ≤ 1024) (hb) (r : Fin R) (q : Fin 1024), p ≤ q.val → q.val < p + 512 →
      (ix2 r q : Shape.Idx ⟨2, ![R, 1024]⟩) ∈ (Rect.unit (s := ⟨2, ![R, 1024]⟩) ![0, p] ![R, 512] hb).set := by
    intro p hp hb r q h1 h2
    refine Rect.mem_set_unit.mpr fun a => ?_
    fin_cases a
    · exact ⟨Nat.zero_le _, by show r.val < 0 + R; omega⟩
    · exact ⟨h1, h2⟩
  funext y
  refine View.canon_append_of_piecesOf W [] [_, _] ?_ y ?_
  · exact ⟨hG 512 (by omega) hb1 p1 h1, hG 0 (by omega) hb0 p0 h0, trivial⟩
  · obtain ⟨r, q, rfl⟩ : ∃ (r : Fin R) (q : Fin 1024), y = ix2 r q := ⟨y 0, y 1, by funext a; fin_cases a <;> rfl⟩
    have hq := q.isLt
    rcases Nat.lt_or_ge q.val 512 with c | c
    · exact ⟨_, List.mem_cons_of_mem _ List.mem_cons_self, hm 0 (by decide) hb0 r q (Nat.zero_le _) c⟩
    · exact ⟨_, List.mem_cons_self, hm 512 (by decide) hb1 r q c hq⟩

end Cert.InProj
end
-- ==== Proof.Conf.lean ====
/-
  The depthwise convolution of the conformer's call at one block of 128 rows: 38 products of a rotated row and a row of the tap
  table, of which 31 are the taps of a row and the rest are products with zero.
-/
module

public import proofs.«01_k».proof.Proof.InProj
public import proofs.«01_k».proof.Proof.Gen.Kernel8Ideal.Skeleton

@[expose] public section

set_option maxRecDepth 16384

noncomputable section

namespace Cert.Conf

open Cert.InProj
open Cert.Kernel8Ideal Cert.Kernel8Ideal.Gen
open Idealize.ShloMosaic Idealize.ShloMosaic.TcCoe

/-! ## The products of a block of columns -/

/-- The products in their order: the group of eight rows, from two groups before the row's own, and the rotation within it. -/
def taps : List (Fin 5 × Fin 8) :=
  [(1, 0), (2, 0), (3, 0)] ++ (([1, 2, 3, 4, 5, 6, 7] : List (Fin 8)).flatMap fun r => ([0, 1, 2, 3, 4] : List (Fin 5)).map fun q => (q, r))

/-- The groups of rows, each rotated by the same number of rows. -/
def rot (X : FVec Ideal S20x8x128 .f32) (r : Fin 8) : FVec Ideal S20x8x128 .f32 :=
  if r.val = 0 then X else dynamicRotate 1 (BitVec.ofNat 32 (8 - r.val)) none X rotates_S20x8x128_d1

/-- Sixteen of the groups lie in the twenty. -/
theorem slices (q : Fin 5) : S20x8x128.Slices ![q.val, 0, 0] S16x8x128 := by fin_cases q <;> decide

/-- Eight rows of the tap table. -/
theorem inb_tap (p : ℕ) (hp : p + 128 ≤ 1024) (t : Fin 5 × Fin 8) (a : Fin 2) :
    (![8 * (8 * t.1.val + t.2.val), p] : Fin 2 → ℕ) a + S8x128.size a ≤ S320x1024.size a := by
  have h1 := t.1.isLt
  have h2 := t.2.isLt
  fin_cases a
  · show 8 * (8 * t.1.val + t.2.val) + 8 ≤ 320
    omega
  · exact hp
def tapW (x3 : Vec Ideal S320x1024 .f32) (p : ℕ) (hp : p + 128 ≤ 1024) (t : Fin 5 × Fin 8) : Vec Ideal S8x128 .f32 :=
  View.ld x3 (Rect.unit (s := S320x1024) ![8 * (8 * t.1.val + t.2.val), p] S8x128.size (inb_tap p hp t))

/-- One product added to the sum so far. -/
def step (X : FVec Ideal S20x8x128 .f32) (w : Fin 5 × Fin 8 → Vec Ideal S8x128 .f32) (a : FVec Ideal S16x8x128 .f32) (t : Fin 5 × Fin 8) : FVec Ideal S16x8x128 .f32 :=
  addf a (mulf (broadcastTo S16x8x128 (shapeCast S1x8x128 (shapeCast S8x128 (w t) shapeCasts_S8x128_S8x128) shapeCasts_S8x128_S1x8x128) broadcasts_S1x8x128_S16x8x128)
    (extractStridedSlice S16x8x128 ![t.1.val, 0, 0] (rot X t.2) (slices t.1)))

/-- The bias, before the products. -/
def bias (b : Vec Ideal S1x128 .f32) : FVec Ideal S16x8x128 .f32 :=
  addf (broadcast S16x8x128 (Scalar.ofBits (F := Ideal) .f32 0x00000000#32)) (broadcastTo S16x8x128 (shapeCast S1x1x128 b shapeCasts_S1x128_S1x1x128) broadcasts_S1x1x128_S16x8x128)

/-- A block of columns of the convolution. -/
def convCol (x : Vec Ideal S160x128 .f32) (b : Vec Ideal S1x128 .f32) (w : Fin 5 × Fin 8 → Vec Ideal S8x128 .f32) : FVec Ideal S128x128 .f32 :=
  shapeCast S128x128 (shapeCast S128x128 (taps.foldl (step (shapeCast S20x8x128 x shapeCasts_S160x128_S20x8x128) w) (bias b)) shapeCasts_S16x8x128_S128x128) shapeCasts_S128x128_S128x128

/-! ## The products at an index -/

/-- A rotation by any number of rows at an index. -/
theorem rot_ix (X : FVec Ideal S20x8x128 .f32) (r : Fin 8) (n : Fin 20) (i : Fin 8) (l : Fin 128) :
    rot X r (ix3 n i l) = X (ix3 n ⟨(i.val + r.val) % 8, Nat.mod_lt _ (by decide)⟩ l) := by
  unfold rot
  split_ifs with h
  · refine congrArg (fun j => X (ix3 n j l)) (Fin.ext ?_)
    have := i.isLt
    show i.val = (i.val + r.val) % 8
    omega
  · unfold dynamicRotate
    refine congrArg X ?_
    have hi := i.isLt
    have hr := r.isLt
    funext a
    fin_cases a
    · rfl
    · refine Fin.ext ?_
      show (i.val + 8 - ((BitVec.ofNat 32 (8 - r.val)).toNat + 0) % 8) % 8 = (i.val + r.val) % 8
      rw [BitVec.toNat_ofNat]
      omega
    · rfl

/-- The product of a tap at an index. -/
def prod (X : FVec Ideal S20x8x128 .f32) (w : Fin 5 × Fin 8 → Vec Ideal S8x128 .f32) (n : Fin 16) (i : Fin 8) (l : Fin 128) (t : Fin 5 × Fin 8) : EReal :=
  w t (ix2 i l) * X (ix3 ⟨t.1.val + n.val, by omega⟩ ⟨(i.val + t.2.val) % 8, Nat.mod_lt _ (by decide)⟩ l)

theorem step_ix (X : FVec Ideal S20x8x128 .f32) (w : Fin 5 × Fin 8 → Vec Ideal S8x128 .f32) (a : FVec Ideal S16x8x128 .f32) (t : Fin 5 × Fin 8) (n : Fin 16) (i : Fin 8) (l : Fin 128) :
    step X w a t (ix3 n i l) = (a (ix3 n i l) : EReal) + prod X w n i l t := by
  unfold prod
  rw [← rot_ix X t.2 ⟨t.1.val + n.val, by omega⟩ i l]
  pointwise [step]

theorem fold_ix (X : FVec Ideal S20x8x128 .f32) (w : Fin 5 × Fin 8 → Vec Ideal S8x128 .f32) (n : Fin 16) (i : Fin 8) (l : Fin 128) :
    ∀ (L : List (Fin 5 × Fin 8)) (a : FVec Ideal S16x8x128 .f32), L.foldl (step X w) a (ix3 n i l) = (a (ix3 n i l) : EReal) + (L.map (prod X w n i l)).sum
  | [], a => (add_zero (a (ix3 n i l) : EReal)).symm
  | t :: L, a => by
    rw [List.foldl_cons, fold_ix X w n i l L, step_ix, List.map_cons, List.sum_cons, add_assoc]

theorem bias_ix (b : Vec Ideal S1x128 .f32) (n : Fin 16) (i : Fin 8) (l : Fin 128) : bias b (ix3 n i l) = b (ix2 0 l) := by
  pointwise [bias]

theorem convCol_ix (x : Vec Ideal S160x128 .f32) (b : Vec Ideal S1x128 .f32) (w : Fin 5 × Fin 8 → Vec Ideal S8x128 .f32) (n : Fin 16) (i : Fin 8) (l : Fin 128) :
    convCol x b w (ix2 ⟨n.val * 8 + i.val, by omega⟩ l)
      = (b (ix2 0 l) : EReal) + (taps.map (prod (shapeCast S20x8x128 x shapeCasts_S160x128_S20x8x128) w n i l)).sum := by
  unfold convCol
  generalize shapeCast S20x8x128 x shapeCasts_S160x128_S20x8x128 = X
  rw [← bias_ix b n i l, ← fold_ix]
  generalize taps.foldl (step X w) (bias b) = Y
  pointwise []

/-- The block of columns from `p` on of the convolution of a block of rows. -/
def convV (E : Vec Ideal S160x1024 .f32) (x3 : Vec Ideal S320x1024 .f32) (x4 : Vec Ideal S1x1024 .f32) : Vec Ideal S128x1024 .f32 := fun y =>
  (x4 (ix2 0 (y 1)) : EReal) + (taps.map fun t => (x3 (ix2 ⟨8 * (8 * t.1.val + t.2.val) + (y 0).val % 8, by omega⟩ (y 1)) : EReal)
    * E (ix2 ⟨(t.1.val + (y 0).val / 8) * 8 + ((y 0).val % 8 + t.2.val) % 8, by have : (y 0).val < 128 := (y 0).isLt; omega⟩ (y 1))).sum

theorem ld_tap {A B : ℕ} (X : Vec Ideal ⟨2, ![A, B]⟩ .f32) (q p : ℕ) (hb) (i : Fin 8) (l : Fin 128) (hq : q + i.val < A) (hl : p + l.val < B) :
    View.ld X (Rect.unit (s := ⟨2, ![A, B]⟩) ![q, p] ![8, 128] hb) (ix2 i l) = X (ix2 ⟨q + i.val, hq⟩ ⟨p + l.val, hl⟩) := by
  refine congrArg X (funext fun a => Fin.ext ?_)
  fin_cases a
  · exact congrArg (fun z => q + z) (Nat.one_mul _)
  · exact congrArg (fun z => p + z) (Nat.one_mul _)

theorem convCol_eq (E : Vec Ideal S160x1024 .f32) (x3 : Vec Ideal S320x1024 .f32) (x4 : Vec Ideal S1x1024 .f32) (p : ℕ) (hp : p + 128 ≤ 1024) (he hb) (r l : Fin 128) :
    convCol (View.ld E (Rect.unit (s := S160x1024) ![0, p] S160x128.size he)) (View.ld x4 (Rect.unit (s := S1x1024) ![0, p] S1x128.size hb)) (tapW x3 p hp) (ix2 r l)
      = convV E x3 x4 (ix2 r ⟨p + l.val, by omega⟩) := by
  have hr : r = ⟨r.val / 8 * 8 + r.val % 8, by omega⟩ := Fin.ext (by show r.val = r.val / 8 * 8 + r.val % 8; omega)
  have key := convCol_ix (View.ld E (Rect.unit (s := S160x1024) ![0, p] S160x128.size he)) (View.ld x4 (Rect.unit (s := S1x1024) ![0, p] S1x128.size hb)) (tapW x3 p hp)
    ⟨r.val / 8, by omega⟩ ⟨r.val % 8, Nat.mod_lt _ (by decide)⟩ l
  refine (congrArg (fun r => convCol _ _ _ (ix2 r l)) hr).trans (key.trans ?_)
  unfold convV
  refine congrArg₂ (· + ·) (ld_cols x4 p hb 0 l (by omega)) (congrArg (fun g => (taps.map g).sum) (funext fun t => congrArg₂ (· * ·) ?_ ?_))
  · exact ld_tap x3 _ p (inb_tap p hp t) ⟨r.val % 8, Nat.mod_lt _ (by decide)⟩ l (by have := t.1.isLt; have := t.2.isLt; show _ + r.val % 8 < 320; omega) (by omega)
  · have h := ld_cols E p he ⟨(t.1.val + r.val / 8) * 8 + (r.val % 8 + t.2.val) % 8, by omega⟩ l (by omega)
    refine Eq.trans ?_ h
    generalize View.ld E (Rect.unit (s := S160x1024) ![0, p] S160x128.size he) = Z
    pointwise []

/-! ## The 31 taps of a row among the products -/

/-- The tap of a product, for a row of a group: none where the table holds a zero. -/
def tapAt (i : Fin 8) (t : Fin 5 × Fin 8) : Option ℕ :=
  if i.val + 1 ≤ 8 * t.1.val + (i.val + t.2.val) % 8 ∧ 8 * t.1.val + (i.val + t.2.val) % 8 ≤ i.val + 31 then some (8 * t.1.val + (i.val + t.2.val) % 8 - 1 - i.val) else none

/-- The taps of each row are the numbers below 31, each once. -/
theorem taps_perm (i : Fin 8) : (taps.filterMap (tapAt i)).Perm (List.range 31) := by
  revert i
  decide +kernel

/-- A sum of products is the sum over the taps. -/
theorem sum_filter (κ : Fin 5 × Fin 8 → Option ℕ) (g : Fin 5 × Fin 8 → EReal) (f : ℕ → EReal) (h : ∀ t, g t = ((κ t).map f).getD 0) :
    ∀ L : List (Fin 5 × Fin 8), (L.map g).sum = ((L.filterMap κ).map f).sum
  | [] => rfl
  | t :: L => by
    rw [List.map_cons, List.sum_cons, sum_filter κ g f h L, h t, List.filterMap_cons]
    cases κ t with
    | none => exact zero_add _
    | some k => rfl

theorem sum_taps (i : Fin 8) (g : Fin 5 × Fin 8 → EReal) (f : ℕ → EReal) (h : ∀ t, g t = ((tapAt i t).map f).getD 0) :
    (taps.map g).sum = ∑ k ∈ Finset.range 31, f k := by
  rw [sum_filter (tapAt i) g f h taps, ((taps_perm i).map f).sum_eq]
  rfl

end Cert.Conf

end
-- ==== Proof.ConfStep.lean ====
/-
  One grid point of the conformer's call: what the point leaves in the output's window.
-/
module

public import proofs.«01_k».proof.Proof.Conf
public import proofs.«01_k».proof.Proof.Gen.Kernel8Ideal.Frame

@[expose] public section

set_option maxRecDepth 16384

noncomputable section

namespace Cert.Conf

open Cert.InProj
open Cert.Kernel8Ideal Cert.Kernel8Ideal.Gen
open Idealize.ShloMosaic Idealize.ShloMosaic.TcCoe

/-- The rows of a block with the sixteen before it and the sixteen after it, zeros outside the array. -/
def extV (i : ℕ) (x0 : Vec Ideal S16x1024 .f32) (x1 : Vec Ideal S128x1024 .f32) (x2 : Vec Ideal S16x1024 .f32) : Vec Ideal S160x1024 .f32 := fun y =>
  if h : (y 0).val < 16 then (if 0 < i then x0 (ix2 ⟨(y 0).val, h⟩ (y 1)) else (0 : EReal))
  else if h' : (y 0).val < 144 then x1 (ix2 ⟨(y 0).val - 16, by omega⟩ (y 1))
  else (if i < 127 then x2 (ix2 ⟨(y 0).val - 144, by have : (y 0).val < 160 := (y 0).isLt; omega⟩ (y 1)) else (0 : EReal))

/-- The condition on the number of the block, of the rows before and after it. -/
theorem sel_gt (n : Fin 128) : Scalar.cmpi .sgt (BitVec.ofNat 32 n.val) 0#32 = if 0 < n.val then 1#1 else 0#1 := by
  revert n
  decide +kernel
theorem sel_lt (n : Fin 128) : Scalar.cmpi .slt (BitVec.ofNat 32 n.val) 127#32 = if n.val < 127 then 1#1 else 0#1 := by
  revert n
  decide +kernel

theorem pay2_ix (i : grid0.Coords) (x : Vec Ideal S16x1024 .f32) (r : Fin 16) (q : Fin 1024) :
    k0_pay2 i x (ix2 r q) = if 0 < (i 0).val then x (ix2 r q) else (0 : EReal) := by
  unfold k0_pay2
  dsimp only
  rw [sel_gt (i 0)]
  split_ifs with h
  · pointwise []
  · pointwise []
theorem pay3_ix (x : Vec Ideal S128x1024 .f32) (r : Fin 128) (q : Fin 1024) : k0_pay3 x (ix2 r q) = x (ix2 r q) := by
  pointwise [k0_pay3]
theorem pay4_ix (i : grid0.Coords) (x : Vec Ideal S16x1024 .f32) (r : Fin 16) (q : Fin 1024) :
    k0_pay4 i x (ix2 r q) = if (i 0).val < 127 then x (ix2 r q) else (0 : EReal) := by
  unfold k0_pay4
  dsimp only
  rw [sel_lt (i 0)]
  split_ifs with h
  · pointwise []
  · pointwise []

theorem rect_rows {A B n : ℕ} (p : ℕ) (hb) (r : Fin n) (j : Fin B) (hr : p + r.val < A) :
    (Rect.unit (s := ⟨2, ![A, B]⟩) ![p, 0] ![n, B] hb).idx (ix2 r j) = ix2 ⟨p + r.val, hr⟩ j := by
  funext a
  apply Fin.ext
  fin_cases a
  · show p + 1 * r.val = p + r.val; omega
  · show 0 + 1 * j.val = j.val; omega

/-- A load of columns after the three stores of rows. -/
theorem ext_read {sig : RefSig} {κ : Kind} {sp : Space} (v : View sig κ sp S160x1024 .f32) (i : grid0.Coords) (x0 : Vec Ideal S16x1024 .f32) (x1 : Vec Ideal S128x1024 .f32) (x2 : Vec Ideal S16x1024 .f32)
    (p : ℕ) (hb hb0 hb1 hb2) :
    v.readCov ([⟨Rect.unit (s := S160x1024) ![144, 0] ![16, 1024] hb2, k0_pay4 i x2⟩, ⟨Rect.unit (s := S160x1024) ![16, 0] ![128, 1024] hb1, k0_pay3 x1⟩,
        ⟨Rect.unit (s := S160x1024) ![0, 0] ![16, 1024] hb0, k0_pay2 i x0⟩] : List (View.Piece (Elt Ideal) S160x1024 .f32))
      (Rect.unit (s := S160x1024) ![0, p] ![160, 128] hb).toLoadRect
      = View.ld (extV (i 0).val x0 x1 x2) (Rect.unit (s := S160x1024) ![0, p] ![160, 128] hb) := by
  rw [View.readCov_eq_canon']
  refine congrArg (fun X => View.ld X (Rect.unit (s := S160x1024) ![0, p] ![160, 128] hb)) ?_
  have hm : ∀ (p n : ℕ) (hb) (r : Fin 160) (q : Fin 1024), p ≤ r.val → r.val < p + n →
      (ix2 r q : S160x1024.Idx) ∈ (Rect.unit (s := S160x1024) ![p, 0] ![n, 1024] hb).set := by
    intro p n hb r q h1 h2
    refine Rect.mem_set_unit.mpr fun a => ?_
    fin_cases a
    · exact ⟨h1, h2⟩
    · exact ⟨Nat.zero_le _, by show q.val < 0 + 1024; omega⟩
  have h2 : ∀ y : S16x1024.Idx, k0_pay4 i x2 y = extV (i 0).val x0 x1 x2 ((Rect.unit (s := S160x1024) ![144, 0] ![16, 1024] hb2).idx y) := by
    intro y
    obtain ⟨r, j, rfl⟩ : ∃ (r : Fin 16) (j : Fin 1024), y = ix2 r j := ⟨y 0, y 1, by funext a; fin_cases a <;> rfl⟩
    rw [rect_rows 144 hb2 r j (by omega), pay4_ix]
    unfold extV
    rw [dif_neg (by show ¬ 144 + r.val < 16; omega), dif_neg (by show ¬ 144 + r.val < 144; omega)]
    exact congrArg (fun r => if (i 0).val < 127 then x2 (ix2 r j) else (0 : EReal)) (Fin.ext (by show r.val = 144 + r.val - 144; omega))
  have h1 : ∀ y : S128x1024.Idx, k0_pay3 x1 y = extV (i 0).val x0 x1 x2 ((Rect.unit (s := S160x1024) ![16, 0] ![128, 1024] hb1).idx y) := by
    intro y
    obtain ⟨r, j, rfl⟩ : ∃ (r : Fin 128) (j : Fin 1024), y = ix2 r j := ⟨y 0, y 1, by funext a; fin_cases a <;> rfl⟩
    rw [rect_rows 16 hb1 r j (by omega), pay3_ix]
    unfold extV
    rw [dif_neg (by show ¬ 16 + r.val < 16; omega), dif_pos (by show 16 + r.val < 144; omega)]
    exact congrArg (fun r => x1 (ix2 r j)) (Fin.ext (by show r.val = 16 + r.val - 16; omega))
  have h0 : ∀ y : S16x1024.Idx, k0_pay2 i x0 y = extV (i 0).val x0 x1 x2 ((Rect.unit (s := S160x1024) ![0, 0] ![16, 1024] hb0).idx y) := by
    intro y
    obtain ⟨r, j, rfl⟩ : ∃ (r : Fin 16) (j : Fin 1024), y = ix2 r j := ⟨y 0, y 1, by funext a; fin_cases a <;> rfl⟩
    rw [rect_rows 0 hb0 r j (by omega), pay2_ix]
    unfold extV
    rw [dif_pos (by show 0 + r.val < 16; omega)]
    exact congrArg (fun r => if 0 < (i 0).val then x0 (ix2 r j) else (0 : EReal)) (Fin.ext (by show r.val = 0 + r.val; omega))
  funext y
  refine View.canon_append_of_piecesOf _ [] [_, _, _] ?_ y ?_
  · exact ⟨h2, h1, h0, trivial⟩
  · obtain ⟨r, q, rfl⟩ : ∃ (r : Fin 160) (q : Fin 1024), y = ix2 r q := ⟨y 0, y 1, by funext a; fin_cases a <;> rfl⟩
    have hr := r.isLt
    rcases Nat.lt_or_ge r.val 16 with c | c <;> [skip; rcases Nat.lt_or_ge r.val 144 with c' | c']
    · exact ⟨_, List.mem_cons_of_mem _ (List.mem_cons_of_mem _ List.mem_cons_self), hm 0 16 hb0 r q (Nat.zero_le _) (by omega)⟩
    · exact ⟨_, List.mem_cons_of_mem _ List.mem_cons_self, hm 16 128 hb1 r q c (by omega)⟩
    · exact ⟨_, List.mem_cons_self, hm 144 16 hb2 r q c' (by omega)⟩

/-- A load of the whole of a block after eight stores of 128 columns. -/
theorem readCov_eight {sig : RefSig} {κ : Kind} {sp : Space} (v : View sig κ sp S128x1024 .f32) (W : Vec Ideal S128x1024 .f32) (p0 p1 p2 p3 p4 p5 p6 p7 : Vec Ideal S128x128 .f32) (hb hb0 hb1 hb2 hb3 hb4 hb5 hb6 hb7)
    (h0 : ∀ r j : Fin 128, p0 (ix2 r j) = W (ix2 r ⟨0 + j.val, by omega⟩))
    (h1 : ∀ r j : Fin 128, p1 (ix2 r j) = W (ix2 r ⟨128 + j.val, by omega⟩))
    (h2 : ∀ r j : Fin 128, p2 (ix2 r j) = W (ix2 r ⟨256 + j.val, by omega⟩))
    (h3 : ∀ r j : Fin 128, p3 (ix2 r j) = W (ix2 r ⟨384 + j.val, by omega⟩))
    (h4 : ∀ r j : Fin 128, p4 (ix2 r j) = W (ix2 r ⟨512 + j.val, by omega⟩))
    (h5 : ∀ r j : Fin 128, p5 (ix2 r j) = W (ix2 r ⟨640 + j.val, by omega⟩))
    (h6 : ∀ r j : Fin 128, p6 (ix2 r j) = W (ix2 r ⟨768 + j.val, by omega⟩))
    (h7 : ∀ r j : Fin 128, p7 (ix2 r j) = W (ix2 r ⟨896 + j.val, by omega⟩)) :
    v.readCov ([⟨Rect.unit (s := S128x1024) ![0, 896] ![128, 128] hb7, p7⟩, ⟨Rect.unit (s := S128x1024) ![0, 768] ![128, 128] hb6, p6⟩, ⟨Rect.unit (s := S128x1024) ![0, 640] ![128, 128] hb5, p5⟩, ⟨Rect.unit (s := S128x1024) ![0, 512] ![128, 128] hb4, p4⟩, ⟨Rect.unit (s := S128x1024) ![0, 384] ![128, 128] hb3, p3⟩, ⟨Rect.unit (s := S128x1024) ![0, 256] ![128, 128] hb2, p2⟩, ⟨Rect.unit (s := S128x1024) ![0, 128] ![128, 128] hb1, p1⟩, ⟨Rect.unit (s := S128x1024) ![0, 0] ![128, 128] hb0, p0⟩] : List (View.Piece (Elt Ideal) S128x1024 .f32))
      (Rect.unit (s := S128x1024) ![0, 0] ![128, 1024] hb).toLoadRect = W := by
  rw [View.readCov_eq_canon']
  have hG : ∀ (p : ℕ) (hp : p + 128 ≤ 1024) (hb) (w : Vec Ideal S128x128 .f32), (∀ r j : Fin 128, w (ix2 r j) = W (ix2 r ⟨p + j.val, by omega⟩)) →
      ∀ x : S128x128.Idx, w x = W ((Rect.unit (s := S128x1024) ![0, p] ![128, 128] hb).idx x) := by
    intro p hp hb w hw x
    obtain ⟨r, j, rfl⟩ : ∃ r j : Fin 128, x = ix2 r j := ⟨x 0, x 1, by funext a; fin_cases a <;> rfl⟩
    exact (hw r j).trans (congrArg W (rect_cols p hb r j (by omega)).symm)
  have hm : ∀ (p : ℕ) (hb) (r : Fin 128) (q : Fin 1024), q.val / 128 * 128 = p →
      (ix2 r q : S128x1024.Idx) ∈ (Rect.unit (s := S128x1024) ![0, p] ![128, 128] hb).set := by
    intro p hb r q h
    refine Rect.mem_set_unit.mpr fun a => ?_
    fin_cases a
    · exact ⟨Nat.zero_le _, by show r.val < 0 + 128; omega⟩
    · exact ⟨by show p ≤ q.val; omega, by show q.val < p + 128; omega⟩
  refine Eq.trans (congrArg (fun X => View.ld X (Rect.unit (s := S128x1024) ![0, 0] ![128, 1024] hb)) (a₂ := W) ?_) (ld_all W hb)
  funext y
  refine View.canon_append_of_piecesOf W [] [_, _, _, _, _, _, _, _] ?_ y ?_
  · exact ⟨hG 896 (by omega) hb7 p7 h7, hG 768 (by omega) hb6 p6 h6, hG 640 (by omega) hb5 p5 h5, hG 512 (by omega) hb4 p4 h4, hG 384 (by omega) hb3 p3 h3, hG 256 (by omega) hb2 p2 h2, hG 128 (by omega) hb1 p1 h1, hG 0 (by omega) hb0 p0 h0, trivial⟩
  · obtain ⟨r, q, rfl⟩ : ∃ (r : Fin 128) (q : Fin 1024), y = ix2 r q := ⟨y 0, y 1, by funext a; fin_cases a <;> rfl⟩
    have hq : q.val / 128 < 8 := by have := q.isLt; omega
    have hc : q.val / 128 * 128 = 0 ∨ q.val / 128 * 128 = 128 ∨ q.val / 128 * 128 = 256 ∨ q.val / 128 * 128 = 384 ∨ q.val / 128 * 128 = 512 ∨ q.val / 128 * 128 = 640 ∨ q.val / 128 * 128 = 768 ∨ q.val / 128 * 128 = 896 := by omega
    rcases hc with c | c | c | c | c | c | c | c
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), hm 0 hb0 r q c⟩
    · exact ⟨_, List.mem_cons_of_mem _ (List.mem_cons_of_mem _ (List.mem_cons_of_mem _ (List.mem_cons_of_mem _ (List.mem_cons_of_mem _ (List.mem_cons_of_mem _ (List.mem_cons_self)))))), hm 128 hb1 r q c⟩
    · exact ⟨_, List.mem_cons_of_mem _ (List.mem_cons_of_mem _ (List.mem_cons_of_mem _ (List.mem_cons_of_mem _ (List.mem_cons_of_mem _ (List.mem_cons_self))))), hm 256 hb2 r q c⟩
    · exact ⟨_, List.mem_cons_of_mem _ (List.mem_cons_of_mem _ (List.mem_cons_of_mem _ (List.mem_cons_of_mem _ (List.mem_cons_self)))), hm 384 hb3 r q c⟩
    · exact ⟨_, List.mem_cons_of_mem _ (List.mem_cons_of_mem _ (List.mem_cons_of_mem _ (List.mem_cons_self))), hm 512 hb4 r q c⟩
    · exact ⟨_, List.mem_cons_of_mem _ (List.mem_cons_of_mem _ (List.mem_cons_self)), hm 640 hb5 r q c⟩
    · exact ⟨_, List.mem_cons_of_mem _ (List.mem_cons_self), hm 768 hb6 r q c⟩
    · exact ⟨_, List.mem_cons_self, hm 896 hb7 r q c⟩

variable (c : Dev nD) (i : grid0.Coords) (arg1 : Memref sig .tc .vmem S16x1024 .f32) (harg1 : arg1.IsWhole) (arg2 : Memref sig .tc .vmem S128x1024 .f32) (harg2 : arg2.IsWhole) (arg3 : Memref sig .tc .vmem S16x1024 .f32) (harg3 : arg3.IsWhole) (arg4 : Memref sig .tc .vmem S320x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S128x1024 .bf16) (harg8 : arg8.IsWhole) (arg9 : Memref sig .tc .vmem S160x1024 .f32) (harg9 : arg9.IsWhole) (arg10 : Memref sig .tc .vmem S128x1024 .f32) (harg10 : arg10.IsWhole)
    (x0 : Vec Ideal S16x1024 .f32) (x1 : Vec Ideal S128x1024 .f32) (x2 : Vec Ideal S16x1024 .f32) (x3 : Vec Ideal S320x1024 .f32) (x4 : Vec Ideal S1x1024 .f32) (x5 : Vec Ideal S1x1024 .f32) (x6 : Vec Ideal S1x1024 .f32)

set_option maxHeartbeats 2000000 in
theorem out_A : out0_A_7 (F := Ideal) c i arg1 harg1 arg2 harg2 arg3 harg3 arg4 harg4 arg5 harg5 arg6 harg6 arg7 harg7 arg8 harg8 arg9 harg9 arg10 harg10 x0 x1 x2 x3 x4 x5 x6
    = k0_pay1 (k0_pay157 (k0_pay155 (convV (extV (i 0).val x0 x1 x2) x3 x4)) (k0_pay156 (convV (extV (i 0).val x0 x1 x2) x3 x4)) x5) x6 := by
  unfold out0_A_7
  rw [View.read_writes_junk_eq_canon]
  unfold kernelRun0_A
  dsimp only
  sl_unfold_words
  simp (disch := decide) only [View.readAt_eq_ld, harg1.read_unread, harg2.read_unread, harg3.read_unread, harg4.read_unread, harg5.read_unread, harg6.read_unread, harg7.read_unread]
  simp only [ext_read]
  simp only [ld_all x0, ld_all x1, ld_all x2, ld_all x5, ld_all x6]
  rw [readCov_eight _ (convV (extV (i 0).val x0 x1 x2) x3 x4)]
  rotate_left
  · intro r l; exact convCol_eq (extV (i 0).val x0 x1 x2) x3 x4 0 (by decide) _ _ r l
  · intro r l; exact convCol_eq (extV (i 0).val x0 x1 x2) x3 x4 128 (by decide) _ _ r l
  · intro r l; exact convCol_eq (extV (i 0).val x0 x1 x2) x3 x4 256 (by decide) _ _ r l
  · intro r l; exact convCol_eq (extV (i 0).val x0 x1 x2) x3 x4 384 (by decide) _ _ r l
  · intro r l; exact convCol_eq (extV (i 0).val x0 x1 x2) x3 x4 512 (by decide) _ _ r l
  · intro r l; exact convCol_eq (extV (i 0).val x0 x1 x2) x3 x4 640 (by decide) _ _ r l
  · intro r l; exact convCol_eq (extV (i 0).val x0 x1 x2) x3 x4 768 (by decide) _ _ r l
  · intro r l; exact convCol_eq (extV (i 0).val x0 x1 x2) x3 x4 896 (by decide) _ _ r l
  exact View.canon_cons_unit_zero (S := S128x1024) (by funext a; fin_cases a <;> rfl) _ _ _

end Cert.Conf

end
-- ==== Proof.ConfTable.lean ====
/-
  The table of the taps that the conformer's call reads, as its host operations prepare it from the taps.
-/
module

public import proofs.«01_k».proof.Proof.Conf
public import proofs.«01_k».proof.Proof.Gen.Kernel8Ideal.Frame

@[expose] public section

set_option maxRecDepth 16384

noncomputable section

namespace Cert.Conf

open Cert.InProj
open Cert.Kernel8Ideal Cert.Kernel8Ideal.Gen
open Idealize.ShloMosaic Idealize.ShloMosaic.TcCoe

/-! ## The rows gathered -/

/-- The gather of rows of the taps: at an index, the row its start index names, read signed and kept below 31. -/
theorem gather_ix (w : Vec Ideal S31x1024 .f32) (idx : IVec S5x8x8x1 32) (q : Fin 5) (r i : Fin 8) (e : Fin 1024) :
    Host.gather gather_S31x1024_S5x8x8x1_S5x8x8x1024_3_0_n_n_0_3_11024 w idx (ix4 q r i e)
      = w (ix2 ⟨min (idx (ix4 q r i 0)).toInt.toNat 30, by omega⟩ e) := by
  unfold Host.gather
  refine congrArg w (funext fun a => Fin.ext ?_)
  have hsi : ∀ h, gather_S31x1024_S5x8x8x1_S5x8x8x1024_3_0_n_n_0_3_11024.siIdx (ix4 q r i e) ⟨0, h⟩ = ix4 q r i 0 := by
    intro h
    funext b
    refine Fin.ext ?_
    fin_cases b <;> rfl
  fin_cases a
  · show min (idx (gather_S31x1024_S5x8x8x1_S5x8x8x1024_3_0_n_n_0_3_11024.siIdx (ix4 q r i e) ⟨0, _⟩)).toInt.toNat 30 + 0 + 0 = min (idx (ix4 q r i 0)).toInt.toNat 30
    exact congrArg (fun z => min (idx z).toInt.toNat 30) (hsi _)
  · show 0 + 0 + e.val = e.val
    omega

/-- Where the plan holds a tap and where it holds none. -/
theorem plan : ∀ (q : Fin 5) (r i : Fin 8), (if lit1 (S5x8x8.rowMajor (ix3 q r i)) = 1#1 then some (lit0 (S5x8x8.rowMajor (ix3 q r i))).toInt.toNat else none)
    = tapAt i (q, r) := by
  decide +kernel

theorem tap_lt (i : Fin 8) (t : Fin 5 × Fin 8) (k : ℕ) (h : tapAt i t = some k) : k < 31 := by
  unfold tapAt at h
  split_ifs at h with c
  have := Option.some.inj h
  omega

/-- The table of the taps. -/
def tapTable (w : Vec Ideal S31x1024 .f32) : Vec Ideal S320x1024 .f32 :=
  shapeCast S320x1024 (select
    (broadcastInDim S5x8x8x1024 ![0, 1, 2, 3] bcast_S5x8x8x1_S5x8x8x1024_0_1_2_3 (broadcastInDim S5x8x8x1 ![0, 1, 2] bcast_S5x8x8_S5x8x8x1_0_1_2 fun i => lit1 (S5x8x8.rowMajor i)))
    (Host.gather gather_S31x1024_S5x8x8x1_S5x8x8x1024_3_0_n_n_0_3_11024 w (broadcastInDim S5x8x8x1 ![0, 1, 2] bcast_S5x8x8_S5x8x8x1_0_1_2
      (select (constantI S5x8x8 1 0#1) (addi (fun i => lit0 (S5x8x8.rowMajor i)) (broadcastInDim S5x8x8 ![] bcast_S_S5x8x8 (constantI S_ 32 31#32))) fun i => lit0 (S5x8x8.rowMajor i))))
    (broadcastInDim S5x8x8x1024 ![] bcast_S_S5x8x8x1024 (constant (F := Ideal) S_ .f32 0x00000000#32))) shapeCasts_S5x8x8x1024_S320x1024

/-- A tap of a channel, zero past the last. -/
def tapOf (w : Vec Ideal S31x1024 .f32) (e : Fin 1024) (k : ℕ) : EReal := if h : k < 31 then w (ix2 ⟨k, h⟩ e) else 0

theorem table_gen (L : IVec S5x8x8 1) (G : Vec Ideal S5x8x8x1024 .f32) (q : Fin 5) (r i : Fin 8) (e : Fin 1024) :
    shapeCast S320x1024 (select (broadcastInDim S5x8x8x1024 ![0, 1, 2, 3] bcast_S5x8x8x1_S5x8x8x1024_0_1_2_3 (broadcastInDim S5x8x8x1 ![0, 1, 2] bcast_S5x8x8_S5x8x8x1_0_1_2 L)) G
      (broadcastInDim S5x8x8x1024 ![] bcast_S_S5x8x8x1024 (constant (F := Ideal) S_ .f32 0x00000000#32))) shapeCasts_S5x8x8x1024_S320x1024
        (ix2 ⟨(q.val * 8 + r.val) * 8 + i.val, by omega⟩ e) = if L (ix3 q r i) = 1#1 then G (ix4 q r i e) else (0 : EReal) := by
  pointwise []
  rcases BitVec.eq_zero_or_eq_one (L (ix3 q r i)) with h | h
  · rw [h]
    rfl
  · rw [h]
    rfl

theorem start_gen (L : IVec S5x8x8 32) (q : Fin 5) (r i : Fin 8) :
    broadcastInDim S5x8x8x1 ![0, 1, 2] bcast_S5x8x8_S5x8x8x1_0_1_2
      (select (constantI S5x8x8 1 0#1) (addi L (broadcastInDim S5x8x8 ![] bcast_S_S5x8x8 (constantI S_ 32 31#32))) L) (ix4 q r i 0) = L (ix3 q r i) := by
  rw [show select (constantI S5x8x8 1 0#1) (addi L (broadcastInDim S5x8x8 ![] bcast_S_S5x8x8 (constantI S_ 32 31#32))) L = L from rfl]
  pointwise []

theorem tapTable_at (w : Vec Ideal S31x1024 .f32) (q : Fin 5) (r i : Fin 8) (e : Fin 1024) :
    tapTable w (ix2 ⟨(q.val * 8 + r.val) * 8 + i.val, by omega⟩ e)
      = if lit1 (S5x8x8.rowMajor (ix3 q r i)) = 1#1 then w (ix2 ⟨min (lit0 (S5x8x8.rowMajor (ix3 q r i))).toInt.toNat 30, by omega⟩ e) else (0 : EReal) := by
  unfold tapTable
  refine (table_gen _ _ q r i e).trans ?_
  refine congrArg (fun z => if lit1 (S5x8x8.rowMajor (ix3 q r i)) = 1#1 then z else (0 : EReal)) ((gather_ix w _ q r i e).trans ?_)
  refine congrArg (fun z => w (ix2 z e)) (Fin.ext ?_)
  exact congrArg (fun z : BitVec 32 => min z.toInt.toNat 30) (start_gen (fun i => lit0 (S5x8x8.rowMajor i)) q r i)

theorem tapTable_ix (w : Vec Ideal S31x1024 .f32) (t : Fin 5 × Fin 8) (i : Fin 8) (e : Fin 1024) (n : Fin 320) (hn : n.val = 8 * (8 * t.1.val + t.2.val) + i.val) :
    tapTable w (ix2 n e) = ((tapAt i t).map (tapOf w e)).getD 0 := by
  rw [show n = ⟨(t.1.val * 8 + t.2.val) * 8 + i.val, by omega⟩ from
    Fin.ext (hn.trans (by show 8 * (8 * t.1.val + t.2.val) + i.val = (t.1.val * 8 + t.2.val) * 8 + i.val; omega))]
  have hp := plan t.1 t.2 i
  rw [tapTable_at]
  have hk := tap_lt i t
  rw [← hp] at hk ⊢
  split_ifs at hk ⊢ with c
  · have := hk _ rfl
    show _ = tapOf w e _
    unfold tapOf
    rw [dif_pos this]
    exact congrArg (fun k => w (ix2 k e)) (Fin.ext (Nat.min_eq_left (Nat.le_of_lt_succ this)))
  · rfl

variable (m : (ℓ : Loc nD τ sig) → Buf (Elt Ideal) ℓ) (c : Dev nD)

theorem V_table : (V m c main_v7 : Vec Ideal S320x1024 .f32) = tapTable (m ((c : Thread nD τ).loc main_arg1)) := by
  unfold V
  simp only [List.flatten_cons, List.flatten_nil, List.append_nil, List.cons_append, List.nil_append]
  after_results_simp
  rfl

end Cert.Conf
end
-- ==== Proof.ConfValue.lean ====
/-
  What the conformer's call computes: the 31 taps of the depthwise convolution over the rows of the sequence, zeros outside it, the
  bias, the layer normalization over the channels, and the gate.
-/
module

public import proofs.«01_k».proof.Proof.ConfStep
public import proofs.«01_k».proof.Proof.ConfTable
public import proofs.«01_k».proof.Proof.Gen.Kernel8Ideal.Value

@[expose] public section

set_option maxRecDepth 16384

noncomputable section

namespace Cert.Conf

open Cert.InProj
open Cert.Kernel8Ideal Cert.Kernel8Ideal.Gen
open Idealize.ShloMosaic Idealize.ShloMosaic.TcCoe

/-! ## The function -/

/-- The rows of the sequence with fifteen rows of zeros before and after them. -/
def padOf (h : Vec Ideal S16384x1024 .f32) (e : Fin 1024) (s : ℕ) : EReal := if hs : 15 ≤ s ∧ s < 16399 then h (ix2 ⟨s - 15, by omega⟩ e) else 0

/-- The convolution of a channel at a row. -/
def convOf (h : Vec Ideal S16384x1024 .f32) (w : Vec Ideal S31x1024 .f32) (b : Vec Ideal S1x1024 .f32) (s : ℕ) (e : Fin 1024) : EReal :=
  b (ix2 0 e) + ∑ k ∈ Finset.range 31, tapOf w e k * padOf h e (s + k)

/-- The mean of a row. -/
def mean (y : Fin 1024 → EReal) : EReal := Ideal.div (∑ k : Fin 1024, y k) (Ideal.ofBits .f32 0x44800000#32)

/-- The normalized row, scaled and shifted. -/
def lnOf (y g b : Fin 1024 → EReal) (e : Fin 1024) : EReal :=
  (y e - mean y) * Ideal.rsqrt (mean (fun k => (y k - mean y) * (y k - mean y)) + Ideal.ofBits .f32 0x358637BD#32) * g e + b e

/-- The gated value. -/
def gateOf (y g b : Fin 1024 → EReal) (e : Fin 1024) : EReal := lnOf y g b e * Ideal.logistic (lnOf y g b e)

/-- What the call computes. -/
def whole (h : Vec Ideal S16384x1024 .f32) (w : Vec Ideal S31x1024 .f32) (b g o : Vec Ideal S1x1024 .f32) : Vec Ideal S16384x1024 .bf16 := fun y =>
  gateOf (fun e => convOf h w b (y 0).val e) (fun e => g (ix2 0 e)) (fun e => o (ix2 0 e)) (y 1)

/-! ## The call's last payloads at an index -/

theorem fin_ix (y : Vec Ideal S128x1024 .f32) (g b : Vec Ideal S1x1024 .f32) (r : Fin 128) (e : Fin 1024) :
    k0_pay1 (k0_pay157 (k0_pay155 y) (k0_pay156 y) g) b (ix2 r e) = gateOf (fun e => y (ix2 r e)) (fun e => g (ix2 0 e)) (fun e => b (ix2 0 e)) e := by
  unfold gateOf lnOf mean
  pointwise [k0_pay1, k0_pay157, k0_pay156, k0_pay155]

/-! ## The block of one grid point -/

variable (m : (ℓ : Loc nD τ sig) → Buf (Elt Ideal) ℓ) (c : Dev nD)

theorem t_lt (t : Fin cfg0.N) : t.val < 128 := lt_of_lt_of_eq t.isLt N_0
theorem coord (t : Fin cfg0.N) : (grid0.coords t 0).val = t.val := by
  revert t
  decide +kernel

theorem idx0 : ∀ t : Fin grid0.N, win0_0.index t 0 = 8 * t.val - 1 ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = min (8 * t.val + 8) 1023 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = t.val ∧ win0_7.index t 1 = 0 := by decide +kernel

theorem iblk0_ix (t : Fin cfg0.N) (ht : 0 < t.val) (r : Fin 16) (e : Fin 1024) :
    iblk m c 0 t (ix2 r e) = m ((c : Thread nD τ).loc main_arg0) (ix2 ⟨128 * t.val - 16 + r.val, by have := t_lt t; omega⟩ e) := by
  rw [← V_main_arg0 m c]
  blk_ext [iblk, idx0 t]
theorem iblk1_ix (t : Fin cfg0.N) (r : Fin 128) (e : Fin 1024) :
    iblk m c 1 t (ix2 r e) = m ((c : Thread nD τ).loc main_arg0) (ix2 ⟨128 * t.val + r.val, by have := t_lt t; omega⟩ e) := by
  rw [← V_main_arg0 m c]
  blk_ext [iblk, idx1 t]
theorem iblk2_ix (t : Fin cfg0.N) (ht : t.val < 127) (r : Fin 16) (e : Fin 1024) :
    iblk m c 2 t (ix2 r e) = m ((c : Thread nD τ).loc main_arg0) (ix2 ⟨128 * t.val + 128 + r.val, by omega⟩ e) := by
  rw [← V_main_arg0 m c]
  blk_ext [iblk, idx2 t]
theorem iblk3_ix (t : Fin cfg0.N) (r : Fin 320) (e : Fin 1024) : iblk m c 3 t (ix2 r e) = tapTable (m ((c : Thread nD τ).loc main_arg1)) (ix2 r e) := by
  rw [← V_table m c]
  blk_ext [iblk, idx3 t]
theorem iblk3_eq (t : Fin cfg0.N) : iblk m c 3 t = tapTable (m ((c : Thread nD τ).loc main_arg1)) := by
  funext y
  obtain ⟨r, e, rfl⟩ : ∃ (r : Fin 320) (e : Fin 1024), y = ix2 r e := ⟨y 0, y 1, by funext k; fin_cases k <;> rfl⟩
  exact iblk3_ix m c t r e
theorem iblk4_ix (t : Fin cfg0.N) (r : Fin 1) (e : Fin 1024) : iblk m c 4 t (ix2 r e) = m ((c : Thread nD τ).loc main_arg2) (ix2 r e) := by
  rw [← V_main_arg2 m c]
  blk_ext [iblk, idx4 t]
theorem iblk4_eq (t : Fin cfg0.N) : iblk m c 4 t = m ((c : Thread nD τ).loc main_arg2) := by
  funext y
  obtain ⟨r, e, rfl⟩ : ∃ (r : Fin 1) (e : Fin 1024), y = ix2 r e := ⟨y 0, y 1, by funext k; fin_cases k <;> rfl⟩
  exact iblk4_ix m c t r e
theorem iblk5_ix (t : Fin cfg0.N) (r : Fin 1) (e : Fin 1024) : iblk m c 5 t (ix2 r e) = m ((c : Thread nD τ).loc main_arg3) (ix2 r e) := by
  rw [← V_main_arg3 m c]
  blk_ext [iblk, idx5 t]
theorem iblk5_eq (t : Fin cfg0.N) : iblk m c 5 t = m ((c : Thread nD τ).loc main_arg3) := by
  funext y
  obtain ⟨r, e, rfl⟩ : ∃ (r : Fin 1) (e : Fin 1024), y = ix2 r e := ⟨y 0, y 1, by funext k; fin_cases k <;> rfl⟩
  exact iblk5_ix m c t r e
theorem iblk6_ix (t : Fin cfg0.N) (r : Fin 1) (e : Fin 1024) : iblk m c 6 t (ix2 r e) = m ((c : Thread nD τ).loc main_arg4) (ix2 r e) := by
  rw [← V_main_arg4 m c]
  blk_ext [iblk, idx6 t]
theorem iblk6_eq (t : Fin cfg0.N) : iblk m c 6 t = m ((c : Thread nD τ).loc main_arg4) := by
  funext y
  obtain ⟨r, e, rfl⟩ : ∃ (r : Fin 1) (e : Fin 1024), y = ix2 r e := ⟨y 0, y 1, by funext k; fin_cases k <;> rfl⟩
  exact iblk6_ix m c t r e

/-- The rows a block reads are the rows of the padded sequence. -/
theorem ext_ix (h : Vec Ideal S16384x1024 .f32) (t : ℕ) (ht : t < 128) (x0 : Vec Ideal S16x1024 .f32) (x1 : Vec Ideal S128x1024 .f32) (x2 : Vec Ideal S16x1024 .f32)
    (h0 : 0 < t → ∀ (r : Fin 16) (e : Fin 1024), x0 (ix2 r e) = h (ix2 ⟨128 * t - 16 + r.val, by omega⟩ e))
    (h1 : ∀ (r : Fin 128) (e : Fin 1024), x1 (ix2 r e) = h (ix2 ⟨128 * t + r.val, by omega⟩ e))
    (h2 : ∀ (_ : t < 127) (r : Fin 16) (e : Fin 1024), x2 (ix2 r e) = h (ix2 ⟨128 * t + 128 + r.val, by omega⟩ e)) (s : Fin 160) (hs : 0 < s.val) (e : Fin 1024) :
    extV t x0 x1 x2 (ix2 s e) = padOf h e (128 * t + s.val - 1) := by
  have hs' := s.isLt
  unfold extV padOf
  by_cases c0 : s.val < 16
  · rw [dif_pos (show ((ix2 s e : S160x1024.Idx) 0).val < 16 from c0)]
    by_cases c1 : 0 < t
    · rw [if_pos c1, dif_pos (by omega)]
      exact (h0 c1 _ _).trans (congrArg (fun z => h (ix2 z e)) (Fin.ext (by show 128 * t - 16 + s.val = 128 * t + s.val - 1 - 15; omega)))
    · rw [if_neg c1, dif_neg (by omega)]
  · rw [dif_neg (show ¬ ((ix2 s e : S160x1024.Idx) 0).val < 16 from c0)]
    by_cases c1 : s.val < 144
    · rw [dif_pos (show ((ix2 s e : S160x1024.Idx) 0).val < 144 from c1), dif_pos (by omega)]
      exact (h1 _ _).trans (congrArg (fun z => h (ix2 z e)) (Fin.ext (by show 128 * t + (s.val - 16) = 128 * t + s.val - 1 - 15; omega)))
    · rw [dif_neg (show ¬ ((ix2 s e : S160x1024.Idx) 0).val < 144 from c1)]
      by_cases c2 : t < 127
      · rw [if_pos c2, dif_pos (by omega)]
        exact (h2 c2 _ _).trans (congrArg (fun z => h (ix2 z e)) (Fin.ext (by show 128 * t + 128 + (s.val - 144) = 128 * t + s.val - 1 - 15; omega)))
      · rw [if_neg c2, dif_neg (by omega)]

/-- The convolution of a block is the convolution of its rows. -/
theorem conv_ix (h : Vec Ideal S16384x1024 .f32) (w : Vec Ideal S31x1024 .f32) (b : Vec Ideal S1x1024 .f32) (t : ℕ) (E : Vec Ideal S160x1024 .f32)
    (hE : ∀ (s : Fin 160) (_ : 0 < s.val) (e : Fin 1024), E (ix2 s e) = padOf h e (128 * t + s.val - 1)) (r : Fin 128) (e : Fin 1024) :
    convV E (tapTable w) b (ix2 r e) = convOf h w b (128 * t + r.val) e := by
  unfold convV convOf
  refine congrArg (fun z => (b (ix2 0 e) : EReal) + z) (sum_taps ⟨r.val % 8, Nat.mod_lt _ (by decide)⟩ _ _ fun u => ?_)
  refine (congrArg (fun z : EReal => z * E (ix2 ⟨(u.1.val + r.val / 8) * 8 + (r.val % 8 + u.2.val) % 8, by omega⟩ e))
    (tapTable_ix w u ⟨r.val % 8, Nat.mod_lt _ (by decide)⟩ e ⟨8 * (8 * u.1.val + u.2.val) + r.val % 8, by omega⟩ rfl)).trans ?_
  rcases hk : tapAt ⟨r.val % 8, Nat.mod_lt _ (by decide)⟩ u with _ | k
  · exact zero_mul _
  · unfold tapAt at hk
    split_ifs at hk with hc
    have hk := Option.some.inj hk
    dsimp only at hk hc
    refine congrArg (fun z => tapOf w e k * z) ((hE _ ?_ e).trans (congrArg (padOf h e) ?_))
    · show 0 < (u.1.val + r.val / 8) * 8 + (r.val % 8 + u.2.val) % 8
      omega
    · show 128 * t + ((u.1.val + r.val / 8) * 8 + (r.val % 8 + u.2.val) % 8) - 1 = 128 * t + r.val + k
      omega

theorem final7 : (dats m 0 c).arrAt 7 cfg0.N
    = whole (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  obtain ⟨r, q, rfl⟩ : ∃ (r : Fin 128) (q : Fin 1024), y = ix2 r q := ⟨y 0, y 1, by funext k; fin_cases k <;> rfl⟩
  have ht := t_lt t
  have e : (win0_7.blk t).view.emb (ix2 r q) = ix2 ⟨128 * t.val + r.val, by omega⟩ q := by
    blk_ext [idx7 t]
  rw [e, after0_7]
  unfold outsAt0
  rw [out_A, fin_ix, iblk3_eq, iblk4_eq, iblk5_eq, iblk6_eq, coord]
  unfold whole
  refine congrArg (fun y => gateOf y _ _ q) (funext fun e => ?_)
  exact conv_ix _ _ _ t.val _ (ext_ix _ t.val ht _ _ _ (fun h r e => iblk0_ix m c t h r e) (fun r e => iblk1_ix m c t r e) fun h r e => iblk2_ix m c t h r e) r e

end Cert.Conf
end
-- ==== Proof.RefConf.lean ====
/-
  The conformer's convolution: the reference.
-/
module

public import proofs.«01_k».proof.Proof.ConfValue
public import proofs.«01_k».proof.Proof.Gen.Reference8Ideal.Run

@[expose] public section

set_option maxRecDepth 16384

noncomputable section

namespace Cert.Reference8Ideal.Conf

open Cert.Reference8Ideal Cert.Reference8Ideal.Gen Cert.Reference8Ideal.Value Cert.Conf
open Idealize.ShloMosaic Idealize.ShloMosaic.TcCoe Idealize.SL.Sem Idealize.ShloMosaic.StableHlo

theorem slices_tap (k : ℕ) (h : k < 31) : S31x1024.Slices ![k, 0] S1x1024 := by
  interval_cases k <;> decide
theorem slices_row (k : ℕ) (h : k < 31) : S16414x1024.Slices ![k, 0] S16384x1024 := by
  interval_cases k <;> decide

section
variable {F : FTy → Type} [FloatOps F]
/-- The padded rows. -/
def rPad (h : FVec F S16384x1024 .f32) : FVec F S16414x1024 .f32 :=
  pad S16414x1024 ![15, 0] ![15, 0] ![0, 0] h (sitofp .f32 (constantI S_ 32 0#32)) pads_S16384x1024_S16414x1024_15150_000 h_S_
/-- One tap's product. -/
def rTerm (p : FVec F S16414x1024 .f32) (w : FVec F S31x1024 .f32) (k : ℕ) (h : k < 31) : FVec F S16384x1024 .f32 :=
  mulf (broadcastInDim S16384x1024 ![0, 1] bcast_S1x1024_S16384x1024_0_1 (broadcastInDim S1x1024 ![1] bcast_S1024_S1x1024_1 (shapeCast _ (extractStridedSlice S1x1024 ![k, 0] w (slices_tap k h)) shapeCasts_S1x1024_S1024)))
    (extractStridedSlice S16384x1024 ![k, 0] p (slices_row k h))
/-- The sum of the products up to a tap. -/
def rAcc (p : FVec F S16414x1024 .f32) (w : FVec F S31x1024 .f32) : (k : ℕ) → k < 31 → FVec F S16384x1024 .f32
  | 0, h => rTerm p w 0 h
  | k + 1, h => addf (rAcc p w k (Nat.lt_of_succ_lt h)) (rTerm p w (k + 1) h)
/-- The convolution. -/
def rConv (h : FVec F S16384x1024 .f32) (w : FVec F S31x1024 .f32) (b : FVec F S1x1024 .f32) : FVec F S16384x1024 .f32 :=
  addf (rAcc (rPad h) w 30 (by decide)) (broadcastInDim S16384x1024 ![0, 1] bcast_S1x1024_S16384x1024_0_1 b)
/-- The mean of each row. -/
def rMean (y : FVec F S16384x1024 .f32) : FVec F S16384x1 .f32 :=
  Host.divf (broadcastInDim S16384x1 ![0] bcast_S16384_S16384x1_0 (Host.reduceAdd y (constant S_ .f32 0x00000000#32) reducesTo_S16384x1024_S16384_d1 h_S_)) (broadcastInDim S16384x1 ![] bcast_S_S16384x1 (constant S_ .f32 0x44800000#32))
/-- The row without its mean. -/
def rCen (y : FVec F S16384x1024 .f32) : FVec F S16384x1024 .f32 :=
  subf y (broadcastInDim S16384x1024 ![0, 1] bcast_S16384x1_S16384x1024_0_1 (rMean y))
/-- The normalized row, scaled and shifted. -/
def rLn (y : FVec F S16384x1024 .f32) (g b : FVec F S1x1024 .f32) : FVec F S16384x1024 .f32 :=
  addf (mulf (mulf (rCen y) (broadcastInDim S16384x1024 ![0, 1] bcast_S16384x1_S16384x1024_0_1 (Host.rsqrt (addf (rMean (mulf (rCen y) (rCen y))) (broadcastInDim S16384x1 ![] bcast_S_S16384x1 (constant S_ .f32 0x358637BD#32))))))
    (broadcastInDim S16384x1024 ![0, 1] bcast_S1x1024_S16384x1024_0_1 g)) (broadcastInDim S16384x1024 ![0, 1] bcast_S1x1024_S16384x1024_0_1 b)
/-- The gate. -/
def rGate (z : FVec F S16384x1024 .f32) : FVec F S16384x1024 .bf16 :=
  truncf .bf16 (mulf z (Host.divf (broadcastInDim S16384x1024 ![] bcast_S_S16384x1024 (constant S_ .f32 0x3F800000#32)) (addf (broadcastInDim S16384x1024 ![] bcast_S_S16384x1024 (constant S_ .f32 0x3F800000#32)) (Host.exp (Host.negf z))))) bitsLt_bf16_f32
end

theorem pad_ix (h : FVec Ideal S16384x1024 .f32) (s : Fin 16414) (e : Fin 1024) : rPad h (ix2 s e) = padOf h e s.val := by
  unfold padOf
  pointwise [rPad]
  have z : (FloatOps.sitofp FTy.f32 0#32 : Ideal .f32) = 0 := by
    show (((0#32 : BitVec 32).toInt : ℝ) : EReal) = 0
    simp
  by_cases a : 15 ≤ s.val ∧ s.val < 16399
  · rw [dif_pos a, dif_pos ⟨a.1, by omega⟩]
  · rw [dif_neg a, dif_neg (fun h => a ⟨h.1, by omega⟩)]
    exact z

theorem term_ix (p : FVec Ideal S16414x1024 .f32) (w : FVec Ideal S31x1024 .f32) (k : ℕ) (h : k < 31) (s : Fin 16384) (e : Fin 1024) :
    rTerm p w k h (ix2 s e) = w (ix2 ⟨k, h⟩ e) * p (ix2 ⟨k + s.val, by omega⟩ e) := by
  have a := slices_tap k h
  have b := slices_row k h
  unfold rTerm
  generalize slices_tap k h = a
  generalize slices_row k h = b
  pointwise []

theorem mean_ix (y : FVec Ideal S16384x1024 .f32) (s : Fin 16384) : rMean y (ix2 s 0) = mean fun e => y (ix2 s e) := by
  unfold mean
  pointwise [rMean]
theorem cen_ix (y : FVec Ideal S16384x1024 .f32) (s : Fin 16384) (e : Fin 1024) : rCen y (ix2 s e) = y (ix2 s e) - mean fun e => y (ix2 s e) := by
  rw [← mean_ix]
  unfold rCen
  generalize rMean y = z
  pointwise []
theorem ln_ix (y : FVec Ideal S16384x1024 .f32) (g b : FVec Ideal S1x1024 .f32) (s : Fin 16384) (e : Fin 1024) :
    rLn y g b (ix2 s e) = lnOf (fun e => y (ix2 s e)) (fun e => g (ix2 0 e)) (fun e => b (ix2 0 e)) e := by
  have h : mean (fun k => (y (ix2 s k) - mean fun e => y (ix2 s e)) * (y (ix2 s k) - mean fun e => y (ix2 s e))) = rMean (mulf (rCen y) (rCen y)) (ix2 s 0) := by
    rw [mean_ix]
    exact congrArg mean (funext fun k => congrArg₂ (fun u v : EReal => u * v) (cen_ix y s k).symm (cen_ix y s k).symm)
  unfold lnOf
  rw [h, ← cen_ix]
  unfold rLn
  generalize rMean (mulf (rCen y) (rCen y)) = z
  generalize rCen y = u
  pointwise []
theorem gate_ix (z : FVec Ideal S16384x1024 .f32) (s : Fin 16384) (e : Fin 1024) : rGate z (ix2 s e) = z (ix2 s e) * Ideal.logistic (z (ix2 s e)) := by
  pointwise [rGate]
  exact congrArg (fun v : EReal => z (ix2 s e) * v) (show Ideal.div 1 (1 + Ideal.exp (-(z (ix2 s e) : EReal))) = Ideal.logistic (z (ix2 s e)) from rfl)

theorem acc_ix (h : FVec Ideal S16384x1024 .f32) (w : FVec Ideal S31x1024 .f32) (k : ℕ) (hk : k < 31) (s : Fin 16384) (e : Fin 1024) :
    rAcc (rPad h) w k hk (ix2 s e) = ∑ j ∈ Finset.range (k + 1), tapOf w e j * padOf h e (s.val + j) := by
  have one : ∀ (j : ℕ) (hj : j < 31), rTerm (rPad h) w j hj (ix2 s e) = tapOf w e j * padOf h e (s.val + j) := by
    intro j hj
    rw [term_ix, Nat.add_comm s.val j]
    unfold tapOf
    rw [dif_pos hj]
    exact congrArg (fun v : EReal => w (ix2 ⟨j, hj⟩ e) * v) (pad_ix h ⟨j + s.val, by omega⟩ e)
  induction k with
  | zero =>
    rw [Finset.sum_range_one]
    exact one 0 hk
  | succ k ih =>
    rw [Finset.sum_range_succ]
    exact congrArg₂ (fun u v : EReal => u + v) (ih (Nat.lt_of_succ_lt hk)) (one (k + 1) hk)

theorem conv_ix (h : FVec Ideal S16384x1024 .f32) (w : FVec Ideal S31x1024 .f32) (b : FVec Ideal S1x1024 .f32) (s : Fin 16384) (e : Fin 1024) :
    rConv h w b (ix2 s e) = convOf h w b s.val e := by
  have u : rConv h w b (ix2 s e) = (rAcc (rPad h) w 30 (by decide) (ix2 s e) + b (ix2 0 e) : EReal) := by
    unfold rConv
    generalize rAcc (rPad h) w 30 _ = z
    pointwise []
  refine u.trans ?_
  unfold convOf
  rw [acc_ix]
  exact add_comm _ _

/-- The reference's result, entry by entry. -/
theorem whole_eq (h : FVec Ideal S16384x1024 .f32) (w : FVec Ideal S31x1024 .f32) (b g o : FVec Ideal S1x1024 .f32) :
    rGate (rLn (rConv h w b) g o) = whole h w b g o := by
  funext y
  obtain ⟨s, e, rfl⟩ : ∃ (s : Fin 16384) (e : Fin 1024), y = ix2 s e := ⟨y 0, y 1, by funext k; match k with | 0 => rfl | 1 => rfl⟩
  refine (gate_ix _ s e).trans ?_
  rw [ln_ix]
  have c : (fun e => rConv h w b (ix2 s e)) = fun e => convOf h w b s.val e := funext fun e => conv_ix h w b s e
  rw [c]
  rfl

section
variable (V : Valuation τ sig (Elt Ideal))
/-- The sum in its three printed parts. -/
theorem part_a : res_main_v76 V = rAcc (F := Ideal) (rPad (F := Ideal) (V (Proc.devRef .tc main_arg0))) (V (Proc.devRef .tc main_arg1)) 10 (by decide) := rfl
theorem part_b : res_main_v153 V = rAcc (F := Ideal) (rPad (F := Ideal) (V (Proc.devRef .tc main_arg0))) (V (Proc.devRef .tc main_arg1)) 21 (by decide) := by
  unfold res_main_v153
  rw [part_a]
  rfl
theorem part_c : res_main_v218 V = rConv (F := Ideal) (V (Proc.devRef .tc main_arg0)) (V (Proc.devRef .tc main_arg1)) (V (Proc.devRef .tc main_arg2)) := by
  unfold res_main_v218
  rw [part_b]
  rfl
theorem part_d : res_main_v240 V = rLn (F := Ideal) (rConv (F := Ideal) (V (Proc.devRef .tc main_arg0)) (V (Proc.devRef .tc main_arg1)) (V (Proc.devRef .tc main_arg2))) (V (Proc.devRef .tc main_arg3)) (V (Proc.devRef .tc main_arg4)) := by
  unfold res_main_v240 res_main_v224 res_main_v222
  rw [part_c]
  rfl
/-- The printed result is the convolution's, normalized and gated. -/
theorem result_eq : rGate (F := Ideal) (res_main_v240 V) = whole (V (Proc.devRef .tc main_arg0)) (V (Proc.devRef .tc main_arg1)) (V (Proc.devRef .tc main_arg2)) (V (Proc.devRef .tc main_arg3)) (V (Proc.devRef .tc main_arg4)) := by
  rw [part_d]
  exact whole_eq _ _ _ _ _
end

/-- The same of the arguments in memory. -/
theorem result_mem (m : (ℓ : Loc nD τ sig) → Buf (Elt Ideal) ℓ) (c : Dev nD) :
    rGate (F := Ideal) (res_main_v240 (launchContents m c)) = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  result_eq _

end Cert.Reference8Ideal.Conf
end
-- ==== Proof.Mlp.lean ====
/-
  What the output projection and the feed-forward network after it compute, a row at a time: the row after the projection,
  its root-mean-square normalization, one activation, and the row after a number of blocks of activations.
-/
module

public import Idealize.ShloMosaic.Lib.Pipeline.ValueKit
public import Idealize.ShloMosaic.Lib.Pipeline.ReadBack
public import Idealize.ShloMosaic.Lib.Pointwise

@[expose] public section

set_option maxRecDepth 16384

noncomputable section

namespace Cert.Mlp

open Idealize.ShloMosaic Idealize.ShloMosaic.TcCoe

/-- A row `x` plus two halves `a`, `b` of a row times the matrix `w`. -/
def proj (x : Fin 2048 → EReal) (a b : Fin 1024 → EReal) (w : Fin 2048 → Fin 2048 → EReal) (q : Fin 2048) : EReal :=
  x q + (∑ k : Fin 1024, a k * w ⟨k.val, by omega⟩ q) + ∑ k : Fin 1024, b k * w ⟨1024 + k.val, by omega⟩ q

/-- A row divided by its root mean square, times the weights `g`. -/
def nrm (v g : Fin 2048 → EReal) (q : Fin 2048) : EReal :=
  v q * Ideal.rsqrt (Ideal.div (∑ k : Fin 2048, v k * v k) (Ideal.ofBits .f32 0x45000000#32) + Ideal.ofBits .f32 0x358637BD#32) * g q

/-- The squared positive part of a row times a column. -/
def act (h w : Fin 2048 → EReal) : EReal := max (∑ k : Fin 2048, h k * w k) 0 * max (∑ k : Fin 2048, h k * w k) 0

/-- A row plus a block of 1024 activations times a block of a matrix. -/
def step (o h : Fin 2048 → EReal) (u : Fin 2048 → Fin 1024 → EReal) (d : Fin 1024 → Fin 2048 → EReal) (q : Fin 2048) : EReal :=
  o q + ∑ j : Fin 1024, act h (fun k => u k j) * d j q

/-- Block `n` of 1024 of the 8192 activations. -/
def block (h : Fin 2048 → EReal) (u : Fin 2048 → Fin 8192 → EReal) (d : Fin 8192 → Fin 2048 → EReal) (q : Fin 2048) (n : Fin 8) : EReal :=
  ∑ j : Fin 1024, act h (fun k => u k ⟨n.val * 1024 + j.val, by omega⟩) * d ⟨n.val * 1024 + j.val, by omega⟩ q

/-- A row plus the first `n` blocks of activations. -/
def sweep (o h : Fin 2048 → EReal) (u : Fin 2048 → Fin 8192 → EReal) (d : Fin 8192 → Fin 2048 → EReal) (q : Fin 2048) (n : ℕ) : EReal :=
  o q + ∑ f ∈ Finset.range n, if hf : f < 8 then block h u d q ⟨f, hf⟩ else 0

theorem sweep_zero (o h : Fin 2048 → EReal) (u : Fin 2048 → Fin 8192 → EReal) (d : Fin 8192 → Fin 2048 → EReal) (q : Fin 2048) :
    sweep o h u d q 0 = o q := by
  rw [sweep, Finset.sum_range_zero, add_zero]
theorem sweep_succ (o h : Fin 2048 → EReal) (u : Fin 2048 → Fin 8192 → EReal) (d : Fin 8192 → Fin 2048 → EReal) (q : Fin 2048) (n : ℕ) (hn : n < 8) :
    sweep o h u d q (n + 1) = sweep o h u d q n + block h u d q ⟨n, hn⟩ := by
  rw [sweep, Finset.sum_range_succ, dif_pos hn, ← add_assoc]
  rfl

/-- All of the activations. -/
theorem sweep_all (o h : Fin 2048 → EReal) (u : Fin 2048 → Fin 8192 → EReal) (d : Fin 8192 → Fin 2048 → EReal) (q : Fin 2048) :
    sweep o h u d q 8 = o q + ∑ j : Fin 8192, act h (fun k => u k j) * d j q := by
  rw [sweep, Finset.sum_range, Fin.sum_univ_tiles 8 1024 (by norm_num) (fun j : Fin 8192 => act h (fun k => u k j) * d j q)]
  congr 1

/-- The two halves of a row of 2048 against a matrix, in one sum. -/
theorem proj_eq (x : Fin 2048 → EReal) (c : Fin 2048 → EReal) (w : Fin 2048 → Fin 2048 → EReal) (q : Fin 2048) :
    proj x (fun k => c ⟨k.val, by omega⟩) (fun k => c ⟨1024 + k.val, by omega⟩) w q = x q + ∑ k : Fin 2048, c k * w k q := by
  unfold proj
  rw [add_assoc, Fin.sum_univ_two_halves 1024 1024 rfl (fun k : Fin 2048 => c k * w k q)]

/-- The columns `p, …, p + 511` of a block of 512 rows. -/
abbrev OS : Shape := ⟨2, ![512, 2048]⟩
abbrev CS : Shape := ⟨2, ![512, 512]⟩
theorem inbC {p : ℕ} (hp : p + 512 ≤ 2048) : ∀ a, (![0, p] : Fin 2 → ℕ) a + CS.size a ≤ OS.size a := by
  intro a; fin_cases a
  · show 0 + 512 ≤ 512; omega
  · show p + 512 ≤ 2048; omega

/-- `proj`, `nrm` and `step` on the rows of a block. -/
def projV (x : Vec Ideal OS .f32) (a b : Vec Ideal ⟨2, ![512, 1024]⟩ .bf16) (w : Vec Ideal ⟨2, ![2048, 2048]⟩ .bf16) : Vec Ideal OS .f32 := fun y =>
  proj (fun k => x (ix2 (y 0) k)) (fun k => a (ix2 (y 0) k)) (fun k => b (ix2 (y 0) k)) (fun k q => w (ix2 k q)) (y 1)
def nrmV (o : Vec Ideal OS .f32) (g : Vec Ideal ⟨2, ![1, 2048]⟩ .f32) : OS.Idx → EReal := fun y =>
  nrm (fun k => o (ix2 (y 0) k)) (fun k => g (ix2 0 k)) (y 1)
def stepV (o : Vec Ideal OS .f32) (h : Vec Ideal OS .bf16) (u : Vec Ideal ⟨3, ![1, 2048, 1024]⟩ .bf16) (d : Vec Ideal ⟨3, ![1, 1024, 2048]⟩ .bf16) : Vec Ideal OS .f32 := fun y =>
  step (fun k => o (ix2 (y 0) k)) (fun k => h (ix2 (y 0) k)) (fun k j => u (ix3 0 k j)) (fun j q => d (ix3 0 j q)) (y 1)

/-- A unit rectangle of a block of 512 rows, at an index. -/
theorem rect_idx (p : ℕ) (hb) (r : Fin 512) (j : Fin 512) (hj : p + j.val < 2048) :
    (Rect.unit (s := OS) ![0, p] ![512, 512] hb).idx (ix2 r j) = ix2 r ⟨p + j.val, hj⟩ := by
  funext a
  apply Fin.ext
  fin_cases a
  · show 0 + 1 * r.val = r.val; omega
  · show p + 1 * j.val = p + j.val; omega

/-- What a load of 512 columns of a block reads, and of a block of a matrix. -/
theorem ld_col {e : EltTy} (X : Vec Ideal OS e) (p : ℕ) (hb) (r j : Fin 512) (hj : p + j.val < 2048) :
    View.ld X (Rect.unit (s := OS) ![0, p] ![512, 512] hb) (ix2 r j) = X (ix2 r ⟨p + j.val, hj⟩) :=
  congrArg X (rect_idx p hb r j hj)
theorem ld_mat {e : EltTy} (X : Vec Ideal ⟨2, ![2048, 2048]⟩ e) (o p : ℕ) (hb) (k : Fin 1024) (j : Fin 512) (hk : o + k.val < 2048) (hj : p + j.val < 2048) :
    View.ld X (Rect.unit (s := ⟨2, ![2048, 2048]⟩) ![o, p] ![1024, 512] hb) (ix2 k j) = X (ix2 ⟨o + k.val, hk⟩ ⟨p + j.val, hj⟩) := by
  refine congrArg X ?_
  funext a
  apply Fin.ext
  fin_cases a
  · show o + 1 * k.val = o + k.val; omega
  · show p + 1 * j.val = p + j.val; omega
theorem ld_down {e : EltTy} (X : Vec Ideal ⟨3, ![1, 1024, 2048]⟩ e) (p : ℕ) (hb) (k : Fin 1024) (j : Fin 512) (hj : p + j.val < 2048) :
    View.ld X (Rect.unit (s := ⟨3, ![1, 1024, 2048]⟩) ![0, 0, p] ![1, 1024, 512] hb) (ix3 0 k j) = X (ix3 0 k ⟨p + j.val, hj⟩) := by
  refine congrArg X ?_
  funext a
  apply Fin.ext
  fin_cases a
  · show 0 + 1 * 0 = 0; omega
  · show 0 + 1 * k.val = k.val; omega
  · show p + 1 * j.val = p + j.val; omega

/-- Four blocks of 512 columns, written last, are the whole of what is read. -/
theorem canon_four {e : EltTy} (W : Vec Ideal OS e) (p0 p1 p2 p3 : Vec Ideal CS e) (hb0 hb1 hb2 hb3) (L : List (View.Piece (Elt Ideal) OS e))
    (h0 : ∀ r j : Fin 512, p0 (ix2 r j) = W (ix2 r ⟨0 + j.val, by omega⟩)) (h1 : ∀ r j : Fin 512, p1 (ix2 r j) = W (ix2 r ⟨512 + j.val, by omega⟩))
    (h2 : ∀ r j : Fin 512, p2 (ix2 r j) = W (ix2 r ⟨1024 + j.val, by omega⟩)) (h3 : ∀ r j : Fin 512, p3 (ix2 r j) = W (ix2 r ⟨1536 + j.val, by omega⟩)) :
    View.canon (⟨Rect.unit (s := OS) ![0, 1536] ![512, 512] hb3, p3⟩ :: ⟨Rect.unit (s := OS) ![0, 1024] ![512, 512] hb2, p2⟩
      :: ⟨Rect.unit (s := OS) ![0, 512] ![512, 512] hb1, p1⟩ :: ⟨Rect.unit (s := OS) ![0, 0] ![512, 512] hb0, p0⟩ :: L) = W := by
  have hG : ∀ (p : ℕ) (hp : p + 512 ≤ 2048) (hb) (w : Vec Ideal CS e), (∀ r j : Fin 512, w (ix2 r j) = W (ix2 r ⟨p + j.val, by omega⟩)) →
      ∀ x : CS.Idx, w x = W ((Rect.unit (s := OS) ![0, p] ![512, 512] hb).idx x) := by
    intro p hp hb w hw x
    obtain ⟨r, j, rfl⟩ : ∃ r j : Fin 512, x = ix2 r j := ⟨x 0, x 1, by funext a; fin_cases a <;> rfl⟩
    exact (hw r j).trans (congrArg W (rect_idx p hb r j (by omega)).symm)
  have hm : ∀ (p : ℕ) (hp : p + 512 ≤ 2048) (hb) (r : Fin 512) (q : Fin 2048), p ≤ q.val → q.val < p + 512 →
      (ix2 r q : OS.Idx) ∈ (Rect.unit (s := OS) ![0, p] ![512, 512] hb).set := by
    intro p hp hb r q h1 h2
    refine Rect.mem_set_unit.mpr fun a => ?_
    fin_cases a
    · exact ⟨Nat.zero_le _, by show r.val < 0 + 512; omega⟩
    · exact ⟨h1, h2⟩
  funext y
  refine View.canon_append_of_piecesOf W L [_, _, _, _] ?_ y ?_
  · exact ⟨hG 1536 (by omega) hb3 p3 h3, hG 1024 (by omega) hb2 p2 h2, hG 512 (by omega) hb1 p1 h1, hG 0 (by omega) hb0 p0 h0, trivial⟩
  · obtain ⟨r, q, rfl⟩ : ∃ (r : Fin 512) (q : Fin 2048), y = ix2 r q := ⟨y 0, y 1, by funext a; fin_cases a <;> rfl⟩
    have hq := q.isLt
    rcases Nat.lt_or_ge q.val 1024 with c | c <;> [rcases Nat.lt_or_ge q.val 512 with c' | c'; rcases Nat.lt_or_ge q.val 1536 with c' | c']
    · exact ⟨_, List.mem_cons_of_mem _ (List.mem_cons_of_mem _ (List.mem_cons_of_mem _ List.mem_cons_self)), hm 0 (by decide) hb0 r q (Nat.zero_le _) c'⟩
    · exact ⟨_, List.mem_cons_of_mem _ (List.mem_cons_of_mem _ List.mem_cons_self), hm 512 (by decide) hb1 r q c' c⟩
    · exact ⟨_, List.mem_cons_of_mem _ List.mem_cons_self, hm 1024 (by decide) hb2 r q c c'⟩
    · exact ⟨_, List.mem_cons_self, hm 1536 (by decide) hb3 r q c' hq⟩

/-- A load of the whole of a block after four stores of 512 columns. -/
theorem readCov_four {sig : RefSig} {κ : Kind} {sp : Space} {e : EltTy} (v : View sig κ sp OS e) (W : Vec Ideal OS e) (p0 p1 p2 p3 : Vec Ideal CS e) (hb hb0 hb1 hb2 hb3)
    (L : List (View.Piece (Elt Ideal) OS e))
    (h0 : ∀ r j : Fin 512, p0 (ix2 r j) = W (ix2 r ⟨0 + j.val, by omega⟩)) (h1 : ∀ r j : Fin 512, p1 (ix2 r j) = W (ix2 r ⟨512 + j.val, by omega⟩))
    (h2 : ∀ r j : Fin 512, p2 (ix2 r j) = W (ix2 r ⟨1024 + j.val, by omega⟩)) (h3 : ∀ r j : Fin 512, p3 (ix2 r j) = W (ix2 r ⟨1536 + j.val, by omega⟩)) :
    v.readCov (⟨Rect.unit (s := OS) ![0, 1536] ![512, 512] hb3, p3⟩ :: ⟨Rect.unit (s := OS) ![0, 1024] ![512, 512] hb2, p2⟩
      :: ⟨Rect.unit (s := OS) ![0, 512] ![512, 512] hb1, p1⟩ :: ⟨Rect.unit (s := OS) ![0, 0] ![512, 512] hb0, p0⟩ :: L)
      (Rect.unit (s := OS) ![0, 0] ![512, 2048] hb).toLoadRect = W := by
  rw [View.readCov_eq_canon', canon_four W p0 p1 p2 p3 hb0 hb1 hb2 hb3 L h0 h1 h2 h3]
  exact View.ld_unit_zero (S := OS) (by funext a; fin_cases a <;> rfl) hb W

/-- A block of columns of the projection, from blocks of columns of its operands. -/
theorem proj_col (x : Vec Ideal OS .f32) (a b : Vec Ideal ⟨2, ![512, 1024]⟩ .bf16) (w : Vec Ideal ⟨2, ![2048, 2048]⟩ .bf16) (p : ℕ) (ha hb hc hd he) (r j : Fin 512) (hj : p + j.val < 2048) :
    (View.ld x (Rect.unit (s := OS) ![0, p] ![512, 512] ha) (ix2 r j) : EReal)
      + (∑ k : Fin 1024, View.ld a (Rect.unit (s := ⟨2, ![512, 1024]⟩) ![0, 0] ![512, 1024] hb) (ix2 r k) * View.ld w (Rect.unit (s := ⟨2, ![2048, 2048]⟩) ![0, p] ![1024, 512] hc) (ix2 k j))
      + ∑ k : Fin 1024, View.ld b (Rect.unit (s := ⟨2, ![512, 1024]⟩) ![0, 0] ![512, 1024] hd) (ix2 r k) * View.ld w (Rect.unit (s := ⟨2, ![2048, 2048]⟩) ![1024, p] ![1024, 512] he) (ix2 k j)
      = projV x a b w (ix2 r ⟨p + j.val, hj⟩) := by
  have z : (![0, 0] : Fin 2 → ℕ) = fun _ => 0 := by funext a; fin_cases a <;> rfl
  rw [show View.ld a (Rect.unit (s := ⟨2, ![512, 1024]⟩) ![0, 0] ![512, 1024] hb) = a from View.ld_unit_zero z hb a,
    show View.ld b (Rect.unit (s := ⟨2, ![512, 1024]⟩) ![0, 0] ![512, 1024] hd) = b from View.ld_unit_zero z hd b, ld_col x p ha r j hj]
  unfold projV proj
  refine congrArg₂ (· + ·) (congrArg₂ (· + ·) rfl (Finset.sum_congr rfl fun k _ => congrArg₂ (· * ·) rfl ?_)) (Finset.sum_congr rfl fun k _ => congrArg₂ (· * ·) rfl ?_)
  · rw [ld_mat w 0 p hc k j (by omega) hj]
    exact congrArg w (congrArg₂ ix2 (Fin.ext (Nat.zero_add _)) rfl)
  · exact ld_mat w 1024 p he k j (by omega) hj

/-! ## Rows of the whole arrays -/

section Rows
variable (X : Vec Ideal ⟨2, ![16384, 2048]⟩ .f32) (A B : Vec Ideal ⟨2, ![16384, 1024]⟩ .bf16) (W : Vec Ideal ⟨2, ![2048, 2048]⟩ .bf16) (G : Vec Ideal ⟨2, ![1, 2048]⟩ .f32)
  (U : Vec Ideal ⟨3, ![2, 2048, 8192]⟩ .bf16) (D : Vec Ideal ⟨3, ![2, 8192, 2048]⟩ .bf16) (l : Fin 2) (s : Fin 16384)

/-- Row `s` after the projection, its normalization, and row `s` after `n` blocks of activations. -/
def rowP : Fin 2048 → EReal := proj (fun k => X (ix2 s k)) (fun k => A (ix2 s k)) (fun k => B (ix2 s k)) (fun k q => W (ix2 k q))
def rowH : Fin 2048 → EReal := nrm (rowP X A B W s) fun k => G (ix2 0 k)
def rowO (n : ℕ) : Fin 2048 → EReal := fun q => sweep (rowP X A B W s) (rowH X A B W G s) (fun k j => U (ix3 l k j)) (fun j q => D (ix3 l j q)) q n

theorem projV_row (x : Vec Ideal OS .f32) (a b : Vec Ideal ⟨2, ![512, 1024]⟩ .bf16) (w : Vec Ideal ⟨2, ![2048, 2048]⟩ .bf16) (r : Fin 512)
    (hx : ∀ k, x (ix2 r k) = X (ix2 s k)) (ha : ∀ k, a (ix2 r k) = A (ix2 s k)) (hb : ∀ k, b (ix2 r k) = B (ix2 s k)) (hw : ∀ k q, w (ix2 k q) = W (ix2 k q)) :
    (fun q => projV x a b w (ix2 r q)) = rowP X A B W s := by
  funext q
  show proj (fun k => x (ix2 r k)) (fun k => a (ix2 r k)) (fun k => b (ix2 r k)) (fun k q => w (ix2 k q)) q = _
  simp only [hx, ha, hb, hw]
  rfl

theorem nrmV_row (o : Vec Ideal OS .f32) (g : Vec Ideal ⟨2, ![1, 2048]⟩ .f32) (v : Fin 2048 → EReal) (r : Fin 512) (ho : (fun q => o (ix2 r q)) = v) (hg : ∀ k, g (ix2 0 k) = G (ix2 0 k)) :
    (fun q => nrmV o g (ix2 r q)) = nrm v fun k => G (ix2 0 k) := by
  funext q
  show nrm (fun k => o (ix2 r k)) (fun k => g (ix2 0 k)) q = _
  simp only [ho, hg]

theorem stepV_row (o : Vec Ideal OS .f32) (h : Vec Ideal OS .bf16) (u : Vec Ideal ⟨3, ![1, 2048, 1024]⟩ .bf16) (d : Vec Ideal ⟨3, ![1, 1024, 2048]⟩ .bf16) (r : Fin 512) (f : Fin 8)
    (ho : (fun q => o (ix2 r q)) = rowO X A B W G U D l s f.val) (hh : (fun q => h (ix2 r q)) = rowH X A B W G s)
    (hu : ∀ (k : Fin 2048) (j : Fin 1024), u (ix3 0 k j) = U (ix3 l k ⟨f.val * 1024 + j.val, by omega⟩))
    (hd : ∀ (j : Fin 1024) (q : Fin 2048), d (ix3 0 j q) = D (ix3 l ⟨f.val * 1024 + j.val, by omega⟩ q)) :
    (fun q => stepV o h u d (ix2 r q)) = rowO X A B W G U D l s (f.val + 1) := by
  funext q
  show (fun q => o (ix2 r q)) q + ∑ j : Fin 1024, act (fun q => h (ix2 r q)) (fun k => u (ix3 0 k j)) * d (ix3 0 j q) = _
  rw [ho, hh]
  simp only [hu, hd]
  unfold rowO
  rw [sweep_succ _ _ _ _ _ _ f.isLt]
  rfl

theorem rowO_zero : rowO X A B W G U D l s 0 = rowP X A B W s := funext fun q => sweep_zero _ _ _ _ q

end Rows

end Cert.Mlp
end
-- ==== Proof.Step2.lean ====
/-
  One grid point of the odd layer's call: what the point leaves in the output's window and in the scratch.
-/
module

public import proofs.«01_k».proof.Proof.Mlp
public import proofs.«01_k».proof.Proof.Gen.Kernel2Ideal.Frame

@[expose] public section

set_option maxRecDepth 16384

noncomputable section

namespace Cert.Kernel2Ideal.Mlp

open Cert.Kernel2Ideal Cert.Kernel2Ideal.Gen
open Cert.Mlp
open Idealize.ShloMosaic Idealize.ShloMosaic.TcCoe

/-! ## The payloads at an index -/

/-- A block of columns of the projection. -/
theorem pay4_ix (x : Vec Ideal S512x512 .f32) (a : Vec Ideal S512x1024 .bf16) (u : Vec Ideal S1024x512 .bf16) (b : Vec Ideal S512x1024 .bf16) (v : Vec Ideal S1024x512 .bf16) (r j : Fin 512) :
    k0_pay4 x a u b v (ix2 r j) = x (ix2 r j) + (∑ k : Fin 1024, a (ix2 r k) * u (ix2 k j)) + ∑ k : Fin 1024, b (ix2 r k) * v (ix2 k j) := by
  pointwise [k0_pay4]
theorem pay5_ix (x : Vec Ideal S512x512 .f32) (a : Vec Ideal S512x1024 .bf16) (u : Vec Ideal S1024x512 .bf16) (b : Vec Ideal S512x1024 .bf16) (v : Vec Ideal S1024x512 .bf16) (r j : Fin 512) :
    k0_pay5 x a u b v (ix2 r j) = x (ix2 r j) + (∑ k : Fin 1024, a (ix2 r k) * u (ix2 k j)) + ∑ k : Fin 1024, b (ix2 r k) * v (ix2 k j) := by
  pointwise [k0_pay5]
theorem pay6_ix (x : Vec Ideal S512x512 .f32) (a : Vec Ideal S512x1024 .bf16) (u : Vec Ideal S1024x512 .bf16) (b : Vec Ideal S512x1024 .bf16) (v : Vec Ideal S1024x512 .bf16) (r j : Fin 512) :
    k0_pay6 x a u (constant S512x512 .f32 0x00000000#32) b v (ix2 r j) = x (ix2 r j) + (∑ k : Fin 1024, a (ix2 r k) * u (ix2 k j)) + ∑ k : Fin 1024, b (ix2 r k) * v (ix2 k j) := by
  pointwise [k0_pay6]
theorem pay7_ix (x : Vec Ideal S512x512 .f32) (a : Vec Ideal S512x1024 .bf16) (u : Vec Ideal S1024x512 .bf16) (b : Vec Ideal S512x1024 .bf16) (v : Vec Ideal S1024x512 .bf16) (r j : Fin 512) :
    k0_pay7 x a u b v (ix2 r j) = x (ix2 r j) + (∑ k : Fin 1024, a (ix2 r k) * u (ix2 k j)) + ∑ k : Fin 1024, b (ix2 r k) * v (ix2 k j) := by
  pointwise [k0_pay7]

/-- The normalized rows. -/
theorem pay9_ix (g : Vec Ideal S1x2048 .f32) (o : Vec Ideal S512x2048 .f32) (r : Fin 512) (q : Fin 2048) :
    k0_pay9 g (k0_pay8 o) (ix2 r q) = nrm (fun k => o (ix2 r k)) (fun k => g (ix2 0 k)) q := by
  unfold nrm
  pointwise [k0_pay9, k0_pay8]

/-- The normalized rows of the result. -/
theorem pay3_ix (o : Vec Ideal S512x2048 .f32) (g : Vec Ideal S1x2048 .f32) (r : Fin 512) (q : Fin 2048) :
    k0_pay3 o g (ix2 r q) = nrm (fun k => o (ix2 r k)) (fun k => g (ix2 0 k)) q := by
  unfold nrm
  pointwise [k0_pay3]

/-- The activations of a block. -/
theorem pay10_ix (h : Vec Ideal S512x2048 .bf16) (u : Vec Ideal S1x2048x1024 .bf16) (r : Fin 512) (j : Fin 1024) :
    k0_pay10 h u (ix2 r j) = act (fun k => h (ix2 r k)) (fun k => u (ix3 0 k j)) := by
  unfold act
  pointwise [k0_pay10]

/-- A block of columns of the accumulated output. -/
theorem pay11_ix (h : Vec Ideal S512x2048 .bf16) (u : Vec Ideal S1x2048x1024 .bf16) (o : Vec Ideal S512x512 .f32) (d : Vec Ideal S1x1024x512 .bf16) (r j : Fin 512) :
    k0_pay11 h u o d (ix2 r j) = o (ix2 r j) + ∑ k : Fin 1024, k0_pay10 h u (ix2 r k) * d (ix3 0 k j) := by
  pointwise [k0_pay11]
theorem pay12_ix (h : Vec Ideal S512x2048 .bf16) (u : Vec Ideal S1x2048x1024 .bf16) (o : Vec Ideal S512x512 .f32) (d : Vec Ideal S1x1024x512 .bf16) (r j : Fin 512) :
    k0_pay12 h u o d (ix2 r j) = o (ix2 r j) + ∑ k : Fin 1024, k0_pay10 h u (ix2 r k) * d (ix3 0 k j) := by
  pointwise [k0_pay12]
theorem pay1_ix (a : Vec Ideal S512x1024 .bf16) (o : Vec Ideal S512x512 .f32) (d : Vec Ideal S1x1024x512 .bf16) (r j : Fin 512) :
    k0_pay1 a (k0_pay13 o) d (ix2 r j) = o (ix2 r j) + ∑ k : Fin 1024, a (ix2 r k) * d (ix3 0 k j) := by
  pointwise [k0_pay1, k0_pay13]
theorem pay2_ix (a : Vec Ideal S512x1024 .bf16) (o : Vec Ideal S512x512 .f32) (d : Vec Ideal S1x1024x512 .bf16) (r j : Fin 512) :
    k0_pay2 a o d (ix2 r j) = o (ix2 r j) + ∑ k : Fin 1024, a (ix2 r k) * d (ix3 0 k j) := by
  pointwise [k0_pay2]

/-! ## The point -/

theorem z2 : (![0, 0] : Fin 2 → ℕ) = fun _ => 0 := by funext a; fin_cases a <;> rfl
theorem z3 : (![0, 0, 0] : Fin 3 → ℕ) = fun _ => 0 := by funext a; fin_cases a <;> rfl

section Point
variable (c : Dev nD) (i : grid0.Coords)
  (arg2 : Memref sig .tc .vmem S512x2048 .f32) (harg2 : arg2.IsWhole) (arg3 : Memref sig .tc .vmem S512x1024 .bf16) (harg3 : arg3.IsWhole)
  (arg4 : Memref sig .tc .vmem S512x1024 .bf16) (harg4 : arg4.IsWhole) (arg5 : Memref sig .tc .vmem S2048x2048 .bf16) (harg5 : arg5.IsWhole)
  (arg6 : Memref sig .tc .vmem S1x2048 .f32) (harg6 : arg6.IsWhole) (arg7 : Memref sig .tc .vmem S1x2048x1024 .bf16) (harg7 : arg7.IsWhole)
  (arg8 : Memref sig .tc .vmem S1x1024x2048 .bf16) (harg8 : arg8.IsWhole) (arg9 : Memref sig .tc .vmem S1x2048 .f32) (harg9 : arg9.IsWhole)
  (arg10 : Memref sig .tc .vmem S512x2048 .f32) (harg10 : arg10.IsWhole) (arg11 : Memref sig .tc .vmem S512x2048 .bf16) (harg11 : arg11.IsWhole)
  (x0 : Vec Ideal S512x2048 .f32) (x1 : Vec Ideal S512x1024 .bf16) (x2 : Vec Ideal S512x1024 .bf16) (x3 : Vec Ideal S2048x2048 .bf16)
  (x4 : Vec Ideal S1x2048 .f32) (x5 : Vec Ideal S1x2048x1024 .bf16) (x6 : Vec Ideal S1x1024x2048 .bf16) (x7 : Vec Ideal S1x2048 .f32)
  (xo8 : Vec Ideal S512x2048 .f32) (xs0 : Vec Ideal S512x2048 .bf16)

/-- A block of columns of a step, from its blocks of columns. -/
theorem step_col (o : Vec Ideal S512x2048 .f32) (h : Vec Ideal S512x2048 .bf16) (u : Vec Ideal S1x2048x1024 .bf16) (d : Vec Ideal S1x1024x2048 .bf16) (p : ℕ) (hb) (r j : Fin 512) (hj : p + j.val < 2048) :
    (o (ix2 r ⟨p + j.val, hj⟩) + ∑ k : Fin 1024, k0_pay10 h u (ix2 r k) * View.ld d (Rect.unit (s := S1x1024x2048) ![0, 0, p] ![1, 1024, 512] hb) (ix3 0 k j) : EReal)
      = stepV o h u d (ix2 r ⟨p + j.val, hj⟩) := by
  unfold stepV step
  refine congrArg₂ (· + ·) rfl (Finset.sum_congr rfl fun k _ => congrArg₂ (· * ·) (pay10_ix h u r k) (ld_down d p hb k j hj))

/-- A point that starts no block of rows adds a block of activations. -/
theorem out_B (hc0 : ¬cond0_0 i) (hc1 : ¬cond0_1 i) : out0_B_8 (F := Ideal) c i arg2 harg2 arg3 harg3 arg4 harg4 arg5 harg5 arg6 harg6 arg7 harg7 arg8 harg8 arg9 harg9 arg10 harg10 arg11 harg11 hc0 hc1 x0 x1 x2 x3 x4 x5 x6 x7 xo8 xs0 = stepV xo8 xs0 x5 x6 := by
  unfold out0_B_8
  rw [View.read_writes_junk_eq_canon]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread]
  refine canon_four _ _ _ _ _ _ _ _ _ [] ?_ ?_ ?_ ?_
  all_goals
    intro r j
    first | rw [pay11_ix] | rw [pay12_ix] | rw [pay1_ix] | rw [pay2_ix]
    rw [View.ld_unit_zero z2, View.ld_unit_zero z3, ld_col _ _ _ _ _ (by omega)]
    exact step_col _ _ _ _ _ _ _ _ _

/-- A point that starts a block of rows projects, normalizes, and adds the first block of activations. -/
theorem out_A (hc0 : cond0_0 i) (hc1 : ¬cond0_1 i) : out0_A_8 (F := Ideal) c i arg2 harg2 arg3 harg3 arg4 harg4 arg5 harg5 arg6 harg6 arg7 harg7 arg8 harg8 arg9 harg9 arg10 harg10 arg11 harg11 hc0 hc1 x0 x1 x2 x3 x4 x5 x6 x7 = stepV (projV x0 x1 x2 x3) (nrmV (projV x0 x1 x2 x3) x4) x5 x6 := by
  unfold out0_A_8
  rw [View.read_writes_junk_eq_canon]
  unfold kernelRun0_A
  dsimp only
  sl_unfold_words
  simp (disch := decide) only [View.readAt_eq_ld, harg2.read_unread, harg3.read_unread, harg4.read_unread, harg5.read_unread, harg6.read_unread, harg7.read_unread, harg8.read_unread, harg9.read_unread, harg10.read_unread, harg11.read_unread, ↓View.readCov_cons_toLoadRect, ↓View.readCov_skip]
  rw [readCov_four _ (projV x0 x1 x2 x3)]
  rotate_left
  · intro r j; rw [pay4_ix]; exact proj_col _ _ _ _ _ _ _ _ _ _ _ _ _
  · intro r j; rw [pay5_ix]; exact proj_col _ _ _ _ _ _ _ _ _ _ _ _ _
  · intro r j; rw [pay6_ix]; exact proj_col _ _ _ _ _ _ _ _ _ _ _ _ _
  · intro r j; rw [pay7_ix]; exact proj_col _ _ _ _ _ _ _ _ _ _ _ _ _
  rw [View.ld_unit_zero z2 _ x4, View.ld_unit_zero z3 _ x5]
  have hh : k0_pay9 x4 (k0_pay8 (projV x0 x1 x2 x3)) = nrmV (projV x0 x1 x2 x3) x4 := by
    funext y
    obtain ⟨r, q, rfl⟩ : ∃ (r : Fin 512) (q : Fin 2048), y = ix2 r q := ⟨y 0, y 1, by funext a; fin_cases a <;> rfl⟩
    exact pay9_ix _ _ r q
  rw [hh]
  refine canon_four _ _ _ _ _ _ _ _ _ _ ?_ ?_ ?_ ?_
  · intro r j
    rw [pay11_ix, pay4_ix]
    rw [proj_col _ _ _ _ _ _ _ _ _ _ _ _ (by omega)]
    exact step_col _ _ _ _ _ _ _ _ _
  · intro r j
    rw [pay12_ix, pay5_ix]
    rw [proj_col _ _ _ _ _ _ _ _ _ _ _ _ (by omega)]
    exact step_col _ _ _ _ _ _ _ _ _
  · intro r j
    rw [pay1_ix, pay6_ix]
    rw [proj_col _ _ _ _ _ _ _ _ _ _ _ _ (by omega)]
    exact step_col _ _ _ _ _ _ _ _ _
  · intro r j
    rw [pay2_ix, pay7_ix]
    rw [proj_col _ _ _ _ _ _ _ _ _ _ _ _ (by omega)]
    exact step_col _ _ _ _ _ _ _ _ _

/-- … and leaves the normalized rows in the scratch. -/
theorem sout_A (hc0 : cond0_0 i) (hc1 : ¬cond0_1 i) : sout0_A_0 (F := Ideal) c i arg2 harg2 arg3 harg3 arg4 harg4 arg5 harg5 arg6 harg6 arg7 harg7 arg8 harg8 arg9 harg9 arg10 harg10 arg11 harg11 hc0 hc1 x0 x1 x2 x3 x4 x5 x6 x7 = nrmV (projV x0 x1 x2 x3) x4 := by
  unfold sout0_A_0
  rw [View.read_writes_junk_eq_canon]
  unfold kernelRun0_A
  dsimp only
  sl_unfold_words
  simp (disch := decide) only [View.readAt_eq_ld, harg2.read_unread, harg3.read_unread, harg4.read_unread, harg5.read_unread, harg6.read_unread, harg7.read_unread, harg8.read_unread, harg9.read_unread, harg10.read_unread, harg11.read_unread, ↓View.readCov_cons_toLoadRect, ↓View.readCov_skip]
  rw [readCov_four _ (projV x0 x1 x2 x3)]
  rotate_left
  · intro r j; rw [pay4_ix]; exact proj_col _ _ _ _ _ _ _ _ _ _ _ _ _
  · intro r j; rw [pay5_ix]; exact proj_col _ _ _ _ _ _ _ _ _ _ _ _ _
  · intro r j; rw [pay6_ix]; exact proj_col _ _ _ _ _ _ _ _ _ _ _ _ _
  · intro r j; rw [pay7_ix]; exact proj_col _ _ _ _ _ _ _ _ _ _ _ _ _
  rw [View.ld_unit_zero z2 _ x4]
  refine (View.canon_cons_unit_zero z2 _ _ _).trans ?_
  funext y
  obtain ⟨r, q, rfl⟩ : ∃ (r : Fin 512) (q : Fin 2048), y = ix2 r q := ⟨y 0, y 1, by funext a; fin_cases a <;> rfl⟩
  exact pay9_ix _ _ r q

/-- A point that ends a block of rows adds the last block of activations and normalizes. -/
theorem out_C (hc0 : ¬cond0_0 i) (hc1 : cond0_1 i) : out0_C_8 (F := Ideal) c i arg2 harg2 arg3 harg3 arg4 harg4 arg5 harg5 arg6 harg6 arg7 harg7 arg8 harg8 arg9 harg9 arg10 harg10 arg11 harg11 hc0 hc1 x0 x1 x2 x3 x4 x5 x6 x7 xo8 xs0 = nrmV (stepV xo8 xs0 x5 x6) x7 := by
  unfold out0_C_8
  rw [View.read_writes_junk_eq_canon]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread]
  rw [readCov_four _ (stepV xo8 xs0 x5 x6)]
  rotate_left
  iterate 4
    intro r j
    first | rw [pay11_ix] | rw [pay12_ix] | rw [pay1_ix] | rw [pay2_ix]
    rw [View.ld_unit_zero z2, View.ld_unit_zero z3, ld_col _ _ _ _ _ (by omega)]
    exact step_col _ _ _ _ _ _ _ _ _
  rw [View.ld_unit_zero z2 _ x7]
  refine (View.canon_cons_unit_zero z2 _ _ _).trans ?_
  funext y
  obtain ⟨r, q, rfl⟩ : ∃ (r : Fin 512) (q : Fin 2048), y = ix2 r q := ⟨y 0, y 1, by funext a; fin_cases a <;> rfl⟩
  exact pay3_ix _ _ r q

end Point

end Cert.Kernel2Ideal.Mlp
end
-- ==== Proof.Value2.lean ====
/-
  The odd layer's call: what every grid point leaves, and the result at an index.
-/
module

public import proofs.«01_k».proof.Proof.Step2
public import proofs.«01_k».proof.Proof.Gen.Kernel2Ideal.Value

@[expose] public section

set_option maxRecDepth 16384

noncomputable section

namespace Cert.Kernel2Ideal.Mlp

open Cert.Kernel2Ideal Cert.Kernel2Ideal.Gen Cert.Kernel2Ideal.Value
open Cert.Mlp
open Idealize.ShloMosaic Idealize.ShloMosaic.TcCoe

variable (m : (ℓ : Loc nD τ sig) → Buf (Elt Ideal) ℓ) (c : Dev nD)

/-! ## The windows at an index -/

theorem point_lt (t : Fin cfg0.N) : t.val < 256 := lt_of_lt_of_eq t.isLt (show cfg0.N = 256 from N_0)

theorem idx0 : ∀ t : Fin cfg0.N, win0_0.index t 0 = t.val / 8 ∧ win0_0.index t 1 = 0 := by decide +kernel
theorem idx1 : ∀ t : Fin cfg0.N, win0_1.index t 0 = t.val / 8 ∧ win0_1.index t 1 = 0 := by decide +kernel
theorem idx2 : ∀ t : Fin cfg0.N, win0_2.index t 0 = t.val / 8 ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = 1 ∧ win0_5.index t 1 = 0 ∧ win0_5.index t 2 = t.val % 8 := by decide +kernel
theorem idx6 : ∀ t : Fin cfg0.N, win0_6.index t 0 = 1 ∧ win0_6.index t 1 = t.val % 8 ∧ win0_6.index t 2 = 0 := by decide +kernel
theorem idx7 : ∀ t : Fin cfg0.N, win0_7.index t 0 = 0 ∧ win0_7.index t 1 = 0 := by decide +kernel

/-- The row of the arrays that row `r` of point `t` is. -/
def rowOf (t : Fin cfg0.N) (r : Fin 512) : Fin 16384 := ⟨t.val / 8 * 512 + r.val, by have := point_lt t; omega⟩

theorem iblk0_ix (t : Fin cfg0.N) (r : Fin 512) (k : Fin 2048) :
    (iblk m c 0 t : Vec Ideal S512x2048 .f32) (ix2 r k) = (m ((c : Thread nD τ).loc main_arg0) : Vec Ideal S16384x2048 .f32) (ix2 (rowOf t r) k) := by
  unfold iblk
  rw [View.read_apply]
  show V m c main_arg0 _ = m (c.tc.loc main_arg0) _
  unfold V
  congr 1
  funext a
  apply Fin.ext
  fin_cases a
  · show win0_0.index t 0 * 512 + 1 * r.val = t.val / 8 * 512 + r.val; rw [(idx0 t).1]; omega
  · show win0_0.index t 1 * 2048 + 1 * k.val = k.val; rw [(idx0 t).2]; omega
theorem iblk1_ix (t : Fin cfg0.N) (r : Fin 512) (k : Fin 1024) :
    (iblk m c 1 t : Vec Ideal S512x1024 .bf16) (ix2 r k) = (m ((c : Thread nD τ).loc main_arg1) : Vec Ideal S16384x1024 .bf16) (ix2 (rowOf t r) k) := by
  unfold iblk
  rw [View.read_apply]
  show V m c main_arg1 _ = m (c.tc.loc main_arg1) _
  unfold V
  congr 1
  funext a
  apply Fin.ext
  fin_cases a
  · show win0_1.index t 0 * 512 + 1 * r.val = t.val / 8 * 512 + r.val; rw [(idx1 t).1]; omega
  · show win0_1.index t 1 * 1024 + 1 * k.val = k.val; rw [(idx1 t).2]; omega
theorem iblk2_ix (t : Fin cfg0.N) (r : Fin 512) (k : Fin 1024) :
    (iblk m c 2 t : Vec Ideal S512x1024 .bf16) (ix2 r k) = (m ((c : Thread nD τ).loc main_arg2) : Vec Ideal S16384x1024 .bf16) (ix2 (rowOf t r) k) := by
  unfold iblk
  rw [View.read_apply]
  show V m c main_arg2 _ = m (c.tc.loc main_arg2) _
  unfold V
  congr 1
  funext a
  apply Fin.ext
  fin_cases a
  · show win0_2.index t 0 * 512 + 1 * r.val = t.val / 8 * 512 + r.val; rw [(idx2 t).1]; omega
  · show win0_2.index t 1 * 1024 + 1 * k.val = k.val; rw [(idx2 t).2]; omega
theorem iblk3_ix (t : Fin cfg0.N) (k q : Fin 2048) :
    (iblk m c 3 t : Vec Ideal S2048x2048 .bf16) (ix2 k q) = (m ((c : Thread nD τ).loc main_arg3) : Vec Ideal S2048x2048 .bf16) (ix2 k q) := by
  unfold iblk
  rw [View.read_apply]
  show V m c main_arg3 _ = m (c.tc.loc main_arg3) _
  unfold V
  congr 1
  funext a
  apply Fin.ext
  fin_cases a
  · show win0_3.index t 0 * 2048 + 1 * k.val = k.val; rw [(idx3 t).1]; omega
  · show win0_3.index t 1 * 2048 + 1 * q.val = q.val; rw [(idx3 t).2]; omega
theorem iblk4_ix (t : Fin cfg0.N) (k : Fin 2048) :
    (iblk m c 4 t : Vec Ideal S1x2048 .f32) (ix2 0 k) = (m ((c : Thread nD τ).loc main_arg4) : Vec Ideal S1x2048 .f32) (ix2 0 k) := by
  unfold iblk
  rw [View.read_apply]
  show V m c main_arg4 _ = m (c.tc.loc main_arg4) _
  unfold V
  congr 1
  funext a
  apply Fin.ext
  fin_cases a
  · show win0_4.index t 0 * 1 + 1 * 0 = 0; rw [(idx4 t).1]
  · show win0_4.index t 1 * 2048 + 1 * k.val = k.val; rw [(idx4 t).2]; omega
theorem iblk5_ix (t : Fin cfg0.N) (k : Fin 2048) (j : Fin 1024) :
    (iblk m c 5 t : Vec Ideal S1x2048x1024 .bf16) (ix3 0 k j) = (m ((c : Thread nD τ).loc main_arg5) : Vec Ideal S2x2048x8192 .bf16) (ix3 1 k ⟨t.val % 8 * 1024 + j.val, by omega⟩) := by
  unfold iblk
  rw [View.read_apply]
  show V m c main_arg5 _ = m (c.tc.loc main_arg5) _
  unfold V
  congr 1
  funext a
  apply Fin.ext
  fin_cases a
  · show win0_5.index t 0 * 1 + 1 * 0 = 1; rw [(idx5 t).1]
  · show win0_5.index t 1 * 2048 + 1 * k.val = k.val; rw [(idx5 t).2.1]; omega
  · show win0_5.index t 2 * 1024 + 1 * j.val = t.val % 8 * 1024 + j.val; rw [(idx5 t).2.2]; omega
theorem iblk6_ix (t : Fin cfg0.N) (j : Fin 1024) (q : Fin 2048) :
    (iblk m c 6 t : Vec Ideal S1x1024x2048 .bf16) (ix3 0 j q) = (m ((c : Thread nD τ).loc main_arg6) : Vec Ideal S2x8192x2048 .bf16) (ix3 1 ⟨t.val % 8 * 1024 + j.val, by omega⟩ q) := by
  unfold iblk
  rw [View.read_apply]
  show V m c main_arg6 _ = m (c.tc.loc main_arg6) _
  unfold V
  congr 1
  funext a
  apply Fin.ext
  fin_cases a
  · show win0_6.index t 0 * 1 + 1 * 0 = 1; rw [(idx6 t).1]
  · show win0_6.index t 1 * 1024 + 1 * j.val = t.val % 8 * 1024 + j.val; rw [(idx6 t).2.1]; omega
  · show win0_6.index t 2 * 2048 + 1 * q.val = q.val; rw [(idx6 t).2.2]; omega
theorem iblk7_ix (t : Fin cfg0.N) (k : Fin 2048) :
    (iblk m c 7 t : Vec Ideal S1x2048 .f32) (ix2 0 k) = (m ((c : Thread nD τ).loc main_arg7) : Vec Ideal S1x2048 .f32) (ix2 0 k) := by
  unfold iblk
  rw [View.read_apply]
  show V m c main_arg7 _ = m (c.tc.loc main_arg7) _
  unfold V
  congr 1
  funext a
  apply Fin.ext
  fin_cases a
  · show win0_7.index t 0 * 1 + 1 * 0 = 0; rw [(idx7 t).1]
  · show win0_7.index t 1 * 2048 + 1 * k.val = k.val; rw [(idx7 t).2]; omega

/-! ## The rows a point leaves -/

/-- The rows of the arrays of memory `m`. -/
abbrev memP (s : Fin 16384) : Fin 2048 → EReal :=
  rowP (m ((c : Thread nD τ).loc main_arg0)) (m ((c : Thread nD τ).loc main_arg1)) (m ((c : Thread nD τ).loc main_arg2)) (m ((c : Thread nD τ).loc main_arg3)) s
abbrev memH (s : Fin 16384) : Fin 2048 → EReal :=
  rowH (m ((c : Thread nD τ).loc main_arg0)) (m ((c : Thread nD τ).loc main_arg1)) (m ((c : Thread nD τ).loc main_arg2)) (m ((c : Thread nD τ).loc main_arg3)) (m ((c : Thread nD τ).loc main_arg4)) s
abbrev memO (s : Fin 16384) (n : ℕ) : Fin 2048 → EReal :=
  rowO (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) 1 s n

theorem proj_point (t : Fin cfg0.N) (r : Fin 512) :
    (fun q => projV (iblk m c 0 t) (iblk m c 1 t) (iblk m c 2 t) (iblk m c 3 t) (ix2 r q)) = memP m c (rowOf t r) :=
  projV_row _ _ _ _ _ _ _ _ _ r (iblk0_ix m c t r) (iblk1_ix m c t r) (iblk2_ix m c t r) (iblk3_ix m c t)
theorem norm_point (t : Fin cfg0.N) (r : Fin 512) :
    (fun q => nrmV (projV (iblk m c 0 t) (iblk m c 1 t) (iblk m c 2 t) (iblk m c 3 t)) (iblk m c 4 t) (ix2 r q)) = memH m c (rowOf t r) :=
  nrmV_row _ _ _ _ r (proj_point m c t r) (iblk4_ix m c t)
theorem step_point (t : Fin cfg0.N) (r : Fin 512) (o : Vec Ideal S512x2048 .f32) (h : Vec Ideal S512x2048 .bf16)
    (ho : (fun q => o (ix2 r q)) = memO m c (rowOf t r) (t.val % 8)) (hh : (fun q => h (ix2 r q)) = memH m c (rowOf t r)) :
    (fun q => stepV o h (iblk m c 5 t) (iblk m c 6 t) (ix2 r q)) = memO m c (rowOf t r) (t.val % 8 + 1) :=
  stepV_row _ _ _ _ _ _ _ 1 _ o h _ _ r ⟨t.val % 8, by omega⟩ ho hh (iblk5_ix m c t) (iblk6_ix m c t)

/-- The point before, in the same block of rows. -/
theorem rowOf_pred (t : Fin cfg0.N) (h0 : ¬t.val % 8 = 0) (h) (r : Fin 512) : rowOf ⟨t.val - 1, h⟩ r = rowOf t r :=
  Fin.ext (by show (t.val - 1) / 8 * 512 + r.val = t.val / 8 * 512 + r.val; omega)

/-- The rows after all the activations, normalized. -/
abbrev memF (s : Fin 16384) : Fin 2048 → EReal := nrm (memO m c s 8) fun k => (m ((c : Thread nD τ).loc main_arg7) : Vec Ideal S1x2048 .f32) (ix2 0 k)

/-- After point `8 i + f` the output's window holds the rows after `f + 1` blocks of activations (normalized, after the last), the scratch the normalized rows. -/
theorem outs_eq : ∀ (n : ℕ) (hn : n < cfg0.N) (r : Fin 512),
    (fun q => (outsAt0 m c n hn).1 (ix2 r q)) = (if n % 8 = 7 then memF m c (rowOf ⟨n, hn⟩ r) else memO m c (rowOf ⟨n, hn⟩ r) (n % 8 + 1)) ∧ (fun q => (outsAt0 m c n hn).2 (ix2 r q)) = memH m c (rowOf ⟨n, hn⟩ r) := by
  intro n
  induction n with
  | zero =>
    intro hn r
    rw [outsAt0_A m c ⟨0, hn⟩ rfl (by show ¬0 % 8 = 7; decide), if_neg (by decide)]
    dsimp only
    rw [out_A, sout_A]
    exact ⟨step_point m c ⟨0, hn⟩ r _ _ ((proj_point m c ⟨0, hn⟩ r).trans (rowO_zero _ _ _ _ _ _ _ _ _).symm) (norm_point m c ⟨0, hn⟩ r), norm_point m c ⟨0, hn⟩ r⟩
  | succ n ih =>
    intro hn r
    by_cases h0 : (n + 1) % 8 = 0
    · rw [outsAt0_A m c ⟨n + 1, hn⟩ h0 (by show ¬(n + 1) % 8 = 7; omega), if_neg (by omega)]
      dsimp only
      rw [out_A, sout_A]
      refine ⟨step_point m c ⟨n + 1, hn⟩ r _ _ ?_ (norm_point m c ⟨n + 1, hn⟩ r), norm_point m c ⟨n + 1, hn⟩ r⟩
      rw [show (⟨n + 1, hn⟩ : Fin cfg0.N).val % 8 = 0 from h0]
      exact (proj_point m c ⟨n + 1, hn⟩ r).trans (rowO_zero _ _ _ _ _ _ _ _ _).symm
    · have hp := ih (Nat.lt_of_succ_lt hn) r
      have hr := rowOf_pred ⟨n + 1, hn⟩ h0 (Nat.lt_of_succ_lt hn) r
      rw [if_neg (by omega), show n % 8 + 1 = (n + 1) % 8 by omega] at hp
      rw [show rowOf ⟨n, Nat.lt_of_succ_lt hn⟩ r = rowOf ⟨n + 1, hn⟩ r from hr] at hp
      by_cases h1 : (n + 1) % 8 = 7
      · rw [outsAt0_C m c ⟨n + 1, hn⟩ h0 h1, if_pos h1]
        dsimp only
        rw [out_C]
        have e := step_point m c ⟨n + 1, hn⟩ r _ _ hp.1 hp.2
        rw [show (⟨n + 1, hn⟩ : Fin cfg0.N).val % 8 + 1 = 8 by show (n + 1) % 8 + 1 = 8; omega] at e
        exact ⟨nrmV_row _ _ _ _ r e (iblk7_ix m c ⟨n + 1, hn⟩), hp.2⟩
      · rw [outsAt0_B m c ⟨n + 1, hn⟩ h0 h1, if_neg h1]
        dsimp only
        rw [out_B]
        exact ⟨step_point m c ⟨n + 1, hn⟩ r _ _ hp.1 hp.2, hp.2⟩

/-- The result at an index. -/
theorem result_ix (s : Fin 16384) (q : Fin 2048) : (G8 m c : Vec Ideal S16384x2048 .f32) (ix2 s q) = memF m c s q := by
  have hp : pt8Of (ix2 s q : S16384x2048.Idx) = s.val / 512 * 8 + 7 := by
    show 8 * (1 * (s.val / 512 - 0) + 1 * (q.val / 2048 - 0)) + 7 = _
    omega
  have hN : s.val / 512 * 8 + 7 < cfg0.N := by rw [show cfg0.N = 256 from N_0]; omega
  have hl : loc8Of (ix2 s q : S16384x2048.Idx) = ix2 ⟨s.val % 512, by omega⟩ q := by
    funext a
    apply Fin.ext
    fin_cases a
    · rfl
    · show q.val % 2048 = q.val; omega
  unfold G8
  rw [dif_pos (by rw [hp]; exact hN), ← outsAt0_sweep m c _ (by rw [hp]; exact hN), hl]
  have e : ∀ (n : ℕ) (hn : n < cfg0.N), n = s.val / 512 * 8 + 7 → (outsAt0 m c n hn).1 (ix2 ⟨s.val % 512, by omega⟩ q) = memF m c s q := by
    intro n hn he
    have h := congrFun (outs_eq m c n hn ⟨s.val % 512, by omega⟩).1 q
    rw [if_pos (by omega), show rowOf ⟨n, hn⟩ ⟨s.val % 512, by omega⟩ = s from Fin.ext (by show n / 8 * 512 + s.val % 512 = s.val; omega)] at h
    exact h
  exact e _ _ hp

end Cert.Kernel2Ideal.Mlp
end
-- ==== Proof.Step3.lean ====
/-
  One grid point of the even layer's call: what the point leaves in the output's window and in the scratch.
-/
module

public import proofs.«01_k».proof.Proof.Mlp
public import proofs.«01_k».proof.Proof.Gen.Kernel3Ideal.Frame

@[expose] public section

set_option maxRecDepth 16384

noncomputable section

namespace Cert.Kernel3Ideal.Mlp

open Cert.Kernel3Ideal Cert.Kernel3Ideal.Gen
open Cert.Mlp
open Idealize.ShloMosaic Idealize.ShloMosaic.TcCoe

/-! ## The payloads at an index -/

/-- A block of columns of the projection. -/
theorem pay3_ix (x : Vec Ideal S512x512 .f32) (a : Vec Ideal S512x1024 .bf16) (u : Vec Ideal S1024x512 .bf16) (b : Vec Ideal S512x1024 .bf16) (v : Vec Ideal S1024x512 .bf16) (r j : Fin 512) :
    k0_pay3 x a u b v (ix2 r j) = x (ix2 r j) + (∑ k : Fin 1024, a (ix2 r k) * u (ix2 k j)) + ∑ k : Fin 1024, b (ix2 r k) * v (ix2 k j) := by
  pointwise [k0_pay3]
theorem pay4_ix (x : Vec Ideal S512x512 .f32) (a : Vec Ideal S512x1024 .bf16) (u : Vec Ideal S1024x512 .bf16) (b : Vec Ideal S512x1024 .bf16) (v : Vec Ideal S1024x512 .bf16) (r j : Fin 512) :
    k0_pay4 x a u b v (ix2 r j) = x (ix2 r j) + (∑ k : Fin 1024, a (ix2 r k) * u (ix2 k j)) + ∑ k : Fin 1024, b (ix2 r k) * v (ix2 k j) := by
  pointwise [k0_pay4]
theorem pay5_ix (x : Vec Ideal S512x512 .f32) (a : Vec Ideal S512x1024 .bf16) (u : Vec Ideal S1024x512 .bf16) (b : Vec Ideal S512x1024 .bf16) (v : Vec Ideal S1024x512 .bf16) (r j : Fin 512) :
    k0_pay5 x a u (constant S512x512 .f32 0x00000000#32) b v (ix2 r j) = x (ix2 r j) + (∑ k : Fin 1024, a (ix2 r k) * u (ix2 k j)) + ∑ k : Fin 1024, b (ix2 r k) * v (ix2 k j) := by
  pointwise [k0_pay5]
theorem pay6_ix (x : Vec Ideal S512x512 .f32) (a : Vec Ideal S512x1024 .bf16) (u : Vec Ideal S1024x512 .bf16) (b : Vec Ideal S512x1024 .bf16) (v : Vec Ideal S1024x512 .bf16) (r j : Fin 512) :
    k0_pay6 x a u b v (ix2 r j) = x (ix2 r j) + (∑ k : Fin 1024, a (ix2 r k) * u (ix2 k j)) + ∑ k : Fin 1024, b (ix2 r k) * v (ix2 k j) := by
  pointwise [k0_pay6]

/-- The normalized rows. -/
theorem pay8_ix (g : Vec Ideal S1x2048 .f32) (o : Vec Ideal S512x2048 .f32) (r : Fin 512) (q : Fin 2048) :
    k0_pay8 g (k0_pay7 o) (ix2 r q) = nrm (fun k => o (ix2 r k)) (fun k => g (ix2 0 k)) q := by
  unfold nrm
  pointwise [k0_pay8, k0_pay7]

/-- The activations of a block. -/
theorem pay9_ix (h : Vec Ideal S512x2048 .bf16) (u : Vec Ideal S1x2048x1024 .bf16) (r : Fin 512) (j : Fin 1024) :
    k0_pay9 h u (ix2 r j) = act (fun k => h (ix2 r k)) (fun k => u (ix3 0 k j)) := by
  unfold act
  pointwise [k0_pay9]

/-- A block of columns of the accumulated output. -/
theorem pay10_ix (h : Vec Ideal S512x2048 .bf16) (u : Vec Ideal S1x2048x1024 .bf16) (o : Vec Ideal S512x512 .f32) (d : Vec Ideal S1x1024x512 .bf16) (r j : Fin 512) :
    k0_pay10 h u o d (ix2 r j) = o (ix2 r j) + ∑ k : Fin 1024, k0_pay9 h u (ix2 r k) * d (ix3 0 k j) := by
  pointwise [k0_pay10]
theorem pay11_ix (h : Vec Ideal S512x2048 .bf16) (u : Vec Ideal S1x2048x1024 .bf16) (o : Vec Ideal S512x512 .f32) (d : Vec Ideal S1x1024x512 .bf16) (r j : Fin 512) :
    k0_pay11 h u o d (ix2 r j) = o (ix2 r j) + ∑ k : Fin 1024, k0_pay9 h u (ix2 r k) * d (ix3 0 k j) := by
  pointwise [k0_pay11]
theorem pay1_ix (a : Vec Ideal S512x1024 .bf16) (o : Vec Ideal S512x512 .f32) (d : Vec Ideal S1x1024x512 .bf16) (r j : Fin 512) :
    k0_pay1 a (k0_pay12 o) d (ix2 r j) = o (ix2 r j) + ∑ k : Fin 1024, a (ix2 r k) * d (ix3 0 k j) := by
  pointwise [k0_pay1, k0_pay12]
theorem pay2_ix (a : Vec Ideal S512x1024 .bf16) (o : Vec Ideal S512x512 .f32) (d : Vec Ideal S1x1024x512 .bf16) (r j : Fin 512) :
    k0_pay2 a o d (ix2 r j) = o (ix2 r j) + ∑ k : Fin 1024, a (ix2 r k) * d (ix3 0 k j) := by
  pointwise [k0_pay2]

/-! ## The point -/

theorem z2 : (![0, 0] : Fin 2 → ℕ) = fun _ => 0 := by funext a; fin_cases a <;> rfl
theorem z3 : (![0, 0, 0] : Fin 3 → ℕ) = fun _ => 0 := by funext a; fin_cases a <;> rfl

section Point
variable (c : Dev nD) (i : grid0.Coords)
  (arg2 : Memref sig .tc .vmem S512x2048 .f32) (harg2 : arg2.IsWhole) (arg3 : Memref sig .tc .vmem S512x1024 .bf16) (harg3 : arg3.IsWhole)
  (arg4 : Memref sig .tc .vmem S512x1024 .bf16) (harg4 : arg4.IsWhole) (arg5 : Memref sig .tc .vmem S2048x2048 .bf16) (harg5 : arg5.IsWhole)
  (arg6 : Memref sig .tc .vmem S1x2048 .f32) (harg6 : arg6.IsWhole) (arg7 : Memref sig .tc .vmem S1x2048x1024 .bf16) (harg7 : arg7.IsWhole)
  (arg8 : Memref sig .tc .vmem S1x1024x2048 .bf16) (harg8 : arg8.IsWhole) (arg9 : Memref sig .tc .vmem S1x2048 .f32) (harg9 : arg9.IsWhole)
  (arg10 : Memref sig .tc .vmem S512x2048 .f32) (harg10 : arg10.IsWhole) (arg11 : Memref sig .tc .vmem S512x2048 .bf16) (harg11 : arg11.IsWhole)
  (x0 : Vec Ideal S512x2048 .f32) (x1 : Vec Ideal S512x1024 .bf16) (x2 : Vec Ideal S512x1024 .bf16) (x3 : Vec Ideal S2048x2048 .bf16)
  (x4 : Vec Ideal S1x2048 .f32) (x5 : Vec Ideal S1x2048x1024 .bf16) (x6 : Vec Ideal S1x1024x2048 .bf16) (x7 : Vec Ideal S1x2048 .f32)
  (xo8 : Vec Ideal S512x2048 .f32) (xs0 : Vec Ideal S512x2048 .bf16)

/-- A block of columns of a step, from its blocks of columns. -/
theorem step_col (o : Vec Ideal S512x2048 .f32) (h : Vec Ideal S512x2048 .bf16) (u : Vec Ideal S1x2048x1024 .bf16) (d : Vec Ideal S1x1024x2048 .bf16) (p : ℕ) (hb) (r j : Fin 512) (hj : p + j.val < 2048) :
    (o (ix2 r ⟨p + j.val, hj⟩) + ∑ k : Fin 1024, k0_pay9 h u (ix2 r k) * View.ld d (Rect.unit (s := S1x1024x2048) ![0, 0, p] ![1, 1024, 512] hb) (ix3 0 k j) : EReal)
      = stepV o h u d (ix2 r ⟨p + j.val, hj⟩) := by
  unfold stepV step
  refine congrArg₂ (· + ·) rfl (Finset.sum_congr rfl fun k _ => congrArg₂ (· * ·) (pay9_ix h u r k) (ld_down d p hb k j hj))

/-- A point that starts no block of rows adds a block of activations. -/
theorem out_B (hc0 : ¬cond0_0 i) : out0_B_8 (F := Ideal) c i arg2 harg2 arg3 harg3 arg4 harg4 arg5 harg5 arg6 harg6 arg7 harg7 arg8 harg8 arg9 harg9 arg10 harg10 arg11 harg11 hc0 x0 x1 x2 x3 x4 x5 x6 x7 xo8 xs0 = stepV xo8 xs0 x5 x6 := by
  unfold out0_B_8
  rw [View.read_writes_junk_eq_canon]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread]
  refine canon_four _ _ _ _ _ _ _ _ _ [] ?_ ?_ ?_ ?_
  all_goals
    intro r j
    first | rw [pay10_ix] | rw [pay11_ix] | rw [pay1_ix] | rw [pay2_ix]
    rw [View.ld_unit_zero z2, View.ld_unit_zero z3, ld_col _ _ _ _ _ (by omega)]
    exact step_col _ _ _ _ _ _ _ _ _

/-- A point that starts a block of rows projects, normalizes, and adds the first block of activations. -/
theorem out_A (hc0 : cond0_0 i) : out0_A_8 (F := Ideal) c i arg2 harg2 arg3 harg3 arg4 harg4 arg5 harg5 arg6 harg6 arg7 harg7 arg8 harg8 arg9 harg9 arg10 harg10 arg11 harg11 hc0 x0 x1 x2 x3 x4 x5 x6 x7 = stepV (projV x0 x1 x2 x3) (nrmV (projV x0 x1 x2 x3) x4) x5 x6 := by
  unfold out0_A_8
  rw [View.read_writes_junk_eq_canon]
  unfold kernelRun0_A
  dsimp only
  sl_unfold_words
  simp (disch := decide) only [View.readAt_eq_ld, harg2.read_unread, harg3.read_unread, harg4.read_unread, harg5.read_unread, harg6.read_unread, harg7.read_unread, harg8.read_unread, harg9.read_unread, harg10.read_unread, harg11.read_unread, ↓View.readCov_cons_toLoadRect, ↓View.readCov_skip]
  rw [readCov_four _ (projV x0 x1 x2 x3)]
  rotate_left
  · intro r j; rw [pay3_ix]; exact proj_col _ _ _ _ _ _ _ _ _ _ _ _ _
  · intro r j; rw [pay4_ix]; exact proj_col _ _ _ _ _ _ _ _ _ _ _ _ _
  · intro r j; rw [pay5_ix]; exact proj_col _ _ _ _ _ _ _ _ _ _ _ _ _
  · intro r j; rw [pay6_ix]; exact proj_col _ _ _ _ _ _ _ _ _ _ _ _ _
  rw [View.ld_unit_zero z2 _ x4, View.ld_unit_zero z3 _ x5]
  have hh : k0_pay8 x4 (k0_pay7 (projV x0 x1 x2 x3)) = nrmV (projV x0 x1 x2 x3) x4 := by
    funext y
    obtain ⟨r, q, rfl⟩ : ∃ (r : Fin 512) (q : Fin 2048), y = ix2 r q := ⟨y 0, y 1, by funext a; fin_cases a <;> rfl⟩
    exact pay8_ix _ _ r q
  rw [hh]
  refine canon_four _ _ _ _ _ _ _ _ _ _ ?_ ?_ ?_ ?_
  · intro r j
    rw [pay10_ix, pay3_ix]
    rw [proj_col _ _ _ _ _ _ _ _ _ _ _ _ (by omega)]
    exact step_col _ _ _ _ _ _ _ _ _
  · intro r j
    rw [pay11_ix, pay4_ix]
    rw [proj_col _ _ _ _ _ _ _ _ _ _ _ _ (by omega)]
    exact step_col _ _ _ _ _ _ _ _ _
  · intro r j
    rw [pay1_ix, pay5_ix]
    rw [proj_col _ _ _ _ _ _ _ _ _ _ _ _ (by omega)]
    exact step_col _ _ _ _ _ _ _ _ _
  · intro r j
    rw [pay2_ix, pay6_ix]
    rw [proj_col _ _ _ _ _ _ _ _ _ _ _ _ (by omega)]
    exact step_col _ _ _ _ _ _ _ _ _

/-- … and leaves the normalized rows in the scratch. -/
theorem sout_A (hc0 : cond0_0 i) : sout0_A_0 (F := Ideal) c i arg2 harg2 arg3 harg3 arg4 harg4 arg5 harg5 arg6 harg6 arg7 harg7 arg8 harg8 arg9 harg9 arg10 harg10 arg11 harg11 hc0 x0 x1 x2 x3 x4 x5 x6 x7 = nrmV (projV x0 x1 x2 x3) x4 := by
  unfold sout0_A_0
  rw [View.read_writes_junk_eq_canon]
  unfold kernelRun0_A
  dsimp only
  sl_unfold_words
  simp (disch := decide) only [View.readAt_eq_ld, harg2.read_unread, harg3.read_unread, harg4.read_unread, harg5.read_unread, harg6.read_unread, harg7.read_unread, harg8.read_unread, harg9.read_unread, harg10.read_unread, harg11.read_unread, ↓View.readCov_cons_toLoadRect, ↓View.readCov_skip]
  rw [readCov_four _ (projV x0 x1 x2 x3)]
  rotate_left
  · intro r j; rw [pay3_ix]; exact proj_col _ _ _ _ _ _ _ _ _ _ _ _ _
  · intro r j; rw [pay4_ix]; exact proj_col _ _ _ _ _ _ _ _ _ _ _ _ _
  · intro r j; rw [pay5_ix]; exact proj_col _ _ _ _ _ _ _ _ _ _ _ _ _
  · intro r j; rw [pay6_ix]; exact proj_col _ _ _ _ _ _ _ _ _ _ _ _ _
  rw [View.ld_unit_zero z2 _ x4]
  refine (View.canon_cons_unit_zero z2 _ _ _).trans ?_
  funext y
  obtain ⟨r, q, rfl⟩ : ∃ (r : Fin 512) (q : Fin 2048), y = ix2 r q := ⟨y 0, y 1, by funext a; fin_cases a <;> rfl⟩
  exact pay8_ix _ _ r q

end Point

end Cert.Kernel3Ideal.Mlp
end
-- ==== Proof.Value3.lean ====
/-
  The even layer's call: what every grid point leaves, and the result at an index.
-/
module

public import proofs.«01_k».proof.Proof.Step3
public import proofs.«01_k».proof.Proof.Gen.Kernel3Ideal.Value

@[expose] public section

set_option maxRecDepth 16384

noncomputable section

namespace Cert.Kernel3Ideal.Mlp

open Cert.Kernel3Ideal Cert.Kernel3Ideal.Gen Cert.Kernel3Ideal.Value
open Cert.Mlp
open Idealize.ShloMosaic Idealize.ShloMosaic.TcCoe

variable (m : (ℓ : Loc nD τ sig) → Buf (Elt Ideal) ℓ) (c : Dev nD)

/-! ## The windows at an index -/

theorem point_lt (t : Fin cfg0.N) : t.val < 256 := lt_of_lt_of_eq t.isLt (show cfg0.N = 256 from N_0)

theorem idx0 : ∀ t : Fin cfg0.N, win0_0.index t 0 = t.val / 8 ∧ win0_0.index t 1 = 0 := by decide +kernel
theorem idx1 : ∀ t : Fin cfg0.N, win0_1.index t 0 = t.val / 8 ∧ win0_1.index t 1 = 0 := by decide +kernel
theorem idx2 : ∀ t : Fin cfg0.N, win0_2.index t 0 = t.val / 8 ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 ∧ win0_5.index t 2 = t.val % 8 := by decide +kernel
theorem idx6 : ∀ t : Fin cfg0.N, win0_6.index t 0 = 0 ∧ win0_6.index t 1 = t.val % 8 ∧ win0_6.index t 2 = 0 := by decide +kernel
theorem idx7 : ∀ t : Fin cfg0.N, win0_7.index t 0 = 0 ∧ win0_7.index t 1 = 0 := by decide +kernel

/-- The row of the arrays that row `r` of point `t` is. -/
def rowOf (t : Fin cfg0.N) (r : Fin 512) : Fin 16384 := ⟨t.val / 8 * 512 + r.val, by have := point_lt t; omega⟩

theorem iblk0_ix (t : Fin cfg0.N) (r : Fin 512) (k : Fin 2048) :
    (iblk m c 0 t : Vec Ideal S512x2048 .f32) (ix2 r k) = (m ((c : Thread nD τ).loc main_arg0) : Vec Ideal S16384x2048 .f32) (ix2 (rowOf t r) k) := by
  unfold iblk
  rw [View.read_apply]
  show V m c main_arg0 _ = m (c.tc.loc main_arg0) _
  unfold V
  congr 1
  funext a
  apply Fin.ext
  fin_cases a
  · show win0_0.index t 0 * 512 + 1 * r.val = t.val / 8 * 512 + r.val; rw [(idx0 t).1]; omega
  · show win0_0.index t 1 * 2048 + 1 * k.val = k.val; rw [(idx0 t).2]; omega
theorem iblk1_ix (t : Fin cfg0.N) (r : Fin 512) (k : Fin 1024) :
    (iblk m c 1 t : Vec Ideal S512x1024 .bf16) (ix2 r k) = (m ((c : Thread nD τ).loc main_arg1) : Vec Ideal S16384x1024 .bf16) (ix2 (rowOf t r) k) := by
  unfold iblk
  rw [View.read_apply]
  show V m c main_arg1 _ = m (c.tc.loc main_arg1) _
  unfold V
  congr 1
  funext a
  apply Fin.ext
  fin_cases a
  · show win0_1.index t 0 * 512 + 1 * r.val = t.val / 8 * 512 + r.val; rw [(idx1 t).1]; omega
  · show win0_1.index t 1 * 1024 + 1 * k.val = k.val; rw [(idx1 t).2]; omega
theorem iblk2_ix (t : Fin cfg0.N) (r : Fin 512) (k : Fin 1024) :
    (iblk m c 2 t : Vec Ideal S512x1024 .bf16) (ix2 r k) = (m ((c : Thread nD τ).loc main_arg2) : Vec Ideal S16384x1024 .bf16) (ix2 (rowOf t r) k) := by
  unfold iblk
  rw [View.read_apply]
  show V m c main_arg2 _ = m (c.tc.loc main_arg2) _
  unfold V
  congr 1
  funext a
  apply Fin.ext
  fin_cases a
  · show win0_2.index t 0 * 512 + 1 * r.val = t.val / 8 * 512 + r.val; rw [(idx2 t).1]; omega
  · show win0_2.index t 1 * 1024 + 1 * k.val = k.val; rw [(idx2 t).2]; omega
theorem iblk3_ix (t : Fin cfg0.N) (k q : Fin 2048) :
    (iblk m c 3 t : Vec Ideal S2048x2048 .bf16) (ix2 k q) = (m ((c : Thread nD τ).loc main_arg3) : Vec Ideal S2048x2048 .bf16) (ix2 k q) := by
  unfold iblk
  rw [View.read_apply]
  show V m c main_arg3 _ = m (c.tc.loc main_arg3) _
  unfold V
  congr 1
  funext a
  apply Fin.ext
  fin_cases a
  · show win0_3.index t 0 * 2048 + 1 * k.val = k.val; rw [(idx3 t).1]; omega
  · show win0_3.index t 1 * 2048 + 1 * q.val = q.val; rw [(idx3 t).2]; omega
theorem iblk4_ix (t : Fin cfg0.N) (k : Fin 2048) :
    (iblk m c 4 t : Vec Ideal S1x2048 .f32) (ix2 0 k) = (m ((c : Thread nD τ).loc main_arg4) : Vec Ideal S1x2048 .f32) (ix2 0 k) := by
  unfold iblk
  rw [View.read_apply]
  show V m c main_arg4 _ = m (c.tc.loc main_arg4) _
  unfold V
  congr 1
  funext a
  apply Fin.ext
  fin_cases a
  · show win0_4.index t 0 * 1 + 1 * 0 = 0; rw [(idx4 t).1]
  · show win0_4.index t 1 * 2048 + 1 * k.val = k.val; rw [(idx4 t).2]; omega
theorem iblk5_ix (t : Fin cfg0.N) (k : Fin 2048) (j : Fin 1024) :
    (iblk m c 5 t : Vec Ideal S1x2048x1024 .bf16) (ix3 0 k j) = (m ((c : Thread nD τ).loc main_arg5) : Vec Ideal S2x2048x8192 .bf16) (ix3 0 k ⟨t.val % 8 * 1024 + j.val, by omega⟩) := by
  unfold iblk
  rw [View.read_apply]
  show V m c main_arg5 _ = m (c.tc.loc main_arg5) _
  unfold V
  congr 1
  funext a
  apply Fin.ext
  fin_cases a
  · show win0_5.index t 0 * 1 + 1 * 0 = 0; rw [(idx5 t).1]
  · show win0_5.index t 1 * 2048 + 1 * k.val = k.val; rw [(idx5 t).2.1]; omega
  · show win0_5.index t 2 * 1024 + 1 * j.val = t.val % 8 * 1024 + j.val; rw [(idx5 t).2.2]; omega
theorem iblk6_ix (t : Fin cfg0.N) (j : Fin 1024) (q : Fin 2048) :
    (iblk m c 6 t : Vec Ideal S1x1024x2048 .bf16) (ix3 0 j q) = (m ((c : Thread nD τ).loc main_arg6) : Vec Ideal S2x8192x2048 .bf16) (ix3 0 ⟨t.val % 8 * 1024 + j.val, by omega⟩ q) := by
  unfold iblk
  rw [View.read_apply]
  show V m c main_arg6 _ = m (c.tc.loc main_arg6) _
  unfold V
  congr 1
  funext a
  apply Fin.ext
  fin_cases a
  · show win0_6.index t 0 * 1 + 1 * 0 = 0; rw [(idx6 t).1]
  · show win0_6.index t 1 * 1024 + 1 * j.val = t.val % 8 * 1024 + j.val; rw [(idx6 t).2.1]; omega
  · show win0_6.index t 2 * 2048 + 1 * q.val = q.val; rw [(idx6 t).2.2]; omega
theorem iblk7_ix (t : Fin cfg0.N) (k : Fin 2048) :
    (iblk m c 7 t : Vec Ideal S1x2048 .f32) (ix2 0 k) = (m ((c : Thread nD τ).loc main_arg7) : Vec Ideal S1x2048 .f32) (ix2 0 k) := by
  unfold iblk
  rw [View.read_apply]
  show V m c main_arg7 _ = m (c.tc.loc main_arg7) _
  unfold V
  congr 1
  funext a
  apply Fin.ext
  fin_cases a
  · show win0_7.index t 0 * 1 + 1 * 0 = 0; rw [(idx7 t).1]
  · show win0_7.index t 1 * 2048 + 1 * k.val = k.val; rw [(idx7 t).2]; omega

/-! ## The rows a point leaves -/

/-- The rows of the arrays of memory `m`. -/
abbrev memP (s : Fin 16384) : Fin 2048 → EReal :=
  rowP (m ((c : Thread nD τ).loc main_arg0)) (m ((c : Thread nD τ).loc main_arg1)) (m ((c : Thread nD τ).loc main_arg2)) (m ((c : Thread nD τ).loc main_arg3)) s
abbrev memH (s : Fin 16384) : Fin 2048 → EReal :=
  rowH (m ((c : Thread nD τ).loc main_arg0)) (m ((c : Thread nD τ).loc main_arg1)) (m ((c : Thread nD τ).loc main_arg2)) (m ((c : Thread nD τ).loc main_arg3)) (m ((c : Thread nD τ).loc main_arg4)) s
abbrev memO (s : Fin 16384) (n : ℕ) : Fin 2048 → EReal :=
  rowO (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) 0 s n

theorem proj_point (t : Fin cfg0.N) (r : Fin 512) :
    (fun q => projV (iblk m c 0 t) (iblk m c 1 t) (iblk m c 2 t) (iblk m c 3 t) (ix2 r q)) = memP m c (rowOf t r) :=
  projV_row _ _ _ _ _ _ _ _ _ r (iblk0_ix m c t r) (iblk1_ix m c t r) (iblk2_ix m c t r) (iblk3_ix m c t)
theorem norm_point (t : Fin cfg0.N) (r : Fin 512) :
    (fun q => nrmV (projV (iblk m c 0 t) (iblk m c 1 t) (iblk m c 2 t) (iblk m c 3 t)) (iblk m c 4 t) (ix2 r q)) = memH m c (rowOf t r) :=
  nrmV_row _ _ _ _ r (proj_point m c t r) (iblk4_ix m c t)
theorem step_point (t : Fin cfg0.N) (r : Fin 512) (o : Vec Ideal S512x2048 .f32) (h : Vec Ideal S512x2048 .bf16)
    (ho : (fun q => o (ix2 r q)) = memO m c (rowOf t r) (t.val % 8)) (hh : (fun q => h (ix2 r q)) = memH m c (rowOf t r)) :
    (fun q => stepV o h (iblk m c 5 t) (iblk m c 6 t) (ix2 r q)) = memO m c (rowOf t r) (t.val % 8 + 1) :=
  stepV_row _ _ _ _ _ _ _ 0 _ o h _ _ r ⟨t.val % 8, by omega⟩ ho hh (iblk5_ix m c t) (iblk6_ix m c t)

/-- The point before, in the same block of rows. -/
theorem rowOf_pred (t : Fin cfg0.N) (h0 : ¬t.val % 8 = 0) (h) (r : Fin 512) : rowOf ⟨t.val - 1, h⟩ r = rowOf t r :=
  Fin.ext (by show (t.val - 1) / 8 * 512 + r.val = t.val / 8 * 512 + r.val; omega)

/-- After point `8 i + f` the output's window holds the rows after `f + 1` blocks of activations, the scratch the normalized rows. -/
theorem outs_eq : ∀ (n : ℕ) (hn : n < cfg0.N) (r : Fin 512),
    (fun q => (outsAt0 m c n hn).1 (ix2 r q)) = memO m c (rowOf ⟨n, hn⟩ r) (n % 8 + 1) ∧ (fun q => (outsAt0 m c n hn).2 (ix2 r q)) = memH m c (rowOf ⟨n, hn⟩ r) := by
  intro n
  induction n with
  | zero =>
    intro hn r
    rw [outsAt0_A m c ⟨0, hn⟩ rfl]
    dsimp only
    rw [out_A, sout_A]
    exact ⟨step_point m c ⟨0, hn⟩ r _ _ ((proj_point m c ⟨0, hn⟩ r).trans (rowO_zero _ _ _ _ _ _ _ _ _).symm) (norm_point m c ⟨0, hn⟩ r), norm_point m c ⟨0, hn⟩ r⟩
  | succ n ih =>
    intro hn r
    by_cases h0 : (n + 1) % 8 = 0
    · rw [outsAt0_A m c ⟨n + 1, hn⟩ h0]
      dsimp only
      rw [out_A, sout_A]
      refine ⟨step_point m c ⟨n + 1, hn⟩ r _ _ ?_ (norm_point m c ⟨n + 1, hn⟩ r), norm_point m c ⟨n + 1, hn⟩ r⟩
      rw [show (⟨n + 1, hn⟩ : Fin cfg0.N).val % 8 = 0 from h0]
      exact (proj_point m c ⟨n + 1, hn⟩ r).trans (rowO_zero _ _ _ _ _ _ _ _ _).symm
    · have hp := ih (Nat.lt_of_succ_lt hn) r
      have hr := rowOf_pred ⟨n + 1, hn⟩ h0 (Nat.lt_of_succ_lt hn) r
      rw [show n % 8 + 1 = (n + 1) % 8 by omega] at hp
      rw [show rowOf ⟨n, Nat.lt_of_succ_lt hn⟩ r = rowOf ⟨n + 1, hn⟩ r from hr] at hp
      rw [outsAt0_B m c ⟨n + 1, hn⟩ h0]
      dsimp only
      rw [out_B]
      exact ⟨step_point m c ⟨n + 1, hn⟩ r _ _ hp.1 hp.2, hp.2⟩

/-- The result at an index. -/
theorem result_ix (s : Fin 16384) (q : Fin 2048) : (G8 m c : Vec Ideal S16384x2048 .f32) (ix2 s q) = memO m c s 8 q := by
  have hp : pt8Of (ix2 s q : S16384x2048.Idx) = s.val / 512 * 8 + 7 := by
    show 8 * (1 * (s.val / 512 - 0) + 1 * (q.val / 2048 - 0)) + 7 = _
    omega
  have hN : s.val / 512 * 8 + 7 < cfg0.N := by rw [show cfg0.N = 256 from N_0]; omega
  have hl : loc8Of (ix2 s q : S16384x2048.Idx) = ix2 ⟨s.val % 512, by omega⟩ q := by
    funext a
    apply Fin.ext
    fin_cases a
    · rfl
    · show q.val % 2048 = q.val; omega
  unfold G8
  rw [dif_pos (by rw [hp]; exact hN), ← outsAt0_sweep m c _ (by rw [hp]; exact hN), hl]
  have e : ∀ (n : ℕ) (hn : n < cfg0.N), n = s.val / 512 * 8 + 7 → (outsAt0 m c n hn).1 (ix2 ⟨s.val % 512, by omega⟩ q) = memO m c s 8 q := by
    intro n hn he
    have h := congrFun (outs_eq m c n hn ⟨s.val % 512, by omega⟩).1 q
    rw [show n % 8 + 1 = 8 by omega, show rowOf ⟨n, hn⟩ ⟨s.val % 512, by omega⟩ = s from Fin.ext (by show n / 8 * 512 + s.val % 512 = s.val; omega)] at h
    exact h
  exact e _ _ hp

end Cert.Kernel3Ideal.Mlp
end
-- ==== Proof.RefMlp2.lean ====
/-
  The reference of the odd layer's call at an index.
-/
module

public import proofs.«01_k».proof.Proof.Mlp
public import proofs.«01_k».proof.Proof.Gen.Reference2Ideal.Run

@[expose] public section

set_option maxRecDepth 16384

noncomputable section

namespace Cert.Reference2Ideal.Mlp

open Cert.Reference2Ideal Cert.Reference2Ideal.Gen Cert.Reference2Ideal.Value
open Cert.Mlp
open Idealize.ShloMosaic Idealize.ShloMosaic.TcCoe

section Steps
variable {F : FTy → Type} [FloatOps F]

/-- The residual stream plus the projection of the joined halves. -/
def rPz (x : FVec F S16384x2048 .f32) (z : FVec F S16384x2048 .bf16) (w : FVec F S2048x2048 .bf16) : FVec F S16384x2048 .f32 :=
  addf x (Host.dotGeneral dot_S16384x2048_S2048x2048_S16384x2048_1_0_0_1_n_n none
    (extf .f32 z bitsLt_bf16_f32) (extf .f32 w bitsLt_bf16_f32))
/-- The same of the two halves. -/
def rP (x : FVec F S16384x2048 .f32) (a b : FVec F S16384x1024 .bf16) (w : FVec F S2048x2048 .bf16) : FVec F S16384x2048 .f32 :=
  rPz x (concatenate S16384x2048 1 [⟨S16384x1024, a⟩, ⟨S16384x1024, b⟩] concatenates_S16384x1024_S16384x1024_S16384x2048_d1) w
/-- The normalization with a weight per column. -/
def rN (v : FVec F S16384x2048 .f32) (g : FVec F S1x2048 .f32) : FVec F S16384x2048 .f32 :=
  mulf (mulf v (broadcastInDim S16384x2048 ![0, 1] bcast_S16384x1_S16384x2048_0_1 (Host.rsqrt (addf (Host.divf
    (broadcastInDim S16384x1 ![0] bcast_S16384_S16384x1_0 (Host.reduceAdd (mulf v v) (constant S_ .f32 0x00000000#32) reducesTo_S16384x2048_S16384_d1 h_S_))
    (broadcastInDim S16384x1 ![] bcast_S_S16384x1 (constant S_ .f32 0x45000000#32))) (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 (shapeCast _ g shapeCasts_S1x2048_S2048)))
/-- The activations before their square. -/
def rA (h : FVec F S16384x2048 .f32) (u : FVec F S2x2048x8192 .bf16) : FVec F S16384x8192 .f32 :=
  maximumf (Host.dotGeneral dot_S16384x2048_S2048x8192_S16384x8192_1_0_0_1_n_n none h
    (extf .f32 (shapeCast _ (extractStridedSlice S1x2048x8192 ![1, 0, 0] u slices_S2x2048x8192_S1x2048x8192_1_0_0) shapeCasts_S1x2048x8192_S2048x8192) bitsLt_bf16_f32))
    (broadcastInDim S16384x8192 ![] bcast_S_S16384x8192 (constant S_ .f32 0x00000000#32))
/-- The rows plus the product of the squared activations with the second matrix. -/
def rO (v : FVec F S16384x2048 .f32) (p : FVec F S16384x8192 .f32) (d : FVec F S2x8192x2048 .bf16) : FVec F S16384x2048 .f32 :=
  addf v (Host.dotGeneral dot_S16384x8192_S8192x2048_S16384x2048_1_0_0_1_n_n none (mulf p p)
    (extf .f32 (shapeCast _ (extractStridedSlice S1x8192x2048 ![1, 0, 0] d slices_S2x8192x2048_S1x8192x2048_1_0_0) shapeCasts_S1x8192x2048_S8192x2048) bitsLt_bf16_f32))

end Steps

/-- The concatenated halves of a row. -/
def cat (a b : FVec Ideal S16384x1024 .bf16) (s : Fin 16384) (k : Fin 2048) : EReal :=
  if h : k.val < 1024 then a (ix2 s ⟨k.val, h⟩) else b (ix2 s ⟨k.val - 1024, by omega⟩)

/-- The joined halves at an index. -/
theorem concat_ix (a b : FVec Ideal S16384x1024 .bf16) (s : Fin 16384) (k : Fin 2048) :
    (concatenate S16384x2048 1 [⟨S16384x1024, a⟩, ⟨S16384x1024, b⟩] concatenates_S16384x1024_S16384x1024_S16384x2048_d1 : FVec Ideal S16384x2048 .bf16) (ix2 s k) = cat a b s k := by
  unfold cat
  pointwise

/-- The projection at an index, one sum over the columns. -/
theorem rPz_ix (x : FVec Ideal S16384x2048 .f32) (z : FVec Ideal S16384x2048 .bf16) (w : FVec Ideal S2048x2048 .bf16) (s : Fin 16384) (q : Fin 2048) :
    rPz x z w (ix2 s q) = x (ix2 s q) + ∑ k : Fin 2048, z (ix2 s k) * w (ix2 k q) := by
  pointwise [rPz]

/-- The projection at an index, a sum for each half. -/
theorem rP_ix (x : FVec Ideal S16384x2048 .f32) (a b : FVec Ideal S16384x1024 .bf16) (w : FVec Ideal S2048x2048 .bf16) (s : Fin 16384) (q : Fin 2048) :
    rP x a b w (ix2 s q) = rowP x a b w s q := by
  have e : rP x a b w (ix2 s q) = x (ix2 s q) + ∑ k : Fin 2048, cat a b s k * w (ix2 k q) :=
    (rPz_ix x _ w s q).trans (congrArg (x (ix2 s q) + ·) (Finset.sum_congr rfl fun k _ => congrArg (· * w (ix2 k q)) (concat_ix a b s k)))
  rw [e, ← proj_eq (fun k => x (ix2 s k)) (cat a b s) (fun k q => w (ix2 k q)) q]
  unfold rowP
  congr 1
  · funext k
    exact dif_pos k.isLt
  · funext k
    unfold cat
    rw [dif_neg (by show ¬1024 + k.val < 1024; omega)]
    exact congrArg b (congrArg (ix2 s) (Fin.ext (by show 1024 + k.val - 1024 = k.val; omega)))

/-- The normalization at an index. -/
theorem rN_ix (v : FVec Ideal S16384x2048 .f32) (g : FVec Ideal S1x2048 .f32) (s : Fin 16384) (q : Fin 2048) :
    rN v g (ix2 s q) = nrm (fun k => v (ix2 s k)) (fun k => g (ix2 0 k)) q := by
  unfold nrm
  pointwise [rN]

/-- The activations at an index. -/
theorem rA_ix (h : FVec Ideal S16384x2048 .f32) (u : FVec Ideal S2x2048x8192 .bf16) (s : Fin 16384) (j : Fin 8192) :
    rA h u (ix2 s j) = max (∑ k : Fin 2048, h (ix2 s k) * u (ix3 1 k j)) 0 := by
  pointwise [rA]

/-- The rows after the second product at an index. -/
theorem rO_ix (v : FVec Ideal S16384x2048 .f32) (p : FVec Ideal S16384x8192 .f32) (d : FVec Ideal S2x8192x2048 .bf16) (s : Fin 16384) (q : Fin 2048) :
    rO v p d (ix2 s q) = v (ix2 s q) + ∑ j : Fin 8192, p (ix2 s j) * p (ix2 s j) * d (ix3 1 j q) := by
  pointwise [rO]

/-- The rows after all the activations. -/
theorem rows_ix (x : FVec Ideal S16384x2048 .f32) (a b : FVec Ideal S16384x1024 .bf16) (w : FVec Ideal S2048x2048 .bf16) (g : FVec Ideal S1x2048 .f32)
    (u : FVec Ideal S2x2048x8192 .bf16) (d : FVec Ideal S2x8192x2048 .bf16) (s : Fin 16384) (q : Fin 2048) :
    rO (rP x a b w) (rA (rN (rP x a b w) g) u) d (ix2 s q) = rowO x a b w g u d 1 s 8 q := by
  have hp : (fun k => rP x a b w (ix2 s k)) = rowP x a b w s := funext fun k => rP_ix x a b w s k
  have hn : (fun k => rN (rP x a b w) g (ix2 s k)) = rowH x a b w g s := by
    funext k
    rw [rN_ix, hp]
    rfl
  rw [rO_ix, rP_ix]
  unfold rowO
  rw [sweep_all]
  refine congrArg₂ (· + ·) rfl (Finset.sum_congr rfl fun j _ => ?_)
  rw [rA_ix, ← hn]
  rfl

/-- The result at an index. -/
theorem result_ix (m : (ℓ : Loc nD τ sig) → Buf (Elt Ideal) ℓ) (c : Dev nD) (s : Fin 16384) (q : Fin 2048) :
    (res_out0 m c : FVec Ideal S16384x2048 .f32) (ix2 s q)
      = nrm (rowO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) 1 s 8) (fun k => (m ((c.tc : Thread nD τ).loc main_arg7) : FVec Ideal S1x2048 .f32) (ix2 0 k)) q := by
  refine (rN_ix (rO (rP (m ((c.tc : Thread nD τ).loc main_arg0)) (m ((c.tc : Thread nD τ).loc main_arg1)) (m ((c.tc : Thread nD τ).loc main_arg2)) (m ((c.tc : Thread nD τ).loc main_arg3)))
    (rA (rN (rP (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)))
      (m ((c.tc : Thread nD τ).loc main_arg5))) (m ((c.tc : Thread nD τ).loc main_arg6))) (m ((c.tc : Thread nD τ).loc main_arg7)) s q).trans ?_
  refine congrArg (fun v => nrm v _ q) ?_
  funext k
  exact rows_ix _ _ _ _ _ _ _ s k

end Cert.Reference2Ideal.Mlp
end
-- ==== Proof.RefMlp3.lean ====
/-
  The reference of the even layer's call at an index.
-/
module

public import proofs.«01_k».proof.Proof.Mlp
public import proofs.«01_k».proof.Proof.Gen.Reference3Ideal.Run

@[expose] public section

set_option maxRecDepth 16384

noncomputable section

namespace Cert.Reference3Ideal.Mlp

open Cert.Reference3Ideal Cert.Reference3Ideal.Gen Cert.Reference3Ideal.Value
open Cert.Mlp
open Idealize.ShloMosaic Idealize.ShloMosaic.TcCoe

section Steps
variable {F : FTy → Type} [FloatOps F]

/-- The residual stream plus the projection of the joined halves. -/
def rPz (x : FVec F S16384x2048 .f32) (z : FVec F S16384x2048 .bf16) (w : FVec F S2048x2048 .bf16) : FVec F S16384x2048 .f32 :=
  addf x (Host.dotGeneral dot_S16384x2048_S2048x2048_S16384x2048_1_0_0_1_n_n none
    (extf .f32 z bitsLt_bf16_f32) (extf .f32 w bitsLt_bf16_f32))
/-- The same of the two halves. -/
def rP (x : FVec F S16384x2048 .f32) (a b : FVec F S16384x1024 .bf16) (w : FVec F S2048x2048 .bf16) : FVec F S16384x2048 .f32 :=
  rPz x (concatenate S16384x2048 1 [⟨S16384x1024, a⟩, ⟨S16384x1024, b⟩] concatenates_S16384x1024_S16384x1024_S16384x2048_d1) w
/-- The normalization with a weight per column. -/
def rN (v : FVec F S16384x2048 .f32) (g : FVec F S1x2048 .f32) : FVec F S16384x2048 .f32 :=
  mulf (mulf v (broadcastInDim S16384x2048 ![0, 1] bcast_S16384x1_S16384x2048_0_1 (Host.rsqrt (addf (Host.divf
    (broadcastInDim S16384x1 ![0] bcast_S16384_S16384x1_0 (Host.reduceAdd (mulf v v) (constant S_ .f32 0x00000000#32) reducesTo_S16384x2048_S16384_d1 h_S_))
    (broadcastInDim S16384x1 ![] bcast_S_S16384x1 (constant S_ .f32 0x45000000#32))) (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 (shapeCast _ g shapeCasts_S1x2048_S2048)))
/-- The activations before their square. -/
def rA (h : FVec F S16384x2048 .f32) (u : FVec F S2x2048x8192 .bf16) : FVec F S16384x8192 .f32 :=
  maximumf (Host.dotGeneral dot_S16384x2048_S2048x8192_S16384x8192_1_0_0_1_n_n none h
    (extf .f32 (shapeCast _ (extractStridedSlice S1x2048x8192 ![0, 0, 0] u slices_S2x2048x8192_S1x2048x8192_0_0_0) shapeCasts_S1x2048x8192_S2048x8192) bitsLt_bf16_f32))
    (broadcastInDim S16384x8192 ![] bcast_S_S16384x8192 (constant S_ .f32 0x00000000#32))
/-- The rows plus the product of the squared activations with the second matrix. -/
def rO (v : FVec F S16384x2048 .f32) (p : FVec F S16384x8192 .f32) (d : FVec F S2x8192x2048 .bf16) : FVec F S16384x2048 .f32 :=
  addf v (Host.dotGeneral dot_S16384x8192_S8192x2048_S16384x2048_1_0_0_1_n_n none (mulf p p)
    (extf .f32 (shapeCast _ (extractStridedSlice S1x8192x2048 ![0, 0, 0] d slices_S2x8192x2048_S1x8192x2048_0_0_0) shapeCasts_S1x8192x2048_S8192x2048) bitsLt_bf16_f32))

end Steps

/-- The concatenated halves of a row. -/
def cat (a b : FVec Ideal S16384x1024 .bf16) (s : Fin 16384) (k : Fin 2048) : EReal :=
  if h : k.val < 1024 then a (ix2 s ⟨k.val, h⟩) else b (ix2 s ⟨k.val - 1024, by omega⟩)

/-- The joined halves at an index. -/
theorem concat_ix (a b : FVec Ideal S16384x1024 .bf16) (s : Fin 16384) (k : Fin 2048) :
    (concatenate S16384x2048 1 [⟨S16384x1024, a⟩, ⟨S16384x1024, b⟩] concatenates_S16384x1024_S16384x1024_S16384x2048_d1 : FVec Ideal S16384x2048 .bf16) (ix2 s k) = cat a b s k := by
  unfold cat
  pointwise

/-- The projection at an index, one sum over the columns. -/
theorem rPz_ix (x : FVec Ideal S16384x2048 .f32) (z : FVec Ideal S16384x2048 .bf16) (w : FVec Ideal S2048x2048 .bf16) (s : Fin 16384) (q : Fin 2048) :
    rPz x z w (ix2 s q) = x (ix2 s q) + ∑ k : Fin 2048, z (ix2 s k) * w (ix2 k q) := by
  pointwise [rPz]

/-- The projection at an index, a sum for each half. -/
theorem rP_ix (x : FVec Ideal S16384x2048 .f32) (a b : FVec Ideal S16384x1024 .bf16) (w : FVec Ideal S2048x2048 .bf16) (s : Fin 16384) (q : Fin 2048) :
    rP x a b w (ix2 s q) = rowP x a b w s q := by
  have e : rP x a b w (ix2 s q) = x (ix2 s q) + ∑ k : Fin 2048, cat a b s k * w (ix2 k q) :=
    (rPz_ix x _ w s q).trans (congrArg (x (ix2 s q) + ·) (Finset.sum_congr rfl fun k _ => congrArg (· * w (ix2 k q)) (concat_ix a b s k)))
  rw [e, ← proj_eq (fun k => x (ix2 s k)) (cat a b s) (fun k q => w (ix2 k q)) q]
  unfold rowP
  congr 1
  · funext k
    exact dif_pos k.isLt
  · funext k
    unfold cat
    rw [dif_neg (by show ¬1024 + k.val < 1024; omega)]
    exact congrArg b (congrArg (ix2 s) (Fin.ext (by show 1024 + k.val - 1024 = k.val; omega)))

/-- The normalization at an index. -/
theorem rN_ix (v : FVec Ideal S16384x2048 .f32) (g : FVec Ideal S1x2048 .f32) (s : Fin 16384) (q : Fin 2048) :
    rN v g (ix2 s q) = nrm (fun k => v (ix2 s k)) (fun k => g (ix2 0 k)) q := by
  unfold nrm
  pointwise [rN]

/-- The activations at an index. -/
theorem rA_ix (h : FVec Ideal S16384x2048 .f32) (u : FVec Ideal S2x2048x8192 .bf16) (s : Fin 16384) (j : Fin 8192) :
    rA h u (ix2 s j) = max (∑ k : Fin 2048, h (ix2 s k) * u (ix3 0 k j)) 0 := by
  pointwise [rA]

/-- The rows after the second product at an index. -/
theorem rO_ix (v : FVec Ideal S16384x2048 .f32) (p : FVec Ideal S16384x8192 .f32) (d : FVec Ideal S2x8192x2048 .bf16) (s : Fin 16384) (q : Fin 2048) :
    rO v p d (ix2 s q) = v (ix2 s q) + ∑ j : Fin 8192, p (ix2 s j) * p (ix2 s j) * d (ix3 0 j q) := by
  pointwise [rO]

/-- The rows after all the activations. -/
theorem rows_ix (x : FVec Ideal S16384x2048 .f32) (a b : FVec Ideal S16384x1024 .bf16) (w : FVec Ideal S2048x2048 .bf16) (g : FVec Ideal S1x2048 .f32)
    (u : FVec Ideal S2x2048x8192 .bf16) (d : FVec Ideal S2x8192x2048 .bf16) (s : Fin 16384) (q : Fin 2048) :
    rO (rP x a b w) (rA (rN (rP x a b w) g) u) d (ix2 s q) = rowO x a b w g u d 0 s 8 q := by
  have hp : (fun k => rP x a b w (ix2 s k)) = rowP x a b w s := funext fun k => rP_ix x a b w s k
  have hn : (fun k => rN (rP x a b w) g (ix2 s k)) = rowH x a b w g s := by
    funext k
    rw [rN_ix, hp]
    rfl
  rw [rO_ix, rP_ix]
  unfold rowO
  rw [sweep_all]
  refine congrArg₂ (· + ·) rfl (Finset.sum_congr rfl fun j _ => ?_)
  rw [rA_ix, ← hn]
  rfl

/-- The result at an index. -/
theorem result_ix (m : (ℓ : Loc nD τ sig) → Buf (Elt Ideal) ℓ) (c : Dev nD) (s : Fin 16384) (q : Fin 2048) :
    (res_out0 m c : FVec Ideal S16384x2048 .f32) (ix2 s q)
      = rowO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) 0 s 8 q :=
  rows_ix (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) s q

end Cert.Reference3Ideal.Mlp
end
-- ==== Proof.InEven.lean ====
/-
  The input projection of the even layers: the two arrays after the run, at an index.
-/
module

public import proofs.«01_k».proof.Proof.InProj
public import proofs.«01_k».proof.Proof.Gen.Kernel4Ideal.Value

@[expose] public section

set_option maxRecDepth 16384

noncomputable section

namespace Cert.Kernel4Ideal.InProj

open Cert.Kernel4Ideal Cert.Kernel4Ideal.Gen Cert.InProj
open Idealize.ShloMosaic Idealize.ShloMosaic.TcCoe
open Idealize.ShloMosaic.Pipeline (Dat Cfg Window)

/-- The product of the halves: one projection times the other's sigmoid. -/
def gate {R : ℕ} (x : Vec Ideal ⟨2, ![R, 2048]⟩ .f32) (g : Vec Ideal ⟨2, ![1, 2048]⟩ .f32) (w : Vec Ideal ⟨2, ![2048, 3072]⟩ .bf16) (s : Fin R) (j : Fin 1024) : EReal :=
  row x g w s ⟨j.val, by omega⟩ * sgm (row x g w s ⟨1024 + j.val, by omega⟩)

/-! ## The payloads at an index -/

theorem pay3_ix (o : Vec Ideal S512x2048 .f32) (g : Vec Ideal S1x2048 .f32) (r : Fin 512) (q : Fin 2048) :
    k0_pay3 o g (ix2 r q) = rms c2048 (fun k => o (ix2 r k)) (fun k => g (ix2 0 k)) q := by
  unfold rms
  pointwise [k0_pay3]
theorem pay4_ix (x : Vec Ideal S512x2048 .f32) (g : Vec Ideal S1x2048 .f32) (a b : Vec Ideal S2048x512 .bf16) (r j : Fin 512) :
    k0_pay4 x g a b (ix2 r j) = (∑ k : Fin 2048, k0_pay3 x g (ix2 r k) * a (ix2 k j)) * sgm (∑ k : Fin 2048, k0_pay3 x g (ix2 r k) * b (ix2 k j)) := by
  unfold sgm
  pointwise [k0_pay4]
theorem pay5_ix (x : Vec Ideal S512x2048 .f32) (g : Vec Ideal S1x2048 .f32) (a b : Vec Ideal S2048x512 .bf16) (r j : Fin 512) :
    k0_pay5 x g a b (ix2 r j) = (∑ k : Fin 2048, k0_pay3 x g (ix2 r k) * a (ix2 k j)) * sgm (∑ k : Fin 2048, k0_pay3 x g (ix2 r k) * b (ix2 k j)) := by
  unfold sgm
  pointwise [k0_pay5]
theorem pay1_ix (x : Vec Ideal S512x2048 .f32) (g : Vec Ideal S1x2048 .f32) (a : Vec Ideal S2048x512 .bf16) (r j : Fin 512) :
    k0_pay1 (k0_pay6 x g a) (ix2 r j) = ∑ k : Fin 2048, k0_pay3 x g (ix2 r k) * a (ix2 k j) := by
  pointwise [k0_pay1, k0_pay6]
theorem pay2_ix (h : Vec Ideal S512x2048 .bf16) (a : Vec Ideal S2048x512 .bf16) (r j : Fin 512) :
    k0_pay2 h a (ix2 r j) = ∑ k : Fin 2048, h (ix2 r k) * a (ix2 k j) := by
  pointwise [k0_pay2]

/-- A normalized row times 512 loaded columns. -/
theorem sum_cols (x : Vec Ideal S512x2048 .f32) (g : Vec Ideal S1x2048 .f32) (w : Vec Ideal S2048x3072 .bf16) (ha hc) (p : ℕ) (hb) (r j : Fin 512) (hj : p + j.val < 3072) :
    (∑ k : Fin 2048, k0_pay3 (View.ld x (Rect.unit (s := S512x2048) ![0, 0] S512x2048.size ha)) (View.ld g (Rect.unit (s := S1x2048) ![0, 0] S1x2048.size hc)) (ix2 r k)
      * View.ld w (Rect.unit (s := S2048x3072) ![0, p] S2048x512.size hb) (ix2 k j)) = row x g w r ⟨p + j.val, hj⟩ := by
  unfold row
  refine Finset.sum_congr rfl fun k _ => congrArg₂ (· * ·) ?_ (ld_cols w p hb k j hj)
  refine (pay3_ix _ _ r k).trans ?_
  rw [show View.ld x (Rect.unit (s := S512x2048) ![0, 0] S512x2048.size ha) = x from ld_all x ha,
    show View.ld g (Rect.unit (s := S1x2048) ![0, 0] S1x2048.size hc) = g from ld_all g hc]

/-- The two results of the rows `x`. -/
def gateV {R : ℕ} (x : Vec Ideal ⟨2, ![R, 2048]⟩ .f32) (g : Vec Ideal ⟨2, ![1, 2048]⟩ .f32) (w : Vec Ideal ⟨2, ![2048, 3072]⟩ .bf16) : Vec Ideal ⟨2, ![R, 1024]⟩ .f32 := fun y =>
  gate x g w (y 0) (y 1)
def late {R : ℕ} (x : Vec Ideal ⟨2, ![R, 2048]⟩ .f32) (g : Vec Ideal ⟨2, ![1, 2048]⟩ .f32) (w : Vec Ideal ⟨2, ![2048, 3072]⟩ .bf16) (s : Fin R) (j : Fin 1024) : EReal :=
  row x g w s ⟨2048 + j.val, by omega⟩
def lateV {R : ℕ} (x : Vec Ideal ⟨2, ![R, 2048]⟩ .f32) (g : Vec Ideal ⟨2, ![1, 2048]⟩ .f32) (w : Vec Ideal ⟨2, ![2048, 3072]⟩ .bf16) : Vec Ideal ⟨2, ![R, 1024]⟩ .bf16 := fun y =>
  late x g w (y 0) (y 1)

/-- The block of the first result. -/
theorem out3 (x : Vec Ideal S512x2048 .f32) (g : Vec Ideal S1x2048 .f32) (w : Vec Ideal S2048x3072 .bf16) :
    out0_3 x g w = gateV x g w := by
  unfold out0_3
  refine canon_two (gateV x g w) _ _ _ _ (fun r j => ?_) (fun r j => ?_)
  · refine (pay4_ix _ _ _ _ r j).trans ?_
    rw [sum_cols x g w _ _ 0 _ r j (by omega), sum_cols x g w _ _ 1024 _ r j (by omega)]
    show _ = gate x g w r _
    unfold gate
    refine congrArg₂ (· * ·) rfl (congrArg sgm (congrArg (row x g w r) (Fin.ext ?_)))
    show 1024 + j.val = 1024 + (0 + j.val); omega
  · refine (pay5_ix _ _ _ _ r j).trans ?_
    rw [sum_cols x g w _ _ 512 _ r j (by omega), sum_cols x g w _ _ 1536 _ r j (by omega)]
    show _ = gate x g w r _
    unfold gate
    refine congrArg₂ (· * ·) rfl (congrArg sgm (congrArg (row x g w r) (Fin.ext ?_)))
    show 1536 + j.val = 1024 + (512 + j.val); omega

/-- The block of the second result. -/
theorem out4 (x : Vec Ideal S512x2048 .f32) (g : Vec Ideal S1x2048 .f32) (w : Vec Ideal S2048x3072 .bf16) :
    out0_4 x g w = lateV x g w := by
  unfold out0_4
  refine canon_two (lateV x g w) _ _ _ _ (fun r j => ?_) (fun r j => ?_)
  · refine (pay1_ix _ _ _ r j).trans ((sum_cols x g w _ _ 2048 _ r j (by omega)).trans ?_)
    refine congrArg (row x g w r) (Fin.ext ?_)
    show 2048 + j.val = 2048 + (0 + j.val); omega
  · refine (pay2_ix _ _ r j).trans ((sum_cols x g w _ _ 2560 _ r j (by omega)).trans ?_)
    refine congrArg (row x g w r) (Fin.ext ?_)
    show 2560 + j.val = 2048 + (512 + j.val); omega

/-! ## The blocks of a grid point -/

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = t.val ∧ win0_3.index t 1 = 0 := by decide +kernel
theorem idx4 : ∀ t : Fin grid0.N, win0_4.index t 0 = t.val ∧ win0_4.index t 1 = 0 := by decide +kernel
theorem t_lt (t : Fin cfg0.N) : t.val < 32 := lt_of_lt_of_eq t.isLt N_0

variable (m : (ℓ : Loc nD τ sig) → Buf (Elt Ideal) ℓ) (c : Dev nD)

theorem iblk0_ix (t : Fin cfg0.N) (r : Fin 512) (k : Fin 2048) : iblk m c 0 t (ix2 r k)
    = m ((c : Thread nD τ).loc main_arg0) (ix2 ⟨512 * t.val + r.val, by have := t_lt t; omega⟩ k) := by
  blk_ext [iblk, V, idx0 t]
theorem iblk1_ix (t : Fin cfg0.N) (k : Fin 2048) : iblk m c 1 t (ix2 (0 : Fin 1) k) = m ((c : Thread nD τ).loc main_arg1) (ix2 (0 : Fin 1) k) := by
  blk_ext [iblk, V, idx1 t]
theorem iblk2_ix (t : Fin cfg0.N) (k : Fin 2048) (j : Fin 3072) : iblk m c 2 t (ix2 k j) = m ((c : Thread nD τ).loc main_arg2) (ix2 k j) := by
  blk_ext [iblk, V, idx2 t]

/-- A row of a point's block is the row of the arrays. -/
theorem row_blk (t : Fin cfg0.N) (r : Fin 512) (e : Fin 3072) :
    row (iblk m c 0 t : Vec Ideal S512x2048 .f32) (iblk m c 1 t) (iblk m c 2 t) r e
      = row (m ((c : Thread nD τ).loc main_arg0) : Vec Ideal S16384x2048 .f32) (m ((c : Thread nD τ).loc main_arg1)) (m ((c : Thread nD τ).loc main_arg2))
        ⟨512 * t.val + r.val, by have := t_lt t; omega⟩ e := by
  unfold row
  refine Finset.sum_congr rfl fun k _ => congrArg₂ (· * ·) ?_ (iblk2_ix m c t k e)
  rw [show (fun k => iblk m c 0 t (ix2 r k)) = fun k => m ((c : Thread nD τ).loc main_arg0) (ix2 ⟨512 * t.val + r.val, by have := t_lt t; omega⟩ k) from funext (iblk0_ix m c t r),
    show (fun k => iblk m c 1 t (ix2 (0 : Fin 1) k)) = fun k => m ((c : Thread nD τ).loc main_arg1) (ix2 (0 : Fin 1) k) from funext (iblk1_ix m c t)]

/-- The two results, of the argument arrays. -/
def G3 : Vec Ideal S16384x1024 .f32 :=
  gateV (m ((c : Thread nD τ).loc main_arg0) : Vec Ideal S16384x2048 .f32) (m ((c : Thread nD τ).loc main_arg1)) (m ((c : Thread nD τ).loc main_arg2))
def G4 : Vec Ideal S16384x1024 .bf16 :=
  lateV (m ((c : Thread nD τ).loc main_arg0) : Vec Ideal S16384x2048 .f32) (m ((c : Thread nD τ).loc main_arg1)) (m ((c : Thread nD τ).loc main_arg2))

theorem final3 : (dats m 0 c).arrAt 3 cfg0.N = G3 m c := by
  refine (dats m 0 c).arrAt_eq_of_covers 3 _ (by decide +kernel) fun t _ y => ?_
  blk_simp
  obtain ⟨r, j, rfl⟩ : ∃ (r : Fin 512) (j : Fin 1024), y = ix2 r j := ⟨y 0, y 1, by funext a; fin_cases a <;> rfl⟩
  have e : (win0_3.blk t).view.emb (ix2 r j) = ix2 ⟨512 * t.val + r.val, by have := t_lt t; omega⟩ j := by
    blk_ext [idx3 t]
  rw [e, after0_3, out3]
  show gate _ _ _ r j = gate _ _ _ _ j
  unfold gate
  rw [row_blk, row_blk]
  rfl

theorem final4 : (dats m 0 c).arrAt 4 cfg0.N = G4 m c := by
  refine (dats m 0 c).arrAt_eq_of_covers 4 _ (by decide +kernel) fun t _ y => ?_
  blk_simp
  obtain ⟨r, j, rfl⟩ : ∃ (r : Fin 512) (j : Fin 1024), y = ix2 r j := ⟨y 0, y 1, by funext a; fin_cases a <;> rfl⟩
  have e : (win0_4.blk t).view.emb (ix2 r j) = ix2 ⟨512 * t.val + r.val, by have := t_lt t; omega⟩ j := by
    blk_ext [idx4 t]
  rw [e, after0_4, out4]
  exact row_blk m c t r _

end Cert.Kernel4Ideal.InProj
end
-- ==== Proof.RefInEven.lean ====
/-
  The reference of the even layers' input projection at an index.
-/
module

public import proofs.«01_k».proof.Proof.InProj
public import proofs.«01_k».proof.Proof.Gen.Reference4Ideal.Run

@[expose] public section

set_option maxRecDepth 16384

noncomputable section

namespace Cert.Reference4Ideal.InProj

open Cert.Reference4Ideal Cert.Reference4Ideal.Gen Cert.Reference4Ideal.Value
open Cert.InProj
open Idealize.ShloMosaic Idealize.ShloMosaic.TcCoe

section Steps
variable {F : FTy → Type} [FloatOps F]

/-- The normalization with a weight per column. -/
def rN (v : FVec F S16384x2048 .f32) (g : FVec F S1x2048 .f32) : FVec F S16384x2048 .f32 :=
  mulf (mulf v (broadcastInDim S16384x2048 ![0, 1] bcast_S16384x1_S16384x2048_0_1 (Host.rsqrt (addf (Host.divf
    (broadcastInDim S16384x1 ![0] bcast_S16384_S16384x1_0 (Host.reduceAdd (mulf v v) (constant S_ .f32 0x00000000#32) reducesTo_S16384x2048_S16384_d1 h_S_))
    (broadcastInDim S16384x1 ![] bcast_S_S16384x1 (constant S_ .f32 0x45000000#32))) (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 (shapeCast _ g shapeCasts_S1x2048_S2048)))
/-- Its product with the matrix. -/
def rU (h : FVec F S16384x2048 .f32) (w : FVec F S2048x3072 .bf16) : FVec F S16384x3072 .f32 :=
  Host.dotGeneral dot_S16384x2048_S2048x3072_S16384x3072_1_0_0_1_n_n none h (extf .f32 w bitsLt_bf16_f32)
/-- The first 1024 columns times the sigmoid of the next. -/
def rG (u : FVec F S16384x3072 .f32) : FVec F S16384x1024 .f32 :=
  mulf (extractStridedSlice S16384x1024 ![0, 0] u slices_S16384x3072_S16384x1024_0_0) (Host.divf (broadcastInDim S16384x1024 ![] bcast_S_S16384x1024 (constant S_ .f32 0x3F800000#32))
    (addf (broadcastInDim S16384x1024 ![] bcast_S_S16384x1024 (constant S_ .f32 0x3F800000#32)) (Host.exp (Host.negf (extractStridedSlice S16384x1024 ![0, 1024] u slices_S16384x3072_S16384x1024_0_1024)))))
/-- The last 1024 columns. -/
def rL (u : FVec F S16384x3072 .f32) : FVec F S16384x1024 .bf16 :=
  truncf .bf16 (extractStridedSlice S16384x1024 ![0, 2048] u slices_S16384x3072_S16384x1024_0_2048) bitsLt_bf16_f32

end Steps

theorem rN_ix (v : FVec Ideal S16384x2048 .f32) (g : FVec Ideal S1x2048 .f32) (s : Fin 16384) (q : Fin 2048) :
    rN v g (ix2 s q) = rms c2048 (fun k => v (ix2 s k)) (fun k => g (ix2 0 k)) q := by
  unfold rms
  pointwise [rN]
theorem rU_ix (x : FVec Ideal S16384x2048 .f32) (g : FVec Ideal S1x2048 .f32) (w : FVec Ideal S2048x3072 .bf16) (s : Fin 16384) (e : Fin 3072) :
    rU (rN x g) w (ix2 s e) = row x g w s e := by
  have h : rU (rN x g) w (ix2 s e) = ∑ k : Fin 2048, rN x g (ix2 s k) * w (ix2 k e) := by pointwise [rU]
  refine h.trans ?_
  unfold row
  exact Finset.sum_congr rfl fun k _ => congrArg (· * w (ix2 k e)) (rN_ix x g s k)
theorem logistic_eq (t : EReal) : Ideal.div 1 (1 + Ideal.exp (-t)) = sgm t := by
  unfold sgm
  rfl
theorem rG_ix (u : FVec Ideal S16384x3072 .f32) (s : Fin 16384) (j : Fin 1024) :
    rG u (ix2 s j) = u (ix2 s ⟨j.val, by omega⟩) * sgm (u (ix2 s ⟨1024 + j.val, by omega⟩)) := by
  rw [← logistic_eq]
  pointwise [rG]
theorem rL_ix (u : FVec Ideal S16384x3072 .f32) (s : Fin 16384) (j : Fin 1024) :
    rL u (ix2 s j) = u (ix2 s ⟨2048 + j.val, by omega⟩) := by
  pointwise [rL]

/-- The two results at an index. -/
theorem gate_ix (x : FVec Ideal S16384x2048 .f32) (g : FVec Ideal S1x2048 .f32) (w : FVec Ideal S2048x3072 .bf16) (s : Fin 16384) (j : Fin 1024) :
    rG (rU (rN x g) w) (ix2 s j) = row x g w s ⟨j.val, by omega⟩ * sgm (row x g w s ⟨1024 + j.val, by omega⟩) := by
  rw [rG_ix, rU_ix, rU_ix]
theorem late_ix (x : FVec Ideal S16384x2048 .f32) (g : FVec Ideal S1x2048 .f32) (w : FVec Ideal S2048x3072 .bf16) (s : Fin 16384) (j : Fin 1024) :
    rL (rU (rN x g) w) (ix2 s j) = row x g w s ⟨2048 + j.val, by omega⟩ :=
  (rL_ix _ s j).trans (rU_ix x g w s _)

end Cert.Reference4Ideal.InProj
end
-- ==== Proof.InOddRow.lean ====
/-
  What the input projection of the odd layer computes of one row of the residual stream: the two gates of the short convolution,
  and, of each head, the query, the key and the value with the row of ones after it.
-/
module

public import proofs.«01_k».proof.Proof.InProj

@[expose] public section

set_option maxRecDepth 16384

noncomputable section

namespace Cert.InProj

open Idealize.ShloMosaic Idealize.ShloMosaic.TcCoe

/-- One row of the residual stream and of the rotary tables, with the weights. -/
structure Data where
  x : Fin 2048 → EReal
  g : Fin 2048 → EReal
  w : Fin 2048 → Fin 4096 → EReal
  qg : Fin 512 → EReal
  wuq : Fin 512 → Fin 3072 → EReal
  kvg : Fin 256 → EReal
  wukv : Fin 256 → Fin 2048 → EReal
  co : Fin 128 → EReal
  si : Fin 128 → EReal

/-- The scale of the queries. -/
abbrev qs : EReal := Ideal.ofBits .f32 0x3DD53B95#32

namespace Data
variable (D : Data)

/-- The normalized row times a column of the input projection. -/
def u (e : Fin 4096) : EReal := ∑ k : Fin 2048, rms c2048 D.x D.g k * D.w k e
/-- The two normalized low-rank vectors. -/
def cq (j : Fin 512) : EReal := rms 0x44000000#32 (fun e : Fin 512 => D.u ⟨3072 + e.val, by omega⟩) D.qg j
def ckv (j : Fin 256) : EReal := rms 0x43800000#32 (fun e : Fin 256 => D.u ⟨3584 + e.val, by omega⟩) D.kvg j
/-- Their products with the matrices of all heads. -/
def qd (e : Fin 3072) : EReal := ∑ k : Fin 512, D.cq k * D.wuq k e
def kvd (e : Fin 2048) : EReal := ∑ k : Fin 256, D.ckv k * D.wukv k e
/-- The rotated part of the keys, one for all heads. -/
def kr (j : Fin 128) : EReal := D.u ⟨3840 + j.val, by omega⟩ * D.co j + D.u ⟨3968 + j.val, by omega⟩ * D.si j
/-- The gate of the short convolution, and the gated array it convolves. -/
def bg (j : Fin 1024) : EReal := D.u ⟨j.val, by omega⟩
def ch (j : Fin 1024) : EReal := D.u ⟨1024 + j.val, by omega⟩ * D.u ⟨2048 + j.val, by omega⟩
/-- The query of a head. -/
def q (n : Fin 8) (d : Fin 256) : EReal :=
  if h : d.val < 128 then D.qd ⟨384 * n.val + d.val, by omega⟩ * qs
  else (D.qd ⟨384 * n.val + d.val, by omega⟩ * D.co ⟨d.val - 128, by omega⟩ + D.qd ⟨384 * n.val + 128 + d.val, by omega⟩ * D.si ⟨d.val - 128, by omega⟩) * qs
/-- The key of a head. -/
def k (n : Fin 8) (d : Fin 256) : EReal :=
  if h : d.val < 128 then D.kvd ⟨256 * n.val + d.val, by omega⟩ else D.kr ⟨d.val - 128, by omega⟩
/-- The value of a head, a one, and zeros. -/
def v (n : Fin 8) (e : Fin 144) : EReal :=
  if h : e.val < 128 then D.kvd ⟨256 * n.val + 128 + e.val, by omega⟩ else if e.val = 128 then 1 else 0

theorem q_lo (n : Fin 8) (d : Fin 128) : D.q n ⟨d.val, by omega⟩ = D.qd ⟨384 * n.val + d.val, by omega⟩ * qs := dif_pos d.isLt
theorem q_hi (n : Fin 8) (d : Fin 128) : D.q n ⟨128 + d.val, by omega⟩
    = (D.qd ⟨384 * n.val + 128 + d.val, by omega⟩ * D.co d + D.qd ⟨384 * n.val + 256 + d.val, by omega⟩ * D.si d) * qs := by
  unfold q
  rw [dif_neg (by show ¬128 + d.val < 128; omega)]
  have e (a b : ℕ) (ha hb) (h : a = b) : D.qd ⟨a, ha⟩ = D.qd ⟨b, hb⟩ := by subst h; rfl
  rw [e (384 * n.val + (128 + d.val)) (384 * n.val + 128 + d.val) _ _ (by omega), e (384 * n.val + 128 + (128 + d.val)) (384 * n.val + 256 + d.val) _ _ (by omega),
    show (⟨128 + d.val - 128, by omega⟩ : Fin 128) = d from Fin.ext (by show 128 + d.val - 128 = d.val; omega)]
theorem k_lo (n : Fin 8) (d : Fin 128) : D.k n ⟨d.val, by omega⟩ = D.kvd ⟨256 * n.val + d.val, by omega⟩ := dif_pos d.isLt
theorem k_hi (n : Fin 8) (d : Fin 128) : D.k n ⟨128 + d.val, by omega⟩ = D.kr d := by
  unfold k
  rw [dif_neg (by show ¬128 + d.val < 128; omega), show (⟨128 + d.val - 128, by omega⟩ : Fin 128) = d from Fin.ext (by show 128 + d.val - 128 = d.val; omega)]
theorem v_lo (n : Fin 8) (e : Fin 128) : D.v n ⟨e.val, by omega⟩ = D.kvd ⟨256 * n.val + 128 + e.val, by omega⟩ := dif_pos e.isLt
theorem v_hi (n : Fin 8) (e : Fin 16) : D.v n ⟨128 + e.val, by omega⟩ = if e.val = 0 then 1 else 0 := by
  unfold v
  rw [dif_neg (by show ¬128 + e.val < 128; omega)]
  refine if_congr ?_ rfl rfl
  show 128 + e.val = 128 ↔ e.val = 0
  omega

end Data

/-- The row `s` of arrays of `R` rows. -/
def dataOf {R : ℕ} (x : Vec Ideal ⟨2, ![R, 2048]⟩ .f32) (g : Vec Ideal ⟨2, ![1, 2048]⟩ .f32) (w : Vec Ideal ⟨2, ![2048, 4096]⟩ .bf16) (qg : Vec Ideal ⟨2, ![1, 512]⟩ .f32)
    (wuq : Vec Ideal ⟨2, ![512, 3072]⟩ .bf16) (kvg : Vec Ideal ⟨2, ![1, 256]⟩ .f32) (wukv : Vec Ideal ⟨2, ![256, 2048]⟩ .bf16)
    (co si : Vec Ideal ⟨2, ![R, 128]⟩ .f32) (s : Fin R) : Data :=
  { x := fun k => x (ix2 s k), g := fun k => g (ix2 0 k), w := fun k e => w (ix2 k e), qg := fun k => qg (ix2 0 k), wuq := fun k e => wuq (ix2 k e),
    kvg := fun k => kvg (ix2 0 k), wukv := fun k e => wukv (ix2 k e), co := fun j => co (ix2 s j), si := fun j => si (ix2 s j) }

/-! ## The five results of `R` rows -/

def bgV {R : ℕ} (D : Fin R → Data) : Vec Ideal ⟨2, ![R, 1024]⟩ .f32 := fun y => (D (y 0)).bg (y 1)
def chV {R : ℕ} (D : Fin R → Data) : Vec Ideal ⟨2, ![R, 1024]⟩ .f32 := fun y => (D (y 0)).ch (y 1)
def qV {R : ℕ} (D : Fin R → Data) : Vec Ideal ⟨3, ![8, 256, R]⟩ .bf16 := fun y => (D (y 2)).q (y 0) (y 1)
def kV {R : ℕ} (D : Fin R → Data) : Vec Ideal ⟨3, ![8, R, 256]⟩ .bf16 := fun y => (D (y 1)).k (y 0) (y 2)
def vV {R : ℕ} (D : Fin R → Data) : Vec Ideal ⟨4, ![8, 1, 144, R]⟩ .bf16 := fun y => (D (y 3)).v (y 0) (y 2)

theorem qV_ix {R : ℕ} (D : Fin R → Data) (n : Fin 8) {a d : Fin 256} {r s : Fin R} (hd : a.val = d.val) (hs : r.val = s.val) : (D r).q n a = qV D (ix3 n d s) := by
  obtain rfl := Fin.ext hd
  obtain rfl := Fin.ext hs
  rfl
theorem kV_ix {R : ℕ} (D : Fin R → Data) (n : Fin 8) {a d : Fin 256} {r s : Fin R} (hs : r.val = s.val) (hd : a.val = d.val) : (D r).k n a = kV D (ix3 n s d) := by
  obtain rfl := Fin.ext hd
  obtain rfl := Fin.ext hs
  rfl
theorem vV_ix {R : ℕ} (D : Fin R → Data) (n : Fin 8) {a d : Fin 144} {r s : Fin R} (hd : a.val = d.val) (hs : r.val = s.val) : (D r).v n a = vV D (ix4 n 0 d s) := by
  obtain rfl := Fin.ext hd
  obtain rfl := Fin.ext hs
  rfl

/-! ## The block of a head -/

theorem one_ix3 {A B : ℕ} (x : Shape.Idx ⟨3, ![1, A, B]⟩) : ∃ (a : Fin A) (b : Fin B), x = ix3 0 a b :=
  ⟨x 1, x 2, by funext i; fin_cases i; exacts [Subsingleton.elim (α := Fin 1) _ _, rfl, rfl]⟩
theorem one_ix4 {A B : ℕ} (x : Shape.Idx ⟨4, ![1, 1, A, B]⟩) : ∃ (a : Fin A) (b : Fin B), x = ix4 0 0 a b :=
  ⟨x 2, x 3, by funext i; fin_cases i; exacts [Subsingleton.elim (α := Fin 1) _ _, Subsingleton.elim (α := Fin 1) _ _, rfl, rfl]⟩

theorem rect_idx3 {N A B A' B' : ℕ} (n : Fin N) (p q : ℕ) (hb) (a : Fin A') (b : Fin B') (ha : p + a.val < A) (hq : q + b.val < B) :
    (Rect.unit (s := ⟨3, ![N, A, B]⟩) ![n.val, p, q] ![1, A', B'] hb).idx (ix3 0 a b) = ix3 n ⟨p + a.val, ha⟩ ⟨q + b.val, hq⟩ := by
  funext i
  apply Fin.ext
  fin_cases i
  · show n.val + 1 * 0 = n.val; omega
  · show p + 1 * a.val = p + a.val; omega
  · show q + 1 * b.val = q + b.val; omega

theorem rect_idx4 {N A B A' B' : ℕ} (n : Fin N) (p q : ℕ) (hb) (a : Fin A') (b : Fin B') (ha : p + a.val < A) (hq : q + b.val < B) :
    (Rect.unit (s := ⟨4, ![N, 1, A, B]⟩) ![n.val, 0, p, q] ![1, 1, A', B'] hb).idx (ix4 0 0 a b) = ix4 n 0 ⟨p + a.val, ha⟩ ⟨q + b.val, hq⟩ := by
  funext i
  apply Fin.ext
  fin_cases i
  · show n.val + 1 * 0 = n.val; omega
  · rfl
  · show p + 1 * a.val = p + a.val; omega
  · show q + 1 * b.val = q + b.val; omega

end Cert.InProj
end
-- ==== Proof.InOdd.lean ====
/-
  The stores of the odd layers' input projection at an index, from the rows of its blocks.
-/
module

public import proofs.«01_k».proof.Proof.InOddRow
public import proofs.«01_k».proof.Proof.Gen.Kernel5Ideal.Value

@[expose] public section

set_option maxRecDepth 16384

noncomputable section

namespace Cert.Kernel5Ideal.InProj

open Cert.Kernel5Ideal Cert.Kernel5Ideal.Gen Cert.InProj
open Idealize.ShloMosaic Idealize.ShloMosaic.TcCoe
open Idealize.ShloMosaic.Pipeline (Dat Cfg Window)

/-! ## The payloads at an index -/

theorem pay3_ix (o : Vec Ideal S256x2048 .f32) (g : Vec Ideal S1x2048 .f32) (r : Fin 256) (q : Fin 2048) :
    k0_pay3 o g (ix2 r q) = rms c2048 (fun k => o (ix2 r k)) (fun k => g (ix2 0 k)) q := by
  unfold rms
  pointwise [k0_pay3]
theorem pay4_ix (x : Vec Ideal S256x2048 .f32) (g : Vec Ideal S1x2048 .f32) (a : Vec Ideal S2048x512 .bf16) (r : Fin 256) (j : Fin 512) :
    k0_pay4 x g a (ix2 r j) = ∑ k : Fin 2048, k0_pay3 x g (ix2 r k) * a (ix2 k j) := by
  pointwise [k0_pay4]
theorem pay6_ix (x : Vec Ideal S256x2048 .f32) (g : Vec Ideal S1x2048 .f32) (a : Vec Ideal S2048x512 .bf16) (r : Fin 256) (j : Fin 512) :
    k0_pay6 x g a (ix2 r j) = ∑ k : Fin 2048, k0_pay3 x g (ix2 r k) * a (ix2 k j) := by
  pointwise [k0_pay6]
theorem pay5_ix (x : Vec Ideal S256x2048 .f32) (g : Vec Ideal S1x2048 .f32) (a b : Vec Ideal S2048x512 .bf16) (r : Fin 256) (j : Fin 512) :
    k0_pay5 x g a b (ix2 r j) = (∑ k : Fin 2048, k0_pay3 x g (ix2 r k) * a (ix2 k j)) * ∑ k : Fin 2048, k0_pay3 x g (ix2 r k) * b (ix2 k j) := by
  pointwise [k0_pay5]
theorem pay7_ix (h : Vec Ideal S256x2048 .bf16) (a b : Vec Ideal S2048x512 .bf16) (r : Fin 256) (j : Fin 512) :
    k0_pay7 h a (constant S256x512 .f32 0x00000000#32) b (ix2 r j) = (∑ k : Fin 2048, h (ix2 r k) * a (ix2 k j)) * ∑ k : Fin 2048, h (ix2 r k) * b (ix2 k j) := by
  pointwise [k0_pay7]
theorem pay8_ix (e : Fin 16) (r : Fin 256) : (k0_pay8 (F := Ideal)) (ix2 e r) = if e.val = 0 then (1 : EReal) else 0 := by
  have h : ∀ e : Fin 16, IntOp.cmpi CmpIPredicate.eq (BitVec.ofNat 32 e.val) 0#32 = if e.val = 0 then 1#1 else 0#1 := by decide +kernel
  have h' : (k0_pay8 (F := Ideal)) (ix2 e r) = Scalar.select (IntOp.cmpi CmpIPredicate.eq (BitVec.ofNat 32 e.val) 0#32) (1 : EReal) 0 := by
    pointwise [k0_pay8]
  rw [h', h]
  split_ifs <;> rfl
theorem pay9_ix (h : Vec Ideal S256x2048 .bf16) (w : Vec Ideal S2048x1024 .bf16) (r : Fin 256) (j : Fin 1024) :
    k0_pay9 h w (ix2 r j) = ∑ k : Fin 2048, h (ix2 r k) * w (ix2 k j) := by
  pointwise [k0_pay9]
theorem pay10_ix (h : Vec Ideal S256x2048 .bf16) (a b : Vec Ideal S256x128 .f32) (w : Vec Ideal S2048x1024 .bf16) (r : Fin 256) (j : Fin 128) :
    k0_pay10 h a b w (ix2 r j) = k0_pay9 h w (ix2 r ⟨768 + j.val, by omega⟩) * a (ix2 r j) + k0_pay9 h w (ix2 r ⟨896 + j.val, by omega⟩) * b (ix2 r j) := by
  pointwise [k0_pay10]
theorem pay11_ix (h : Vec Ideal S256x2048 .bf16) (w : Vec Ideal S2048x1024 .bf16) (g : Vec Ideal S1x512 .f32) (r : Fin 256) (j : Fin 512) :
    k0_pay11 h w g (ix2 r j) = rms 0x44000000#32 (fun e : Fin 512 => k0_pay9 h w (ix2 r ⟨0 + e.val, by omega⟩)) (fun k => g (ix2 0 k)) j := by
  unfold rms
  pointwise [k0_pay11]
theorem pay13_ix (h : Vec Ideal S256x2048 .bf16) (w : Vec Ideal S2048x1024 .bf16) (g : Vec Ideal S1x256 .f32) (r : Fin 256) (j : Fin 256) :
    k0_pay13 (k0_pay12 h w) g (ix2 r j) = rms 0x43800000#32 (fun e : Fin 256 => k0_pay9 h w (ix2 r ⟨512 + e.val, by omega⟩)) (fun k => g (ix2 0 k)) j := by
  unfold rms
  pointwise [k0_pay13, k0_pay12]

/-! The payloads of one head; those of the others are the same terms. -/

theorem qlo_ix (h : Vec Ideal S256x512 .bf16) (w : Vec Ideal S512x384 .bf16) (d : Fin 128) (r : Fin 256) :
    k0_pay24 h w (ix3 0 d r) = (∑ k : Fin 512, h (ix2 r k) * w (ix2 k ⟨d.val, by omega⟩)) * qs := by
  pointwise [k0_pay24, k0_pay23]
theorem qhi_ix (a b : Vec Ideal S256x128 .f32) (h : Vec Ideal S256x512 .bf16) (w : Vec Ideal S512x384 .bf16) (d : Fin 128) (r : Fin 256) :
    k0_pay26 (k0_pay25 a b h w) (ix3 0 d r) = ((∑ k : Fin 512, h (ix2 r k) * w (ix2 k ⟨128 + d.val, by omega⟩)) * a (ix2 r d)
      + (∑ k : Fin 512, h (ix2 r k) * w (ix2 k ⟨256 + d.val, by omega⟩)) * b (ix2 r d)) * qs := by
  pointwise [k0_pay26, k0_pay25, k0_pay23]
theorem klo_ix (h : Vec Ideal S256x256 .bf16) (w : Vec Ideal S256x256 .bf16) (r : Fin 256) (d : Fin 128) :
    k0_pay28 h w (ix3 0 r d) = ∑ k : Fin 256, h (ix2 r k) * w (ix2 k ⟨d.val, by omega⟩) := by
  pointwise [k0_pay28, k0_pay27]
theorem khi_ix (a : Vec Ideal S256x128 .bf16) (r : Fin 256) (d : Fin 128) : k0_pay29 (F := Ideal) a (ix3 0 r d) = a (ix2 r d) := by
  pointwise [k0_pay29]
theorem vlo_ix (h : Vec Ideal S256x256 .bf16) (w : Vec Ideal S256x256 .bf16) (e : Fin 128) (r : Fin 256) :
    k0_pay30 h w (ix4 0 0 e r) = ∑ k : Fin 256, h (ix2 r k) * w (ix2 k ⟨128 + e.val, by omega⟩) := by
  pointwise [k0_pay30, k0_pay27]
theorem vhi_ix (a : Vec Ideal S16x256 .bf16) (e : Fin 16) (r : Fin 256) : k0_pay31 (F := Ideal) a (ix4 0 0 e r) = a (ix2 e r) := by
  pointwise [k0_pay31]

/-! ## The rows of a grid point's blocks -/

section
variable (x0 : Vec Ideal S256x2048 .f32) (x1 : Vec Ideal S1x2048 .f32) (x2 : Vec Ideal S2048x4096 .bf16) (x3 : Vec Ideal S1x512 .f32) (x4 : Vec Ideal S512x3072 .bf16) (x5 : Vec Ideal S1x256 .f32) (x6 : Vec Ideal S256x2048 .bf16) (x7 : Vec Ideal S256x128 .f32) (x8 : Vec Ideal S256x128 .f32)

/-- Row `r` of the blocks. -/
def dat (r : Fin 256) : Data := dataOf x0 x1 x2 x3 x4 x5 x6 x7 x8 r

/-- The normalized rows, the last columns of the input projection, and the two normalized low-rank blocks. -/
abbrev hT : Vec Ideal S256x2048 .bf16 :=
  k0_pay3 (View.ld x0 (Rect.unit (s := S256x2048) ![0, 0] ![256, 2048] inb_S256x2048_S256x2048_0_0)) (View.ld x1 (Rect.unit (s := S1x2048) ![0, 0] ![1, 2048] inb_S1x2048_S1x2048_0_0))
abbrev wT : Vec Ideal S2048x1024 .bf16 := View.ld x2 (Rect.unit (s := S2048x4096) ![0, 3072] ![2048, 1024] inb_S2048x4096_S2048x1024_0_3072)
abbrev cqT : Vec Ideal S256x512 .bf16 := k0_pay11 (hT x0 x1) (wT x2) (View.ld x3 (Rect.unit (s := S1x512) ![0, 0] ![1, 512] inb_S1x512_S1x512_0_0))
abbrev ckvT : Vec Ideal S256x256 .bf16 := k0_pay13 (k0_pay12 (hT x0 x1) (wT x2)) (View.ld x5 (Rect.unit (s := S1x256) ![0, 0] ![1, 256] inb_S1x256_S1x256_0_0))
abbrev coT : Vec Ideal S256x128 .f32 := View.ld x7 (Rect.unit (s := S256x128) ![0, 0] ![256, 128] inb_S256x128_S256x128_0_0)
abbrev krT : Vec Ideal S256x128 .bf16 := k0_pay10 (hT x0 x1) (coT x7) (coT x8) (wT x2)

theorem co_ix (r : Fin 256) (j : Fin 128) : coT x7 (ix2 r j) = x7 (ix2 r j) := by
  unfold coT
  rw [ld_all x7]

theorem h_ix (r : Fin 256) (k : Fin 2048) : hT x0 x1 (ix2 r k) = rms c2048 (dat x0 x1 x2 x3 x4 x5 x6 x7 x8 r).x (dat x0 x1 x2 x3 x4 x5 x6 x7 x8 r).g k := by
  unfold hT
  rw [pay3_ix, ld_all x0, ld_all x1]
  rfl

theorem u_blk {n : ℕ} (p : ℕ) (hb) (r : Fin 256) (j : Fin n) (hj : p + j.val < 4096) :
    ∑ k : Fin 2048, hT x0 x1 (ix2 r k) * View.ld x2 (Rect.unit (s := S2048x4096) ![0, p] ![2048, n] hb) (ix2 k j) = (dat x0 x1 x2 x3 x4 x5 x6 x7 x8 r).u ⟨p + j.val, hj⟩ :=
  Finset.sum_congr rfl fun k _ => congrArg₂ (· * ·) (h_ix x0 x1 x2 x3 x4 x5 x6 x7 x8 r k) (ld_cols x2 p hb k j hj)

theorem lat_ix (r : Fin 256) (j : Fin 1024) : k0_pay9 (hT x0 x1) (wT x2) (ix2 r j) = (dat x0 x1 x2 x3 x4 x5 x6 x7 x8 r).u ⟨3072 + j.val, by omega⟩ :=
  (pay9_ix _ _ r j).trans (u_blk x0 x1 x2 x3 x4 x5 x6 x7 x8 3072 _ r j (by omega))

theorem u_eq (D : Data) (a b : ℕ) (ha hb) (h : a = b) : D.u ⟨a, ha⟩ = D.u ⟨b, hb⟩ := by subst h; rfl

theorem cq_ix (r : Fin 256) (k : Fin 512) : cqT x0 x1 x2 x3 (ix2 r k) = (dat x0 x1 x2 x3 x4 x5 x6 x7 x8 r).cq k := by
  unfold cqT
  rw [pay11_ix, ld_all x3]
  refine congrArg (fun v => rms 0x44000000#32 v _ k) (funext fun e => (lat_ix x0 x1 x2 x3 x4 x5 x6 x7 x8 r _).trans (u_eq _ _ _ _ _ ?_))
  show 3072 + (0 + e.val) = 3072 + e.val; omega

theorem ckv_ix (r : Fin 256) (k : Fin 256) : ckvT x0 x1 x2 x5 (ix2 r k) = (dat x0 x1 x2 x3 x4 x5 x6 x7 x8 r).ckv k := by
  unfold ckvT
  rw [pay13_ix, ld_all x5]
  refine congrArg (fun v => rms 0x43800000#32 v _ k) (funext fun e => (lat_ix x0 x1 x2 x3 x4 x5 x6 x7 x8 r _).trans (u_eq _ _ _ _ _ ?_))
  show 3072 + (512 + e.val) = 3584 + e.val; omega

theorem kr_ix (r : Fin 256) (j : Fin 128) : krT x0 x1 x2 x7 x8 (ix2 r j) = (dat x0 x1 x2 x3 x4 x5 x6 x7 x8 r).kr j := by
  unfold krT
  rw [pay10_ix, co_ix, co_ix, lat_ix x0 x1 x2 x3 x4 x5 x6 x7 x8, lat_ix x0 x1 x2 x3 x4 x5 x6 x7 x8]
  refine congrArg₂ (· + ·) (congrArg₂ (· * ·) (u_eq _ _ _ _ _ ?_) rfl) (congrArg₂ (· * ·) (u_eq _ _ _ _ _ ?_) rfl)
  · show 3072 + (768 + j.val) = 3840 + j.val; omega
  · show 3072 + (896 + j.val) = 3968 + j.val; omega

theorem qd_blk (p : ℕ) (hb) (r : Fin 256) (e : Fin 384) (he : p + e.val < 3072) :
    ∑ k : Fin 512, cqT x0 x1 x2 x3 (ix2 r k) * View.ld x4 (Rect.unit (s := S512x3072) ![0, p] ![512, 384] hb) (ix2 k e) = (dat x0 x1 x2 x3 x4 x5 x6 x7 x8 r).qd ⟨p + e.val, he⟩ :=
  Finset.sum_congr rfl fun k _ => congrArg₂ (· * ·) (cq_ix x0 x1 x2 x3 x4 x5 x6 x7 x8 r k) (ld_cols x4 p hb k e he)

theorem kvd_blk (p : ℕ) (hb) (r : Fin 256) (e : Fin 256) (he : p + e.val < 2048) :
    ∑ k : Fin 256, ckvT x0 x1 x2 x5 (ix2 r k) * View.ld x6 (Rect.unit (s := S256x2048) ![0, p] ![256, 256] hb) (ix2 k e) = (dat x0 x1 x2 x3 x4 x5 x6 x7 x8 r).kvd ⟨p + e.val, he⟩ :=
  Finset.sum_congr rfl fun k _ => congrArg₂ (· * ·) (ckv_ix x0 x1 x2 x3 x4 x5 x6 x7 x8 r k) (ld_cols x6 p hb k e he)

/-! ## The five blocks -/

theorem qd_eq (D : Data) (a b : ℕ) (ha hb) (h : a = b) : D.qd ⟨a, ha⟩ = D.qd ⟨b, hb⟩ := by subst h; rfl
theorem kvd_eq (D : Data) (a b : ℕ) (ha hb) (h : a = b) : D.kvd ⟨a, ha⟩ = D.kvd ⟨b, hb⟩ := by subst h; rfl

theorem q_lo (n : Fin 8) (p : ℕ) (hp : p = 384 * n.val) (hw) (hb) (x : Shape.Idx ⟨3, ![1, 128, 256]⟩) :
    k0_pay24 (cqT x0 x1 x2 x3) (View.ld x4 (Rect.unit (s := S512x3072) ![0, p] ![512, 384] hw)) x
      = qV (dat x0 x1 x2 x3 x4 x5 x6 x7 x8) ((Rect.unit (s := ⟨3, ![8, 256, 256]⟩) ![n.val, 0, 0] ![1, 128, 256] hb).idx x) := by
  obtain ⟨d, r, rfl⟩ := one_ix3 x
  rw [rect_idx3 n 0 0 hb d r (by omega) (by omega), qlo_ix]
  refine (congrArg (· * qs) (qd_blk x0 x1 x2 x3 x4 x5 x6 x7 x8 p hw r ⟨d.val, by omega⟩ (by show p + d.val < 3072; omega))).trans ?_
  subst hp
  refine ((dat x0 x1 x2 x3 x4 x5 x6 x7 x8 r).q_lo n d).symm.trans ?_
  exact qV_ix _ _ (Nat.zero_add _).symm (Nat.zero_add _).symm

theorem q_hi (n : Fin 8) (p : ℕ) (hp : p = 384 * n.val) (hw) (hb) (x : Shape.Idx ⟨3, ![1, 128, 256]⟩) :
    k0_pay26 (k0_pay25 (coT x7) (coT x8) (cqT x0 x1 x2 x3) (View.ld x4 (Rect.unit (s := S512x3072) ![0, p] ![512, 384] hw))) x
      = qV (dat x0 x1 x2 x3 x4 x5 x6 x7 x8) ((Rect.unit (s := ⟨3, ![8, 256, 256]⟩) ![n.val, 128, 0] ![1, 128, 256] hb).idx x) := by
  obtain ⟨d, r, rfl⟩ := one_ix3 x
  rw [rect_idx3 n 128 0 hb d r (by omega) (by omega), qhi_ix, co_ix, co_ix, qd_blk x0 x1 x2 x3 x4 x5 x6 x7 x8 p hw r ⟨128 + d.val, by omega⟩ (by show p + (128 + d.val) < 3072; omega),
    qd_blk x0 x1 x2 x3 x4 x5 x6 x7 x8 p hw r ⟨256 + d.val, by omega⟩ (by show p + (256 + d.val) < 3072; omega)]
  subst hp
  refine Eq.trans ?_ (((dat x0 x1 x2 x3 x4 x5 x6 x7 x8 r).q_hi n d).symm.trans (qV_ix _ _ rfl (Nat.zero_add _).symm))
  refine congrArg (· * qs) (congrArg₂ (· + ·) (congrArg₂ (· * ·) (qd_eq _ _ _ _ _ ?_) rfl) (congrArg₂ (· * ·) (qd_eq _ _ _ _ _ ?_) rfl))
  · show 384 * n.val + (128 + d.val) = _; omega
  · show 384 * n.val + (256 + d.val) = _; omega

theorem k_lo (n : Fin 8) (p : ℕ) (hp : p = 256 * n.val) (hw) (hb) (x : Shape.Idx ⟨3, ![1, 256, 128]⟩) :
    k0_pay28 (ckvT x0 x1 x2 x5) (View.ld x6 (Rect.unit (s := S256x2048) ![0, p] ![256, 256] hw)) x
      = kV (dat x0 x1 x2 x3 x4 x5 x6 x7 x8) ((Rect.unit (s := ⟨3, ![8, 256, 256]⟩) ![n.val, 0, 0] ![1, 256, 128] hb).idx x) := by
  obtain ⟨r, d, rfl⟩ := one_ix3 x
  rw [rect_idx3 n 0 0 hb r d (by omega) (by omega), klo_ix, kvd_blk x0 x1 x2 x3 x4 x5 x6 x7 x8 p hw r ⟨d.val, by omega⟩ (by show p + d.val < 2048; omega)]
  subst hp
  exact ((dat x0 x1 x2 x3 x4 x5 x6 x7 x8 r).k_lo n d).symm.trans (kV_ix _ _ (Nat.zero_add _).symm (Nat.zero_add _).symm)

theorem k_hi (n : Fin 8) (hb) (x : Shape.Idx ⟨3, ![1, 256, 128]⟩) :
    k0_pay29 (F := Ideal) (krT x0 x1 x2 x7 x8) x
      = kV (dat x0 x1 x2 x3 x4 x5 x6 x7 x8) ((Rect.unit (s := ⟨3, ![8, 256, 256]⟩) ![n.val, 0, 128] ![1, 256, 128] hb).idx x) := by
  obtain ⟨r, d, rfl⟩ := one_ix3 x
  rw [rect_idx3 n 0 128 hb r d (by omega) (by omega), khi_ix, kr_ix x0 x1 x2 x3 x4 x5 x6 x7 x8]
  exact ((dat x0 x1 x2 x3 x4 x5 x6 x7 x8 r).k_hi n d).symm.trans (kV_ix _ _ (Nat.zero_add _).symm rfl)

theorem v_lo (n : Fin 8) (p : ℕ) (hp : p = 256 * n.val) (hw) (hb) (x : Shape.Idx ⟨4, ![1, 1, 128, 256]⟩) :
    k0_pay30 (ckvT x0 x1 x2 x5) (View.ld x6 (Rect.unit (s := S256x2048) ![0, p] ![256, 256] hw)) x
      = vV (dat x0 x1 x2 x3 x4 x5 x6 x7 x8) ((Rect.unit (s := ⟨4, ![8, 1, 144, 256]⟩) ![n.val, 0, 0, 0] ![1, 1, 128, 256] hb).idx x) := by
  obtain ⟨e, r, rfl⟩ := one_ix4 x
  rw [rect_idx4 n 0 0 hb e r (by omega) (by omega), vlo_ix, kvd_blk x0 x1 x2 x3 x4 x5 x6 x7 x8 p hw r ⟨128 + e.val, by omega⟩ (by show p + (128 + e.val) < 2048; omega)]
  subst hp
  refine Eq.trans (kvd_eq _ _ _ _ _ ?_) (((dat x0 x1 x2 x3 x4 x5 x6 x7 x8 r).v_lo n e).symm.trans (vV_ix _ _ (Nat.zero_add _).symm (Nat.zero_add _).symm))
  show 256 * n.val + (128 + e.val) = _; omega

theorem v_hi (n : Fin 8) (hb) (x : Shape.Idx ⟨4, ![1, 1, 16, 256]⟩) :
    k0_pay31 (k0_pay8 (F := Ideal)) x
      = vV (dat x0 x1 x2 x3 x4 x5 x6 x7 x8) ((Rect.unit (s := ⟨4, ![8, 1, 144, 256]⟩) ![n.val, 0, 128, 0] ![1, 1, 16, 256] hb).idx x) := by
  obtain ⟨e, r, rfl⟩ := one_ix4 x
  rw [rect_idx4 n 128 0 hb e r (by omega) (by omega), vhi_ix, pay8_ix]
  exact ((dat x0 x1 x2 x3 x4 x5 x6 x7 x8 r).v_hi n e).symm.trans (vV_ix _ _ rfl (Nat.zero_add _).symm)

theorem bg_piece (p : ℕ) (hp : p + 512 ≤ 1024) (hw) (hb) (x : Shape.Idx ⟨2, ![256, 512]⟩) :
    k0_pay4 (View.ld x0 (Rect.unit (s := S256x2048) ![0, 0] ![256, 2048] inb_S256x2048_S256x2048_0_0)) (View.ld x1 (Rect.unit (s := S1x2048) ![0, 0] ![1, 2048] inb_S1x2048_S1x2048_0_0))
      (View.ld x2 (Rect.unit (s := S2048x4096) ![0, p] ![2048, 512] hw)) x
      = bgV (dat x0 x1 x2 x3 x4 x5 x6 x7 x8) ((Rect.unit (s := ⟨2, ![256, 1024]⟩) ![0, p] ![256, 512] hb).idx x) := by
  obtain ⟨r, j, rfl⟩ : ∃ (r : Fin 256) (j : Fin 512), x = ix2 r j := ⟨x 0, x 1, by funext a; fin_cases a <;> rfl⟩
  rw [rect_cols p hb r j (by omega), pay4_ix]
  exact u_blk x0 x1 x2 x3 x4 x5 x6 x7 x8 p hw r j (by omega)

theorem ch_piece (p a b : ℕ) (hp : p + 512 ≤ 1024) (ha : a = 1024 + p) (hb' : b = 2048 + p) (hw hw') (hb) (x : Shape.Idx ⟨2, ![256, 512]⟩) :
    k0_pay7 (hT x0 x1) (View.ld x2 (Rect.unit (s := S2048x4096) ![0, a] ![2048, 512] hw)) (constant S256x512 .f32 0x00000000#32)
      (View.ld x2 (Rect.unit (s := S2048x4096) ![0, b] ![2048, 512] hw')) x
      = chV (dat x0 x1 x2 x3 x4 x5 x6 x7 x8) ((Rect.unit (s := ⟨2, ![256, 1024]⟩) ![0, p] ![256, 512] hb).idx x) := by
  obtain ⟨r, j, rfl⟩ : ∃ (r : Fin 256) (j : Fin 512), x = ix2 r j := ⟨x 0, x 1, by funext a; fin_cases a <;> rfl⟩
  rw [rect_cols p hb r j (by omega), pay7_ix, u_blk x0 x1 x2 x3 x4 x5 x6 x7 x8 a hw r j (by omega), u_blk x0 x1 x2 x3 x4 x5 x6 x7 x8 b hw' r j (by omega)]
  refine congrArg₂ (· * ·) (u_eq _ _ _ _ _ ?_) (u_eq _ _ _ _ _ ?_)
  · show a + j.val = 1024 + (p + j.val); omega
  · show b + j.val = 2048 + (p + j.val); omega

end

section
variable (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x4096 .bf16) (harg3 : arg3.IsWhole) (arg4 : Memref sig .tc .vmem S1x512 .f32) (harg4 : arg4.IsWhole) (arg5 : Memref sig .tc .vmem S512x3072 .bf16) (harg5 : arg5.IsWhole) (arg6 : Memref sig .tc .vmem S1x256 .f32) (harg6 : arg6.IsWhole) (arg7 : Memref sig .tc .vmem S256x2048 .bf16) (harg7 : arg7.IsWhole) (arg8 : Memref sig .tc .vmem S256x128 .f32) (harg8 : arg8.IsWhole) (arg9 : Memref sig .tc .vmem S256x128 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S8x256x256 .bf16) (harg12 : arg12.IsWhole) (arg13 : Memref sig .tc .vmem S8x256x256 .bf16) (harg13 : arg13.IsWhole) (arg14 : Memref sig .tc .vmem S8x1x144x256 .bf16) (harg14 : arg14.IsWhole)
  (x0 : Vec Ideal S256x2048 .f32) (x1 : Vec Ideal S1x2048 .f32) (x2 : Vec Ideal S2048x4096 .bf16) (x3 : Vec Ideal S1x512 .f32) (x4 : Vec Ideal S512x3072 .bf16) (x5 : Vec Ideal S1x256 .f32) (x6 : Vec Ideal S256x2048 .bf16) (x7 : Vec Ideal S256x128 .f32) (x8 : Vec Ideal S256x128 .f32)

/-- The gate. -/
theorem out9 : out0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 = bgV (dat x0 x1 x2 x3 x4 x5 x6 x7 x8) := by
  funext y
  unfold out0_A_9
  rw [View.read_writes_junk_eq_canon]
  refine View.canon_apply_of_pieces _ _ (View.PiecesOf.mem ?_) y (cover0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread]
  exact ⟨bg_piece x0 x1 x2 x3 x4 x5 x6 x7 x8 512 (by decide) inb_S2048x4096_S2048x512_0_512 inb_S256x1024_S256x512_0_512, bg_piece x0 x1 x2 x3 x4 x5 x6 x7 x8 0 (by decide) inb_S2048x4096_S2048x512_0_0 inb_S256x1024_S256x512_0_0, trivial⟩

/-- The gated array. -/
theorem out10 : out0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 = chV (dat x0 x1 x2 x3 x4 x5 x6 x7 x8) := by
  funext y
  unfold out0_A_10
  rw [View.read_writes_junk_eq_canon]
  refine View.canon_apply_of_pieces _ _ (View.PiecesOf.mem ?_) y (cover0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread]
  exact ⟨ch_piece x0 x1 x2 x3 x4 x5 x6 x7 x8 512 1536 2560 (by decide) rfl rfl inb_S2048x4096_S2048x512_0_1536 inb_S2048x4096_S2048x512_0_2560 inb_S256x1024_S256x512_0_512, ch_piece x0 x1 x2 x3 x4 x5 x6 x7 x8 0 1024 2048 (by decide) rfl rfl inb_S2048x4096_S2048x512_0_1024 inb_S2048x4096_S2048x512_0_2048 inb_S256x1024_S256x512_0_0, trivial⟩

/-- The queries. -/
theorem out11 : out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 = qV (dat x0 x1 x2 x3 x4 x5 x6 x7 x8) := by
  funext y
  unfold out0_A_11
  rw [View.read_writes_junk_eq_canon]
  refine View.canon_apply_of_pieces _ _ (View.PiecesOf.mem ?_) y (cover0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread]
  exact ⟨q_hi x0 x1 x2 x3 x4 x5 x6 x7 x8 7 2688 rfl inb_S512x3072_S512x384_0_2688 inb_S8x256x256_S1x128x256_7_128_0, q_lo x0 x1 x2 x3 x4 x5 x6 x7 x8 7 2688 rfl inb_S512x3072_S512x384_0_2688 inb_S8x256x256_S1x128x256_7_0_0,
    q_hi x0 x1 x2 x3 x4 x5 x6 x7 x8 6 2304 rfl inb_S512x3072_S512x384_0_2304 inb_S8x256x256_S1x128x256_6_128_0, q_lo x0 x1 x2 x3 x4 x5 x6 x7 x8 6 2304 rfl inb_S512x3072_S512x384_0_2304 inb_S8x256x256_S1x128x256_6_0_0,
    q_hi x0 x1 x2 x3 x4 x5 x6 x7 x8 5 1920 rfl inb_S512x3072_S512x384_0_1920 inb_S8x256x256_S1x128x256_5_128_0, q_lo x0 x1 x2 x3 x4 x5 x6 x7 x8 5 1920 rfl inb_S512x3072_S512x384_0_1920 inb_S8x256x256_S1x128x256_5_0_0,
    q_hi x0 x1 x2 x3 x4 x5 x6 x7 x8 4 1536 rfl inb_S512x3072_S512x384_0_1536 inb_S8x256x256_S1x128x256_4_128_0, q_lo x0 x1 x2 x3 x4 x5 x6 x7 x8 4 1536 rfl inb_S512x3072_S512x384_0_1536 inb_S8x256x256_S1x128x256_4_0_0,
    q_hi x0 x1 x2 x3 x4 x5 x6 x7 x8 3 1152 rfl inb_S512x3072_S512x384_0_1152 inb_S8x256x256_S1x128x256_3_128_0, q_lo x0 x1 x2 x3 x4 x5 x6 x7 x8 3 1152 rfl inb_S512x3072_S512x384_0_1152 inb_S8x256x256_S1x128x256_3_0_0,
    q_hi x0 x1 x2 x3 x4 x5 x6 x7 x8 2 768 rfl inb_S512x3072_S512x384_0_768 inb_S8x256x256_S1x128x256_2_128_0, q_lo x0 x1 x2 x3 x4 x5 x6 x7 x8 2 768 rfl inb_S512x3072_S512x384_0_768 inb_S8x256x256_S1x128x256_2_0_0,
    q_hi x0 x1 x2 x3 x4 x5 x6 x7 x8 1 384 rfl inb_S512x3072_S512x384_0_384 inb_S8x256x256_S1x128x256_1_128_0, q_lo x0 x1 x2 x3 x4 x5 x6 x7 x8 1 384 rfl inb_S512x3072_S512x384_0_384 inb_S8x256x256_S1x128x256_1_0_0,
    q_hi x0 x1 x2 x3 x4 x5 x6 x7 x8 0 0 rfl inb_S512x3072_S512x384_0_0 inb_S8x256x256_S1x128x256_0_128_0, q_lo x0 x1 x2 x3 x4 x5 x6 x7 x8 0 0 rfl inb_S512x3072_S512x384_0_0 inb_S8x256x256_S1x128x256_0_0_0, trivial⟩

/-- The keys. -/
theorem out12 : out0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 = kV (dat x0 x1 x2 x3 x4 x5 x6 x7 x8) := by
  funext y
  unfold out0_A_12
  rw [View.read_writes_junk_eq_canon]
  refine View.canon_apply_of_pieces _ _ (View.PiecesOf.mem ?_) y (cover0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread]
  exact ⟨k_hi x0 x1 x2 x3 x4 x5 x6 x7 x8 7 inb_S8x256x256_S1x256x128_7_0_128, k_lo x0 x1 x2 x3 x4 x5 x6 x7 x8 7 1792 rfl inb_S256x2048_S256x256_0_1792 inb_S8x256x256_S1x256x128_7_0_0,
    k_hi x0 x1 x2 x3 x4 x5 x6 x7 x8 6 inb_S8x256x256_S1x256x128_6_0_128, k_lo x0 x1 x2 x3 x4 x5 x6 x7 x8 6 1536 rfl inb_S256x2048_S256x256_0_1536 inb_S8x256x256_S1x256x128_6_0_0,
    k_hi x0 x1 x2 x3 x4 x5 x6 x7 x8 5 inb_S8x256x256_S1x256x128_5_0_128, k_lo x0 x1 x2 x3 x4 x5 x6 x7 x8 5 1280 rfl inb_S256x2048_S256x256_0_1280 inb_S8x256x256_S1x256x128_5_0_0,
    k_hi x0 x1 x2 x3 x4 x5 x6 x7 x8 4 inb_S8x256x256_S1x256x128_4_0_128, k_lo x0 x1 x2 x3 x4 x5 x6 x7 x8 4 1024 rfl inb_S256x2048_S256x256_0_1024 inb_S8x256x256_S1x256x128_4_0_0,
    k_hi x0 x1 x2 x3 x4 x5 x6 x7 x8 3 inb_S8x256x256_S1x256x128_3_0_128, k_lo x0 x1 x2 x3 x4 x5 x6 x7 x8 3 768 rfl inb_S256x2048_S256x256_0_768 inb_S8x256x256_S1x256x128_3_0_0,
    k_hi x0 x1 x2 x3 x4 x5 x6 x7 x8 2 inb_S8x256x256_S1x256x128_2_0_128, k_lo x0 x1 x2 x3 x4 x5 x6 x7 x8 2 512 rfl inb_S256x2048_S256x256_0_512 inb_S8x256x256_S1x256x128_2_0_0,
    k_hi x0 x1 x2 x3 x4 x5 x6 x7 x8 1 inb_S8x256x256_S1x256x128_1_0_128, k_lo x0 x1 x2 x3 x4 x5 x6 x7 x8 1 256 rfl inb_S256x2048_S256x256_0_256 inb_S8x256x256_S1x256x128_1_0_0,
    k_hi x0 x1 x2 x3 x4 x5 x6 x7 x8 0 inb_S8x256x256_S1x256x128_0_0_128, k_lo x0 x1 x2 x3 x4 x5 x6 x7 x8 0 0 rfl inb_S256x2048_S256x256_0_0 inb_S8x256x256_S1x256x128_0_0_0, trivial⟩

/-- The values. -/
theorem out13 : out0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 = vV (dat x0 x1 x2 x3 x4 x5 x6 x7 x8) := by
  funext y
  unfold out0_A_13
  rw [View.read_writes_junk_eq_canon]
  refine View.canon_apply_of_pieces _ _ (View.PiecesOf.mem ?_) y (cover0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread]
  exact ⟨v_hi x0 x1 x2 x3 x4 x5 x6 x7 x8 7 inb_S8x1x144x256_S1x1x16x256_7_0_128_0, v_lo x0 x1 x2 x3 x4 x5 x6 x7 x8 7 1792 rfl inb_S256x2048_S256x256_0_1792 inb_S8x1x144x256_S1x1x128x256_7_0_0_0,
    v_hi x0 x1 x2 x3 x4 x5 x6 x7 x8 6 inb_S8x1x144x256_S1x1x16x256_6_0_128_0, v_lo x0 x1 x2 x3 x4 x5 x6 x7 x8 6 1536 rfl inb_S256x2048_S256x256_0_1536 inb_S8x1x144x256_S1x1x128x256_6_0_0_0,
    v_hi x0 x1 x2 x3 x4 x5 x6 x7 x8 5 inb_S8x1x144x256_S1x1x16x256_5_0_128_0, v_lo x0 x1 x2 x3 x4 x5 x6 x7 x8 5 1280 rfl inb_S256x2048_S256x256_0_1280 inb_S8x1x144x256_S1x1x128x256_5_0_0_0,
    v_hi x0 x1 x2 x3 x4 x5 x6 x7 x8 4 inb_S8x1x144x256_S1x1x16x256_4_0_128_0, v_lo x0 x1 x2 x3 x4 x5 x6 x7 x8 4 1024 rfl inb_S256x2048_S256x256_0_1024 inb_S8x1x144x256_S1x1x128x256_4_0_0_0,
    v_hi x0 x1 x2 x3 x4 x5 x6 x7 x8 3 inb_S8x1x144x256_S1x1x16x256_3_0_128_0, v_lo x0 x1 x2 x3 x4 x5 x6 x7 x8 3 768 rfl inb_S256x2048_S256x256_0_768 inb_S8x1x144x256_S1x1x128x256_3_0_0_0,
    v_hi x0 x1 x2 x3 x4 x5 x6 x7 x8 2 inb_S8x1x144x256_S1x1x16x256_2_0_128_0, v_lo x0 x1 x2 x3 x4 x5 x6 x7 x8 2 512 rfl inb_S256x2048_S256x256_0_512 inb_S8x1x144x256_S1x1x128x256_2_0_0_0,
    v_hi x0 x1 x2 x3 x4 x5 x6 x7 x8 1 inb_S8x1x144x256_S1x1x16x256_1_0_128_0, v_lo x0 x1 x2 x3 x4 x5 x6 x7 x8 1 256 rfl inb_S256x2048_S256x256_0_256 inb_S8x1x144x256_S1x1x128x256_1_0_0_0,
    v_hi x0 x1 x2 x3 x4 x5 x6 x7 x8 0 inb_S8x1x144x256_S1x1x16x256_0_0_128_0, v_lo x0 x1 x2 x3 x4 x5 x6 x7 x8 0 0 rfl inb_S256x2048_S256x256_0_0 inb_S8x1x144x256_S1x1x128x256_0_0_0_0, trivial⟩

end

end Cert.Kernel5Ideal.InProj
end
-- ==== Proof.InOddValue.lean ====
/-
  The odd layers' input projection, for whole arrays: each result after the run.
-/
module

public import proofs.«01_k».proof.Proof.InOdd

@[expose] public section

set_option maxRecDepth 16384

noncomputable section

namespace Cert.Kernel5Ideal.InProj

open Cert.Kernel5Ideal Cert.Kernel5Ideal.Gen Cert.Kernel5Ideal.Value Cert.InProj
open Idealize.ShloMosaic Idealize.ShloMosaic.TcCoe
open Idealize.ShloMosaic.Pipeline (Dat Cfg Window)

/-! ## The blocks of a grid point -/

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = t.val ∧ win0_7.index t 1 = 0 := by decide +kernel
theorem idx8 : ∀ t : Fin grid0.N, win0_8.index t 0 = t.val ∧ win0_8.index t 1 = 0 := by decide +kernel
theorem idx9 : ∀ t : Fin grid0.N, win0_9.index t 0 = t.val ∧ win0_9.index t 1 = 0 := by decide +kernel
theorem idx10 : ∀ t : Fin grid0.N, win0_10.index t 0 = t.val ∧ win0_10.index t 1 = 0 := by decide +kernel
theorem idx11 : ∀ t : Fin grid0.N, win0_11.index t 0 = 0 ∧ win0_11.index t 1 = 0 ∧ win0_11.index t 2 = t.val := by decide +kernel
theorem idx12 : ∀ t : Fin grid0.N, win0_12.index t 0 = 0 ∧ win0_12.index t 1 = t.val ∧ win0_12.index t 2 = 0 := by decide +kernel
theorem idx13 : ∀ t : Fin grid0.N, win0_13.index t 0 = 0 ∧ win0_13.index t 1 = t.val / 2 ∧ win0_13.index t 2 = 0 ∧ win0_13.index t 3 = t.val % 2 := by decide +kernel
theorem t_lt (t : Fin cfg0.N) : t.val < 64 := lt_of_lt_of_eq t.isLt N_0

variable (m : (ℓ : Loc nD τ sig) → Buf (Elt Ideal) ℓ) (c : Dev nD)

theorem iblk0_ix (t : Fin cfg0.N) (r : Fin 256) (k : Fin 2048) : iblk m c 0 t (ix2 r k)
    = m ((c : Thread nD τ).loc main_arg0) (ix2 ⟨256 * t.val + r.val, by have := t_lt t; omega⟩ k) := by
  blk_ext [iblk, V, idx0 t]
theorem iblk1_ix (t : Fin cfg0.N) (k : Fin 2048) : iblk m c 1 t (ix2 (0 : Fin 1) k) = m ((c : Thread nD τ).loc main_arg1) (ix2 (0 : Fin 1) k) := by
  blk_ext [iblk, V, idx1 t]
theorem iblk2_ix (t : Fin cfg0.N) (k : Fin 2048) (j : Fin 4096) : iblk m c 2 t (ix2 k j) = m ((c : Thread nD τ).loc main_arg2) (ix2 k j) := by
  blk_ext [iblk, V, idx2 t]
theorem iblk3_ix (t : Fin cfg0.N) (k : Fin 512) : iblk m c 3 t (ix2 (0 : Fin 1) k) = m ((c : Thread nD τ).loc main_arg3) (ix2 (0 : Fin 1) k) := by
  blk_ext [iblk, V, idx3 t]
theorem iblk4_ix (t : Fin cfg0.N) (k : Fin 512) (j : Fin 3072) : iblk m c 4 t (ix2 k j) = m ((c : Thread nD τ).loc main_arg4) (ix2 k j) := by
  blk_ext [iblk, V, idx4 t]
theorem iblk5_ix (t : Fin cfg0.N) (k : Fin 256) : iblk m c 5 t (ix2 (0 : Fin 1) k) = m ((c : Thread nD τ).loc main_arg5) (ix2 (0 : Fin 1) k) := by
  blk_ext [iblk, V, idx5 t]
theorem iblk6_ix (t : Fin cfg0.N) (k : Fin 256) (j : Fin 2048) : iblk m c 6 t (ix2 k j) = m ((c : Thread nD τ).loc main_arg6) (ix2 k j) := by
  blk_ext [iblk, V, idx6 t]
theorem iblk7_ix (t : Fin cfg0.N) (r : Fin 256) (k : Fin 128) : iblk m c 7 t (ix2 r k)
    = m ((c : Thread nD τ).loc main_arg7) (ix2 ⟨256 * t.val + r.val, by have := t_lt t; omega⟩ k) := by
  blk_ext [iblk, V, idx7 t]
theorem iblk8_ix (t : Fin cfg0.N) (r : Fin 256) (k : Fin 128) : iblk m c 8 t (ix2 r k)
    = m ((c : Thread nD τ).loc main_arg8) (ix2 ⟨256 * t.val + r.val, by have := t_lt t; omega⟩ k) := by
  blk_ext [iblk, V, idx8 t]

/-- Row `s` of the argument arrays. -/
def datA (s : Fin 16384) : Data :=
  dataOf (m ((c : Thread nD τ).loc main_arg0) : Vec Ideal S16384x2048 .f32) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (m ((c : Thread nD τ).loc main_arg8)) s

/-- A row of a point's blocks is the row of the arrays. -/
theorem dat_blk (t : Fin cfg0.N) (r : Fin 256) :
    dat (iblk m c 0 t) (iblk m c 1 t) (iblk m c 2 t) (iblk m c 3 t) (iblk m c 4 t) (iblk m c 5 t) (iblk m c 6 t) (iblk m c 7 t) (iblk m c 8 t) r
      = datA m c ⟨256 * t.val + r.val, by have := t_lt t; omega⟩ := by
  unfold dat datA dataOf
  congr 1
  · exact funext (iblk0_ix m c t r)
  · exact funext (iblk1_ix m c t)
  · exact funext fun k => funext (iblk2_ix m c t k)
  · exact funext (iblk3_ix m c t)
  · exact funext fun k => funext (iblk4_ix m c t k)
  · exact funext (iblk5_ix m c t)
  · exact funext fun k => funext (iblk6_ix m c t k)
  · exact funext (iblk7_ix m c t r)
  · exact funext (iblk8_ix m c t r)

/-- The attention's values, 512 columns a block. -/
def v4 (D : Fin 16384 → Data) : Vec Ideal S8x32x144x512 .bf16 :=
  fun y => (D ⟨512 * (y 1).val + (y 3).val, by have h1 : (y 1).val < 32 := (y 1).isLt; have h3 : (y 3).val < 512 := (y 3).isLt; omega⟩).v (y 0) (y 2)

/-! ## The five results -/

theorem final9 : (dats m 0 c).arrAt 9 cfg0.N = bgV (datA m c) := by
  refine (dats m 0 c).arrAt_eq_of_covers 9 _ (by decide +kernel) fun t _ y => ?_
  blk_simp
  obtain ⟨r, j, rfl⟩ : ∃ (r : Fin 256) (j : Fin 1024), y = ix2 r j := ⟨y 0, y 1, by funext a; fin_cases a <;> rfl⟩
  have e : (win0_9.blk t).view.emb (ix2 r j) = ix2 ⟨256 * t.val + r.val, by have := t_lt t; omega⟩ j := by
    blk_ext [idx9 t]
  rw [e, after0_9]
  unfold outsAt0
  rw [out9]
  exact congrArg (fun D => Data.bg D j) (dat_blk m c t r)

theorem final10 : (dats m 0 c).arrAt 10 cfg0.N = chV (datA m c) := by
  refine (dats m 0 c).arrAt_eq_of_covers 10 _ (by decide +kernel) fun t _ y => ?_
  blk_simp
  obtain ⟨r, j, rfl⟩ : ∃ (r : Fin 256) (j : Fin 1024), y = ix2 r j := ⟨y 0, y 1, by funext a; fin_cases a <;> rfl⟩
  have e : (win0_10.blk t).view.emb (ix2 r j) = ix2 ⟨256 * t.val + r.val, by have := t_lt t; omega⟩ j := by
    blk_ext [idx10 t]
  rw [e, after0_10]
  unfold outsAt0
  rw [out10]
  exact congrArg (fun D => Data.ch D j) (dat_blk m c t r)

theorem final11 : (dats m 0 c).arrAt 11 cfg0.N = qV (datA m c) := by
  refine (dats m 0 c).arrAt_eq_of_covers 11 _ (by decide +kernel) fun t _ y => ?_
  blk_simp
  obtain ⟨n, d, r, rfl⟩ : ∃ (n : Fin 8) (d r : Fin 256), y = ix3 n d r := ⟨y 0, y 1, y 2, by funext a; fin_cases a <;> rfl⟩
  have e : (win0_11.blk t).view.emb (ix3 n d r) = ix3 n d ⟨256 * t.val + r.val, by have := t_lt t; omega⟩ := by
    blk_ext [idx11 t]
  rw [e, after0_11]
  unfold outsAt0
  rw [out11]
  exact congrArg (fun D => Data.q D n d) (dat_blk m c t r)

theorem final12 : (dats m 0 c).arrAt 12 cfg0.N = kV (datA m c) := by
  refine (dats m 0 c).arrAt_eq_of_covers 12 _ (by decide +kernel) fun t _ y => ?_
  blk_simp
  obtain ⟨n, r, d, rfl⟩ : ∃ (n : Fin 8) (r d : Fin 256), y = ix3 n r d := ⟨y 0, y 1, y 2, by funext a; fin_cases a <;> rfl⟩
  have e : (win0_12.blk t).view.emb (ix3 n r d) = ix3 n ⟨256 * t.val + r.val, by have := t_lt t; omega⟩ d := by
    blk_ext [idx12 t]
  rw [e, after0_12]
  unfold outsAt0
  rw [out12]
  exact congrArg (fun D => Data.k D n d) (dat_blk m c t r)

theorem final13 : (dats m 0 c).arrAt 13 cfg0.N = v4 (datA m c) := by
  refine (dats m 0 c).arrAt_eq_of_covers 13 _ (by decide +kernel) fun t _ y => ?_
  blk_simp
  obtain ⟨n, e, r, rfl⟩ : ∃ (n : Fin 8) (e : Fin 144) (r : Fin 256), y = ix4 n (0 : Fin 1) e r :=
    ⟨y 0, y 2, y 3, by funext a; fin_cases a; exacts [rfl, Subsingleton.elim (α := Fin 1) _ _, rfl, rfl]⟩
  have e' : (win0_13.blk t).view.emb (ix4 n (0 : Fin 1) e r)
      = ix4 n ⟨t.val / 2, by have := t_lt t; omega⟩ e ⟨256 * (t.val % 2) + r.val, by omega⟩ := by
    blk_ext [idx13 t]
  rw [e', after0_13]
  unfold outsAt0
  rw [out13]
  refine (congrArg (fun D => Data.v D n e) (dat_blk m c t r)).trans ?_
  refine congrArg (fun s => Data.v (datA m c s) n e) (Fin.ext ?_)
  show 256 * t.val + r.val = 512 * (t.val / 2) + (256 * (t.val % 2) + r.val)
  omega

end Cert.Kernel5Ideal.InProj
end
-- ==== Proof.RefInOdd.lean ====
/-
  The reference of the odd layers' input projection at an index.
-/
module

public import proofs.«01_k».proof.Proof.InOddRow
public import proofs.«01_k».proof.Proof.Gen.Reference5Ideal.Run

@[expose] public section

set_option maxRecDepth 16384

noncomputable section

namespace Cert.Reference5Ideal.InProj

open Cert.Reference5Ideal Cert.Reference5Ideal.Gen Cert.Reference5Ideal.Value
open Cert.InProj
open Idealize.ShloMosaic Idealize.ShloMosaic.TcCoe

section Steps
variable {F : FTy → Type} [FloatOps F]

/-- The three normalizations. -/
def rN (v : FVec F S16384x2048 .f32) (g : FVec F S1x2048 .f32) : FVec F S16384x2048 .f32 :=
  mulf (mulf v (broadcastInDim S16384x2048 ![0, 1] bcast_S16384x1_S16384x2048_0_1 (Host.rsqrt (addf (Host.divf
    (broadcastInDim S16384x1 ![0] bcast_S16384_S16384x1_0 (Host.reduceAdd (mulf v v) (constant S_ .f32 0x00000000#32) reducesTo_S16384x2048_S16384_d1 h_S_))
    (broadcastInDim S16384x1 ![] bcast_S_S16384x1 (constant S_ .f32 0x45000000#32))) (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 (shapeCast _ g shapeCasts_S1x2048_S2048)))
def rNq (v : FVec F S16384x512 .f32) (g : FVec F S1x512 .f32) : FVec F S16384x512 .f32 :=
  mulf (mulf v (broadcastInDim S16384x512 ![0, 1] bcast_S16384x1_S16384x512_0_1 (Host.rsqrt (addf (Host.divf
    (broadcastInDim S16384x1 ![0] bcast_S16384_S16384x1_0 (Host.reduceAdd (mulf v v) (constant S_ .f32 0x00000000#32) reducesTo_S16384x512_S16384_d1 h_S_))
    (broadcastInDim S16384x1 ![] bcast_S_S16384x1 (constant S_ .f32 0x44000000#32))) (broadcastInDim S16384x1 ![] bcast_S_S16384x1 (constant S_ .f32 0x358637BD#32))))))
    (broadcastInDim S16384x512 ![0, 1] bcast_S1x512_S16384x512_0_1 (broadcastInDim S1x512 ![1] bcast_S512_S1x512_1 (shapeCast _ g shapeCasts_S1x512_S512)))
def rNk (v : FVec F S16384x256 .f32) (g : FVec F S1x256 .f32) : FVec F S16384x256 .f32 :=
  mulf (mulf v (broadcastInDim S16384x256 ![0, 1] bcast_S16384x1_S16384x256_0_1 (Host.rsqrt (addf (Host.divf
    (broadcastInDim S16384x1 ![0] bcast_S16384_S16384x1_0 (Host.reduceAdd (mulf v v) (constant S_ .f32 0x00000000#32) reducesTo_S16384x256_S16384_d1 h_S_))
    (broadcastInDim S16384x1 ![] bcast_S_S16384x1 (constant S_ .f32 0x43800000#32))) (broadcastInDim S16384x1 ![] bcast_S_S16384x1 (constant S_ .f32 0x358637BD#32))))))
    (broadcastInDim S16384x256 ![0, 1] bcast_S1x256_S16384x256_0_1 (broadcastInDim S1x256 ![1] bcast_S256_S1x256_1 (shapeCast _ g shapeCasts_S1x256_S256)))
/-- The three products, and the columns of the low-rank part. -/
def rU (h : FVec F S16384x2048 .f32) (w : FVec F S2048x4096 .bf16) : FVec F S16384x4096 .f32 :=
  Host.dotGeneral dot_S16384x2048_S2048x4096_S16384x4096_1_0_0_1_n_n none h (extf .f32 w bitsLt_bf16_f32)
def rL (u : FVec F S16384x4096 .f32) : FVec F S16384x1024 .f32 := extractStridedSlice S16384x1024 ![0, 3072] u slices_S16384x4096_S16384x1024_0_3072
def rLq (l : FVec F S16384x1024 .f32) : FVec F S16384x512 .f32 := extractStridedSlice S16384x512 ![0, 0] l slices_S16384x1024_S16384x512_0_0
def rLk (l : FVec F S16384x1024 .f32) : FVec F S16384x256 .f32 := extractStridedSlice S16384x256 ![0, 512] l slices_S16384x1024_S16384x256_0_512
def rLr (l : FVec F S16384x1024 .f32) : FVec F S16384x256 .f32 := extractStridedSlice S16384x256 ![0, 768] l slices_S16384x1024_S16384x256_0_768
def rQD (h : FVec F S16384x512 .f32) (w : FVec F S512x3072 .bf16) : FVec F S16384x3072 .f32 :=
  Host.dotGeneral dot_S16384x512_S512x3072_S16384x3072_1_0_0_1_n_n none h (extf .f32 w bitsLt_bf16_f32)
def rKD (h : FVec F S16384x256 .f32) (w : FVec F S256x2048 .bf16) : FVec F S16384x2048 .f32 :=
  Host.dotGeneral dot_S16384x256_S256x2048_S16384x2048_1_0_0_1_n_n none h (extf .f32 w bitsLt_bf16_f32)
/-- The products by head. -/
def rQ3 (q : FVec F S16384x3072 .f32) : FVec F S16384x8x384 .f32 := shapeCast _ q shapeCasts_S16384x3072_S16384x8x384
def rK3 (k : FVec F S16384x2048 .f32) : FVec F S16384x8x256 .f32 := shapeCast _ k shapeCasts_S16384x2048_S16384x8x256
/-- A table, for every head. -/
def rT (a : FVec F S16384x128 .f32) : FVec F S16384x8x128 .f32 :=
  broadcastInDim S16384x8x128 ![0, 1, 2] bcast_S16384x1x128_S16384x8x128_0_1_2 (broadcastInDim S16384x1x128 ![0, 2] bcast_S16384x128_S16384x1x128_0_2 a)
/-- The two parts of the queries, and of the keys. -/
def rQlo (q : FVec F S16384x8x384 .f32) : FVec F S16384x8x128 .f32 := extractStridedSlice S16384x8x128 ![0, 0, 0] q slices_S16384x8x384_S16384x8x128_0_0_0
def rQhi (q : FVec F S16384x8x384 .f32) (a b : FVec F S16384x128 .f32) : FVec F S16384x8x128 .f32 :=
  addf (mulf (extractStridedSlice S16384x8x128 ![0, 0, 128] q slices_S16384x8x384_S16384x8x128_0_0_128) (rT a))
    (mulf (extractStridedSlice S16384x8x128 ![0, 0, 256] q slices_S16384x8x384_S16384x8x128_0_0_256) (rT b))
def rKlo (k : FVec F S16384x8x256 .f32) : FVec F S16384x8x128 .f32 := extractStridedSlice S16384x8x128 ![0, 0, 0] k slices_S16384x8x256_S16384x8x128_0_0_0
def rKhi (l : FVec F S16384x256 .f32) (a b : FVec F S16384x128 .f32) : FVec F S16384x128 .f32 :=
  addf (mulf (extractStridedSlice S16384x128 ![0, 0] l slices_S16384x256_S16384x128_0_0) a) (mulf (extractStridedSlice S16384x128 ![0, 128] l slices_S16384x256_S16384x128_0_128) b)
def rVlo (k : FVec F S16384x8x256 .f32) : FVec F S8x128x16384 .f32 :=
  transpose S8x128x16384 [1, 2, 0] (extractStridedSlice S16384x8x128 ![0, 0, 128] k slices_S16384x8x256_S16384x8x128_0_0_128) transposes_S16384x8x128_S8x128x16384_1_2_0
/-- Two parts side by side. -/
def rC (a b : FVec F S16384x8x128 .f32) : FVec F S16384x8x256 .f32 :=
  concatenate S16384x8x256 2 [⟨S16384x8x128, a⟩, ⟨S16384x8x128, b⟩] concatenates_S16384x8x128_S16384x8x128_S16384x8x256_d2
/-- The values with ones and zeros below. -/
def rV (v : FVec F S8x128x16384 .f32) : FVec F S8x144x16384 .f32 :=
  concatenate S8x144x16384 1 [⟨S8x128x16384, v⟩, ⟨S8x1x16384, (broadcastInDim S8x1x16384 ![] bcast_S_S8x1x16384 (constant S_ .f32 0x3F800000#32) : FVec F S8x1x16384 .f32)⟩,
    ⟨S8x15x16384, (broadcastInDim S8x15x16384 ![] bcast_S_S8x15x16384 (constant S_ .f32 0x00000000#32) : FVec F S8x15x16384 .f32)⟩] concatenates_S8x128x16384_S8x1x16384_S8x15x16384_S8x144x16384_d1
/-- The five results. -/
def rBg (u : FVec F S16384x4096 .f32) : FVec F S16384x1024 .f32 := extractStridedSlice S16384x1024 ![0, 0] u slices_S16384x4096_S16384x1024_0_0
def rCh (u : FVec F S16384x4096 .f32) : FVec F S16384x1024 .f32 :=
  mulf (extractStridedSlice S16384x1024 ![0, 1024] u slices_S16384x4096_S16384x1024_0_1024) (extractStridedSlice S16384x1024 ![0, 2048] u slices_S16384x4096_S16384x1024_0_2048)
def rQo (q : FVec F S16384x8x256 .f32) : FVec F S8x256x16384 .bf16 :=
  truncf .bf16 (transpose S8x256x16384 [1, 2, 0] (mulf q (broadcastInDim S16384x8x256 ![] bcast_S_S16384x8x256 (constant S_ .f32 0x3DD53B95#32))) transposes_S16384x8x256_S8x256x16384_1_2_0) bitsLt_bf16_f32
def rKo (k : FVec F S16384x8x256 .f32) : FVec F S8x16384x256 .bf16 := truncf .bf16 (transpose S8x16384x256 [1, 0, 2] k transposes_S16384x8x256_S8x16384x256_1_0_2) bitsLt_bf16_f32
def rV4 (v : FVec F S8x144x16384 .f32) : FVec F S8x144x32x512 .f32 := shapeCast _ v shapeCasts_S8x144x16384_S8x144x32x512
def rVo (v : FVec F S8x144x32x512 .f32) : FVec F S8x32x144x512 .bf16 :=
  truncf .bf16 (transpose S8x32x144x512 [0, 2, 1, 3] v transposes_S8x144x32x512_S8x32x144x512_0_2_1_3) bitsLt_bf16_f32

end Steps

theorem rN_ix (v : FVec Ideal S16384x2048 .f32) (g : FVec Ideal S1x2048 .f32) (s : Fin 16384) (q : Fin 2048) :
    rN v g (ix2 s q) = rms c2048 (fun k => v (ix2 s k)) (fun k => g (ix2 0 k)) q := by
  unfold rms
  pointwise [rN]
theorem rNq_ix (v : FVec Ideal S16384x512 .f32) (g : FVec Ideal S1x512 .f32) (s : Fin 16384) (q : Fin 512) :
    rNq v g (ix2 s q) = rms 0x44000000#32 (fun k => v (ix2 s k)) (fun k => g (ix2 0 k)) q := by
  unfold rms
  pointwise [rNq]
theorem rNk_ix (v : FVec Ideal S16384x256 .f32) (g : FVec Ideal S1x256 .f32) (s : Fin 16384) (q : Fin 256) :
    rNk v g (ix2 s q) = rms 0x43800000#32 (fun k => v (ix2 s k)) (fun k => g (ix2 0 k)) q := by
  unfold rms
  pointwise [rNk]
theorem rU_ix (h : FVec Ideal S16384x2048 .f32) (w : FVec Ideal S2048x4096 .bf16) (s : Fin 16384) (e : Fin 4096) :
    rU h w (ix2 s e) = ∑ k : Fin 2048, h (ix2 s k) * w (ix2 k e) := by pointwise [rU]
theorem rL_ix (u : FVec Ideal S16384x4096 .f32) (s : Fin 16384) (j : Fin 1024) : rL u (ix2 s j) = u (ix2 s ⟨3072 + j.val, by omega⟩) := by pointwise [rL]
theorem rLq_ix (l : FVec Ideal S16384x1024 .f32) (s : Fin 16384) (j : Fin 512) : rLq l (ix2 s j) = l (ix2 s ⟨j.val, by omega⟩) := by pointwise [rLq]
theorem rLk_ix (l : FVec Ideal S16384x1024 .f32) (s : Fin 16384) (j : Fin 256) : rLk l (ix2 s j) = l (ix2 s ⟨512 + j.val, by omega⟩) := by pointwise [rLk]
theorem rLr_ix (l : FVec Ideal S16384x1024 .f32) (s : Fin 16384) (j : Fin 256) : rLr l (ix2 s j) = l (ix2 s ⟨768 + j.val, by omega⟩) := by pointwise [rLr]
theorem rQD_ix (h : FVec Ideal S16384x512 .f32) (w : FVec Ideal S512x3072 .bf16) (s : Fin 16384) (e : Fin 3072) :
    rQD h w (ix2 s e) = ∑ k : Fin 512, h (ix2 s k) * w (ix2 k e) := by pointwise [rQD]
theorem rKD_ix (h : FVec Ideal S16384x256 .f32) (w : FVec Ideal S256x2048 .bf16) (s : Fin 16384) (e : Fin 2048) :
    rKD h w (ix2 s e) = ∑ k : Fin 256, h (ix2 s k) * w (ix2 k e) := by pointwise [rKD]
theorem rQ3_ix (q : FVec Ideal S16384x3072 .f32) (s : Fin 16384) (n : Fin 8) (d : Fin 384) : rQ3 q (ix3 s n d) = q (ix2 s ⟨384 * n.val + d.val, by omega⟩) := by
  have h : rQ3 q (ix3 s n d) = q (ix2 s ⟨n.val * 384 + d.val, by omega⟩) := by pointwise [rQ3]
  exact h.trans (congrArg (fun e => q (ix2 s e)) (Fin.ext (by show n.val * 384 + d.val = 384 * n.val + d.val; omega)))
theorem rK3_ix (k : FVec Ideal S16384x2048 .f32) (s : Fin 16384) (n : Fin 8) (d : Fin 256) : rK3 k (ix3 s n d) = k (ix2 s ⟨256 * n.val + d.val, by omega⟩) := by
  have h : rK3 k (ix3 s n d) = k (ix2 s ⟨n.val * 256 + d.val, by omega⟩) := by pointwise [rK3]
  exact h.trans (congrArg (fun e => k (ix2 s e)) (Fin.ext (by show n.val * 256 + d.val = 256 * n.val + d.val; omega)))
theorem rT_ix (a : FVec Ideal S16384x128 .f32) (s : Fin 16384) (n : Fin 8) (d : Fin 128) : rT a (ix3 s n d) = a (ix2 s d) := by pointwise [rT]
theorem rQlo_ix (q : FVec Ideal S16384x8x384 .f32) (s : Fin 16384) (n : Fin 8) (d : Fin 128) : rQlo q (ix3 s n d) = q (ix3 s n ⟨d.val, by omega⟩) := by pointwise [rQlo]
theorem rQhi_ix (q : FVec Ideal S16384x8x384 .f32) (a b : FVec Ideal S16384x128 .f32) (s : Fin 16384) (n : Fin 8) (d : Fin 128) :
    rQhi q a b (ix3 s n d) = q (ix3 s n ⟨128 + d.val, by omega⟩) * a (ix2 s d) + q (ix3 s n ⟨256 + d.val, by omega⟩) * b (ix2 s d) := by pointwise [rQhi, rT]
theorem rKlo_ix (k : FVec Ideal S16384x8x256 .f32) (s : Fin 16384) (n : Fin 8) (d : Fin 128) : rKlo k (ix3 s n d) = k (ix3 s n ⟨d.val, by omega⟩) := by pointwise [rKlo]
theorem rKhi_ix (l : FVec Ideal S16384x256 .f32) (a b : FVec Ideal S16384x128 .f32) (s : Fin 16384) (d : Fin 128) :
    rKhi l a b (ix2 s d) = l (ix2 s ⟨d.val, by omega⟩) * a (ix2 s d) + l (ix2 s ⟨128 + d.val, by omega⟩) * b (ix2 s d) := by pointwise [rKhi]
theorem rVlo_ix (k : FVec Ideal S16384x8x256 .f32) (s : Fin 16384) (n : Fin 8) (e : Fin 128) : rVlo k (ix3 n e s) = k (ix3 s n ⟨128 + e.val, by omega⟩) := by pointwise [rVlo]
theorem rC_ix (a b : FVec Ideal S16384x8x128 .f32) (s : Fin 16384) (n : Fin 8) (d : Fin 256) :
    rC a b (ix3 s n d) = if h : d.val < 128 then a (ix3 s n ⟨d.val, h⟩) else b (ix3 s n ⟨d.val - 128, by omega⟩) := by pointwise [rC]
theorem rV_ix (v : FVec Ideal S8x128x16384 .f32) (s : Fin 16384) (n : Fin 8) (e : Fin 144) :
    rV v (ix3 n e s) = if h : e.val < 128 then v (ix3 n ⟨e.val, h⟩ s) else if e.val = 128 then (1 : EReal) else 0 := by
  have h : rV v (ix3 n e s) = if h : e.val < 128 then v (ix3 n ⟨e.val, h⟩ s) else if h : e.val - 128 < 1 then (1 : EReal) else 0 := by pointwise [rV]
  rw [h]
  split_ifs <;> first | rfl | (exfalso; omega)
theorem rBg_ix (u : FVec Ideal S16384x4096 .f32) (s : Fin 16384) (j : Fin 1024) : rBg u (ix2 s j) = u (ix2 s ⟨j.val, by omega⟩) := by pointwise [rBg]
theorem rCh_ix (u : FVec Ideal S16384x4096 .f32) (s : Fin 16384) (j : Fin 1024) :
    rCh u (ix2 s j) = u (ix2 s ⟨1024 + j.val, by omega⟩) * u (ix2 s ⟨2048 + j.val, by omega⟩) := by pointwise [rCh]
theorem rQo_ix (q : FVec Ideal S16384x8x256 .f32) (s : Fin 16384) (n : Fin 8) (d : Fin 256) : rQo q (ix3 n d s) = q (ix3 s n d) * qs := by pointwise [rQo]
theorem rKo_ix (k : FVec Ideal S16384x8x256 .f32) (s : Fin 16384) (n : Fin 8) (d : Fin 256) : rKo k (ix3 n s d) = k (ix3 s n d) := by pointwise [rKo]
theorem rV4_ix (v : FVec Ideal S8x144x16384 .f32) (n : Fin 8) (e : Fin 144) (a : Fin 32) (b : Fin 512) :
    rV4 v (ix4 n e a b) = v (ix3 n e ⟨512 * a.val + b.val, by omega⟩) := by
  have h : rV4 v (ix4 n e a b) = v (ix3 n e ⟨a.val * 512 + b.val, by omega⟩) := by pointwise [rV4]
  exact h.trans (congrArg (fun s => v (ix3 n e s)) (Fin.ext (by show a.val * 512 + b.val = 512 * a.val + b.val; omega)))
theorem rVo_ix (v : FVec Ideal S8x144x32x512 .f32) (n : Fin 8) (e : Fin 144) (a : Fin 32) (b : Fin 512) : rVo v (ix4 n a e b) = v (ix4 n e a b) := by pointwise [rVo]

/-! ## The steps together -/

section
variable (A0 : FVec Ideal S16384x2048 .f32) (A1 : FVec Ideal S1x2048 .f32) (A2 : FVec Ideal S2048x4096 .bf16) (A3 : FVec Ideal S1x512 .f32) (A4 : FVec Ideal S512x3072 .bf16)
  (A5 : FVec Ideal S1x256 .f32) (A6 : FVec Ideal S256x2048 .bf16) (A7 A8 : FVec Ideal S16384x128 .f32)

/-- Row `s` of the arrays. -/
abbrev dat (s : Fin 16384) : Data := dataOf A0 A1 A2 A3 A4 A5 A6 A7 A8 s

/-- The products of the input projection and of the two low-rank parts. -/
abbrev tU : FVec Ideal S16384x4096 .f32 := rU (rN A0 A1) A2
abbrev tQ : FVec Ideal S16384x3072 .f32 := rQD (rNq (rLq (rL (tU A0 A1 A2))) A3) A4
abbrev tK : FVec Ideal S16384x2048 .f32 := rKD (rNk (rLk (rL (tU A0 A1 A2))) A5) A6

theorem u_eq (D : Data) (a b : ℕ) (ha hb) (h : a = b) : D.u ⟨a, ha⟩ = D.u ⟨b, hb⟩ := by subst h; rfl
theorem qd_eq (D : Data) (a b : ℕ) (ha hb) (h : a = b) : D.qd ⟨a, ha⟩ = D.qd ⟨b, hb⟩ := by subst h; rfl
theorem kvd_eq (D : Data) (a b : ℕ) (ha hb) (h : a = b) : D.kvd ⟨a, ha⟩ = D.kvd ⟨b, hb⟩ := by subst h; rfl

theorem tU_ix (s : Fin 16384) (e : Fin 4096) : tU A0 A1 A2 (ix2 s e) = (dat A0 A1 A2 A3 A4 A5 A6 A7 A8 s).u e :=
  (rU_ix _ _ s e).trans (Finset.sum_congr rfl fun k _ => congrArg (· * A2 (ix2 k e)) (rN_ix A0 A1 s k))
theorem tL_ix (s : Fin 16384) (j : Fin 1024) : rL (tU A0 A1 A2) (ix2 s j) = (dat A0 A1 A2 A3 A4 A5 A6 A7 A8 s).u ⟨3072 + j.val, by omega⟩ :=
  (rL_ix _ s j).trans (tU_ix A0 A1 A2 A3 A4 A5 A6 A7 A8 s _)
theorem tcq_ix (s : Fin 16384) (k : Fin 512) : rNq (rLq (rL (tU A0 A1 A2))) A3 (ix2 s k) = (dat A0 A1 A2 A3 A4 A5 A6 A7 A8 s).cq k := by
  rw [rNq_ix]
  exact congrArg (fun v => rms 0x44000000#32 v _ k) (funext fun e => (rLq_ix _ s e).trans (tL_ix A0 A1 A2 A3 A4 A5 A6 A7 A8 s _))
theorem tckv_ix (s : Fin 16384) (k : Fin 256) : rNk (rLk (rL (tU A0 A1 A2))) A5 (ix2 s k) = (dat A0 A1 A2 A3 A4 A5 A6 A7 A8 s).ckv k := by
  rw [rNk_ix]
  refine congrArg (fun v => rms 0x43800000#32 v _ k) (funext fun e => (rLk_ix _ s e).trans ((tL_ix A0 A1 A2 A3 A4 A5 A6 A7 A8 s _).trans (u_eq _ _ _ _ _ ?_)))
  show 3072 + (512 + e.val) = 3584 + e.val; omega
theorem tQ_ix (s : Fin 16384) (e : Fin 3072) : tQ A0 A1 A2 A3 A4 (ix2 s e) = (dat A0 A1 A2 A3 A4 A5 A6 A7 A8 s).qd e :=
  (rQD_ix _ _ s e).trans (Finset.sum_congr rfl fun k _ => congrArg (· * A4 (ix2 k e)) (tcq_ix A0 A1 A2 A3 A4 A5 A6 A7 A8 s k))
theorem tK_ix (s : Fin 16384) (e : Fin 2048) : tK A0 A1 A2 A5 A6 (ix2 s e) = (dat A0 A1 A2 A3 A4 A5 A6 A7 A8 s).kvd e :=
  (rKD_ix _ _ s e).trans (Finset.sum_congr rfl fun k _ => congrArg (· * A6 (ix2 k e)) (tckv_ix A0 A1 A2 A3 A4 A5 A6 A7 A8 s k))
theorem tkr_ix (s : Fin 16384) (j : Fin 128) : rKhi (rLr (rL (tU A0 A1 A2))) A7 A8 (ix2 s j) = (dat A0 A1 A2 A3 A4 A5 A6 A7 A8 s).kr j := by
  rw [rKhi_ix, rLr_ix, rLr_ix, tL_ix A0 A1 A2 A3 A4 A5 A6 A7 A8, tL_ix A0 A1 A2 A3 A4 A5 A6 A7 A8]
  refine congrArg₂ (· + ·) (congrArg₂ (· * ·) (u_eq _ _ _ _ _ ?_) rfl) (congrArg₂ (· * ·) (u_eq _ _ _ _ _ ?_) rfl)
  · show 3072 + (768 + j.val) = 3840 + j.val; omega
  · show 3072 + (768 + (128 + j.val)) = 3968 + j.val; omega

/-- The five results at an index. -/
theorem bg_ix (s : Fin 16384) (j : Fin 1024) : rBg (tU A0 A1 A2) (ix2 s j) = (dat A0 A1 A2 A3 A4 A5 A6 A7 A8 s).bg j :=
  (rBg_ix _ s j).trans (tU_ix A0 A1 A2 A3 A4 A5 A6 A7 A8 s _)
theorem ch_ix (s : Fin 16384) (j : Fin 1024) : rCh (tU A0 A1 A2) (ix2 s j) = (dat A0 A1 A2 A3 A4 A5 A6 A7 A8 s).ch j := by
  rw [rCh_ix, tU_ix A0 A1 A2 A3 A4 A5 A6 A7 A8, tU_ix A0 A1 A2 A3 A4 A5 A6 A7 A8]
  rfl
theorem q_ix (n : Fin 8) (d : Fin 256) (s : Fin 16384) :
    rQo (rC (rQlo (rQ3 (tQ A0 A1 A2 A3 A4))) (rQhi (rQ3 (tQ A0 A1 A2 A3 A4)) A7 A8)) (ix3 n d s) = (dat A0 A1 A2 A3 A4 A5 A6 A7 A8 s).q n d := by
  rw [rQo_ix, rC_ix]
  unfold Data.q
  by_cases h : d.val < 128
  · rw [dif_pos h, dif_pos h, rQlo_ix, rQ3_ix, tQ_ix A0 A1 A2 A3 A4 A5 A6 A7 A8]
  · rw [dif_neg h, dif_neg h, rQhi_ix, rQ3_ix, rQ3_ix, tQ_ix A0 A1 A2 A3 A4 A5 A6 A7 A8, tQ_ix A0 A1 A2 A3 A4 A5 A6 A7 A8]
    refine congrArg (· * qs) (congrArg₂ (· + ·) (congrArg₂ (· * ·) (qd_eq _ _ _ _ _ ?_) rfl) (congrArg₂ (· * ·) (qd_eq _ _ _ _ _ ?_) rfl))
    · show 384 * n.val + (128 + (d.val - 128)) = 384 * n.val + d.val; omega
    · show 384 * n.val + (256 + (d.val - 128)) = 384 * n.val + 128 + d.val; omega
theorem k_ix (n : Fin 8) (s : Fin 16384) (d : Fin 256) :
    rKo (rC (rKlo (rK3 (tK A0 A1 A2 A5 A6))) (rT (rKhi (rLr (rL (tU A0 A1 A2))) A7 A8))) (ix3 n s d) = (dat A0 A1 A2 A3 A4 A5 A6 A7 A8 s).k n d := by
  rw [rKo_ix, rC_ix]
  unfold Data.k
  by_cases h : d.val < 128
  · rw [dif_pos h, dif_pos h, rKlo_ix, rK3_ix, tK_ix A0 A1 A2 A3 A4 A5 A6 A7 A8]
  · rw [dif_neg h, dif_neg h, rT_ix, tkr_ix A0 A1 A2 A3 A4 A5 A6 A7 A8]
theorem v_ix (n : Fin 8) (a : Fin 32) (e : Fin 144) (b : Fin 512) :
    rVo (rV4 (rV (rVlo (rK3 (tK A0 A1 A2 A5 A6))))) (ix4 n a e b) = (dat A0 A1 A2 A3 A4 A5 A6 A7 A8 ⟨512 * a.val + b.val, by omega⟩).v n e := by
  rw [rVo_ix, rV4_ix, rV_ix]
  unfold Data.v
  by_cases h : e.val < 128
  · rw [dif_pos h, dif_pos h, rVlo_ix, rK3_ix, tK_ix A0 A1 A2 A3 A4 A5 A6 A7 A8]
    refine kvd_eq _ _ _ _ _ ?_
    show 256 * n.val + (128 + e.val) = 256 * n.val + 128 + e.val; omega
  · rw [dif_neg h, dif_neg h]

end

end Cert.Reference5Ideal.InProj
end
-- ==== Proof.Fft.lean ====
/-
  The two stages of the Fourier mixer, each the products with the matrices that its call is given.
-/
module

public import proofs.«01_k».proof.Proof.InOddRow

@[expose] public section

set_option maxRecDepth 16384

noncomputable section

namespace Cert.Fft

open Cert.InProj
open Idealize.ShloMosaic Idealize.ShloMosaic.TcCoe

/-! ## The first stage -/

/-- The products with the first 128 rows of the matrix, and with the last. -/
def reV {n : ℕ} (x : Vec Ideal ⟨2, ![128, n]⟩ .bf16) (f : Vec Ideal ⟨2, ![256, 128]⟩ .bf16) : Vec Ideal ⟨2, ![128, n]⟩ .bf16 :=
  fun y => ∑ s : Fin 128, f (ix2 ⟨(y 0).val, by have h : (y 0).val < 128 := (y 0).isLt; omega⟩ s) * x (ix2 s (y 1))
def imV {n : ℕ} (x : Vec Ideal ⟨2, ![128, n]⟩ .bf16) (f : Vec Ideal ⟨2, ![256, 128]⟩ .bf16) : Vec Ideal ⟨2, ![128, n]⟩ .bf16 :=
  fun y => ∑ s : Fin 128, f (ix2 ⟨128 + (y 0).val, by have h : (y 0).val < 128 := (y 0).isLt; omega⟩ s) * x (ix2 s (y 1))

theorem reV_eq {n n' : ℕ} (x : Vec Ideal ⟨2, ![128, n]⟩ .bf16) (x' : Vec Ideal ⟨2, ![128, n']⟩ .bf16) (f f' : Vec Ideal ⟨2, ![256, 128]⟩ .bf16) (k : Fin 128)
    (j : Fin n) (j' : Fin n') (hf : ∀ r s, f (ix2 r s) = f' (ix2 r s)) (hx : ∀ s, x (ix2 s j) = x' (ix2 s j')) : reV x f (ix2 k j) = reV x' f' (ix2 k j') :=
  Finset.sum_congr rfl fun s _ => congrArg₂ (fun u v : EReal => u * v) (hf _ s) (hx s)
theorem imV_eq {n n' : ℕ} (x : Vec Ideal ⟨2, ![128, n]⟩ .bf16) (x' : Vec Ideal ⟨2, ![128, n']⟩ .bf16) (f f' : Vec Ideal ⟨2, ![256, 128]⟩ .bf16) (k : Fin 128)
    (j : Fin n) (j' : Fin n') (hf : ∀ r s, f (ix2 r s) = f' (ix2 r s)) (hx : ∀ s, x (ix2 s j) = x' (ix2 s j')) : imV x f (ix2 k j) = imV x' f' (ix2 k j') :=
  Finset.sum_congr rfl fun s _ => congrArg₂ (fun u v : EReal => u * v) (hf _ s) (hx s)

/-! ## The second stage, for one frequency of the first -/

section
variable (tr ti : Fin 128 → Fin 1024 → EReal) (mm : Fin 256 → Fin 256 → EReal) (cs : Fin 256 → Fin 128 → EReal)

/-- The product of its matrix with the real part above the imaginary part. -/
def zed (r : Fin 256) (c : Fin 1024) : EReal :=
  ∑ b : Fin 256, mm r b * if h : b.val < 128 then tr ⟨b.val, h⟩ c else ti ⟨b.val - 128, by omega⟩ c
/-- The channels of a group, real parts and then imaginary parts. -/
def group (a : Fin 128) (g : Fin 8) (e : Fin 256) : EReal :=
  if h : e.val < 128 then zed tr ti mm ⟨a.val, by omega⟩ ⟨128 * g.val + e.val, by omega⟩
  else zed tr ti mm ⟨128 + a.val, by omega⟩ ⟨128 * g.val + (e.val - 128), by omega⟩
/-- Their product with the matrix of cosines above sines. -/
def second (a : Fin 128) (g : Fin 8) (d : Fin 128) : EReal := ∑ e : Fin 256, group tr ti mm a g e * cs e d

end

/-- One frequency of arrays of `J` of them. -/
def secondOf {J : ℕ} (tr ti : Vec Ideal ⟨3, ![J, 128, 1024]⟩ .bf16) (mm : Vec Ideal ⟨3, ![J, 256, 256]⟩ .bf16) (cs : Vec Ideal ⟨2, ![256, 128]⟩ .bf16) (j : Fin J) :
    Fin 128 → Fin 8 → Fin 128 → EReal :=
  second (fun b c => tr (ix3 j b c)) (fun b c => ti (ix3 j b c)) (fun r b => mm (ix3 j r b)) (fun e d => cs (ix2 e d))

/-- `J` frequencies side by side, 1024 columns each. -/
def side (J N : ℕ) (h : N = J * 1024) (D : Fin J → Fin 128 → Fin 8 → Fin 128 → EReal) : Vec Ideal ⟨2, ![128, N]⟩ .bf16 :=
  fun y => D ⟨(y 1).val / 1024, by have h1 : (y 1).val < N := (y 1).isLt; omega⟩ (y 0) ⟨(y 1).val % 1024 / 128, by omega⟩ ⟨(y 1).val % 128, by omega⟩

theorem side_ix {J N : ℕ} (h : N = J * 1024) (D : Fin J → Fin 128 → Fin 8 → Fin 128 → EReal) (j : Fin J) (a : Fin 128) (g : Fin 8) (d : Fin 128)
    (q : Fin N) (hq : q.val = 1024 * j.val + 128 * g.val + d.val) : side J N h D (ix2 a q) = D j a g d := by
  have e1 : q.val / 1024 = j.val := by omega
  have e2 : q.val % 1024 / 128 = g.val := by omega
  have e3 : q.val % 128 = d.val := by omega
  show D ⟨q.val / 1024, _⟩ a ⟨q.val % 1024 / 128, _⟩ ⟨q.val % 128, _⟩ = D j a g d
  rw [show (⟨q.val / 1024, by omega⟩ : Fin J) = j from Fin.ext e1, show (⟨q.val % 1024 / 128, by omega⟩ : Fin 8) = g from Fin.ext e2,
    show (⟨q.val % 128, by omega⟩ : Fin 128) = d from Fin.ext e3]

theorem ld_block {e : EltTy} {N A B : ℕ} (X : Vec Ideal ⟨3, ![N, A, B]⟩ e) (n : Fin N) (hb) (a : Fin A) (b : Fin B) :
    View.ld X (Rect.unit (s := ⟨3, ![N, A, B]⟩) ![n.val, 0, 0] ![1, A, B] hb) (ix3 0 a b) = X (ix3 n a b) := by
  refine (congrArg X (rect_idx3 n 0 0 hb a b (by omega) (by omega))).trans (congrArg X ?_)
  rw [show (⟨0 + a.val, by omega⟩ : Fin A) = a from Fin.ext (Nat.zero_add _), show (⟨0 + b.val, by omega⟩ : Fin B) = b from Fin.ext (Nat.zero_add _)]

end Cert.Fft
end
-- ==== Proof.Fft1.lean ====
/-
  The first stage of the Fourier mixer: what a grid point stores, the whole arrays, and the reference.
-/
module

public import proofs.«01_k».proof.Proof.Fft
public import proofs.«01_k».proof.Proof.Gen.Kernel6Ideal.Value
public import proofs.«01_k».proof.Proof.Gen.Reference6Ideal.Run

@[expose] public section

set_option maxRecDepth 16384

noncomputable section

namespace Cert.Kernel6Ideal.Fft1

open Cert.Kernel6Ideal Cert.Kernel6Ideal.Gen Cert.Kernel6Ideal.Value Cert.InProj Cert.Fft
open Idealize.ShloMosaic Idealize.ShloMosaic.TcCoe
open Idealize.ShloMosaic.Pipeline (Dat Cfg Window)

/-! ## The slices a grid point stores -/

theorem re_ix (f : Vec Ideal S256x128 .bf16) (x : Vec Ideal S128x1024 .bf16) (k : Fin 128) (j : Fin 1024) :
    k0_pay8 f x (ix2 k j) = ∑ s : Fin 128, f (ix2 ⟨k.val, by omega⟩ s) * x (ix2 s j) := by
  pointwise [k0_pay8, k0_pay7]
theorem im_ix (f : Vec Ideal S256x128 .bf16) (x : Vec Ideal S128x1024 .bf16) (k : Fin 128) (j : Fin 1024) :
    k0_pay9 f x (ix2 k j) = ∑ s : Fin 128, f (ix2 ⟨128 + k.val, by omega⟩ s) * x (ix2 s j) := by
  pointwise [k0_pay9, k0_pay7]

theorem re_piece (x0 : Vec Ideal S128x8192 .bf16) (x1 : Vec Ideal S256x128 .bf16) (p : ℕ) (hp : p + 1024 ≤ 8192) (hb) (x : Shape.Idx ⟨2, ![128, 1024]⟩) :
    k0_pay8 (View.ld x1 r0_0) (View.ld x0 (Rect.unit (s := S128x8192) ![0, p] S128x1024.size hb)) x
      = reV x0 x1 ((Rect.unit (s := S128x8192) ![0, p] S128x1024.size hb).idx x) := by
  obtain ⟨k, j, rfl⟩ : ∃ (k : Fin 128) (j : Fin 1024), x = ix2 k j := ⟨x 0, x 1, by funext a; fin_cases a <;> rfl⟩
  rw [re_ix, ld_all x1]
  refine Eq.trans (Finset.sum_congr rfl fun s _ => congrArg (x1 (ix2 ⟨k.val, by omega⟩ s) * ·) (ld_cols x0 p hb s j (by omega))) ?_
  exact congrArg (reV x0 x1) (rect_cols p hb k j (by omega)).symm
theorem im_piece (x0 : Vec Ideal S128x8192 .bf16) (x1 : Vec Ideal S256x128 .bf16) (p : ℕ) (hp : p + 1024 ≤ 8192) (hb) (x : Shape.Idx ⟨2, ![128, 1024]⟩) :
    k0_pay9 (View.ld x1 r0_0) (View.ld x0 (Rect.unit (s := S128x8192) ![0, p] S128x1024.size hb)) x
      = imV x0 x1 ((Rect.unit (s := S128x8192) ![0, p] S128x1024.size hb).idx x) := by
  obtain ⟨k, j, rfl⟩ : ∃ (k : Fin 128) (j : Fin 1024), x = ix2 k j := ⟨x 0, x 1, by funext a; fin_cases a <;> rfl⟩
  rw [im_ix, ld_all x1]
  refine Eq.trans (Finset.sum_congr rfl fun s _ => congrArg (x1 (ix2 ⟨128 + k.val, by omega⟩ s) * ·) (ld_cols x0 p hb s j (by omega))) ?_
  exact congrArg (imV x0 x1) (rect_cols p hb k j (by omega)).symm

theorem out2 (x0 : Vec Ideal S128x8192 .bf16) (x1 : Vec Ideal S256x128 .bf16) : out0_2 x0 x1 = reV x0 x1 := by
  funext y
  unfold out0_2
  refine View.canon_apply_of_pieces _ _ (View.PiecesOf.mem ?_) y
    (cover0_2 _ _ _ _ _ _ _ _ y)
  exact ⟨re_piece x0 x1 7168 (by decide) inb_S128x8192_S128x1024_0_7168, re_piece x0 x1 6144 (by decide) inb_S128x8192_S128x1024_0_6144, re_piece x0 x1 5120 (by decide) inb_S128x8192_S128x1024_0_5120, re_piece x0 x1 4096 (by decide) inb_S128x8192_S128x1024_0_4096, re_piece x0 x1 3072 (by decide) inb_S128x8192_S128x1024_0_3072, re_piece x0 x1 2048 (by decide) inb_S128x8192_S128x1024_0_2048, re_piece x0 x1 1024 (by decide) inb_S128x8192_S128x1024_0_1024, re_piece x0 x1 0 (by decide) inb_S128x8192_S128x1024_0_0, trivial⟩

theorem out3 (x0 : Vec Ideal S128x8192 .bf16) (x1 : Vec Ideal S256x128 .bf16) : out0_3 x0 x1 = imV x0 x1 := by
  funext y
  unfold out0_3
  refine View.canon_apply_of_pieces _ _ (View.PiecesOf.mem ?_) y
    (cover0_3 _ _ _ _ _ _ _ _ y)
  exact ⟨im_piece x0 x1 7168 (by decide) inb_S128x8192_S128x1024_0_7168, im_piece x0 x1 6144 (by decide) inb_S128x8192_S128x1024_0_6144, im_piece x0 x1 5120 (by decide) inb_S128x8192_S128x1024_0_5120, im_piece x0 x1 4096 (by decide) inb_S128x8192_S128x1024_0_4096, im_piece x0 x1 3072 (by decide) inb_S128x8192_S128x1024_0_3072, im_piece x0 x1 2048 (by decide) inb_S128x8192_S128x1024_0_2048, im_piece x0 x1 1024 (by decide) inb_S128x8192_S128x1024_0_1024, im_piece x0 x1 0 (by decide) inb_S128x8192_S128x1024_0_0, trivial⟩

/-! ## The whole arrays -/

theorem idx0 : ∀ t : Fin grid0.N, win0_0.index t 0 = 0 ∧ win0_0.index t 1 = t.val := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = t.val := by decide +kernel
theorem idx3 : ∀ t : Fin grid0.N, win0_3.index t 0 = 0 ∧ win0_3.index t 1 = t.val := by decide +kernel
theorem t_lt (t : Fin cfg0.N) : t.val < 16 := lt_of_lt_of_eq t.isLt N_0

variable (m : (ℓ : Loc nD τ sig) → Buf (Elt Ideal) ℓ) (c : Dev nD)

theorem iblk0_ix (t : Fin cfg0.N) (s : Fin 128) (j : Fin 8192) : iblk m c 0 t (ix2 s j)
    = m ((c : Thread nD τ).loc main_arg0) (ix2 s ⟨8192 * t.val + j.val, by have := t_lt t; omega⟩) := by
  blk_ext [iblk, V, idx0 t]
theorem iblk1_ix (t : Fin cfg0.N) (k : Fin 256) (s : Fin 128) : iblk m c 1 t (ix2 k s) = m ((c : Thread nD τ).loc main_arg1) (ix2 k s) := by
  blk_ext [iblk, V, idx1 t]

theorem final2 : (dats m 0 c).arrAt 2 cfg0.N = reV (m ((c : Thread nD τ).loc main_arg0) : Vec Ideal S128x131072 .bf16) (m ((c : Thread nD τ).loc main_arg1)) := by
  refine (dats m 0 c).arrAt_eq_of_covers 2 _ (by decide +kernel) fun t _ y => ?_
  blk_simp
  obtain ⟨k, j, rfl⟩ : ∃ (k : Fin 128) (j : Fin 8192), y = ix2 k j := ⟨y 0, y 1, by funext a; fin_cases a <;> rfl⟩
  have e : (win0_2.blk t).view.emb (ix2 k j) = ix2 k ⟨8192 * t.val + j.val, by have := t_lt t; omega⟩ := by
    blk_ext [idx2 t]
  rw [e, after0_2, out2]
  exact reV_eq _ _ _ _ k j _ (iblk1_ix m c t) fun s => iblk0_ix m c t s j

theorem final3 : (dats m 0 c).arrAt 3 cfg0.N = imV (m ((c : Thread nD τ).loc main_arg0) : Vec Ideal S128x131072 .bf16) (m ((c : Thread nD τ).loc main_arg1)) := by
  refine (dats m 0 c).arrAt_eq_of_covers 3 _ (by decide +kernel) fun t _ y => ?_
  blk_simp
  obtain ⟨k, j, rfl⟩ : ∃ (k : Fin 128) (j : Fin 8192), y = ix2 k j := ⟨y 0, y 1, by funext a; fin_cases a <;> rfl⟩
  have e : (win0_3.blk t).view.emb (ix2 k j) = ix2 k ⟨8192 * t.val + j.val, by have := t_lt t; omega⟩ := by
    blk_ext [idx3 t]
  rw [e, after0_3, out3]
  exact imV_eq _ _ _ _ k j _ (iblk1_ix m c t) fun s => iblk0_ix m c t s j

end Cert.Kernel6Ideal.Fft1

namespace Cert.Reference6Ideal.Fft1

open Cert.Reference6Ideal Cert.Reference6Ideal.Gen Cert.Reference6Ideal.Value Cert.Fft
open Idealize.ShloMosaic Idealize.ShloMosaic.TcCoe

/-- The reference's two results. -/
def rRe {F : FTy → Type} [FloatOps F] (x : FVec F S128x131072 .bf16) (f : FVec F S256x128 .bf16) : FVec F S128x131072 .bf16 :=
  truncf .bf16 (extractStridedSlice S128x131072 ![0, 0] (Host.dotGeneral dot_S256x128_S128x131072_S256x131072_1_0_0_1_n_n none (extf .f32 f bitsLt_bf16_f32) (extf .f32 x bitsLt_bf16_f32)) slices_S256x131072_S128x131072_0_0) bitsLt_bf16_f32
def rIm {F : FTy → Type} [FloatOps F] (x : FVec F S128x131072 .bf16) (f : FVec F S256x128 .bf16) : FVec F S128x131072 .bf16 :=
  truncf .bf16 (extractStridedSlice S128x131072 ![128, 0] (Host.dotGeneral dot_S256x128_S128x131072_S256x131072_1_0_0_1_n_n none (extf .f32 f bitsLt_bf16_f32) (extf .f32 x bitsLt_bf16_f32)) slices_S256x131072_S128x131072_128_0) bitsLt_bf16_f32

theorem re_ix (x : FVec Ideal S128x131072 .bf16) (f : FVec Ideal S256x128 .bf16) (k : Fin 128) (j : Fin 131072) : rRe x f (ix2 k j) = reV x f (ix2 k j) := by
  have h : rRe x f (ix2 k j) = ∑ s : Fin 128, f (ix2 ⟨k.val, by omega⟩ s) * x (ix2 s j) := by pointwise [rRe]
  exact h
theorem im_ix (x : FVec Ideal S128x131072 .bf16) (f : FVec Ideal S256x128 .bf16) (k : Fin 128) (j : Fin 131072) : rIm x f (ix2 k j) = imV x f (ix2 k j) := by
  have h : rIm x f (ix2 k j) = ∑ s : Fin 128, f (ix2 ⟨128 + k.val, by omega⟩ s) * x (ix2 s j) := by pointwise [rIm]
  exact h

end Cert.Reference6Ideal.Fft1
end
-- ==== Proof.Fft2.lean ====
/-
  The second stage of the Fourier mixer: what a grid point stores, and the whole array.
-/
module

public import proofs.«01_k».proof.Proof.Fft
public import proofs.«01_k».proof.Proof.Gen.Kernel7Ideal.Value

@[expose] public section

set_option maxRecDepth 16384

noncomputable section

namespace Cert.Kernel7Ideal.Fft2

open Cert.Kernel7Ideal Cert.Kernel7Ideal.Gen Cert.Kernel7Ideal.Value Cert.InProj Cert.Fft
open Idealize.ShloMosaic Idealize.ShloMosaic.TcCoe
open Idealize.ShloMosaic.Pipeline (Dat Cfg Window)

/-! ## One frequency -/

theorem zr_ix (a b : Vec Ideal S1x128x1024 .bf16) (w : Vec Ideal S1x256x256 .bf16) (r : Fin 128) (c : Fin 1024) :
    k0_pay3 a b w (ix2 r c) = zed (fun b' c => a (ix3 0 b' c)) (fun b' c => b (ix3 0 b' c)) (fun r b' => w (ix3 0 r b')) ⟨r.val, by omega⟩ c := by
  have h : k0_pay3 a b w (ix2 r c) = ∑ k : Fin 256, w (ix3 0 ⟨r.val, by omega⟩ k) * if h : k.val < 128 then a (ix3 0 ⟨k.val, h⟩ c) else b (ix3 0 ⟨k.val - 128, by omega⟩ c) := by
    pointwise [k0_pay3, k0_pay2]
  exact h
theorem zi_ix (a b : Vec Ideal S1x128x1024 .bf16) (w : Vec Ideal S1x256x256 .bf16) (r : Fin 128) (c : Fin 1024) :
    k0_pay4 a b w (ix2 r c) = zed (fun b' c => a (ix3 0 b' c)) (fun b' c => b (ix3 0 b' c)) (fun r b' => w (ix3 0 r b')) ⟨128 + r.val, by omega⟩ c := by
  have h : k0_pay4 a b w (ix2 r c) = ∑ k : Fin 256, w (ix3 0 ⟨128 + r.val, by omega⟩ k) * if h : k.val < 128 then a (ix3 0 ⟨k.val, h⟩ c) else b (ix3 0 ⟨k.val - 128, by omega⟩ c) := by
    pointwise [k0_pay4, k0_pay2]
  exact h

/-- The product of one group's channels, from column `p` on, with the last matrix. -/
def slice {F : FTy → Type} [FloatOps F] (p : ℕ) (h : S128x1024.Slices ![0, p] S128x128) (zr zi : FVec F S128x1024 .bf16) (cs : Vec F S256x128 .bf16) : FVec F S128x128 .bf16 :=
  truncf .bf16 (matmul dot_S128x256_S256x128_S128x128_1_0_0_1_n_n none (concatenate S128x256 1 [⟨S128x128, extractStridedSlice S128x128 ![0, p] zr h⟩, ⟨S128x128, extractStridedSlice S128x128 ![0, p] zi h⟩] concatenates_S128x128_S128x128_S128x256_d1)
    cs (constant S128x128 .f32 0x00000000#32)) bitsLt_bf16_f32

theorem slice_ix (p : ℕ) (hp : p + 128 ≤ 1024) (h) (zr zi : FVec Ideal S128x1024 .bf16) (cs : Vec Ideal S256x128 .bf16) (a d : Fin 128) :
    slice p h zr zi cs (ix2 a d) = ∑ e : Fin 256, (if h : e.val < 128 then zr (ix2 a ⟨p + e.val, by omega⟩) else zi (ix2 a ⟨p + (e.val - 128), by omega⟩)) * cs (ix2 e d) := by
  pointwise [slice]

theorem zed_eq {tr tr' ti ti' : Fin 128 → Fin 1024 → EReal} {mm mm' : Fin 256 → Fin 256 → EReal} (h0 : ∀ b c, tr b c = tr' b c) (h1 : ∀ b c, ti b c = ti' b c)
    (h2 : ∀ r b, mm r b = mm' r b) (r : Fin 256) (c : Fin 1024) : zed tr ti mm r c = zed tr' ti' mm' r c := by
  rw [show tr = tr' from funext fun b => funext (h0 b), show ti = ti' from funext fun b => funext (h1 b), show mm = mm' from funext fun b => funext (h2 b)]

theorem piece (x0 x1 : Vec Ideal S8x128x1024 .bf16) (x2 : Vec Ideal S8x256x256 .bf16) (x3 : Vec Ideal S256x128 .bf16) (j g : Fin 8) (p q : ℕ) (hp : p = 128 * g.val)
    (hq : q = 1024 * j.val + 128 * g.val) (n : ℕ) (hn : n = j.val) (h) (h0) (h2) (hb) (x : Shape.Idx ⟨2, ![128, 128]⟩) :
    slice p h
        (k0_pay3 (View.ld x0 (Rect.unit (s := S8x128x1024) ![n, 0, 0] S1x128x1024.size h0)) (View.ld x1 (Rect.unit (s := S8x128x1024) ![n, 0, 0] S1x128x1024.size h0))
          (View.ld x2 (Rect.unit (s := S8x256x256) ![n, 0, 0] S1x256x256.size h2)))
        (k0_pay4 (View.ld x0 (Rect.unit (s := S8x128x1024) ![n, 0, 0] S1x128x1024.size h0)) (View.ld x1 (Rect.unit (s := S8x128x1024) ![n, 0, 0] S1x128x1024.size h0))
          (View.ld x2 (Rect.unit (s := S8x256x256) ![n, 0, 0] S1x256x256.size h2)))
        (View.ld x3 r0_2) x
      = side 8 8192 (by decide) (secondOf x0 x1 x2 x3) ((Rect.unit (s := S128x8192) ![0, q] S128x128.size hb).idx x) := by
  subst hp hq hn
  obtain ⟨a, d, rfl⟩ : ∃ (a d : Fin 128), x = ix2 a d := ⟨x 0, x 1, by funext k; fin_cases k <;> rfl⟩
  refine Eq.trans ?_ (congrArg (side 8 8192 (by decide) (secondOf x0 x1 x2 x3)) (rect_cols (1024 * j.val + 128 * g.val) hb a d (by omega))).symm
  rw [side_ix _ _ j a g d _ rfl, slice_ix _ (by omega), ld_all x3]
  have hz := zed_eq (fun b c => ld_block x0 j h0 b c) (fun b c => ld_block x1 j h0 b c) (fun r b => ld_block x2 j h2 r b)
  refine Finset.sum_congr rfl fun e _ => congrArg (· * x3 (ix2 e d)) ?_
  show _ = group _ _ _ a g e
  unfold group
  split_ifs with he
  · exact (zr_ix _ _ _ a _).trans (hz _ _)
  · exact (zi_ix _ _ _ a _).trans (hz _ _)

/-! ## What a grid point stores -/

theorem out4 (x0 x1 : Vec Ideal S8x128x1024 .bf16) (x2 : Vec Ideal S8x256x256 .bf16) (x3 : Vec Ideal S256x128 .bf16) :
    out0_4 x0 x1 x2 x3 = side 8 8192 (by decide) (secondOf x0 x1 x2 x3) := by
  funext y
  unfold out0_4
  refine View.canon_apply_of_pieces _ _ (View.PiecesOf.mem ?_) y (cover0_4 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  exact ⟨piece x0 x1 x2 x3 7 7 896 8064 rfl rfl 7 rfl slices_S128x1024_o0_896_S128x128 inb_S8x128x1024_S1x128x1024_7_0_0 inb_S8x256x256_S1x256x256_7_0_0 inb_S128x8192_S128x128_0_8064,
    piece x0 x1 x2 x3 7 6 768 7936 rfl rfl 7 rfl slices_S128x1024_o0_768_S128x128 inb_S8x128x1024_S1x128x1024_7_0_0 inb_S8x256x256_S1x256x256_7_0_0 inb_S128x8192_S128x128_0_7936,
    piece x0 x1 x2 x3 7 5 640 7808 rfl rfl 7 rfl slices_S128x1024_o0_640_S128x128 inb_S8x128x1024_S1x128x1024_7_0_0 inb_S8x256x256_S1x256x256_7_0_0 inb_S128x8192_S128x128_0_7808,
    piece x0 x1 x2 x3 7 4 512 7680 rfl rfl 7 rfl slices_S128x1024_o0_512_S128x128 inb_S8x128x1024_S1x128x1024_7_0_0 inb_S8x256x256_S1x256x256_7_0_0 inb_S128x8192_S128x128_0_7680,
    piece x0 x1 x2 x3 7 3 384 7552 rfl rfl 7 rfl slices_S128x1024_o0_384_S128x128 inb_S8x128x1024_S1x128x1024_7_0_0 inb_S8x256x256_S1x256x256_7_0_0 inb_S128x8192_S128x128_0_7552,
    piece x0 x1 x2 x3 7 2 256 7424 rfl rfl 7 rfl slices_S128x1024_o0_256_S128x128 inb_S8x128x1024_S1x128x1024_7_0_0 inb_S8x256x256_S1x256x256_7_0_0 inb_S128x8192_S128x128_0_7424,
    piece x0 x1 x2 x3 7 1 128 7296 rfl rfl 7 rfl slices_S128x1024_o0_128_S128x128 inb_S8x128x1024_S1x128x1024_7_0_0 inb_S8x256x256_S1x256x256_7_0_0 inb_S128x8192_S128x128_0_7296,
    piece x0 x1 x2 x3 7 0 0 7168 rfl rfl 7 rfl slices_S128x1024_o0_0_S128x128 inb_S8x128x1024_S1x128x1024_7_0_0 inb_S8x256x256_S1x256x256_7_0_0 inb_S128x8192_S128x128_0_7168,
    piece x0 x1 x2 x3 6 7 896 7040 rfl rfl 6 rfl slices_S128x1024_o0_896_S128x128 inb_S8x128x1024_S1x128x1024_6_0_0 inb_S8x256x256_S1x256x256_6_0_0 inb_S128x8192_S128x128_0_7040,
    piece x0 x1 x2 x3 6 6 768 6912 rfl rfl 6 rfl slices_S128x1024_o0_768_S128x128 inb_S8x128x1024_S1x128x1024_6_0_0 inb_S8x256x256_S1x256x256_6_0_0 inb_S128x8192_S128x128_0_6912,
    piece x0 x1 x2 x3 6 5 640 6784 rfl rfl 6 rfl slices_S128x1024_o0_640_S128x128 inb_S8x128x1024_S1x128x1024_6_0_0 inb_S8x256x256_S1x256x256_6_0_0 inb_S128x8192_S128x128_0_6784,
    piece x0 x1 x2 x3 6 4 512 6656 rfl rfl 6 rfl slices_S128x1024_o0_512_S128x128 inb_S8x128x1024_S1x128x1024_6_0_0 inb_S8x256x256_S1x256x256_6_0_0 inb_S128x8192_S128x128_0_6656,
    piece x0 x1 x2 x3 6 3 384 6528 rfl rfl 6 rfl slices_S128x1024_o0_384_S128x128 inb_S8x128x1024_S1x128x1024_6_0_0 inb_S8x256x256_S1x256x256_6_0_0 inb_S128x8192_S128x128_0_6528,
    piece x0 x1 x2 x3 6 2 256 6400 rfl rfl 6 rfl slices_S128x1024_o0_256_S128x128 inb_S8x128x1024_S1x128x1024_6_0_0 inb_S8x256x256_S1x256x256_6_0_0 inb_S128x8192_S128x128_0_6400,
    piece x0 x1 x2 x3 6 1 128 6272 rfl rfl 6 rfl slices_S128x1024_o0_128_S128x128 inb_S8x128x1024_S1x128x1024_6_0_0 inb_S8x256x256_S1x256x256_6_0_0 inb_S128x8192_S128x128_0_6272,
    piece x0 x1 x2 x3 6 0 0 6144 rfl rfl 6 rfl slices_S128x1024_o0_0_S128x128 inb_S8x128x1024_S1x128x1024_6_0_0 inb_S8x256x256_S1x256x256_6_0_0 inb_S128x8192_S128x128_0_6144,
    piece x0 x1 x2 x3 5 7 896 6016 rfl rfl 5 rfl slices_S128x1024_o0_896_S128x128 inb_S8x128x1024_S1x128x1024_5_0_0 inb_S8x256x256_S1x256x256_5_0_0 inb_S128x8192_S128x128_0_6016,
    piece x0 x1 x2 x3 5 6 768 5888 rfl rfl 5 rfl slices_S128x1024_o0_768_S128x128 inb_S8x128x1024_S1x128x1024_5_0_0 inb_S8x256x256_S1x256x256_5_0_0 inb_S128x8192_S128x128_0_5888,
    piece x0 x1 x2 x3 5 5 640 5760 rfl rfl 5 rfl slices_S128x1024_o0_640_S128x128 inb_S8x128x1024_S1x128x1024_5_0_0 inb_S8x256x256_S1x256x256_5_0_0 inb_S128x8192_S128x128_0_5760,
    piece x0 x1 x2 x3 5 4 512 5632 rfl rfl 5 rfl slices_S128x1024_o0_512_S128x128 inb_S8x128x1024_S1x128x1024_5_0_0 inb_S8x256x256_S1x256x256_5_0_0 inb_S128x8192_S128x128_0_5632,
    piece x0 x1 x2 x3 5 3 384 5504 rfl rfl 5 rfl slices_S128x1024_o0_384_S128x128 inb_S8x128x1024_S1x128x1024_5_0_0 inb_S8x256x256_S1x256x256_5_0_0 inb_S128x8192_S128x128_0_5504,
    piece x0 x1 x2 x3 5 2 256 5376 rfl rfl 5 rfl slices_S128x1024_o0_256_S128x128 inb_S8x128x1024_S1x128x1024_5_0_0 inb_S8x256x256_S1x256x256_5_0_0 inb_S128x8192_S128x128_0_5376,
    piece x0 x1 x2 x3 5 1 128 5248 rfl rfl 5 rfl slices_S128x1024_o0_128_S128x128 inb_S8x128x1024_S1x128x1024_5_0_0 inb_S8x256x256_S1x256x256_5_0_0 inb_S128x8192_S128x128_0_5248,
    piece x0 x1 x2 x3 5 0 0 5120 rfl rfl 5 rfl slices_S128x1024_o0_0_S128x128 inb_S8x128x1024_S1x128x1024_5_0_0 inb_S8x256x256_S1x256x256_5_0_0 inb_S128x8192_S128x128_0_5120,
    piece x0 x1 x2 x3 4 7 896 4992 rfl rfl 4 rfl slices_S128x1024_o0_896_S128x128 inb_S8x128x1024_S1x128x1024_4_0_0 inb_S8x256x256_S1x256x256_4_0_0 inb_S128x8192_S128x128_0_4992,
    piece x0 x1 x2 x3 4 6 768 4864 rfl rfl 4 rfl slices_S128x1024_o0_768_S128x128 inb_S8x128x1024_S1x128x1024_4_0_0 inb_S8x256x256_S1x256x256_4_0_0 inb_S128x8192_S128x128_0_4864,
    piece x0 x1 x2 x3 4 5 640 4736 rfl rfl 4 rfl slices_S128x1024_o0_640_S128x128 inb_S8x128x1024_S1x128x1024_4_0_0 inb_S8x256x256_S1x256x256_4_0_0 inb_S128x8192_S128x128_0_4736,
    piece x0 x1 x2 x3 4 4 512 4608 rfl rfl 4 rfl slices_S128x1024_o0_512_S128x128 inb_S8x128x1024_S1x128x1024_4_0_0 inb_S8x256x256_S1x256x256_4_0_0 inb_S128x8192_S128x128_0_4608,
    piece x0 x1 x2 x3 4 3 384 4480 rfl rfl 4 rfl slices_S128x1024_o0_384_S128x128 inb_S8x128x1024_S1x128x1024_4_0_0 inb_S8x256x256_S1x256x256_4_0_0 inb_S128x8192_S128x128_0_4480,
    piece x0 x1 x2 x3 4 2 256 4352 rfl rfl 4 rfl slices_S128x1024_o0_256_S128x128 inb_S8x128x1024_S1x128x1024_4_0_0 inb_S8x256x256_S1x256x256_4_0_0 inb_S128x8192_S128x128_0_4352,
    piece x0 x1 x2 x3 4 1 128 4224 rfl rfl 4 rfl slices_S128x1024_o0_128_S128x128 inb_S8x128x1024_S1x128x1024_4_0_0 inb_S8x256x256_S1x256x256_4_0_0 inb_S128x8192_S128x128_0_4224,
    piece x0 x1 x2 x3 4 0 0 4096 rfl rfl 4 rfl slices_S128x1024_o0_0_S128x128 inb_S8x128x1024_S1x128x1024_4_0_0 inb_S8x256x256_S1x256x256_4_0_0 inb_S128x8192_S128x128_0_4096,
    piece x0 x1 x2 x3 3 7 896 3968 rfl rfl 3 rfl slices_S128x1024_o0_896_S128x128 inb_S8x128x1024_S1x128x1024_3_0_0 inb_S8x256x256_S1x256x256_3_0_0 inb_S128x8192_S128x128_0_3968,
    piece x0 x1 x2 x3 3 6 768 3840 rfl rfl 3 rfl slices_S128x1024_o0_768_S128x128 inb_S8x128x1024_S1x128x1024_3_0_0 inb_S8x256x256_S1x256x256_3_0_0 inb_S128x8192_S128x128_0_3840,
    piece x0 x1 x2 x3 3 5 640 3712 rfl rfl 3 rfl slices_S128x1024_o0_640_S128x128 inb_S8x128x1024_S1x128x1024_3_0_0 inb_S8x256x256_S1x256x256_3_0_0 inb_S128x8192_S128x128_0_3712,
    piece x0 x1 x2 x3 3 4 512 3584 rfl rfl 3 rfl slices_S128x1024_o0_512_S128x128 inb_S8x128x1024_S1x128x1024_3_0_0 inb_S8x256x256_S1x256x256_3_0_0 inb_S128x8192_S128x128_0_3584,
    piece x0 x1 x2 x3 3 3 384 3456 rfl rfl 3 rfl slices_S128x1024_o0_384_S128x128 inb_S8x128x1024_S1x128x1024_3_0_0 inb_S8x256x256_S1x256x256_3_0_0 inb_S128x8192_S128x128_0_3456,
    piece x0 x1 x2 x3 3 2 256 3328 rfl rfl 3 rfl slices_S128x1024_o0_256_S128x128 inb_S8x128x1024_S1x128x1024_3_0_0 inb_S8x256x256_S1x256x256_3_0_0 inb_S128x8192_S128x128_0_3328,
    piece x0 x1 x2 x3 3 1 128 3200 rfl rfl 3 rfl slices_S128x1024_o0_128_S128x128 inb_S8x128x1024_S1x128x1024_3_0_0 inb_S8x256x256_S1x256x256_3_0_0 inb_S128x8192_S128x128_0_3200,
    piece x0 x1 x2 x3 3 0 0 3072 rfl rfl 3 rfl slices_S128x1024_o0_0_S128x128 inb_S8x128x1024_S1x128x1024_3_0_0 inb_S8x256x256_S1x256x256_3_0_0 inb_S128x8192_S128x128_0_3072,
    piece x0 x1 x2 x3 2 7 896 2944 rfl rfl 2 rfl slices_S128x1024_o0_896_S128x128 inb_S8x128x1024_S1x128x1024_2_0_0 inb_S8x256x256_S1x256x256_2_0_0 inb_S128x8192_S128x128_0_2944,
    piece x0 x1 x2 x3 2 6 768 2816 rfl rfl 2 rfl slices_S128x1024_o0_768_S128x128 inb_S8x128x1024_S1x128x1024_2_0_0 inb_S8x256x256_S1x256x256_2_0_0 inb_S128x8192_S128x128_0_2816,
    piece x0 x1 x2 x3 2 5 640 2688 rfl rfl 2 rfl slices_S128x1024_o0_640_S128x128 inb_S8x128x1024_S1x128x1024_2_0_0 inb_S8x256x256_S1x256x256_2_0_0 inb_S128x8192_S128x128_0_2688,
    piece x0 x1 x2 x3 2 4 512 2560 rfl rfl 2 rfl slices_S128x1024_o0_512_S128x128 inb_S8x128x1024_S1x128x1024_2_0_0 inb_S8x256x256_S1x256x256_2_0_0 inb_S128x8192_S128x128_0_2560,
    piece x0 x1 x2 x3 2 3 384 2432 rfl rfl 2 rfl slices_S128x1024_o0_384_S128x128 inb_S8x128x1024_S1x128x1024_2_0_0 inb_S8x256x256_S1x256x256_2_0_0 inb_S128x8192_S128x128_0_2432,
    piece x0 x1 x2 x3 2 2 256 2304 rfl rfl 2 rfl slices_S128x1024_o0_256_S128x128 inb_S8x128x1024_S1x128x1024_2_0_0 inb_S8x256x256_S1x256x256_2_0_0 inb_S128x8192_S128x128_0_2304,
    piece x0 x1 x2 x3 2 1 128 2176 rfl rfl 2 rfl slices_S128x1024_o0_128_S128x128 inb_S8x128x1024_S1x128x1024_2_0_0 inb_S8x256x256_S1x256x256_2_0_0 inb_S128x8192_S128x128_0_2176,
    piece x0 x1 x2 x3 2 0 0 2048 rfl rfl 2 rfl slices_S128x1024_o0_0_S128x128 inb_S8x128x1024_S1x128x1024_2_0_0 inb_S8x256x256_S1x256x256_2_0_0 inb_S128x8192_S128x128_0_2048,
    piece x0 x1 x2 x3 1 7 896 1920 rfl rfl 1 rfl slices_S128x1024_o0_896_S128x128 inb_S8x128x1024_S1x128x1024_1_0_0 inb_S8x256x256_S1x256x256_1_0_0 inb_S128x8192_S128x128_0_1920,
    piece x0 x1 x2 x3 1 6 768 1792 rfl rfl 1 rfl slices_S128x1024_o0_768_S128x128 inb_S8x128x1024_S1x128x1024_1_0_0 inb_S8x256x256_S1x256x256_1_0_0 inb_S128x8192_S128x128_0_1792,
    piece x0 x1 x2 x3 1 5 640 1664 rfl rfl 1 rfl slices_S128x1024_o0_640_S128x128 inb_S8x128x1024_S1x128x1024_1_0_0 inb_S8x256x256_S1x256x256_1_0_0 inb_S128x8192_S128x128_0_1664,
    piece x0 x1 x2 x3 1 4 512 1536 rfl rfl 1 rfl slices_S128x1024_o0_512_S128x128 inb_S8x128x1024_S1x128x1024_1_0_0 inb_S8x256x256_S1x256x256_1_0_0 inb_S128x8192_S128x128_0_1536,
    piece x0 x1 x2 x3 1 3 384 1408 rfl rfl 1 rfl slices_S128x1024_o0_384_S128x128 inb_S8x128x1024_S1x128x1024_1_0_0 inb_S8x256x256_S1x256x256_1_0_0 inb_S128x8192_S128x128_0_1408,
    piece x0 x1 x2 x3 1 2 256 1280 rfl rfl 1 rfl slices_S128x1024_o0_256_S128x128 inb_S8x128x1024_S1x128x1024_1_0_0 inb_S8x256x256_S1x256x256_1_0_0 inb_S128x8192_S128x128_0_1280,
    piece x0 x1 x2 x3 1 1 128 1152 rfl rfl 1 rfl slices_S128x1024_o0_128_S128x128 inb_S8x128x1024_S1x128x1024_1_0_0 inb_S8x256x256_S1x256x256_1_0_0 inb_S128x8192_S128x128_0_1152,
    piece x0 x1 x2 x3 1 0 0 1024 rfl rfl 1 rfl slices_S128x1024_o0_0_S128x128 inb_S8x128x1024_S1x128x1024_1_0_0 inb_S8x256x256_S1x256x256_1_0_0 inb_S128x8192_S128x128_0_1024,
    piece x0 x1 x2 x3 0 7 896 896 rfl rfl 0 rfl slices_S128x1024_o0_896_S128x128 inb_S8x128x1024_S1x128x1024_0_0_0 inb_S8x256x256_S1x256x256_0_0_0 inb_S128x8192_S128x128_0_896,
    piece x0 x1 x2 x3 0 6 768 768 rfl rfl 0 rfl slices_S128x1024_o0_768_S128x128 inb_S8x128x1024_S1x128x1024_0_0_0 inb_S8x256x256_S1x256x256_0_0_0 inb_S128x8192_S128x128_0_768,
    piece x0 x1 x2 x3 0 5 640 640 rfl rfl 0 rfl slices_S128x1024_o0_640_S128x128 inb_S8x128x1024_S1x128x1024_0_0_0 inb_S8x256x256_S1x256x256_0_0_0 inb_S128x8192_S128x128_0_640,
    piece x0 x1 x2 x3 0 4 512 512 rfl rfl 0 rfl slices_S128x1024_o0_512_S128x128 inb_S8x128x1024_S1x128x1024_0_0_0 inb_S8x256x256_S1x256x256_0_0_0 inb_S128x8192_S128x128_0_512,
    piece x0 x1 x2 x3 0 3 384 384 rfl rfl 0 rfl slices_S128x1024_o0_384_S128x128 inb_S8x128x1024_S1x128x1024_0_0_0 inb_S8x256x256_S1x256x256_0_0_0 inb_S128x8192_S128x128_0_384,
    piece x0 x1 x2 x3 0 2 256 256 rfl rfl 0 rfl slices_S128x1024_o0_256_S128x128 inb_S8x128x1024_S1x128x1024_0_0_0 inb_S8x256x256_S1x256x256_0_0_0 inb_S128x8192_S128x128_0_256,
    piece x0 x1 x2 x3 0 1 128 128 rfl rfl 0 rfl slices_S128x1024_o0_128_S128x128 inb_S8x128x1024_S1x128x1024_0_0_0 inb_S8x256x256_S1x256x256_0_0_0 inb_S128x8192_S128x128_0_128,
    piece x0 x1 x2 x3 0 0 0 0 rfl rfl 0 rfl slices_S128x1024_o0_0_S128x128 inb_S8x128x1024_S1x128x1024_0_0_0 inb_S8x256x256_S1x256x256_0_0_0 inb_S128x8192_S128x128_0_0, trivial⟩

/-! ## The whole array -/

theorem idx0 : ∀ t : Fin grid0.N, win0_0.index t 0 = t.val ∧ win0_0.index t 1 = 0 ∧ win0_0.index t 2 = 0 := by decide +kernel
theorem idx1 : ∀ t : Fin grid0.N, win0_1.index t 0 = t.val ∧ win0_1.index t 1 = 0 ∧ win0_1.index t 2 = 0 := by decide +kernel
theorem idx2 : ∀ t : Fin grid0.N, win0_2.index t 0 = t.val ∧ win0_2.index t 1 = 0 ∧ win0_2.index t 2 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = t.val := by decide +kernel
theorem t_lt (t : Fin cfg0.N) : t.val < 16 := lt_of_lt_of_eq t.isLt N_0

variable (m : (ℓ : Loc nD τ sig) → Buf (Elt Ideal) ℓ) (c : Dev nD)

theorem iblk0_ix (t : Fin cfg0.N) (j : Fin 8) (b : Fin 128) (k : Fin 1024) : iblk m c 0 t (ix3 j b k)
    = m ((c : Thread nD τ).loc main_arg0) (ix3 ⟨8 * t.val + j.val, by have := t_lt t; omega⟩ b k) := by
  blk_ext [iblk, V, idx0 t]
theorem iblk1_ix (t : Fin cfg0.N) (j : Fin 8) (b : Fin 128) (k : Fin 1024) : iblk m c 1 t (ix3 j b k)
    = m ((c : Thread nD τ).loc main_arg1) (ix3 ⟨8 * t.val + j.val, by have := t_lt t; omega⟩ b k) := by
  blk_ext [iblk, V, idx1 t]
theorem iblk2_ix (t : Fin cfg0.N) (j : Fin 8) (r b : Fin 256) : iblk m c 2 t (ix3 j r b)
    = m ((c : Thread nD τ).loc main_arg2) (ix3 ⟨8 * t.val + j.val, by have := t_lt t; omega⟩ r b) := by
  blk_ext [iblk, V, idx2 t]
theorem iblk3_ix (t : Fin cfg0.N) (e : Fin 256) (d : Fin 128) : iblk m c 3 t (ix2 e d) = m ((c : Thread nD τ).loc main_arg3) (ix2 e d) := by
  blk_ext [iblk, V, idx3 t]

theorem second_eq {tr tr' ti ti' : Fin 128 → Fin 1024 → EReal} {mm mm' : Fin 256 → Fin 256 → EReal} {cs cs' : Fin 256 → Fin 128 → EReal} (h0 : ∀ b c, tr b c = tr' b c)
    (h1 : ∀ b c, ti b c = ti' b c) (h2 : ∀ r b, mm r b = mm' r b) (h3 : ∀ e d, cs e d = cs' e d) (a : Fin 128) (g : Fin 8) (d : Fin 128) :
    second tr ti mm cs a g d = second tr' ti' mm' cs' a g d := by
  rw [show tr = tr' from funext fun b => funext (h0 b), show ti = ti' from funext fun b => funext (h1 b), show mm = mm' from funext fun b => funext (h2 b),
    show cs = cs' from funext fun b => funext (h3 b)]

/-- What the call computes. -/
def whole (tr ti : Vec Ideal S128x128x1024 .bf16) (mm : Vec Ideal S128x256x256 .bf16) (cs : Vec Ideal S256x128 .bf16) : Vec Ideal S128x131072 .bf16 :=
  side 128 131072 (by decide) (secondOf tr ti mm cs)

theorem final4 : (dats m 0 c).arrAt 4 cfg0.N
    = whole (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  obtain ⟨a, q, rfl⟩ : ∃ (a : Fin 128) (q : Fin 8192), y = ix2 a q := ⟨y 0, y 1, by funext k; fin_cases k <;> rfl⟩
  have ht := t_lt t
  have e : (win0_4.blk t).view.emb (ix2 a q) = ix2 a ⟨8192 * t.val + q.val, by omega⟩ := by
    blk_ext [idx4 t]
  rw [e, after0_4, out4]
  have h1 := side_ix (J := 8) (N := 8192) (by decide) (secondOf (iblk m c 0 t) (iblk m c 1 t) (iblk m c 2 t) (iblk m c 3 t)) ⟨q.val / 1024, by omega⟩ a ⟨q.val % 1024 / 128, by omega⟩ ⟨q.val % 128, by omega⟩ q
    (by show q.val = 1024 * (q.val / 1024) + 128 * (q.val % 1024 / 128) + q.val % 128; omega)
  have h2 := side_ix (J := 128) (N := 131072) (by decide)
    (secondOf (m ((c : Thread nD τ).loc main_arg0)) (m ((c : Thread nD τ).loc main_arg1)) (m ((c : Thread nD τ).loc main_arg2)) (m ((c : Thread nD τ).loc main_arg3)))
    ⟨8 * t.val + q.val / 1024, by omega⟩ a ⟨q.val % 1024 / 128, by omega⟩ ⟨q.val % 128, by omega⟩ ⟨8192 * t.val + q.val, by omega⟩
    (by show 8192 * t.val + q.val = 1024 * (8 * t.val + q.val / 1024) + 128 * (q.val % 1024 / 128) + q.val % 128; omega)
  refine h1.trans (Eq.trans ?_ h2.symm)
  exact second_eq (fun b k => iblk0_ix m c t _ b k) (fun b k => iblk1_ix m c t _ b k) (fun r b => iblk2_ix m c t _ r b) (fun e d => iblk3_ix m c t e d) _ _ _

end Cert.Kernel7Ideal.Fft2
end
-- ==== Proof.RefFft2.lean ====
/-
  The second stage of the Fourier mixer: the reference.
-/
module

public import proofs.«01_k».proof.Proof.Fft
public import proofs.«01_k».proof.Proof.Gen.Reference7Ideal.Run

@[expose] public section

set_option maxRecDepth 16384

noncomputable section

namespace Cert.Reference7Ideal.Fft2

open Cert.Reference7Ideal Cert.Reference7Ideal.Gen Cert.Reference7Ideal.Value Cert.Fft
open Idealize.ShloMosaic Idealize.ShloMosaic.TcCoe

section
variable {F : FTy → Type} [FloatOps F]
/-- The products with the first stage's parts, for every frequency. -/
def rZ (tr ti : FVec F S128x128x1024 .bf16) (mm : FVec F S128x256x256 .bf16) : FVec F S128x256x1024 .f32 :=
  Host.dotGeneral dot_S128x256x256_S128x256x1024_S128x256x1024_2_1_1_2_0_0 none (extf .f32 mm bitsLt_bf16_f32) (extf .f32 (concatenate S128x256x1024 1 [⟨S128x128x1024, tr⟩, ⟨S128x128x1024, ti⟩] concatenates_S128x128x1024_S128x128x1024_S128x256x1024_d1) bitsLt_bf16_f32)
/-- Their channels in groups, real parts and then imaginary parts. -/
def rRe (z : FVec F S128x256x1024 .f32) : FVec F S128x128x8x128 .f32 :=
  shapeCast _ (extractStridedSlice S128x128x1024 ![0, 0, 0] z slices_S128x256x1024_S128x128x1024_0_0_0) shapeCasts_S128x128x1024_S128x128x8x128
def rIm (z : FVec F S128x256x1024 .f32) : FVec F S128x128x8x128 .f32 :=
  shapeCast _ (extractStridedSlice S128x128x1024 ![0, 128, 0] z slices_S128x256x1024_S128x128x1024_0_128_0) shapeCasts_S128x128x1024_S128x128x8x128
/-- The products with the last matrix. -/
def rY (zr zi : FVec F S128x128x8x128 .f32) (cs : FVec F S256x128 .bf16) : FVec F S128x128x8x128 .f32 :=
  Host.dotGeneral dot_S128x128x8x256_S256x128_S128x128x8x128_3_0_012_1_n_n none (concatenate S128x128x8x256 3 [⟨S128x128x8x128, zr⟩, ⟨S128x128x8x128, zi⟩] concatenates_S128x128x8x128_S128x128x8x128_S128x128x8x256_d3) (extf .f32 cs bitsLt_bf16_f32)
/-- The frequencies side by side. -/
def rOut (y : FVec F S128x128x8x128 .f32) : FVec F S128x131072 .bf16 :=
  truncf .bf16 (shapeCast _ (transpose S128x128x8x128 [1, 0, 2, 3] y transposes_S128x128x8x128_S128x128x8x128_1_0_2_3) shapeCasts_S128x128x8x128_S128x131072) bitsLt_bf16_f32
end

theorem z_ix (tr ti : FVec Ideal S128x128x1024 .bf16) (mm : FVec Ideal S128x256x256 .bf16) (j : Fin 128) (r : Fin 256) (c : Fin 1024) :
    rZ tr ti mm (ix3 j r c) = zed (fun b c => tr (ix3 j b c)) (fun b c => ti (ix3 j b c)) (fun r b => mm (ix3 j r b)) r c := by
  have h : rZ tr ti mm (ix3 j r c) = ∑ k : Fin 256, mm (ix3 j r k) * if h : k.val < 128 then tr (ix3 j ⟨k.val, h⟩ c) else ti (ix3 j ⟨k.val - 128, by omega⟩ c) := by
    pointwise [rZ]
  exact h
theorem re_ix (z : FVec Ideal S128x256x1024 .f32) (j a : Fin 128) (g : Fin 8) (d : Fin 128) :
    rRe z (ix4 j a g d) = z (ix3 j ⟨a.val, by omega⟩ ⟨128 * g.val + d.val, by omega⟩) := by
  have h : rRe z (ix4 j a g d) = z (ix3 j ⟨a.val, by omega⟩ ⟨g.val * 128 + d.val, by omega⟩) := by pointwise [rRe]
  exact h.trans (congrArg z (congrArg (ix3 j _) (Fin.ext (by show g.val * 128 + d.val = 128 * g.val + d.val; omega))))
theorem im_ix (z : FVec Ideal S128x256x1024 .f32) (j a : Fin 128) (g : Fin 8) (d : Fin 128) :
    rIm z (ix4 j a g d) = z (ix3 j ⟨128 + a.val, by omega⟩ ⟨128 * g.val + d.val, by omega⟩) := by
  have h : rIm z (ix4 j a g d) = z (ix3 j ⟨128 + a.val, by omega⟩ ⟨g.val * 128 + d.val, by omega⟩) := by pointwise [rIm]
  exact h.trans (congrArg z (congrArg (ix3 j _) (Fin.ext (by show g.val * 128 + d.val = 128 * g.val + d.val; omega))))
theorem y_ix (zr zi : FVec Ideal S128x128x8x128 .f32) (cs : FVec Ideal S256x128 .bf16) (j a : Fin 128) (g : Fin 8) (d : Fin 128) :
    rY zr zi cs (ix4 j a g d) = ∑ e : Fin 256, (if h : e.val < 128 then zr (ix4 j a g ⟨e.val, h⟩) else zi (ix4 j a g ⟨e.val - 128, by omega⟩)) * cs (ix2 e d) := by
  pointwise [rY]
theorem out_at (y : FVec Ideal S128x128x8x128 .f32) (j a : Fin 128) (g : Fin 8) (d : Fin 128) :
    rOut y (ix2 a ⟨(j.val * 8 + g.val) * 128 + d.val, by omega⟩) = y (ix4 j a g d) := by
  pointwise [rOut]
theorem out_ix (y : FVec Ideal S128x128x8x128 .f32) (j a : Fin 128) (g : Fin 8) (d : Fin 128) (q : Fin 131072) (hq : q.val = 1024 * j.val + 128 * g.val + d.val) :
    rOut y (ix2 a q) = y (ix4 j a g d) :=
  (congrArg (fun q => rOut y (ix2 a q)) (Fin.ext (by rw [hq]; show _ = (j.val * 8 + g.val) * 128 + d.val; omega))).trans (out_at y j a g d)

/-- The reference at an index. -/
theorem x_ix (tr ti : FVec Ideal S128x128x1024 .bf16) (mm : FVec Ideal S128x256x256 .bf16) (cs : FVec Ideal S256x128 .bf16) (a : Fin 128) (q : Fin 131072) :
    rOut (rY (rRe (rZ tr ti mm)) (rIm (rZ tr ti mm)) cs) (ix2 a q) = side 128 131072 (by decide) (secondOf tr ti mm cs) (ix2 a q) := by
  have hq : q.val = 1024 * (q.val / 1024) + 128 * (q.val % 1024 / 128) + q.val % 128 := by omega
  rw [side_ix (J := 128) (N := 131072) (by decide) (secondOf tr ti mm cs) ⟨q.val / 1024, by omega⟩ a ⟨q.val % 1024 / 128, by omega⟩ ⟨q.val % 128, by omega⟩ q hq,
    out_ix _ ⟨q.val / 1024, by omega⟩ a ⟨q.val % 1024 / 128, by omega⟩ ⟨q.val % 128, by omega⟩ q hq, y_ix]
  refine Finset.sum_congr rfl fun e _ => congrArg₂ (fun u v : EReal => u * v) ?_ rfl
  show _ = group _ _ _ _ _ e
  unfold group
  split_ifs with he
  · exact (re_ix _ _ _ _ _).trans (z_ix _ _ _ _ _ _)
  · exact (im_ix _ _ _ _ _).trans (z_ix _ _ _ _ _ _)

end Cert.Reference7Ideal.Fft2
end
-- ==== Proof.lean ====
module

public import proofs.«01_k».proof.Defs
public import proofs.«01_k».proof.Proof.KernelRun
public import proofs.«01_k».proof.Proof.KernelIdealRun
public import proofs.«01_k».proof.Proof.Value
public import proofs.«01_k».proof.Proof.Pre
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel3
public import proofs.«01_k».proof.Proof.Gen.Kernel2.Frame
public import proofs.«01_k».proof.Proof.Gen.Kernel3.Frame
public import proofs.«01_k».proof.Proof.Gen.Kernel2Ideal
public import proofs.«01_k».proof.Proof.Gen.Kernel3Ideal
public import proofs.«01_k».proof.Proof.Gen.Kernel2Ideal.Value
public import proofs.«01_k».proof.Proof.Gen.Kernel3Ideal.Value
public import proofs.«01_k».proof.Proof.Gen.Kernel2Ideal.Frame
public import proofs.«01_k».proof.Proof.Gen.Kernel3Ideal.Frame
public import proofs.«01_k».proof.Proof.Gen.Reference2Ideal
public import proofs.«01_k».proof.Proof.Gen.Reference3Ideal
public import proofs.«01_k».proof.Proof.Gen.Reference2Ideal.Run
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Kernel8Ideal.Frame
public import proofs.«01_k».proof.Proof.Gen.Reference8Ideal
public import proofs.«01_k».proof.Proof.Gen.Reference8Ideal.Run
public import proofs.«01_k».proof.Proof.ConfValue
public import proofs.«01_k».proof.Proof.RefConf
public import proofs.«01_k».proof.Proof.Value2
public import proofs.«01_k».proof.Proof.Value3
public import proofs.«01_k».proof.Proof.RefMlp2
public import proofs.«01_k».proof.Proof.RefMlp3
public import proofs.«01_k».proof.Proof.InEven
public import proofs.«01_k».proof.Proof.RefInEven
public import proofs.«01_k».proof.Proof.InOddValue
public import proofs.«01_k».proof.Proof.RefInOdd
public import proofs.«01_k».proof.Proof.Fft1
public import proofs.«01_k».proof.Proof.Fft2
public import proofs.«01_k».proof.Proof.RefFft2
public import proofs.«01_k».proof.Proof.Gen.Pre_finite_scores_and_ones_row
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

section
open Cert.Kernel Cert.Kernel.Gen Cert.Kernel.Attn
/-- The printed kernel ends with its arguments as they were and every counter at zero. -/
theorem frame_kernel : Cert.quiescent_Kernel (hKernel := Cert.Kernel.Gen.facts) := fun m g _ =>
  (θ_run defs _ _).mono (fun _ h => ⟨fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 6).trans (((dats m 0 c).arrAt_in 6 rfl _).trans ((A_eq m c 6).trans (V_main_arg3 m c))),
      ((h.1 c).1 5).trans (((dats m 0 c).arrAt_in 5 rfl _).trans ((A_eq m c 5).trans (V_main_arg4 m c))),
      ((h.1 c).1 7).trans (((dats m 0 c).arrAt_in 7 rfl _).trans ((A_eq m c 7).trans (V_main_arg5 m c)))⟩, h.2⟩)
    (run_main (F := Bits) m g)
end

section
open Cert.KernelIdeal Cert.KernelIdeal.Gen Cert.KernelIdeal.Attn
/-- So does the idealized kernel. -/
theorem frame_kernelIdeal : Cert.quiescent_KernelIdeal (hKernelIdeal := Cert.KernelIdeal.Gen.facts) := fun m g _ =>
  (θ_run defs _ _).mono (fun _ h => ⟨fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 6).trans (((dats m 0 c).arrAt_in 6 rfl _).trans ((A_eq m c 6).trans (V_main_arg3 m c))),
      ((h.1 c).1 5).trans (((dats m 0 c).arrAt_in 5 rfl _).trans ((A_eq m c 5).trans (V_main_arg4 m c))),
      ((h.1 c).1 7).trans (((dats m 0 c).arrAt_in 7 rfl _).trans ((A_eq m c 7).trans (V_main_arg5 m c)))⟩, h.2⟩)
    (run_main (F := Ideal) m g)
end

/-- The reference declares no counters and leaves its arguments. -/
theorem frame_reference : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩)
    (Cert.ReferenceIdeal.Value.run (F := Ideal) m g)

section
open Cert.KernelIdeal Cert.KernelIdeal.Gen Cert.KernelIdeal.Attn
/-- Both results of the idealized kernel are the reference's. -/
theorem algebraic : Cert.algebraic_KernelIdeal_ReferenceIdeal_pre_finite_scores_and_ones_row (hKernelIdeal := Cert.KernelIdeal.Gen.facts)
    (hReferenceIdeal := Cert.ReferenceIdeal.Gen.facts) (hPre_finite_scores_and_ones_row := Cert.Pre_finite_scores_and_ones_row.Gen.facts) := by
  intro m g m' g' hpre hagree
  refine ⟨fun c => Cert.Attn.rYd (F := Ideal) (m (c.tc.loc main_arg0)) (m (c.tc.loc main_arg1)) (m (c.tc.loc main_arg2)),
    fun c => Cert.Attn.rConv (F := Ideal) (m (c.tc.loc main_arg3)) (Cert.Attn.rPad (F := Ideal) (m (c.tc.loc main_arg4))) (m (c.tc.loc main_arg5)), ?_, ?_⟩
  · refine (θ_run defs _ _).mono (fun _ h c => ⟨?_, ?_, ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 6).trans (((dats m 0 c).arrAt_in 6 rfl _).trans ((A_eq m c 6).trans (V_main_arg3 m c))),
      ((h.1 c).1 5).trans (((dats m 0 c).arrAt_in 5 rfl _).trans ((A_eq m c 5).trans (V_main_arg4 m c))),
      ((h.1 c).1 7).trans (((dats m 0 c).arrAt_in 7 rfl _).trans ((A_eq m c 7).trans (V_main_arg5 m c)))⟩)
      (run_main (F := Ideal) m g)
    · exact ((h.1 c).1 8).trans (final_d m c (Cert.Attn.pre_q _ _ _ _ _ _ (hpre c).1) (Cert.Attn.pre_k _ _ _ _ _ _ (hpre c).2.1)
        (Cert.Attn.pre_v _ _ _ _ _ _ (hpre c).2.2))
    · exact ((h.1 c).1 9).trans (final_c m c)
  · refine (θ_run Cert.ReferenceIdeal.defs _ _).mono (fun r h c => ⟨(h c).1.trans ?_, (h c).2.1.trans ?_, (h c).2.2⟩)
      (Cert.ReferenceIdeal.Value.run (F := Ideal) m' g')
    · rw [(hagree c).1, (hagree c).2.1, (hagree c).2.2.1]
      rfl
    · rw [(hagree c).2.2.2.1, (hagree c).2.2.2.2.1, (hagree c).2.2.2.2.2]
      rfl
end

/-- Two arrays of rows that agree at every row and column are equal. -/
theorem vec_ext {x y : (Cert.Kernel2Ideal.S16384x2048.Idx → EReal)} (h : ∀ (s : Fin 16384) (q : Fin 2048), x (ix2 s q) = y (ix2 s q)) : x = y := by
  funext i
  obtain ⟨s, q, rfl⟩ : ∃ (s : Fin 16384) (q : Fin 2048), i = ix2 s q := ⟨i 0, i 1, by funext a; fin_cases a <;> rfl⟩
  exact h s q

/-- The reference of the odd layer's output projection and MLP declares no counters and leaves its arguments. -/
theorem frame_reference2 : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run (F := Ideal) m g)

/-- The result of the odd layer's output projection and MLP is the reference's. -/
theorem algebraic2 : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Kernel2Ideal.Value.G8 m c, Cert.Kernel2Ideal.Value.run (F := Ideal) m g, ?_⟩
  refine (θ_run Cert.Reference2Ideal.defs _ _).mono (fun r h c => ⟨(h c).1.trans ?_, (h c).2⟩) (Cert.Reference2Ideal.Value.run (F := Ideal) m' g')
  obtain ⟨h0, h1, h2, h3, h4, h5, h6, h7⟩ := hagree c
  refine vec_ext fun s q => ?_
  refine (Cert.Reference2Ideal.Mlp.result_ix m' c s q).trans (Eq.trans ?_ (Cert.Kernel2Ideal.Mlp.result_ix m c s q).symm)
  rw [h0, h1, h2, h3, h4, h5, h6, h7]

/-- The reference of the even layer's output projection and MLP declares no counters and leaves its arguments. -/
theorem frame_reference3 : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run (F := Ideal) m g)

/-- The result of the even layer's output projection and MLP is the reference's. -/
theorem algebraic3 : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Kernel3Ideal.Value.G8 m c, Cert.Kernel3Ideal.Value.run (F := Ideal) m g, ?_⟩
  refine (θ_run Cert.Reference3Ideal.defs _ _).mono (fun r h c => ⟨(h c).1.trans ?_, (h c).2⟩) (Cert.Reference3Ideal.Value.run (F := Ideal) m' g')
  obtain ⟨h0, h1, h2, h3, h4, h5, h6, h7⟩ := hagree c
  refine vec_ext fun s q => ?_
  refine (Cert.Reference3Ideal.Mlp.result_ix m' c s q).trans (Eq.trans ?_ (Cert.Kernel3Ideal.Mlp.result_ix m c s q).symm)
  rw [h0, h1, h2, h3, h4, h5, h6]

/-- Two arrays of 16384 rows of 1024 are equal if they are at every row and column. -/
theorem half_ext {x y : (Cert.Kernel4Ideal.S16384x1024.Idx → EReal)} (h : ∀ (s : Fin 16384) (q : Fin 1024), x (ix2 s q) = y (ix2 s q)) : x = y := by
  funext i
  obtain ⟨s, q, rfl⟩ : ∃ (s : Fin 16384) (q : Fin 1024), i = ix2 s q := ⟨i 0, i 1, by funext a; fin_cases a <;> rfl⟩
  exact h s q

/-- The reference of the even layer's input projection declares no counters and leaves its arguments. -/
theorem frame_reference4 : Cert.quiescent_Reference4Ideal (hReference4Ideal := Cert.Reference4Ideal.Gen.facts) := fun m g _ =>
  (θ_run Cert.Reference4Ideal.defs _ _).mono (fun r h => ⟨fun c => (h c).2.2, sem_eq_zero_of_no_sems (by decide) r.2⟩)
    (Cert.Reference4Ideal.Value.run (F := Ideal) m g)

/-- The two results of the even layer's input projection are the reference's. -/
theorem algebraic4 : Cert.algebraic_Kernel4Ideal_Reference4Ideal (hKernel4Ideal := Cert.Kernel4Ideal.Gen.facts)
    (hReference4Ideal := Cert.Reference4Ideal.Gen.facts) := by
  intro m g m' g' _ hagree
  refine ⟨fun c => Cert.Kernel4Ideal.InProj.G3 m c, fun c => Cert.Kernel4Ideal.InProj.G4 m c, ?_, ?_⟩
  · exact (θ_run Cert.Kernel4Ideal.defs _ _).mono
      (fun r h c => ⟨(h c).1.trans (Cert.Kernel4Ideal.InProj.final3 m c), (h c).2.1.trans (Cert.Kernel4Ideal.InProj.final4 m c), (h c).2.2⟩)
      (Cert.Kernel4Ideal.Value.run_blocks (F := Ideal) m g)
  refine (θ_run Cert.Reference4Ideal.defs _ _).mono (fun r h c => ⟨(h c).1.trans ?_, (h c).2.1.trans ?_, (h c).2.2⟩) (Cert.Reference4Ideal.Value.run (F := Ideal) m' g')
  · obtain ⟨h0, h1, h2⟩ := hagree c
    refine half_ext fun s q => ?_
    refine (Cert.Reference4Ideal.InProj.gate_ix _ _ _ s q).trans ?_
    rw [h0, h1, h2]
    rfl
  · obtain ⟨h0, h1, h2⟩ := hagree c
    refine half_ext fun s q => ?_
    refine (Cert.Reference4Ideal.InProj.late_ix _ _ _ s q).trans ?_
    rw [h0, h1, h2]
    rfl

theorem qkv_ext {A B C : ℕ} {x y : Shape.Idx ⟨3, ![A, B, C]⟩ → EReal} (h : ∀ (a : Fin A) (b : Fin B) (c : Fin C), x (ix3 a b c) = y (ix3 a b c)) : x = y := by
  funext i
  obtain ⟨a, b, c, rfl⟩ : ∃ (a : Fin A) (b : Fin B) (c : Fin C), i = ix3 a b c := ⟨i 0, i 1, i 2, by funext a; fin_cases a <;> rfl⟩
  exact h a b c

theorem block_ext {x y : (Cert.Kernel5Ideal.S8x32x144x512.Idx → EReal)}
    (h : ∀ (n : Fin 8) (a : Fin 32) (e : Fin 144) (b : Fin 512), x (ix4 n a e b) = y (ix4 n a e b)) : x = y := by
  funext i
  obtain ⟨n, a, e, b, rfl⟩ : ∃ (n : Fin 8) (a : Fin 32) (e : Fin 144) (b : Fin 512), i = ix4 n a e b := ⟨i 0, i 1, i 2, i 3, by funext a; fin_cases a <;> rfl⟩
  exact h n a e b

/-- The reference of the odd layer's input projection declares no counters and leaves its arguments. -/
theorem frame_reference5 : Cert.quiescent_Reference5Ideal (hReference5Ideal := Cert.Reference5Ideal.Gen.facts) := fun m g _ =>
  (θ_run Cert.Reference5Ideal.defs _ _).mono (fun r h => ⟨fun c => (h c).2.2.2.2.2, sem_eq_zero_of_no_sems (by decide) r.2⟩)
    (Cert.Reference5Ideal.Value.run (F := Ideal) m g)

open Cert.InProj Cert.Kernel5Ideal.InProj in
/-- The five results of the odd layer's input projection are the reference's. -/
theorem algebraic5 : Cert.algebraic_Kernel5Ideal_Reference5Ideal (hKernel5Ideal := Cert.Kernel5Ideal.Gen.facts)
    (hReference5Ideal := Cert.Reference5Ideal.Gen.facts) := by
  intro m g m' g' _ hagree
  refine ⟨fun c => bgV (datA m c), fun c => chV (datA m c), fun c => qV (datA m c), fun c => kV (datA m c), fun c => v4 (datA m c), ?_, ?_⟩
  · exact (θ_run Cert.Kernel5Ideal.defs _ _).mono
      (fun r h c => ⟨(h c).1.trans (final9 m c), (h c).2.1.trans (final10 m c), (h c).2.2.1.trans (final11 m c), (h c).2.2.2.1.trans (final12 m c),
        (h c).2.2.2.2.1.trans (final13 m c), (h c).2.2.2.2.2⟩)
      (Cert.Kernel5Ideal.Value.run_blocks (F := Ideal) m g)
  refine (θ_run Cert.Reference5Ideal.defs _ _).mono
    (fun r h c => ⟨(h c).1.trans ?_, (h c).2.1.trans ?_, (h c).2.2.1.trans ?_, (h c).2.2.2.1.trans ?_, (h c).2.2.2.2.1.trans ?_, (h c).2.2.2.2.2⟩)
    (Cert.Reference5Ideal.Value.run (F := Ideal) m' g')
  · obtain ⟨h0, h1, h2, h3, h4, h5, h6, h7, h8⟩ := hagree c
    refine half_ext fun s j => ?_
    refine (Cert.Reference5Ideal.InProj.bg_ix (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) s j).trans ?_
    rw [h0, h1, h2, h3, h4, h5, h6, h7, h8]
    rfl
  · obtain ⟨h0, h1, h2, h3, h4, h5, h6, h7, h8⟩ := hagree c
    refine half_ext fun s j => ?_
    refine (Cert.Reference5Ideal.InProj.ch_ix (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) s j).trans ?_
    rw [h0, h1, h2, h3, h4, h5, h6, h7, h8]
    rfl
  · obtain ⟨h0, h1, h2, h3, h4, h5, h6, h7, h8⟩ := hagree c
    refine qkv_ext fun n d s => ?_
    refine (Cert.Reference5Ideal.InProj.q_ix (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) n d s).trans ?_
    rw [h0, h1, h2, h3, h4, h5, h6, h7, h8]
    rfl
  · obtain ⟨h0, h1, h2, h3, h4, h5, h6, h7, h8⟩ := hagree c
    refine qkv_ext fun n s d => ?_
    refine (Cert.Reference5Ideal.InProj.k_ix (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) n s d).trans ?_
    rw [h0, h1, h2, h3, h4, h5, h6, h7, h8]
    rfl
  · obtain ⟨h0, h1, h2, h3, h4, h5, h6, h7, h8⟩ := hagree c
    refine block_ext fun n a e b => ?_
    refine (Cert.Reference5Ideal.InProj.v_ix (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) n a e b).trans ?_
    rw [h0, h1, h2, h3, h4, h5, h6, h7, h8]
    rfl

/-- The reference of the first transform stage declares no counters and leaves its arguments. -/
theorem frame_reference6 : Cert.quiescent_Reference6Ideal (hReference6Ideal := Cert.Reference6Ideal.Gen.facts) := fun m g _ =>
  (θ_run Cert.Reference6Ideal.defs _ _).mono (fun r h => ⟨fun c => (h c).2.2, sem_eq_zero_of_no_sems (by decide) r.2⟩)
    (Cert.Reference6Ideal.Value.run (F := Ideal) m g)

theorem wide_ext {u v : Vec Ideal ⟨2, ![128, 131072]⟩ .bf16} (h : ∀ (a : Fin 128) (q : Fin 131072), u (ix2 a q) = v (ix2 a q)) : u = v := by
  funext y
  obtain ⟨a, q, rfl⟩ : ∃ (a : Fin 128) (q : Fin 131072), y = ix2 a q := ⟨y 0, y 1, by funext k; fin_cases k <;> rfl⟩
  exact h a q

open Cert.Fft Cert.Kernel6Ideal.Fft1 in
/-- The two results of the first transform stage are the reference's. -/
theorem algebraic6 : Cert.algebraic_Kernel6Ideal_Reference6Ideal (hKernel6Ideal := Cert.Kernel6Ideal.Gen.facts)
    (hReference6Ideal := Cert.Reference6Ideal.Gen.facts) := by
  intro m g m' g' _ hagree
  refine ⟨fun c => reV (n := 131072) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)), fun c => imV (n := 131072) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)), ?_, ?_⟩
  · exact (θ_run Cert.Kernel6Ideal.defs _ _).mono
      (fun r h c => ⟨(h c).1.trans (final2 m c), (h c).2.1.trans (final3 m c), (h c).2.2⟩)
      (Cert.Kernel6Ideal.Value.run_blocks (F := Ideal) m g)
  refine (θ_run Cert.Reference6Ideal.defs _ _).mono (fun r h c => ⟨(h c).1.trans ?_, (h c).2.1.trans ?_, (h c).2.2⟩)
    (Cert.Reference6Ideal.Value.run (F := Ideal) m' g')
  · obtain ⟨h0, h1⟩ := hagree c
    refine wide_ext fun a q => ?_
    refine (Cert.Reference6Ideal.Fft1.re_ix (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) a q).trans ?_
    rw [h0, h1]
  · obtain ⟨h0, h1⟩ := hagree c
    refine wide_ext fun a q => ?_
    refine (Cert.Reference6Ideal.Fft1.im_ix (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) a q).trans ?_
    rw [h0, h1]

/-- The reference of the second transform stage declares no counters and leaves its arguments. -/
theorem frame_reference7 : Cert.quiescent_Reference7Ideal (hReference7Ideal := Cert.Reference7Ideal.Gen.facts) := fun m g _ =>
  (θ_run Cert.Reference7Ideal.defs _ _).mono (fun r h => ⟨fun c => (h c).2, sem_eq_zero_of_no_sems (by decide) r.2⟩)
    (Cert.Reference7Ideal.Value.run (F := Ideal) m g)

open Cert.Fft Cert.Kernel7Ideal.Fft2 in
/-- The result of the second transform stage is the reference's. -/
theorem algebraic7 : Cert.algebraic_Kernel7Ideal_Reference7Ideal (hKernel7Ideal := Cert.Kernel7Ideal.Gen.facts)
    (hReference7Ideal := Cert.Reference7Ideal.Gen.facts) := by
  intro m g m' g' _ hagree
  refine ⟨fun c => whole (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)), ?_, ?_⟩
  · exact (θ_run Cert.Kernel7Ideal.defs _ _).mono (fun r h c => ⟨(h c).1.trans (final4 m c), (h c).2⟩)
      (Cert.Kernel7Ideal.Value.run_blocks (F := Ideal) m g)
  refine (θ_run Cert.Reference7Ideal.defs _ _).mono (fun r h c => ⟨(h c).1.trans ?_, (h c).2⟩)
    (Cert.Reference7Ideal.Value.run (F := Ideal) m' g')
  obtain ⟨h0, h1, h2, h3⟩ := hagree c
  refine wide_ext fun a q => ?_
  refine (Cert.Reference7Ideal.Fft2.x_ix (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) a q).trans ?_
  rw [h0, h1, h2, h3]
  rfl

/-- The reference of the conformer's convolution declares no counters and leaves its arguments. -/
theorem frame_reference8 : Cert.quiescent_Reference8Ideal (hReference8Ideal := Cert.Reference8Ideal.Gen.facts) := fun m g _ =>
  (θ_run Cert.Reference8Ideal.defs _ _).mono (fun r h => ⟨fun c => (h c).2, sem_eq_zero_of_no_sems (by decide) r.2⟩)
    (Cert.Reference8Ideal.Value.run (F := Ideal) m g)

open Cert.Conf in
/-- The result of the conformer's convolution is the reference's. -/
theorem algebraic8 : Cert.algebraic_Kernel8Ideal_Reference8Ideal (hKernel8Ideal := Cert.Kernel8Ideal.Gen.facts)
    (hReference8Ideal := Cert.Reference8Ideal.Gen.facts) := by
  intro m g m' g' _ hagree
  refine ⟨fun c => whole (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)), ?_, ?_⟩
  · exact (θ_run Cert.Kernel8Ideal.defs _ _).mono (fun r h c => ⟨(h c).1.trans (final7 m c), (h c).2⟩)
      (Cert.Kernel8Ideal.Value.run_blocks (F := Ideal) m g)
  refine (θ_run Cert.Reference8Ideal.defs _ _).mono (fun r h c => ⟨(h c).1.trans ?_, (h c).2⟩)
    (Cert.Reference8Ideal.Value.run (F := Ideal) m' g')
  obtain ⟨h0, h1, h2, h3, h4⟩ := hagree c
  refine (Cert.Reference8Ideal.Conf.result_mem m' c).trans ?_
  rw [h0, h1, h2, h3, h4]

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts,
    Cert.Reference4Ideal.Gen.facts, Cert.Kernel5.Gen.facts, Cert.Kernel5Ideal.Gen.facts,
    Cert.Reference5Ideal.Gen.facts, Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts, Cert.Pre_finite_scores_and_ones_row.Gen.facts,
    frame_kernel, frame_kernelIdeal, fun m g _ => frame_kernelIdeal m g trivial, frame_reference, fun m g _ => frame_reference m g trivial,
    fun m g _ => Cert.Kernel2.Gen.frame m g, fun m g _ => Cert.Kernel2Ideal.Gen.frame m g, frame_reference2,
    fun m g _ => Cert.Kernel3.Gen.frame m g, fun m g _ => Cert.Kernel3Ideal.Gen.frame m g, frame_reference3,
    fun m g _ => Cert.Kernel4.Gen.frame m g, fun m g _ => Cert.Kernel4Ideal.Gen.frame m g, frame_reference4,
    fun m g _ => Cert.Kernel5.Gen.frame m g, fun m g _ => Cert.Kernel5Ideal.Gen.frame m g, frame_reference5,
    fun m g _ => Cert.Kernel6.Gen.frame m g, fun m g _ => Cert.Kernel6Ideal.Gen.frame m g, frame_reference6,
    fun m g _ => Cert.Kernel7.Gen.frame m g, fun m g _ => Cert.Kernel7Ideal.Gen.frame m g, frame_reference7,
    fun m g _ => Cert.Kernel8.Gen.frame m g, fun m g _ => Cert.Kernel8Ideal.Gen.frame m g, frame_reference8,
    trivial, algebraic, trivial, algebraic2, trivial, algebraic3, trivial, algebraic4, trivial, algebraic5, trivial, algebraic6, trivial, algebraic7, trivial, algebraic8⟩

end Cert.Proof

end
